-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_Experts (m : (ℓ : Loc Cert.Experts.nD Cert.Experts.τ Cert.Experts.sig) → Buf (Elt Bits) ℓ) : Prop :=
  True

def Pre_ExpertsIdeal (m : (ℓ : Loc Cert.ExpertsIdeal.nD Cert.ExpertsIdeal.τ Cert.ExpertsIdeal.sig) → Buf (Elt Ideal) ℓ) : Prop :=
  True

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Latent (m : (ℓ : Loc Cert.Latent.nD Cert.Latent.τ Cert.Latent.sig) → Buf (Elt Bits) ℓ) : Prop :=
  True

def Pre_LatentIdeal (m : (ℓ : Loc Cert.LatentIdeal.nD Cert.LatentIdeal.τ Cert.LatentIdeal.sig) → Buf (Elt Ideal) ℓ) : Prop :=
  True

def Pre_LatentIdeal_latent_finite [hPre_latent_finite : Cert.Pre_latent_finite.Facts] (m : (ℓ : Loc Cert.LatentIdeal.nD Cert.LatentIdeal.τ Cert.LatentIdeal.sig) → Buf (Elt Ideal) ℓ) : Prop :=
  ∀ c : Dev Cert.LatentIdeal.nD,
    (Cert.Pre_latent_finite.fn (F := Ideal) (m ((c.tc : Thread Cert.LatentIdeal.nD Cert.LatentIdeal.τ).loc Cert.LatentIdeal.main_arg0)) (m ((c.tc : Thread Cert.LatentIdeal.nD Cert.LatentIdeal.τ).loc Cert.LatentIdeal.main_arg1)) (m ((c.tc : Thread Cert.LatentIdeal.nD Cert.LatentIdeal.τ).loc Cert.LatentIdeal.main_arg2)) (m ((c.tc : Thread Cert.LatentIdeal.nD Cert.LatentIdeal.τ).loc Cert.LatentIdeal.main_arg3)) (m ((c.tc : Thread Cert.LatentIdeal.nD Cert.LatentIdeal.τ).loc Cert.LatentIdeal.main_arg4)) (m ((c.tc : Thread Cert.LatentIdeal.nD Cert.LatentIdeal.τ).loc Cert.LatentIdeal.main_arg5)) (m ((c.tc : Thread Cert.LatentIdeal.nD Cert.LatentIdeal.τ).loc Cert.LatentIdeal.main_arg6))).1 = (fun _ => 1#1)
    ∧ (Cert.Pre_latent_finite.fn (F := Ideal) (m ((c.tc : Thread Cert.LatentIdeal.nD Cert.LatentIdeal.τ).loc Cert.LatentIdeal.main_arg0)) (m ((c.tc : Thread Cert.LatentIdeal.nD Cert.LatentIdeal.τ).loc Cert.LatentIdeal.main_arg1)) (m ((c.tc : Thread Cert.LatentIdeal.nD Cert.LatentIdeal.τ).loc Cert.LatentIdeal.main_arg2)) (m ((c.tc : Thread Cert.LatentIdeal.nD Cert.LatentIdeal.τ).loc Cert.LatentIdeal.main_arg3)) (m ((c.tc : Thread Cert.LatentIdeal.nD Cert.LatentIdeal.τ).loc Cert.LatentIdeal.main_arg4)) (m ((c.tc : Thread Cert.LatentIdeal.nD Cert.LatentIdeal.τ).loc Cert.LatentIdeal.main_arg5)) (m ((c.tc : Thread Cert.LatentIdeal.nD Cert.LatentIdeal.τ).loc Cert.LatentIdeal.main_arg6))).2.1 = (fun _ => 1#1)
    ∧ (Cert.Pre_latent_finite.fn (F := Ideal) (m ((c.tc : Thread Cert.LatentIdeal.nD Cert.LatentIdeal.τ).loc Cert.LatentIdeal.main_arg0)) (m ((c.tc : Thread Cert.LatentIdeal.nD Cert.LatentIdeal.τ).loc Cert.LatentIdeal.main_arg1)) (m ((c.tc : Thread Cert.LatentIdeal.nD Cert.LatentIdeal.τ).loc Cert.LatentIdeal.main_arg2)) (m ((c.tc : Thread Cert.LatentIdeal.nD Cert.LatentIdeal.τ).loc Cert.LatentIdeal.main_arg3)) (m ((c.tc : Thread Cert.LatentIdeal.nD Cert.LatentIdeal.τ).loc Cert.LatentIdeal.main_arg4)) (m ((c.tc : Thread Cert.LatentIdeal.nD Cert.LatentIdeal.τ).loc Cert.LatentIdeal.main_arg5)) (m ((c.tc : Thread Cert.LatentIdeal.nD Cert.LatentIdeal.τ).loc Cert.LatentIdeal.main_arg6))).2.2.1 = (fun _ => 1#1)
    ∧ (Cert.Pre_latent_finite.fn (F := Ideal) (m ((c.tc : Thread Cert.LatentIdeal.nD Cert.LatentIdeal.τ).loc Cert.LatentIdeal.main_arg0)) (m ((c.tc : Thread Cert.LatentIdeal.nD Cert.LatentIdeal.τ).loc Cert.LatentIdeal.main_arg1)) (m ((c.tc : Thread Cert.LatentIdeal.nD Cert.LatentIdeal.τ).loc Cert.LatentIdeal.main_arg2)) (m ((c.tc : Thread Cert.LatentIdeal.nD Cert.LatentIdeal.τ).loc Cert.LatentIdeal.main_arg3)) (m ((c.tc : Thread Cert.LatentIdeal.nD Cert.LatentIdeal.τ).loc Cert.LatentIdeal.main_arg4)) (m ((c.tc : Thread Cert.LatentIdeal.nD Cert.LatentIdeal.τ).loc Cert.LatentIdeal.main_arg5)) (m ((c.tc : Thread Cert.LatentIdeal.nD Cert.LatentIdeal.τ).loc Cert.LatentIdeal.main_arg6))).2.2.2.1 = (fun _ => 1#1)
    ∧ (Cert.Pre_latent_finite.fn (F := Ideal) (m ((c.tc : Thread Cert.LatentIdeal.nD Cert.LatentIdeal.τ).loc Cert.LatentIdeal.main_arg0)) (m ((c.tc : Thread Cert.LatentIdeal.nD Cert.LatentIdeal.τ).loc Cert.LatentIdeal.main_arg1)) (m ((c.tc : Thread Cert.LatentIdeal.nD Cert.LatentIdeal.τ).loc Cert.LatentIdeal.main_arg2)) (m ((c.tc : Thread Cert.LatentIdeal.nD Cert.LatentIdeal.τ).loc Cert.LatentIdeal.main_arg3)) (m ((c.tc : Thread Cert.LatentIdeal.nD Cert.LatentIdeal.τ).loc Cert.LatentIdeal.main_arg4)) (m ((c.tc : Thread Cert.LatentIdeal.nD Cert.LatentIdeal.τ).loc Cert.LatentIdeal.main_arg5)) (m ((c.tc : Thread Cert.LatentIdeal.nD Cert.LatentIdeal.τ).loc Cert.LatentIdeal.main_arg6))).2.2.2.2 = (fun _ => 1#1)

def Pre_LatentReferenceIdeal (m : (ℓ : Loc Cert.LatentReferenceIdeal.nD Cert.LatentReferenceIdeal.τ Cert.LatentReferenceIdeal.sig) → Buf (Elt Ideal) ℓ) : Prop :=
  True

def Pre_LatentReferenceIdeal_latent_finite [hPre_latent_finite : Cert.Pre_latent_finite.Facts] (m : (ℓ : Loc Cert.LatentReferenceIdeal.nD Cert.LatentReferenceIdeal.τ Cert.LatentReferenceIdeal.sig) → Buf (Elt Ideal) ℓ) : Prop :=
  ∀ c : Dev Cert.LatentReferenceIdeal.nD,
    (Cert.Pre_latent_finite.fn (F := Ideal) (m ((c.tc : Thread Cert.LatentReferenceIdeal.nD Cert.LatentReferenceIdeal.τ).loc Cert.LatentReferenceIdeal.main_arg0)) (m ((c.tc : Thread Cert.LatentReferenceIdeal.nD Cert.LatentReferenceIdeal.τ).loc Cert.LatentReferenceIdeal.main_arg1)) (m ((c.tc : Thread Cert.LatentReferenceIdeal.nD Cert.LatentReferenceIdeal.τ).loc Cert.LatentReferenceIdeal.main_arg2)) (m ((c.tc : Thread Cert.LatentReferenceIdeal.nD Cert.LatentReferenceIdeal.τ).loc Cert.LatentReferenceIdeal.main_arg3)) (m ((c.tc : Thread Cert.LatentReferenceIdeal.nD Cert.LatentReferenceIdeal.τ).loc Cert.LatentReferenceIdeal.main_arg4)) (m ((c.tc : Thread Cert.LatentReferenceIdeal.nD Cert.LatentReferenceIdeal.τ).loc Cert.LatentReferenceIdeal.main_arg5)) (m ((c.tc : Thread Cert.LatentReferenceIdeal.nD Cert.LatentReferenceIdeal.τ).loc Cert.LatentReferenceIdeal.main_arg6))).1 = (fun _ => 1#1)
    ∧ (Cert.Pre_latent_finite.fn (F := Ideal) (m ((c.tc : Thread Cert.LatentReferenceIdeal.nD Cert.LatentReferenceIdeal.τ).loc Cert.LatentReferenceIdeal.main_arg0)) (m ((c.tc : Thread Cert.LatentReferenceIdeal.nD Cert.LatentReferenceIdeal.τ).loc Cert.LatentReferenceIdeal.main_arg1)) (m ((c.tc : Thread Cert.LatentReferenceIdeal.nD Cert.LatentReferenceIdeal.τ).loc Cert.LatentReferenceIdeal.main_arg2)) (m ((c.tc : Thread Cert.LatentReferenceIdeal.nD Cert.LatentReferenceIdeal.τ).loc Cert.LatentReferenceIdeal.main_arg3)) (m ((c.tc : Thread Cert.LatentReferenceIdeal.nD Cert.LatentReferenceIdeal.τ).loc Cert.LatentReferenceIdeal.main_arg4)) (m ((c.tc : Thread Cert.LatentReferenceIdeal.nD Cert.LatentReferenceIdeal.τ).loc Cert.LatentReferenceIdeal.main_arg5)) (m ((c.tc : Thread Cert.LatentReferenceIdeal.nD Cert.LatentReferenceIdeal.τ).loc Cert.LatentReferenceIdeal.main_arg6))).2.1 = (fun _ => 1#1)
    ∧ (Cert.Pre_latent_finite.fn (F := Ideal) (m ((c.tc : Thread Cert.LatentReferenceIdeal.nD Cert.LatentReferenceIdeal.τ).loc Cert.LatentReferenceIdeal.main_arg0)) (m ((c.tc : Thread Cert.LatentReferenceIdeal.nD Cert.LatentReferenceIdeal.τ).loc Cert.LatentReferenceIdeal.main_arg1)) (m ((c.tc : Thread Cert.LatentReferenceIdeal.nD Cert.LatentReferenceIdeal.τ).loc Cert.LatentReferenceIdeal.main_arg2)) (m ((c.tc : Thread Cert.LatentReferenceIdeal.nD Cert.LatentReferenceIdeal.τ).loc Cert.LatentReferenceIdeal.main_arg3)) (m ((c.tc : Thread Cert.LatentReferenceIdeal.nD Cert.LatentReferenceIdeal.τ).loc Cert.LatentReferenceIdeal.main_arg4)) (m ((c.tc : Thread Cert.LatentReferenceIdeal.nD Cert.LatentReferenceIdeal.τ).loc Cert.LatentReferenceIdeal.main_arg5)) (m ((c.tc : Thread Cert.LatentReferenceIdeal.nD Cert.LatentReferenceIdeal.τ).loc Cert.LatentReferenceIdeal.main_arg6))).2.2.1 = (fun _ => 1#1)
    ∧ (Cert.Pre_latent_finite.fn (F := Ideal) (m ((c.tc : Thread Cert.LatentReferenceIdeal.nD Cert.LatentReferenceIdeal.τ).loc Cert.LatentReferenceIdeal.main_arg0)) (m ((c.tc : Thread Cert.LatentReferenceIdeal.nD Cert.LatentReferenceIdeal.τ).loc Cert.LatentReferenceIdeal.main_arg1)) (m ((c.tc : Thread Cert.LatentReferenceIdeal.nD Cert.LatentReferenceIdeal.τ).loc Cert.LatentReferenceIdeal.main_arg2)) (m ((c.tc : Thread Cert.LatentReferenceIdeal.nD Cert.LatentReferenceIdeal.τ).loc Cert.LatentReferenceIdeal.main_arg3)) (m ((c.tc : Thread Cert.LatentReferenceIdeal.nD Cert.LatentReferenceIdeal.τ).loc Cert.LatentReferenceIdeal.main_arg4)) (m ((c.tc : Thread Cert.LatentReferenceIdeal.nD Cert.LatentReferenceIdeal.τ).loc Cert.LatentReferenceIdeal.main_arg5)) (m ((c.tc : Thread Cert.LatentReferenceIdeal.nD Cert.LatentReferenceIdeal.τ).loc Cert.LatentReferenceIdeal.main_arg6))).2.2.2.1 = (fun _ => 1#1)
    ∧ (Cert.Pre_latent_finite.fn (F := Ideal) (m ((c.tc : Thread Cert.LatentReferenceIdeal.nD Cert.LatentReferenceIdeal.τ).loc Cert.LatentReferenceIdeal.main_arg0)) (m ((c.tc : Thread Cert.LatentReferenceIdeal.nD Cert.LatentReferenceIdeal.τ).loc Cert.LatentReferenceIdeal.main_arg1)) (m ((c.tc : Thread Cert.LatentReferenceIdeal.nD Cert.LatentReferenceIdeal.τ).loc Cert.LatentReferenceIdeal.main_arg2)) (m ((c.tc : Thread Cert.LatentReferenceIdeal.nD Cert.LatentReferenceIdeal.τ).loc Cert.LatentReferenceIdeal.main_arg3)) (m ((c.tc : Thread Cert.LatentReferenceIdeal.nD Cert.LatentReferenceIdeal.τ).loc Cert.LatentReferenceIdeal.main_arg4)) (m ((c.tc : Thread Cert.LatentReferenceIdeal.nD Cert.LatentReferenceIdeal.τ).loc Cert.LatentReferenceIdeal.main_arg5)) (m ((c.tc : Thread Cert.LatentReferenceIdeal.nD Cert.LatentReferenceIdeal.τ).loc Cert.LatentReferenceIdeal.main_arg6))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Experts [hExperts : Cert.Experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4))
      ∧ r.2.sem = fun _ => 0)

def quiescent_ExpertsIdeal [hExpertsIdeal : Cert.ExpertsIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13)
      ∧ r.2.mem ((c.tc : Thread Cert.Merge.nD Cert.Merge.τ).loc Cert.Merge.main_arg14) = m ((c.tc : Thread Cert.Merge.nD Cert.Merge.τ).loc Cert.Merge.main_arg14)
      ∧ r.2.mem ((c.tc : Thread Cert.Merge.nD Cert.Merge.τ).loc Cert.Merge.main_arg15) = m ((c.tc : Thread Cert.Merge.nD Cert.Merge.τ).loc Cert.Merge.main_arg15))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
      ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11)
      ∧ r.2.mem ((c.tc : Thread Cert.MergeReferenceIdeal.nD Cert.MergeReferenceIdeal.τ).loc Cert.MergeReferenceIdeal.main_arg12) = m ((c.tc : Thread Cert.MergeReferenceIdeal.nD Cert.MergeReferenceIdeal.τ).loc Cert.MergeReferenceIdeal.main_arg12)
      ∧ r.2.mem ((c.tc : Thread Cert.MergeReferenceIdeal.nD Cert.MergeReferenceIdeal.τ).loc Cert.MergeReferenceIdeal.main_arg13) = m ((c.tc : Thread Cert.MergeReferenceIdeal.nD Cert.MergeReferenceIdeal.τ).loc Cert.MergeReferenceIdeal.main_arg13)
      ∧ r.2.mem ((c.tc : Thread Cert.MergeReferenceIdeal.nD Cert.MergeReferenceIdeal.τ).loc Cert.MergeReferenceIdeal.main_arg14) = m ((c.tc : Thread Cert.MergeReferenceIdeal.nD Cert.MergeReferenceIdeal.τ).loc Cert.MergeReferenceIdeal.main_arg14)
      ∧ r.2.mem ((c.tc : Thread Cert.MergeReferenceIdeal.nD Cert.MergeReferenceIdeal.τ).loc Cert.MergeReferenceIdeal.main_arg15) = m ((c.tc : Thread Cert.MergeReferenceIdeal.nD Cert.MergeReferenceIdeal.τ).loc Cert.MergeReferenceIdeal.main_arg15))
      ∧ r.2.sem = fun _ => 0)

def quiescent_Latent [hLatent : Cert.Latent.Facts] : Prop :=
  ∀ (m : (ℓ : Loc Cert.Latent.nD Cert.Latent.τ Cert.Latent.sig) → Buf (Elt Bits) ℓ) (g : Dev Cert.Latent.nD → PrngReg), Pre_Latent m →
    θ_run (Cert.Latent.defs (F := Bits)) (onTc (τ := Cert.Latent.τ) (Cert.Latent.main (F := Bits))) ⟨m, fun _ => 0, g⟩ (fun r => (∀ c : Dev Cert.Latent.nD,
      r.2.mem ((c.tc : Thread Cert.Latent.nD Cert.Latent.τ).loc Cert.Latent.main_arg0) = m ((c.tc : Thread Cert.Latent.nD Cert.Latent.τ).loc Cert.Latent.main_arg0)
      ∧ r.2.mem ((c.tc : Thread Cert.Latent.nD Cert.Latent.τ).loc Cert.Latent.main_arg1) = m ((c.tc : Thread Cert.Latent.nD Cert.Latent.τ).loc Cert.Latent.main_arg1)
      ∧ r.2.mem ((c.tc : Thread Cert.Latent.nD Cert.Latent.τ).loc Cert.Latent.main_arg2) = m ((c.tc : Thread Cert.Latent.nD Cert.Latent.τ).loc Cert.Latent.main_arg2)
      ∧ r.2.mem ((c.tc : Thread Cert.Latent.nD Cert.Latent.τ).loc Cert.Latent.main_arg3) = m ((c.tc : Thread Cert.Latent.nD Cert.Latent.τ).loc Cert.Latent.main_arg3)
      ∧ r.2.mem ((c.tc : Thread Cert.Latent.nD Cert.Latent.τ).loc Cert.Latent.main_arg4) = m ((c.tc : Thread Cert.Latent.nD Cert.Latent.τ).loc Cert.Latent.main_arg4)
      ∧ r.2.mem ((c.tc : Thread Cert.Latent.nD Cert.Latent.τ).loc Cert.Latent.main_arg5) = m ((c.tc : Thread Cert.Latent.nD Cert.Latent.τ).loc Cert.Latent.main_arg5)
      ∧ r.2.mem ((c.tc : Thread Cert.Latent.nD Cert.Latent.τ).loc Cert.Latent.main_arg6) = m ((c.tc : Thread Cert.Latent.nD Cert.Latent.τ).loc Cert.Latent.main_arg6))
      ∧ r.2.sem = fun _ => 0)

def quiescent_LatentIdeal [hLatentIdeal : Cert.LatentIdeal.Facts] : Prop :=
  ∀ (m : (ℓ : Loc Cert.LatentIdeal.nD Cert.LatentIdeal.τ Cert.LatentIdeal.sig) → Buf (Elt Ideal) ℓ) (g : Dev Cert.LatentIdeal.nD → PrngReg), Pre_LatentIdeal m →
    θ_run (Cert.LatentIdeal.defs (F := Ideal)) (onTc (τ := Cert.LatentIdeal.τ) (Cert.LatentIdeal.main (F := Ideal))) ⟨m, fun _ => 0, g⟩ (fun r => (∀ c : Dev Cert.LatentIdeal.nD,
      r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
      ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
      ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2)
      ∧ r.2.mem ((c.tc : Thread Cert.LatentIdeal.nD Cert.LatentIdeal.τ).loc Cert.LatentIdeal.main_arg3) = m ((c.tc : Thread Cert.LatentIdeal.nD Cert.LatentIdeal.τ).loc Cert.LatentIdeal.main_arg3)
      ∧ r.2.mem ((c.tc : Thread Cert.LatentIdeal.nD Cert.LatentIdeal.τ).loc Cert.LatentIdeal.main_arg4) = m ((c.tc : Thread Cert.LatentIdeal.nD Cert.LatentIdeal.τ).loc Cert.LatentIdeal.main_arg4)
      ∧ r.2.mem ((c.tc : Thread Cert.LatentIdeal.nD Cert.LatentIdeal.τ).loc Cert.LatentIdeal.main_arg5) = m ((c.tc : Thread Cert.LatentIdeal.nD Cert.LatentIdeal.τ).loc Cert.LatentIdeal.main_arg5)
      ∧ r.2.mem ((c.tc : Thread Cert.LatentIdeal.nD Cert.LatentIdeal.τ).loc Cert.LatentIdeal.main_arg6) = m ((c.tc : Thread Cert.LatentIdeal.nD Cert.LatentIdeal.τ).loc Cert.LatentIdeal.main_arg6))
      ∧ r.2.sem = fun _ => 0)

def quiescent_LatentIdeal_pre_latent_finite [hLatentIdeal : Cert.LatentIdeal.Facts] [hPre_latent_finite : Cert.Pre_latent_finite.Facts] : Prop :=
  ∀ (m : (ℓ : Loc Cert.LatentIdeal.nD Cert.LatentIdeal.τ Cert.LatentIdeal.sig) → Buf (Elt Ideal) ℓ) (g : Dev Cert.LatentIdeal.nD → PrngReg), Pre_LatentIdeal_latent_finite m →
    θ_run (Cert.LatentIdeal.defs (F := Ideal)) (onTc (τ := Cert.LatentIdeal.τ) (Cert.LatentIdeal.main (F := Ideal))) ⟨m, fun _ => 0, g⟩ (fun r => (∀ c : Dev Cert.LatentIdeal.nD,
      r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
      ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
      ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2)
      ∧ r.2.mem ((c.tc : Thread Cert.LatentIdeal.nD Cert.LatentIdeal.τ).loc Cert.LatentIdeal.main_arg3) = m ((c.tc : Thread Cert.LatentIdeal.nD Cert.LatentIdeal.τ).loc Cert.LatentIdeal.main_arg3)
      ∧ r.2.mem ((c.tc : Thread Cert.LatentIdeal.nD Cert.LatentIdeal.τ).loc Cert.LatentIdeal.main_arg4) = m ((c.tc : Thread Cert.LatentIdeal.nD Cert.LatentIdeal.τ).loc Cert.LatentIdeal.main_arg4)
      ∧ r.2.mem ((c.tc : Thread Cert.LatentIdeal.nD Cert.LatentIdeal.τ).loc Cert.LatentIdeal.main_arg5) = m ((c.tc : Thread Cert.LatentIdeal.nD Cert.LatentIdeal.τ).loc Cert.LatentIdeal.main_arg5)
      ∧ r.2.mem ((c.tc : Thread Cert.LatentIdeal.nD Cert.LatentIdeal.τ).loc Cert.LatentIdeal.main_arg6) = m ((c.tc : Thread Cert.LatentIdeal.nD Cert.LatentIdeal.τ).loc Cert.LatentIdeal.main_arg6))
      ∧ r.2.sem = fun _ => 0)

def quiescent_LatentReferenceIdeal [hLatentReferenceIdeal : Cert.LatentReferenceIdeal.Facts] : Prop :=
  ∀ (m : (ℓ : Loc Cert.LatentReferenceIdeal.nD Cert.LatentReferenceIdeal.τ Cert.LatentReferenceIdeal.sig) → Buf (Elt Ideal) ℓ) (g : Dev Cert.LatentReferenceIdeal.nD → PrngReg), Pre_LatentReferenceIdeal m →
    θ_run (Cert.LatentReferenceIdeal.defs (F := Ideal)) (onTc (τ := Cert.LatentReferenceIdeal.τ) (Cert.LatentReferenceIdeal.main (F := Ideal))) ⟨m, fun _ => 0, g⟩ (fun r => (∀ c : Dev Cert.LatentReferenceIdeal.nD,
      r.2.mem ((c.tc : Thread Cert.LatentReferenceIdeal.nD Cert.LatentReferenceIdeal.τ).loc Cert.LatentReferenceIdeal.main_arg0) = m ((c.tc : Thread Cert.LatentReferenceIdeal.nD Cert.LatentReferenceIdeal.τ).loc Cert.LatentReferenceIdeal.main_arg0)
      ∧ r.2.mem ((c.tc : Thread Cert.LatentReferenceIdeal.nD Cert.LatentReferenceIdeal.τ).loc Cert.LatentReferenceIdeal.main_arg1) = m ((c.tc : Thread Cert.LatentReferenceIdeal.nD Cert.LatentReferenceIdeal.τ).loc Cert.LatentReferenceIdeal.main_arg1)
      ∧ r.2.mem ((c.tc : Thread Cert.LatentReferenceIdeal.nD Cert.LatentReferenceIdeal.τ).loc Cert.LatentReferenceIdeal.main_arg2) = m ((c.tc : Thread Cert.LatentReferenceIdeal.nD Cert.LatentReferenceIdeal.τ).loc Cert.LatentReferenceIdeal.main_arg2)
      ∧ r.2.mem ((c.tc : Thread Cert.LatentReferenceIdeal.nD Cert.LatentReferenceIdeal.τ).loc Cert.LatentReferenceIdeal.main_arg3) = m ((c.tc : Thread Cert.LatentReferenceIdeal.nD Cert.LatentReferenceIdeal.τ).loc Cert.LatentReferenceIdeal.main_arg3)
      ∧ r.2.mem ((c.tc : Thread Cert.LatentReferenceIdeal.nD Cert.LatentReferenceIdeal.τ).loc Cert.LatentReferenceIdeal.main_arg4) = m ((c.tc : Thread Cert.LatentReferenceIdeal.nD Cert.LatentReferenceIdeal.τ).loc Cert.LatentReferenceIdeal.main_arg4)
      ∧ r.2.mem ((c.tc : Thread Cert.LatentReferenceIdeal.nD Cert.LatentReferenceIdeal.τ).loc Cert.LatentReferenceIdeal.main_arg5) = m ((c.tc : Thread Cert.LatentReferenceIdeal.nD Cert.LatentReferenceIdeal.τ).loc Cert.LatentReferenceIdeal.main_arg5)
      ∧ r.2.mem ((c.tc : Thread Cert.LatentReferenceIdeal.nD Cert.LatentReferenceIdeal.τ).loc Cert.LatentReferenceIdeal.main_arg6) = m ((c.tc : Thread Cert.LatentReferenceIdeal.nD Cert.LatentReferenceIdeal.τ).loc Cert.LatentReferenceIdeal.main_arg6))
      ∧ r.2.sem = fun _ => 0)

def quiescent_LatentReferenceIdeal_pre_latent_finite [hLatentReferenceIdeal : Cert.LatentReferenceIdeal.Facts] [hPre_latent_finite : Cert.Pre_latent_finite.Facts] : Prop :=
  ∀ (m : (ℓ : Loc Cert.LatentReferenceIdeal.nD Cert.LatentReferenceIdeal.τ Cert.LatentReferenceIdeal.sig) → Buf (Elt Ideal) ℓ) (g : Dev Cert.LatentReferenceIdeal.nD → PrngReg), Pre_LatentReferenceIdeal_latent_finite m →
    θ_run (Cert.LatentReferenceIdeal.defs (F := Ideal)) (onTc (τ := Cert.LatentReferenceIdeal.τ) (Cert.LatentReferenceIdeal.main (F := Ideal))) ⟨m, fun _ => 0, g⟩ (fun r => (∀ c : Dev Cert.LatentReferenceIdeal.nD,
      r.2.mem ((c.tc : Thread Cert.LatentReferenceIdeal.nD Cert.LatentReferenceIdeal.τ).loc Cert.LatentReferenceIdeal.main_arg0) = m ((c.tc : Thread Cert.LatentReferenceIdeal.nD Cert.LatentReferenceIdeal.τ).loc Cert.LatentReferenceIdeal.main_arg0)
      ∧ r.2.mem ((c.tc : Thread Cert.LatentReferenceIdeal.nD Cert.LatentReferenceIdeal.τ).loc Cert.LatentReferenceIdeal.main_arg1) = m ((c.tc : Thread Cert.LatentReferenceIdeal.nD Cert.LatentReferenceIdeal.τ).loc Cert.LatentReferenceIdeal.main_arg1)
      ∧ r.2.mem ((c.tc : Thread Cert.LatentReferenceIdeal.nD Cert.LatentReferenceIdeal.τ).loc Cert.LatentReferenceIdeal.main_arg2) = m ((c.tc : Thread Cert.LatentReferenceIdeal.nD Cert.LatentReferenceIdeal.τ).loc Cert.LatentReferenceIdeal.main_arg2)
      ∧ r.2.mem ((c.tc : Thread Cert.LatentReferenceIdeal.nD Cert.LatentReferenceIdeal.τ).loc Cert.LatentReferenceIdeal.main_arg3) = m ((c.tc : Thread Cert.LatentReferenceIdeal.nD Cert.LatentReferenceIdeal.τ).loc Cert.LatentReferenceIdeal.main_arg3)
      ∧ r.2.mem ((c.tc : Thread Cert.LatentReferenceIdeal.nD Cert.LatentReferenceIdeal.τ).loc Cert.LatentReferenceIdeal.main_arg4) = m ((c.tc : Thread Cert.LatentReferenceIdeal.nD Cert.LatentReferenceIdeal.τ).loc Cert.LatentReferenceIdeal.main_arg4)
      ∧ r.2.mem ((c.tc : Thread Cert.LatentReferenceIdeal.nD Cert.LatentReferenceIdeal.τ).loc Cert.LatentReferenceIdeal.main_arg5) = m ((c.tc : Thread Cert.LatentReferenceIdeal.nD Cert.LatentReferenceIdeal.τ).loc Cert.LatentReferenceIdeal.main_arg5)
      ∧ r.2.mem ((c.tc : Thread Cert.LatentReferenceIdeal.nD Cert.LatentReferenceIdeal.τ).loc Cert.LatentReferenceIdeal.main_arg6) = m ((c.tc : Thread Cert.LatentReferenceIdeal.nD Cert.LatentReferenceIdeal.τ).loc Cert.LatentReferenceIdeal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)) →
    ∃ (v0 : (c : Dev Cert.ExpertsIdeal.nD) → Buf (Elt Ideal) ((c.tc : Thread Cert.ExpertsIdeal.nD Cert.ExpertsIdeal.τ).loc Cert.ExpertsIdeal.main_v2)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v2) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v17) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)
      ∧ m' ((c.tc : Thread Cert.MergeReferenceIdeal.nD Cert.MergeReferenceIdeal.τ).loc Cert.MergeReferenceIdeal.main_arg11) = m ((c.tc : Thread Cert.MergeIdeal.nD Cert.MergeIdeal.τ).loc Cert.MergeIdeal.main_arg11)
      ∧ m' ((c.tc : Thread Cert.MergeReferenceIdeal.nD Cert.MergeReferenceIdeal.τ).loc Cert.MergeReferenceIdeal.main_arg12) = m ((c.tc : Thread Cert.MergeIdeal.nD Cert.MergeIdeal.τ).loc Cert.MergeIdeal.main_arg12)
      ∧ m' ((c.tc : Thread Cert.MergeReferenceIdeal.nD Cert.MergeReferenceIdeal.τ).loc Cert.MergeReferenceIdeal.main_arg13) = m ((c.tc : Thread Cert.MergeIdeal.nD Cert.MergeIdeal.τ).loc Cert.MergeIdeal.main_arg13)
      ∧ m' ((c.tc : Thread Cert.MergeReferenceIdeal.nD Cert.MergeReferenceIdeal.τ).loc Cert.MergeReferenceIdeal.main_arg14) = m ((c.tc : Thread Cert.MergeIdeal.nD Cert.MergeIdeal.τ).loc Cert.MergeIdeal.main_arg14)
      ∧ m' ((c.tc : Thread Cert.MergeReferenceIdeal.nD Cert.MergeReferenceIdeal.τ).loc Cert.MergeReferenceIdeal.main_arg15) = m ((c.tc : Thread Cert.MergeIdeal.nD Cert.MergeIdeal.τ).loc Cert.MergeIdeal.main_arg15)) →
    ∃ (v0 : (c : Dev Cert.MergeIdeal.nD) → Buf (Elt Ideal) ((c.tc : Thread Cert.MergeIdeal.nD Cert.MergeIdeal.τ).loc Cert.MergeIdeal.main_v47_0)) (v1 : (c : Dev Cert.MergeIdeal.nD) → Buf (Elt Ideal) ((c.tc : Thread Cert.MergeIdeal.nD Cert.MergeIdeal.τ).loc Cert.MergeIdeal.main_v47_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v47_0) = v0 c
          ∧ r.2.mem ((c.tc : Thread Cert.MergeIdeal.nD Cert.MergeIdeal.τ).loc Cert.MergeIdeal.main_v47_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
          ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
          ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v92) = v0 c
          ∧ r.2.mem ((c.tc : Thread Cert.MergeReferenceIdeal.nD Cert.MergeReferenceIdeal.τ).loc Cert.MergeReferenceIdeal.main_v119) = v1 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10)
          ∧ r.2.mem ((c.tc : Thread Cert.MergeReferenceIdeal.nD Cert.MergeReferenceIdeal.τ).loc Cert.MergeReferenceIdeal.main_arg11) = m' ((c.tc : Thread Cert.MergeReferenceIdeal.nD Cert.MergeReferenceIdeal.τ).loc Cert.MergeReferenceIdeal.main_arg11)
          ∧ r.2.mem ((c.tc : Thread Cert.MergeReferenceIdeal.nD Cert.MergeReferenceIdeal.τ).loc Cert.MergeReferenceIdeal.main_arg12) = m' ((c.tc : Thread Cert.MergeReferenceIdeal.nD Cert.MergeReferenceIdeal.τ).loc Cert.MergeReferenceIdeal.main_arg12)
          ∧ r.2.mem ((c.tc : Thread Cert.MergeReferenceIdeal.nD Cert.MergeReferenceIdeal.τ).loc Cert.MergeReferenceIdeal.main_arg13) = m' ((c.tc : Thread Cert.MergeReferenceIdeal.nD Cert.MergeReferenceIdeal.τ).loc Cert.MergeReferenceIdeal.main_arg13)
          ∧ r.2.mem ((c.tc : Thread Cert.MergeReferenceIdeal.nD Cert.MergeReferenceIdeal.τ).loc Cert.MergeReferenceIdeal.main_arg14) = m' ((c.tc : Thread Cert.MergeReferenceIdeal.nD Cert.MergeReferenceIdeal.τ).loc Cert.MergeReferenceIdeal.main_arg14)
          ∧ r.2.mem ((c.tc : Thread Cert.MergeReferenceIdeal.nD Cert.MergeReferenceIdeal.τ).loc Cert.MergeReferenceIdeal.main_arg15) = m' ((c.tc : Thread Cert.MergeReferenceIdeal.nD Cert.MergeReferenceIdeal.τ).loc Cert.MergeReferenceIdeal.main_arg15))

def preserves_Latent_LatentIdeal : Prop :=
  True

def algebraic_LatentIdeal_LatentReferenceIdeal_pre_latent_finite [hLatentIdeal : Cert.LatentIdeal.Facts] [hLatentReferenceIdeal : Cert.LatentReferenceIdeal.Facts] [hPre_latent_finite : Cert.Pre_latent_finite.Facts] : Prop :=
  ∀ (m : (ℓ : Loc Cert.LatentIdeal.nD Cert.LatentIdeal.τ Cert.LatentIdeal.sig) → Buf (Elt Ideal) ℓ) (g : Dev Cert.LatentIdeal.nD → PrngReg)
    (m' : (ℓ : Loc Cert.LatentReferenceIdeal.nD Cert.LatentReferenceIdeal.τ Cert.LatentReferenceIdeal.sig) → Buf (Elt Ideal) ℓ) (g' : Dev Cert.LatentReferenceIdeal.nD → PrngReg), Pre_LatentIdeal_latent_finite m →
    (∀ c : Dev Cert.LatentIdeal.nD,
      m' ((c.tc : Thread Cert.LatentReferenceIdeal.nD Cert.LatentReferenceIdeal.τ).loc Cert.LatentReferenceIdeal.main_arg0) = m ((c.tc : Thread Cert.LatentIdeal.nD Cert.LatentIdeal.τ).loc Cert.LatentIdeal.main_arg0)
      ∧ m' ((c.tc : Thread Cert.LatentReferenceIdeal.nD Cert.LatentReferenceIdeal.τ).loc Cert.LatentReferenceIdeal.main_arg1) = m ((c.tc : Thread Cert.LatentIdeal.nD Cert.LatentIdeal.τ).loc Cert.LatentIdeal.main_arg1)
      ∧ m' ((c.tc : Thread Cert.LatentReferenceIdeal.nD Cert.LatentReferenceIdeal.τ).loc Cert.LatentReferenceIdeal.main_arg2) = m ((c.tc : Thread Cert.LatentIdeal.nD Cert.LatentIdeal.τ).loc Cert.LatentIdeal.main_arg2)
      ∧ m' ((c.tc : Thread Cert.LatentReferenceIdeal.nD Cert.LatentReferenceIdeal.τ).loc Cert.LatentReferenceIdeal.main_arg3) = m ((c.tc : Thread Cert.LatentIdeal.nD Cert.LatentIdeal.τ).loc Cert.LatentIdeal.main_arg3)
      ∧ m' ((c.tc : Thread Cert.LatentReferenceIdeal.nD Cert.LatentReferenceIdeal.τ).loc Cert.LatentReferenceIdeal.main_arg4) = m ((c.tc : Thread Cert.LatentIdeal.nD Cert.LatentIdeal.τ).loc Cert.LatentIdeal.main_arg4)
      ∧ m' ((c.tc : Thread Cert.LatentReferenceIdeal.nD Cert.LatentReferenceIdeal.τ).loc Cert.LatentReferenceIdeal.main_arg5) = m ((c.tc : Thread Cert.LatentIdeal.nD Cert.LatentIdeal.τ).loc Cert.LatentIdeal.main_arg5)
      ∧ m' ((c.tc : Thread Cert.LatentReferenceIdeal.nD Cert.LatentReferenceIdeal.τ).loc Cert.LatentReferenceIdeal.main_arg6) = m ((c.tc : Thread Cert.LatentIdeal.nD Cert.LatentIdeal.τ).loc Cert.LatentIdeal.main_arg6)) →
    ∃ (v0 : (c : Dev Cert.LatentIdeal.nD) → Buf (Elt Ideal) ((c.tc : Thread Cert.LatentIdeal.nD Cert.LatentIdeal.τ).loc Cert.LatentIdeal.main_v58)),
      θ_run (Cert.LatentIdeal.defs (F := Ideal)) (onTc (τ := Cert.LatentIdeal.τ) (Cert.LatentIdeal.main (F := Ideal))) ⟨m, fun _ => 0, g⟩ (fun r => ∀ c : Dev Cert.LatentIdeal.nD,
          r.2.mem ((c.tc : Thread Cert.LatentIdeal.nD Cert.LatentIdeal.τ).loc Cert.LatentIdeal.main_v58) = v0 c
          ∧ r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
          ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
          ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2)
          ∧ r.2.mem ((c.tc : Thread Cert.LatentIdeal.nD Cert.LatentIdeal.τ).loc Cert.LatentIdeal.main_arg3) = m ((c.tc : Thread Cert.LatentIdeal.nD Cert.LatentIdeal.τ).loc Cert.LatentIdeal.main_arg3)
          ∧ r.2.mem ((c.tc : Thread Cert.LatentIdeal.nD Cert.LatentIdeal.τ).loc Cert.LatentIdeal.main_arg4) = m ((c.tc : Thread Cert.LatentIdeal.nD Cert.LatentIdeal.τ).loc Cert.LatentIdeal.main_arg4)
          ∧ r.2.mem ((c.tc : Thread Cert.LatentIdeal.nD Cert.LatentIdeal.τ).loc Cert.LatentIdeal.main_arg5) = m ((c.tc : Thread Cert.LatentIdeal.nD Cert.LatentIdeal.τ).loc Cert.LatentIdeal.main_arg5)
          ∧ r.2.mem ((c.tc : Thread Cert.LatentIdeal.nD Cert.LatentIdeal.τ).loc Cert.LatentIdeal.main_arg6) = m ((c.tc : Thread Cert.LatentIdeal.nD Cert.LatentIdeal.τ).loc Cert.LatentIdeal.main_arg6))
      ∧ θ_run (Cert.LatentReferenceIdeal.defs (F := Ideal)) (onTc (τ := Cert.LatentReferenceIdeal.τ) (Cert.LatentReferenceIdeal.main (F := Ideal))) ⟨m', fun _ => 0, g'⟩ (fun r => ∀ c : Dev Cert.LatentReferenceIdeal.nD,
          r.2.mem ((c.tc : Thread Cert.LatentReferenceIdeal.nD Cert.LatentReferenceIdeal.τ).loc Cert.LatentReferenceIdeal.main_v27) = v0 c
          ∧ r.2.mem ((c.tc : Thread Cert.LatentReferenceIdeal.nD Cert.LatentReferenceIdeal.τ).loc Cert.LatentReferenceIdeal.main_arg0) = m' ((c.tc : Thread Cert.LatentReferenceIdeal.nD Cert.LatentReferenceIdeal.τ).loc Cert.LatentReferenceIdeal.main_arg0)
          ∧ r.2.mem ((c.tc : Thread Cert.LatentReferenceIdeal.nD Cert.LatentReferenceIdeal.τ).loc Cert.LatentReferenceIdeal.main_arg1) = m' ((c.tc : Thread Cert.LatentReferenceIdeal.nD Cert.LatentReferenceIdeal.τ).loc Cert.LatentReferenceIdeal.main_arg1)
          ∧ r.2.mem ((c.tc : Thread Cert.LatentReferenceIdeal.nD Cert.LatentReferenceIdeal.τ).loc Cert.LatentReferenceIdeal.main_arg2) = m' ((c.tc : Thread Cert.LatentReferenceIdeal.nD Cert.LatentReferenceIdeal.τ).loc Cert.LatentReferenceIdeal.main_arg2)
          ∧ r.2.mem ((c.tc : Thread Cert.LatentReferenceIdeal.nD Cert.LatentReferenceIdeal.τ).loc Cert.LatentReferenceIdeal.main_arg3) = m' ((c.tc : Thread Cert.LatentReferenceIdeal.nD Cert.LatentReferenceIdeal.τ).loc Cert.LatentReferenceIdeal.main_arg3)
          ∧ r.2.mem ((c.tc : Thread Cert.LatentReferenceIdeal.nD Cert.LatentReferenceIdeal.τ).loc Cert.LatentReferenceIdeal.main_arg4) = m' ((c.tc : Thread Cert.LatentReferenceIdeal.nD Cert.LatentReferenceIdeal.τ).loc Cert.LatentReferenceIdeal.main_arg4)
          ∧ r.2.mem ((c.tc : Thread Cert.LatentReferenceIdeal.nD Cert.LatentReferenceIdeal.τ).loc Cert.LatentReferenceIdeal.main_arg5) = m' ((c.tc : Thread Cert.LatentReferenceIdeal.nD Cert.LatentReferenceIdeal.τ).loc Cert.LatentReferenceIdeal.main_arg5)
          ∧ r.2.mem ((c.tc : Thread Cert.LatentReferenceIdeal.nD Cert.LatentReferenceIdeal.τ).loc Cert.LatentReferenceIdeal.main_arg6) = m' ((c.tc : Thread Cert.LatentReferenceIdeal.nD Cert.LatentReferenceIdeal.τ).loc Cert.LatentReferenceIdeal.main_arg6))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsReferenceIdeal : Cert.ExpertsReferenceIdeal.Facts) (hMerge : Cert.Merge.Facts) (hMergeIdeal : Cert.MergeIdeal.Facts) (hMergeReferenceIdeal : Cert.MergeReferenceIdeal.Facts) (hLatent : Cert.Latent.Facts) (hLatentIdeal : Cert.LatentIdeal.Facts) (hLatentReferenceIdeal : Cert.LatentReferenceIdeal.Facts) (hPre_finite : Cert.Pre_finite.Facts) (hPre_latent_finite : Cert.Pre_latent_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Experts (hExperts := hExperts)
    ∧ quiescent_ExpertsIdeal (hExpertsIdeal := hExpertsIdeal)
    ∧ quiescent_ExpertsReferenceIdeal (hExpertsReferenceIdeal := hExpertsReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Latent (hLatent := hLatent)
    ∧ quiescent_LatentIdeal (hLatentIdeal := hLatentIdeal)
    ∧ quiescent_LatentIdeal_pre_latent_finite (hLatentIdeal := hLatentIdeal) (hPre_latent_finite := hPre_latent_finite)
    ∧ quiescent_LatentReferenceIdeal (hLatentReferenceIdeal := hLatentReferenceIdeal)
    ∧ quiescent_LatentReferenceIdeal_pre_latent_finite (hLatentReferenceIdeal := hLatentReferenceIdeal) (hPre_latent_finite := hPre_latent_finite)
    ∧ preserves_Kernel_KernelIdeal
    ∧ algebraic_KernelIdeal_ReferenceIdeal_pre_finite (hKernelIdeal := hKernelIdeal) (hReferenceIdeal := hReferenceIdeal) (hPre_finite := hPre_finite)
    ∧ preserves_Experts_ExpertsIdeal
    ∧ algebraic_ExpertsIdeal_ExpertsReferenceIdeal (hExpertsIdeal := hExpertsIdeal) (hExpertsReferenceIdeal := hExpertsReferenceIdeal)
    ∧ preserves_Merge_MergeIdeal
    ∧ algebraic_MergeIdeal_MergeReferenceIdeal (hMergeIdeal := hMergeIdeal) (hMergeReferenceIdeal := hMergeReferenceIdeal)
    ∧ preserves_Latent_LatentIdeal
    ∧ algebraic_LatentIdeal_LatentReferenceIdeal_pre_latent_finite (hLatentIdeal := hLatentIdeal) (hLatentReferenceIdeal := hLatentReferenceIdeal) (hPre_latent_finite := hPre_latent_finite)
-- ==== Pre_finite.lean ====
abbrev S4x8192x2x2x64 : Shape := ⟨5, ![4, 8192, 2, 2, 64]⟩
abbrev S4x8192x2x64 : Shape := ⟨4, ![4, 8192, 2, 64]⟩
abbrev S4x256x2x64 : Shape := ⟨4, ![4, 256, 2, 64]⟩
abbrev S_ : Shape := ⟨0, ![]⟩

class Facts : Prop where
  bcast_S_S4x8192x2x2x64 : S_.BroadcastsInDim S4x8192x2x2x64 (![] : Fin 0 → Fin S4x8192x2x2x64.rank)
  bcast_S_S4x8192x2x64 : S_.BroadcastsInDim S4x8192x2x64 (![] : Fin 0 → Fin S4x8192x2x64.rank)
  bcast_S_S4x256x2x64 : S_.BroadcastsInDim S4x256x2x64 (![] : Fin 0 → Fin S4x256x2x64.rank)

variable [Facts]

def fn {F : FTy → Type} [FloatOps F] (main_arg0 : FVec F S4x8192x2x2x64 .f32) (main_arg1 : FVec F S4x8192x2x64 .f32) (main_arg2 : FVec F S4x8192x2x64 .f32) (main_arg3 : FVec F S4x256x2x64 .f32) (main_arg4 : FVec F S4x256x2x64 .f32) : IVec S4x8192x2x2x64 1 × IVec S4x8192x2x64 1 × IVec S4x256x2x64 1 :=
  let main_v0 : FVec F S4x8192x2x2x64 .f32 := Host.absf main_arg0
  let main_cst : FVec F S_ .f32 := constant S_ .f32 0x7F800000#32
  let main_v1 : FVec F S4x8192x2x2x64 .f32 := broadcastInDim S4x8192x2x2x64 ![] bcast_S_S4x8192x2x2x64 main_cst
  let main_v2 : IVec S4x8192x2x2x64 1 := cmpf .olt main_v0 main_v1
  let main_v3 : FVec F S4x8192x2x64 .f32 := Host.absf main_arg1
  let main_cst_0 : FVec F S_ .f32 := constant S_ .f32 0x7F800000#32
  let main_v4 : FVec F S4x8192x2x64 .f32 := broadcastInDim S4x8192x2x64 ![] bcast_S_S4x8192x2x64 main_cst_0
  let main_v5 : IVec S4x8192x2x64 1 := cmpf .olt main_v3 main_v4
  let main_v6 : FVec F S4x256x2x64 .f32 := Host.absf main_arg3
  let main_cst_1 : FVec F S_ .f32 := constant S_ .f32 0x7F800000#32
  let main_v7 : FVec F S4x256x2x64 .f32 := broadcastInDim S4x256x2x64 ![] bcast_S_S4x256x2x64 main_cst_1
  let main_v8 : IVec S4x256x2x64 1 := cmpf .olt main_v6 main_v7
  (main_v2, main_v5, main_v8)
-- ==== Pre_latent_finite.lean ====
abbrev S4x8192x4x96 : Shape := ⟨4, ![4, 8192, 4, 96]⟩
abbrev S4x8192x4x64 : Shape := ⟨4, ![4, 8192, 4, 64]⟩
abbrev S4x8192x32 : Shape := ⟨3, ![4, 8192, 32]⟩
abbrev S4x256x4x64 : Shape := ⟨4, ![4, 256, 4, 64]⟩
abbrev S4x256x32 : Shape := ⟨3, ![4, 256, 32]⟩
abbrev S_ : Shape := ⟨0, ![]⟩

class Facts : Prop where
  bcast_S_S4x8192x4x96 : S_.BroadcastsInDim S4x8192x4x96 (![] : Fin 0 → Fin S4x8192x4x96.rank)
  bcast_S_S4x8192x4x64 : S_.BroadcastsInDim S4x8192x4x64 (![] : Fin 0 → Fin S4x8192x4x64.rank)
  bcast_S_S4x8192x32 : S_.BroadcastsInDim S4x8192x32 (![] : Fin 0 → Fin S4x8192x32.rank)
  bcast_S_S4x256x4x64 : S_.BroadcastsInDim S4x256x4x64 (![] : Fin 0 → Fin S4x256x4x64.rank)
  bcast_S_S4x256x32 : S_.BroadcastsInDim S4x256x32 (![] : Fin 0 → Fin S4x256x32.rank)

variable [Facts]

def fn {F : FTy → Type} [FloatOps F] (main_arg0 : FVec F S4x8192x4x96 .f32) (main_arg1 : FVec F S4x8192x4x64 .f32) (main_arg2 : FVec F S4x8192x32 .f32) (main_arg3 : FVec F S4x8192x4x64 .f32) (main_arg4 : FVec F S4x256x4x64 .f32) (main_arg5 : FVec F S4x256x32 .f32) (main_arg6 : FVec F S4x256x4x64 .f32) : IVec S4x8192x4x96 1 × IVec S4x8192x4x64 1 × IVec S4x8192x32 1 × IVec S4x256x4x64 1 × IVec S4x256x32 1 :=
  let main_v0 : FVec F S4x8192x4x96 .f32 := Host.absf main_arg0
  let main_cst : FVec F S_ .f32 := constant S_ .f32 0x7F800000#32
  let main_v1 : FVec F S4x8192x4x96 .f32 := broadcastInDim S4x8192x4x96 ![] bcast_S_S4x8192x4x96 main_cst
  let main_v2 : IVec S4x8192x4x96 1 := cmpf .olt main_v0 main_v1
  let main_v3 : FVec F S4x8192x4x64 .f32 := Host.absf main_arg1
  let main_cst_0 : FVec F S_ .f32 := constant S_ .f32 0x7F800000#32
  let main_v4 : FVec F S4x8192x4x64 .f32 := broadcastInDim S4x8192x4x64 ![] bcast_S_S4x8192x4x64 main_cst_0
  let main_v5 : IVec S4x8192x4x64 1 := cmpf .olt main_v3 main_v4
  let main_v6 : FVec F S4x8192x32 .f32 := Host.absf main_arg2
  let main_cst_1 : FVec F S_ .f32 := constant S_ .f32 0x7F800000#32
  let main_v7 : FVec F S4x8192x32 .f32 := broadcastInDim S4x8192x32 ![] bcast_S_S4x8192x32 main_cst_1
  let main_v8 : IVec S4x8192x32 1 := cmpf .olt main_v6 main_v7
  let main_v9 : FVec F S4x256x4x64 .f32 := Host.absf main_arg4
  let main_cst_2 : FVec F S_ .f32 := constant S_ .f32 0x7F800000#32
  let main_v10 : FVec F S4x256x4x64 .f32 := broadcastInDim S4x256x4x64 ![] bcast_S_S4x256x4x64 main_cst_2
  let main_v11 : IVec S4x256x4x64 1 := cmpf .olt main_v9 main_v10
  let main_v12 : FVec F S4x256x32 .f32 := Host.absf main_arg5
  let main_cst_3 : FVec F S_ .f32 := constant S_ .f32 0x7F800000#32
  let main_v13 : FVec F S4x256x32 .f32 := broadcastInDim S4x256x32 ![] bcast_S_S4x256x32 main_cst_3
  let main_v14 : IVec S4x256x32 1 := cmpf .olt main_v12 main_v13
  (main_v2, main_v5, main_v8, main_v11, main_v14)
-- ==== Kernel.lean ====
abbrev S4x8192x2x2x64 : Shape := ⟨5, ![4, 8192, 2, 2, 64]⟩
abbrev S4x8192x2x64 : Shape := ⟨4, ![4, 8192, 2, 64]⟩
abbrev S4x256x2x64 : Shape := ⟨4, ![4, 256, 2, 64]⟩
abbrev S_ : Shape := ⟨0, ![]⟩
abbrev S4x8192x2x2x2x2x16 : Shape := ⟨7, ![4, 8192, 2, 2, 2, 2, 16]⟩
abbrev S4x2x2x8192x2x2x16 : Shape := ⟨7, ![4, 2, 2, 8192, 2, 2, 16]⟩
abbrev S4x2x2x8192x2x1x32 : Shape := ⟨7, ![4, 2, 2, 8192, 2, 1, 32]⟩
abbrev S4x2x2x8192x2x2x32 : Shape := ⟨7, ![4, 2, 2, 8192, 2, 2, 32]⟩
abbrev S4x4x8192x128 : Shape := ⟨4, ![4, 4, 8192, 128]⟩
abbrev S4x8192x2x2x2x16 : Shape := ⟨6, ![4, 8192, 2, 2, 2, 16]⟩
abbrev S4x8192x128 : Shape := ⟨3, ![4, 8192, 128]⟩
abbrev S4x1x8192x128 : Shape := ⟨4, ![4, 1, 8192, 128]⟩
abbrev S4x16x512x2x64 : Shape := ⟨5, ![4, 16, 512, 2, 64]⟩
abbrev S4x16x2x64x512 : Shape := ⟨5, ![4, 16, 2, 64, 512]⟩
abbrev S4x16x2x16x512 : Shape := ⟨5, ![4, 16, 2, 16, 512]⟩
abbrev S4x16x2x80x512 : Shape := ⟨5, ![4, 16, 2, 80, 512]⟩
abbrev S4x1x16x2x80x512 : Shape := ⟨6, ![4, 1, 16, 2, 80, 512]⟩
abbrev S4x256x2x2x2x16 : Shape := ⟨6, ![4, 256, 2, 2, 2, 16]⟩
abbrev S4x256x128 : Shape := ⟨3, ![4, 256, 128]⟩
abbrev S4x1x256x128 : Shape := ⟨4, ![4, 1, 256, 128]⟩
abbrev S4x1x256x2x64 : Shape := ⟨5, ![4, 1, 256, 2, 64]⟩
abbrev S4x1x2x64x256 : Shape := ⟨5, ![4, 1, 2, 64, 256]⟩
abbrev S4x1x2x16x256 : Shape := ⟨5, ![4, 1, 2, 16, 256]⟩
abbrev S4x1x2x80x256 : Shape := ⟨5, ![4, 1, 2, 80, 256]⟩
abbrev S4x1x1x2x80x256 : Shape := ⟨6, ![4, 1, 1, 2, 80, 256]⟩
abbrev S4x1x8x1024x128 : Shape := ⟨5, ![4, 1, 8, 1024, 128]⟩
abbrev S4x1x1x256x128 : Shape := ⟨5, ![4, 1, 1, 256, 128]⟩
abbrev S4x8192x256 : Shape := ⟨3, ![4, 8192, 256]⟩
abbrev S1x2x8192x128 : Shape := ⟨4, ![1, 2, 8192, 128]⟩
abbrev S1x1x8x1024x128 : Shape := ⟨5, ![1, 1, 8, 1024, 128]⟩
abbrev S1x1x16x2x80x512 : Shape := ⟨6, ![1, 1, 16, 2, 80, 512]⟩
abbrev S1x1x1x256x128 : Shape := ⟨5, ![1, 1, 1, 256, 128]⟩
abbrev S1x1x1x2x80x256 : Shape := ⟨6, ![1, 1, 1, 2, 80, 256]⟩
abbrev S1x8192x128 : Shape := ⟨3, ![1, 8192, 128]⟩
abbrev S2x80x512 : Shape := ⟨3, ![2, 80, 512]⟩
abbrev S1x1024 : Shape := ⟨2, ![1, 1024]⟩
abbrev S2x1024x1024 : Shape := ⟨3, ![2, 1024, 1024]⟩
abbrev S1x1x1x1024x128 : Shape := ⟨5, ![1, 1, 1, 1024, 128]⟩
abbrev S1024x128 : Shape := ⟨2, ![1024, 128]⟩
abbrev S1x2x512x128 : Shape := ⟨4, ![1, 2, 512, 128]⟩
abbrev S2x512x128 : Shape := ⟨3, ![2, 512, 128]⟩
abbrev S1024x1024 : Shape := ⟨2, ![1024, 1024]⟩
abbrev S1x1024x1024 : Shape := ⟨3, ![1, 1024, 1024]⟩
abbrev S1x1x1x2x80x512 : Shape := ⟨6, ![1, 1, 1, 2, 80, 512]⟩
abbrev S1024 : Shape := ⟨1, ![1024]⟩
abbrev S1x80x512 : Shape := ⟨3, ![1, 80, 512]⟩
abbrev S80x512 : Shape := ⟨2, ![80, 512]⟩
abbrev S512x512 : Shape := ⟨2, ![512, 512]⟩
abbrev S1x512 : Shape := ⟨2, ![1, 512]⟩
abbrev S256x128 : Shape := ⟨2, ![256, 128]⟩
abbrev S256x1024 : Shape := ⟨2, ![256, 1024]⟩
abbrev S1x256x1024 : Shape := ⟨3, ![1, 256, 1024]⟩
abbrev S2x80x256 : Shape := ⟨3, ![2, 80, 256]⟩
abbrev S1x80x256 : Shape := ⟨3, ![1, 80, 256]⟩
abbrev S80x256 : Shape := ⟨2, ![80, 256]⟩
abbrev S256x512 : Shape := ⟨2, ![256, 512]⟩
abbrev S64x512 : Shape := ⟨2, ![64, 512]⟩
abbrev S128x512 : Shape := ⟨2, ![128, 512]⟩
abbrev S512x128 : Shape := ⟨2, ![512, 128]⟩
abbrev S1x512x128 : Shape := ⟨3, ![1, 512, 128]⟩

abbrev nBuf : Space → Nat
  | .hbm => 51
  | .vmem => 15
  | .smem => 0
  | _ => 0

abbrev bufTy : (tb : Table) → Fin (tcTables nBuf tb) → BufTy
  | .hbm, ⟨0, _⟩ => ⟨S4x8192x2x2x64, .f32⟩
  | .hbm, ⟨1, _⟩ => ⟨S4x8192x2x64, .f32⟩
  | .hbm, ⟨2, _⟩ => ⟨S4x8192x2x64, .f32⟩
  | .hbm, ⟨3, _⟩ => ⟨S4x256x2x64, .f32⟩
  | .hbm, ⟨4, _⟩ => ⟨S4x256x2x64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4x8192x2x2x64, .f32⟩
  | .hbm, ⟨10, _⟩ => ⟨S4x8192x2x2x64, .f32⟩
  | .hbm, ⟨11, _⟩ => ⟨S4x8192x2x2x2x2x16, .f32⟩
  | .hbm, ⟨12, _⟩ => ⟨S4x2x2x8192x2x2x16, .f32⟩
  | .hbm, ⟨13, _⟩ => ⟨S4x2x2x8192x2x1x32, .f32⟩
  | .hbm, ⟨14, _⟩ => ⟨S4x2x2x8192x2x2x32, .i32⟩
  | .hbm, ⟨15, _⟩ => ⟨S4x2x2x8192x2x2x32, .i32⟩
  | .hbm, ⟨16, _⟩ => ⟨S4x2x2x8192x2x2x32, .i1⟩
  | .hbm, ⟨17, _⟩ => ⟨S4x2x2x8192x2x2x32, .f32⟩
  | .hbm, ⟨18, _⟩ => ⟨S_, .f32⟩
  | .hbm, ⟨19, _⟩ => ⟨S_, .f32⟩
  | .hbm, ⟨20, _⟩ => ⟨S4x2x2x8192x2x2x32, .f32⟩
  | .hbm, ⟨21, _⟩ => ⟨S4x2x2x8192x2x2x32, .f32⟩
  | .hbm, ⟨22, _⟩ => ⟨S4x4x8192x128, .f32⟩
  | .hbm, ⟨23, _⟩ => ⟨S4x4x8192x128, .bf16⟩
  | .hbm, ⟨24, _⟩ => ⟨S4x8192x2x2x2x16, .f32⟩
  | .hbm, ⟨25, _⟩ => ⟨S4x8192x2x2x2x16, .f32⟩
  | .hbm, ⟨26, _⟩ => ⟨S4x8192x128, .f32⟩
  | .hbm, ⟨27, _⟩ => ⟨S4x8192x128, .bf16⟩
  | .hbm, ⟨28, _⟩ => ⟨S4x1x8192x128, .bf16⟩
  | .hbm, ⟨29, _⟩ => ⟨S4x16x512x2x64, .f32⟩
  | .hbm, ⟨30, _⟩ => ⟨S4x16x2x64x512, .f32⟩
  | .hbm, ⟨31, _⟩ => ⟨S_, .f32⟩
  | .hbm, ⟨32, _⟩ => ⟨S4x16x2x16x512, .f32⟩
  | .hbm, ⟨33, _⟩ => ⟨S4x16x2x80x512, .f32⟩
  | .hbm, ⟨34, _⟩ => ⟨S4x1x16x2x80x512, .f32⟩
  | .hbm, ⟨35, _⟩ => ⟨S4x1x16x2x80x512, .bf16⟩
  | .hbm, ⟨36, _⟩ => ⟨S4x256x2x2x2x16, .f32⟩
  | .hbm, ⟨37, _⟩ => ⟨S4x256x2x2x2x16, .f32⟩
  | .hbm, ⟨38, _⟩ => ⟨S4x256x128, .f32⟩
  | .hbm, ⟨39, _⟩ => ⟨S4x256x128, .bf16⟩
  | .hbm, ⟨40, _⟩ => ⟨S4x1x256x128, .bf16⟩
  | .hbm, ⟨41, _⟩ => ⟨S4x1x256x2x64, .f32⟩
  | .hbm, ⟨42, _⟩ => ⟨S4x1x2x64x256, .f32⟩
  | .hbm, ⟨43, _⟩ => ⟨S_, .f32⟩
  | .hbm, ⟨44, _⟩ => ⟨S4x1x2x16x256, .f32⟩
  | .hbm, ⟨45, _⟩ => ⟨S4x1x2x80x256, .f32⟩
  | .hbm, ⟨46, _⟩ => ⟨S4x1x1x2x80x256, .f32⟩
  | .hbm, ⟨47, _⟩ => ⟨S4x1x1x2x80x256, .bf16⟩
  | .hbm, ⟨48, _⟩ => ⟨S4x1x8x1024x128, .bf16⟩
  | .hbm, ⟨49, _⟩ => ⟨S4x1x1x256x128, .bf16⟩
  | .hbm, ⟨50, _⟩ => ⟨S4x8192x256, .bf16⟩
  | .local _ .vmem, ⟨0, _⟩ => ⟨S1x2x8192x128, .bf16⟩
  | .local _ .vmem, ⟨1, _⟩ => ⟨S1x2x8192x128, .bf16⟩
  | .local _ .vmem, ⟨2, _⟩ => ⟨S1x1x8x1024x128, .bf16⟩
  | .local _ .vmem, ⟨3, _⟩ => ⟨S1x1x8x1024x128, .bf16⟩
  | .local _ .vmem, ⟨4, _⟩ => ⟨S1x1x16x2x80x512, .bf16⟩
  | .local _ .vmem, ⟨5, _⟩ => ⟨S1x1x16x2x80x512, .bf16⟩
  | .local _ .vmem, ⟨6, _⟩ => ⟨S1x1x1x256x128, .bf16⟩
  | .local _ .vmem, ⟨7, _⟩ => ⟨S1x1x1x256x128, .bf16⟩
  | .local _ .vmem, ⟨8, _⟩ => ⟨S1x1x1x2x80x256, .bf16⟩
  | .local _ .vmem, ⟨9, _⟩ => ⟨S1x1x1x2x80x256, .bf16⟩
  | .local _ .vmem, ⟨10, _⟩ => ⟨S1x8192x128, .bf16⟩
  | .local _ .vmem, ⟨11, _⟩ => ⟨S1x8192x128, .bf16⟩
  | .local _ .vmem, ⟨12, _⟩ => ⟨S2x80x512, .f32⟩
  | .local _ .vmem, ⟨13, _⟩ => ⟨S1x1024, .f32⟩
  | .local _ .vmem, ⟨14, _⟩ => ⟨S2x1024x1024, .f32⟩
  | _, _ => ⟨S4x8192x2x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 2], ![false, false]⟩

def k0_mult1 : BitVec 32 :=
  let c0_i32 : BitVec 32 := 0#32
  c0_i32
@[reducible] def k0_t1_loop : Scf.Loop 32 :=
  let c0_i32_10 : BitVec 32 := 0#32
  let c8_i32 : BitVec 32 := 8#32
  let v11 : BitVec 32 := Scalar.addi c0_i32_10 c8_i32
  let c1_i32 : BitVec 32 := 1#32
  ⟨c0_i32_10, v11, c1_i32⟩
def k0_mult2 (k0_t1 : Fin k0_t1_loop.trips) : BitVec 32 :=
  let c2_i32 : BitVec 32 := 2#32
  let c0_i32_10 : BitVec 32 := 0#32
  let c1_i32 : BitVec 32 := 1#32
  let arg11 : BitVec 32 := Scf.iv c0_i32_10 c1_i32 k0_t1
  let v12 : BitVec 32 := Scalar.muli c2_i32 arg11
  let c512_i32 : BitVec 32 := 512#32
  let v13 : BitVec 32 := Scalar.muli v12 c512_i32
  v13
def k0_off1 (k0_t1 : Fin k0_t1_loop.trips) : Fin 4 → Nat :=
  let c0_12 : Index := 0#32
  let c0_13 : Index := 0#32
  let c2_i32 : BitVec 32 := 2#32
  let c0_i32_10 : BitVec 32 := 0#32
  let c1_i32 : BitVec 32 := 1#32
  let arg11 : BitVec 32 := Scf.iv c0_i32_10 c1_i32 k0_t1
  let v12 : BitVec 32 := Scalar.muli c2_i32 arg11
  let c512_i32 : BitVec 32 := 512#32
  let v13 : BitVec 32 := Scalar.muli v12 c512_i32
  let v14 : BitVec 32 := v13
  let v15 : Index := Scalar.indexCast v14
  let c0_14 : Index := 0#32
  ![0, 0, v15.toNat, 0]
def k0_mult3 (k0_t1 : Fin k0_t1_loop.trips) : BitVec 32 :=
  let c2_i32 : BitVec 32 := 2#32
  let c0_i32_10 : BitVec 32 := 0#32
  let c1_i32 : BitVec 32 := 1#32
  let arg11 : BitVec 32 := Scf.iv c0_i32_10 c1_i32 k0_t1
  let v12 : BitVec 32 := Scalar.muli c2_i32 arg11
  let c1_i32_372 : BitVec 32 := 1#32
  let v517 : BitVec 32 := Scalar.addi v12 c1_i32_372
  let c15_i32 : BitVec 32 := 15#32
  let v518 : BitVec 32 := Scalar.minsi v517 c15_i32
  let c512_i32_373 : BitVec 32 := 512#32
  let v519 : BitVec 32 := Scalar.muli v518 c512_i32_373
  v519
def k0_off2 (k0_t1 : Fin k0_t1_loop.trips) : Fin 4 → Nat :=
  let c0_374 : Index := 0#32
  let c0_375 : Index := 0#32
  let c2_i32 : BitVec 32 := 2#32
  let c0_i32_10 : BitVec 32 := 0#32
  let c1_i32 : BitVec 32 := 1#32
  let arg11 : BitVec 32 := Scf.iv c0_i32_10 c1_i32 k0_t1
  let v12 : BitVec 32 := Scalar.muli c2_i32 arg11
  let c1_i32_372 : BitVec 32 := 1#32
  let v517 : BitVec 32 := Scalar.addi v12 c1_i32_372
  let c15_i32 : BitVec 32 := 15#32
  let v518 : BitVec 32 := Scalar.minsi v517 c15_i32
  let c512_i32_373 : BitVec 32 := 512#32
  let v519 : BitVec 32 := Scalar.muli v518 c512_i32_373
  let v520 : BitVec 32 := v519
  let v521 : Index := Scalar.indexCast v520
  let c0_376 : Index := 0#32
  ![0, 0, v521.toNat, 0]
def k0_mult4 (k0_t1 : Fin k0_t1_loop.trips) : BitVec 32 :=
  let c2_i32 : BitVec 32 := 2#32
  let c0_i32_10 : BitVec 32 := 0#32
  let c1_i32 : BitVec 32 := 1#32
  let arg11 : BitVec 32 := Scf.iv c0_i32_10 c1_i32 k0_t1
  let v12 : BitVec 32 := Scalar.muli c2_i32 arg11
  let c512_i32_421 : BitVec 32 := 512#32
  let v591 : BitVec 32 := Scalar.muli v12 c512_i32_421
  v591
def k0_off3 (k0_t1 : Fin k0_t1_loop.trips) : Fin 3 → Nat :=
  let c0_422 : Index := 0#32
  let c2_i32 : BitVec 32 := 2#32
  let c0_i32_10 : BitVec 32 := 0#32
  let c1_i32 : BitVec 32 := 1#32
  let arg11 : BitVec 32 := Scf.iv c0_i32_10 c1_i32 k0_t1
  let v12 : BitVec 32 := Scalar.muli c2_i32 arg11
  let c512_i32_421 : BitVec 32 := 512#32
  let v591 : BitVec 32 := Scalar.muli v12 c512_i32_421
  let v592 : BitVec 32 := v591
  let v593 : Index := Scalar.indexCast v592
  let c0_423 : Index := 0#32
  ![0, v593.toNat, 0]
def k0_mult5 (k0_t1 : Fin k0_t1_loop.trips) : BitVec 32 :=
  let c2_i32_424 : BitVec 32 := 2#32
  let c0_i32_10 : BitVec 32 := 0#32
  let c1_i32 : BitVec 32 := 1#32
  let arg11 : BitVec 32 := Scf.iv c0_i32_10 c1_i32 k0_t1
  let v597 : BitVec 32 := Scalar.muli c2_i32_424 arg11
  let c1_i32_425 : BitVec 32 := 1#32
  let v598 : BitVec 32 := Scalar.addi v597 c1_i32_425
  let c512_i32_426 : BitVec 32 := 512#32
  let v599 : BitVec 32 := Scalar.muli v598 c512_i32_426
  v599
def k0_off4 (k0_t1 : Fin k0_t1_loop.trips) : Fin 4 → Nat :=
  let c0_427 : Index := 0#32
  let c0_428 : Index := 0#32
  let c2_i32_424 : BitVec 32 := 2#32
  let c0_i32_10 : BitVec 32 := 0#32
  let c1_i32 : BitVec 32 := 1#32
  let arg11 : BitVec 32 := Scf.iv c0_i32_10 c1_i32 k0_t1
  let v597 : BitVec 32 := Scalar.muli c2_i32_424 arg11
  let c1_i32_425 : BitVec 32 := 1#32
  let v598 : BitVec 32 := Scalar.addi v597 c1_i32_425
  let c512_i32_426 : BitVec 32 := 512#32
  let v599 : BitVec 32 := Scalar.muli v598 c512_i32_426
  let v600 : BitVec 32 := v599
  let v601 : Index := Scalar.indexCast v600
  let c0_429 : Index := 0#32
  ![0, 0, v601.toNat, 0]
def k0_mult6 (k0_t1 : Fin k0_t1_loop.trips) : BitVec 32 :=
  let c2_i32_424 : BitVec 32 := 2#32
  let c0_i32_10 : BitVec 32 := 0#32
  let c1_i32 : BitVec 32 := 1#32
  let arg11 : BitVec 32 := Scf.iv c0_i32_10 c1_i32 k0_t1
  let v597 : BitVec 32 := Scalar.muli c2_i32_424 arg11
  let c1_i32_425 : BitVec 32 := 1#32
  let v598 : BitVec 32 := Scalar.addi v597 c1_i32_425
  let c1_i32_802 : BitVec 32 := 1#32
  let v1103 : BitVec 32 := Scalar.addi v598 c1_i32_802
  let c15_i32_803 : BitVec 32 := 15#32
  let v1104 : BitVec 32 := Scalar.minsi v1103 c15_i32_803
  let c512_i32_804 : BitVec 32 := 512#32
  let v1105 : BitVec 32 := Scalar.muli v1104 c512_i32_804
  v1105
def k0_off5 (k0_t1 : Fin k0_t1_loop.trips) : Fin 4 → Nat :=
  let c0_805 : Index := 0#32
  let c0_806 : Index := 0#32
  let c2_i32_424 : BitVec 32 := 2#32
  let c0_i32_10 : BitVec 32 := 0#32
  let c1_i32 : BitVec 32 := 1#32
  let arg11 : BitVec 32 := Scf.iv c0_i32_10 c1_i32 k0_t1
  let v597 : BitVec 32 := Scalar.muli c2_i32_424 arg11
  let c1_i32_425 : BitVec 32 := 1#32
  let v598 : BitVec 32 := Scalar.addi v597 c1_i32_425
  let c1_i32_802 : BitVec 32 := 1#32
  let v1103 : BitVec 32 := Scalar.addi v598 c1_i32_802
  let c15_i32_803 : BitVec 32 := 15#32
  let v1104 : BitVec 32 := Scalar.minsi v1103 c15_i32_803
  let c512_i32_804 : BitVec 32 := 512#32
  let v1105 : BitVec 32 := Scalar.muli v1104 c512_i32_804
  let v1106 : BitVec 32 := v1105
  let v1107 : Index := Scalar.indexCast v1106
  let c0_807 : Index := 0#32
  ![0, 0, v1107.toNat, 0]
def k0_mult7 (k0_t1 : Fin k0_t1_loop.trips) : BitVec 32 :=
  let c2_i32_424 : BitVec 32 := 2#32
  let c0_i32_10 : BitVec 32 := 0#32
  let c1_i32 : BitVec 32 := 1#32
  let arg11 : BitVec 32 := Scf.iv c0_i32_10 c1_i32 k0_t1
  let v597 : BitVec 32 := Scalar.muli c2_i32_424 arg11
  let c1_i32_425 : BitVec 32 := 1#32
  let v598 : BitVec 32 := Scalar.addi v597 c1_i32_425
  let c512_i32_852 : BitVec 32 := 512#32
  let v1177 : BitVec 32 := Scalar.muli v598 c512_i32_852
  v1177
def k0_off6 (k0_t1 : Fin k0_t1_loop.trips) : Fin 3 → Nat :=
  let c0_853 : Index := 0#32
  let c2_i32_424 : BitVec 32 := 2#32
  let c0_i32_10 : BitVec 32 := 0#32
  let c1_i32 : BitVec 32 := 1#32
  let arg11 : BitVec 32 := Scf.iv c0_i32_10 c1_i32 k0_t1
  let v597 : BitVec 32 := Scalar.muli c2_i32_424 arg11
  let c1_i32_425 : BitVec 32 := 1#32
  let v598 : BitVec 32 := Scalar.addi v597 c1_i32_425
  let c512_i32_852 : BitVec 32 := 512#32
  let v1177 : BitVec 32 := Scalar.muli v598 c512_i32_852
  let v1178 : BitVec 32 := v1177
  let v1179 : Index := Scalar.indexCast v1178
  let c0_854 : Index := 0#32
  ![0, v1179.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_2 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![arg0.toNat, c0_i32.toNat, c0_i32_0.toNat, c0_i32_1.toNat, c0_i32_2.toNat, c0_i32_3.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_4 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![arg0.toNat, c0_i32.toNat, c0_i32_0.toNat, c0_i32_1.toNat, c0_i32_2.toNat, c0_i32_3.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2x8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x8x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x16x2x80x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1x2x80x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8192x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S4x8192x2x2x64 : Shape := ⟨5, ![4, 8192, 2, 2, 64]⟩
abbrev S4x8192x2x64 : Shape := ⟨4, ![4, 8192, 2, 64]⟩
abbrev S4x256x2x64 : Shape := ⟨4, ![4, 256, 2, 64]⟩
abbrev S4x8448x2x64 : Shape := ⟨4, ![4, 8448, 2, 64]⟩
abbrev S4x2x8448x8192x2 : Shape := ⟨5, ![4, 2, 8448, 8192, 2]⟩
abbrev S4x2x2x8192x8448 : Shape := ⟨5, ![4, 2, 2, 8192, 8448]⟩
abbrev S_ : Shape := ⟨0, ![]⟩
abbrev S4x2x2x8192 : Shape := ⟨4, ![4, 2, 2, 8192]⟩
abbrev S4x2x2x8192x1 : Shape := ⟨5, ![4, 2, 2, 8192, 1]⟩
abbrev S4x2x64x2x8192 : Shape := ⟨5, ![4, 2, 64, 2, 8192]⟩
abbrev S4x8192x256 : Shape := ⟨3, ![4, 8192, 256]⟩

abbrev nBuf : Space → Nat
  | .hbm => 31
  | .vmem => 0
  | .smem => 0
  | _ => 0

abbrev bufTy : (tb : Table) → Fin (tcTables nBuf tb) → BufTy
  | .hbm, ⟨0, _⟩ => ⟨S4x8192x2x2x64, .f32⟩
  | .hbm, ⟨1, _⟩ => ⟨S4x8192x2x64, .f32⟩
  | .hbm, ⟨2, _⟩ => ⟨S4x8192x2x64, .f32⟩
  | .hbm, ⟨3, _⟩ => ⟨S4x256x2x64, .f32⟩
  | .hbm, ⟨4, _⟩ => ⟨S4x256x2x64, .f32⟩
  | .hbm, ⟨5, _⟩ => ⟨S4x8448x2x64, .f32⟩
  | .hbm, ⟨6, _⟩ => ⟨S4x8448x2x64, .f32⟩
  | .hbm, ⟨7, _⟩ => ⟨S4x2x8448x8192x2, .f32⟩
  | .hbm, ⟨8, _⟩ => ⟨S4x2x2x8192x8448, .f32⟩
  | .hbm, ⟨9, _⟩ => ⟨S_, .f32⟩
  | .hbm, ⟨10, _⟩ => ⟨S4x2x2x8192x8448, .f32⟩
  | .hbm, ⟨11, _⟩ => ⟨S4x2x2x8192x8448, .f32⟩
  | .hbm, ⟨12, _⟩ => ⟨S_, .f32⟩
  | .hbm, ⟨13, _⟩ => ⟨S4x2x2x8192, .f32⟩
  | .hbm, ⟨14, _⟩ => ⟨S_, .f32⟩
  | .hbm, ⟨15, _⟩ => ⟨S4x2x2x8192, .f32⟩
  | .hbm, ⟨16, _⟩ => ⟨S4x2x2x8192, .f32⟩
  | .hbm, ⟨17, _⟩ => ⟨S4x2x2x8192x1, .f32⟩
  | .hbm, ⟨18, _⟩ => ⟨S4x2x2x8192x8448, .f32⟩
  | .hbm, ⟨19, _⟩ => ⟨S4x2x2x8192x8448, .f32⟩
  | .hbm, ⟨20, _⟩ => ⟨S4x2x2x8192x8448, .f32⟩
  | .hbm, ⟨21, _⟩ => ⟨S_, .f32⟩
  | .hbm, ⟨22, _⟩ => ⟨S4x2x2x8192, .f32⟩
  | .hbm, ⟨23, _⟩ => ⟨S4x2x2x8192x1, .f32⟩
  | .hbm, ⟨24, _⟩ => ⟨S4x2x2x8192x8448, .f32⟩
  | .hbm, ⟨25, _⟩ => ⟨S4x2x2x8192x8448, .f32⟩
  | .hbm, ⟨26, _⟩ => ⟨S4x2x64x2x8192, .f32⟩
  | .hbm, ⟨27, _⟩ => ⟨S4x8192x2x2x64, .f32⟩
  | .hbm, ⟨28, _⟩ => ⟨S4x8192x2x2x64, .f32⟩
  | .hbm, ⟨29, _⟩ => ⟨S4x8192x256, .f32⟩
  | .hbm, ⟨30, _⟩ => ⟨S4x8192x256, .bf16⟩
  | _, _ => ⟨S4x8192x2x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Experts.lean ====
abbrev S4x16x1024x1024 : Shape := ⟨4, ![4, 16, 1024, 1024]⟩
abbrev S4x16x1024 : Shape := ⟨3, ![4, 16, 1024]⟩
abbrev S2x16x1024x1024 : Shape := ⟨4, ![2, 16, 1024, 1024]⟩
abbrev S4x16x1024x1 : Shape := ⟨4, ![4, 16, 1024, 1]⟩
abbrev S1x1x1024x1024 : Shape := ⟨4, ![1, 1, 1024, 1024]⟩
abbrev S1x1x1024x1 : Shape := ⟨4, ![1, 1, 1024, 1]⟩
abbrev S1024x1024 : Shape := ⟨2, ![1024, 1024]⟩
abbrev S1x1024x1024 : Shape := ⟨3, ![1, 1024, 1024]⟩
abbrev S1x1024x1 : Shape := ⟨3, ![1, 1024, 1]⟩
abbrev S1024x1 : Shape := ⟨2, ![1024, 1]⟩

abbrev nBuf : Space → Nat
  | .hbm => 8
  | .vmem => 15
  | .smem => 0
  | _ => 0

abbrev bufTy : (tb : Table) → Fin (tcTables nBuf tb) → BufTy
  | .hbm, ⟨0, _⟩ => ⟨S4x16x1024x1024, .f32⟩
  | .hbm, ⟨1, _⟩ => ⟨S4x16x1024, .f32⟩
  | .hbm, ⟨2, _⟩ => ⟨S2x16x1024x1024, .f32⟩
  | .hbm, ⟨3, _⟩ => ⟨S2x16x1024x1024, .f32⟩
  | .hbm, ⟨4, _⟩ => ⟨S2x16x1024x1024, .f32⟩
  | .hbm, ⟨5, _⟩ => ⟨S4x16x1024x1024, .bf16⟩
  | .hbm, ⟨6, _⟩ => ⟨S4x16x1024x1, .f32⟩
  | .hbm, ⟨7, _⟩ => ⟨S4x16x1024x1024, .bf16⟩
  | .local _ .vmem, ⟨0, _⟩ => ⟨S1x1x1024x1024, .bf16⟩
  | .local _ .vmem, ⟨1, _⟩ => ⟨S1x1x1024x1024, .bf16⟩
  | .local _ .vmem, ⟨2, _⟩ => ⟨S1x1x1024x1, .f32⟩
  | .local _ .vmem, ⟨3, _⟩ => ⟨S1x1x1024x1, .f32⟩
  | .local _ .vmem, ⟨4, _⟩ => ⟨S1x1x1024x1024, .f32⟩
  | .local _ .vmem, ⟨5, _⟩ => ⟨S1x1x1024x1024, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1024x1024, .f32⟩
  | .local _ .vmem, ⟨9, _⟩ => ⟨S1x1x1024x1024, .f32⟩
  | .local _ .vmem, ⟨10, _⟩ => ⟨S1x1x1024x1024, .bf16⟩
  | .local _ .vmem, ⟨11, _⟩ => ⟨S1x1x1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | _, _ => ⟨S4x16x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S1x1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ExpertsReferenceIdeal.lean ====
abbrev S4x16x1024x1024 : Shape := ⟨4, ![4, 16, 1024, 1024]⟩
abbrev S4x16x1024 : Shape := ⟨3, ![4, 16, 1024]⟩
abbrev S2x16x1024x1024 : Shape := ⟨4, ![2, 16, 1024, 1024]⟩
abbrev S1x16x1024x1024 : Shape := ⟨4, ![1, 16, 1024, 1024]⟩
abbrev S16x1024x1024 : Shape := ⟨3, ![16, 1024, 1024]⟩
abbrev S16x1024x4x1024 : Shape := ⟨4, ![16, 1024, 4, 1024]⟩
abbrev S_ : Shape := ⟨0, ![]⟩
abbrev S4x16x1024x1 : Shape := ⟨4, ![4, 16, 1024, 1]⟩

abbrev nBuf : Space → Nat
  | .hbm => 31
  | .vmem => 0
  | .smem => 0
  | _ => 0

abbrev bufTy : (tb : Table) → Fin (tcTables nBuf tb) → BufTy
  | .hbm, ⟨0, _⟩ => ⟨S4x16x1024x1024, .f32⟩
  | .hbm, ⟨1, _⟩ => ⟨S4x16x1024, .f32⟩
  | .hbm, ⟨2, _⟩ => ⟨S2x16x1024x1024, .f32⟩
  | .hbm, ⟨3, _⟩ => ⟨S2x16x1024x1024, .f32⟩
  | .hbm, ⟨4, _⟩ => ⟨S2x16x1024x1024, .f32⟩
  | .hbm, ⟨5, _⟩ => ⟨S1x16x1024x1024, .f32⟩
  | .hbm, ⟨6, _⟩ => ⟨S16x1024x1024, .f32⟩
  | .hbm, ⟨7, _⟩ => ⟨S16x1024x4x1024, .f32⟩
  | .hbm, ⟨8, _⟩ => ⟨S4x16x1024x1024, .f32⟩
  | .hbm, ⟨9, _⟩ => ⟨S1x16x1024x1024, .f32⟩
  | .hbm, ⟨10, _⟩ => ⟨S16x1024x1024, .f32⟩
  | .hbm, ⟨11, _⟩ => ⟨S16x1024x4x1024, .f32⟩
  | .hbm, ⟨12, _⟩ => ⟨S4x16x1024x1024, .f32⟩
  | .hbm, ⟨13, _⟩ => ⟨S4x16x1024x1024, .f32⟩
  | .hbm, ⟨14, _⟩ => ⟨S4x16x1024x1024, .f32⟩
  | .hbm, ⟨15, _⟩ => ⟨S_, .f32⟩
  | .hbm, ⟨16, _⟩ => ⟨S4x16x1024x1024, .f32⟩
  | .hbm, ⟨17, _⟩ => ⟨S4x16x1024x1024, .f32⟩
  | .hbm, ⟨18, _⟩ => ⟨S_, .f32⟩
  | .hbm, ⟨19, _⟩ => ⟨S4x16x1024x1024, .f32⟩
  | .hbm, ⟨20, _⟩ => ⟨S4x16x1024x1024, .f32⟩
  | .hbm, ⟨21, _⟩ => ⟨S4x16x1024x1024, .f32⟩
  | .hbm, ⟨22, _⟩ => ⟨S4x16x1024x1024, .f32⟩
  | .hbm, ⟨23, _⟩ => ⟨S1x16x1024x1024, .f32⟩
  | .hbm, ⟨24, _⟩ => ⟨S16x1024x1024, .f32⟩
  | .hbm, ⟨25, _⟩ => ⟨S16x1024x4x1024, .f32⟩
  | .hbm, ⟨26, _⟩ => ⟨S4x16x1024x1024, .f32⟩
  | .hbm, ⟨27, _⟩ => ⟨S4x16x1024x1, .f32⟩
  | .hbm, ⟨28, _⟩ => ⟨S4x16x1024x1024, .f32⟩
  | .hbm, ⟨29, _⟩ => ⟨S4x16x1024x1024, .f32⟩
  | .hbm, ⟨30, _⟩ => ⟨S4x16x1024x1024, .bf16⟩
  | _, _ => ⟨S4x16x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩

abbrev nD : Nat := 1
abbrev τ : Topo := Topo.v7x

variable {F : FTy → Type} [FloatOps F]
-- ==== Merge.lean ====
abbrev S4x8192x1024 : Shape := ⟨3, ![4, 8192, 1024]⟩
abbrev S4x8192x256 : Shape := ⟨3, ![4, 8192, 256]⟩
abbrev S4x1024 : Shape := ⟨2, ![4, 1024]⟩
abbrev S1024x6240 : Shape := ⟨2, ![1024, 6240]⟩
abbrev S4x256x1024 : Shape := ⟨3, ![4, 256, 1024]⟩
abbrev S1024x1024 : Shape := ⟨2, ![1024, 1024]⟩
abbrev S1024 : Shape := ⟨1, ![1024]⟩
abbrev S1024x16 : Shape := ⟨2, ![1024, 16]⟩
abbrev S_ : Shape := ⟨0, ![]⟩
abbrev S1024x112 : Shape := ⟨2, ![1024, 112]⟩
abbrev S1024x128 : Shape := ⟨2, ![1024, 128]⟩
abbrev S1024x4096 : Shape := ⟨2, ![1024, 4096]⟩
abbrev S1x256x1024 : Shape := ⟨3, ![1, 256, 1024]⟩
abbrev S256x1024 : Shape := ⟨2, ![256, 1024]⟩
abbrev S2x2x64x1024 : Shape := ⟨4, ![2, 2, 64, 1024]⟩
abbrev S1x1024 : Shape := ⟨2, ![1, 1024]⟩
abbrev S1024x256 : Shape := ⟨2, ![1024, 256]⟩
abbrev S4x8192x2x2x64 : Shape := ⟨5, ![4, 8192, 2, 2, 64]⟩
abbrev S4x1x1024 : Shape := ⟨3, ![4, 1, 1024]⟩
abbrev S4x64x16x128 : Shape := ⟨4, ![4, 64, 16, 128]⟩
abbrev S1x256x256 : Shape := ⟨3, ![1, 256, 256]⟩
abbrev S1x1x1024 : Shape := ⟨3, ![1, 1, 1024]⟩
abbrev S1x2x16x128 : Shape := ⟨4, ![1, 2, 16, 128]⟩
abbrev S256 : Shape := ⟨1, ![256]⟩
abbrev S256x1 : Shape := ⟨2, ![256, 1]⟩
abbrev S256x256 : Shape := ⟨2, ![256, 256]⟩
abbrev S256x128 : Shape := ⟨2, ![256, 128]⟩
abbrev S1x128 : Shape := ⟨2, ![1, 128]⟩
abbrev S128x256 : Shape := ⟨2, ![128, 256]⟩
abbrev S16x128 : Shape := ⟨2, ![16, 128]⟩
abbrev S1x1x16x128 : Shape := ⟨4, ![1, 1, 16, 128]⟩

abbrev nBuf : Space → Nat
  | .hbm => 67
  | .vmem => 32
  | .smem => 0
  | _ => 0

abbrev bufTy : (tb : Table) → Fin (tcTables nBuf tb) → BufTy
  | .hbm, ⟨0, _⟩ => ⟨S4x8192x1024, .f32⟩
  | .hbm, ⟨1, _⟩ => ⟨S4x8192x256, .f32⟩
  | .hbm, ⟨2, _⟩ => ⟨S4x8192x256, .f32⟩
  | .hbm, ⟨3, _⟩ => ⟨S4x8192x256, .f32⟩
  | .hbm, ⟨4, _⟩ => ⟨S4x8192x256, .f32⟩
  | .hbm, ⟨5, _⟩ => ⟨S4x1024, .f32⟩
  | .hbm, ⟨6, _⟩ => ⟨S4x1024, .f32⟩
  | .hbm, ⟨7, _⟩ => ⟨S4x1024, .f32⟩
  | .hbm, ⟨8, _⟩ => ⟨S4x1024, .f32⟩
  | .hbm, ⟨9, _⟩ => ⟨S4x1024, .f32⟩
  | .hbm, ⟨10, _⟩ => ⟨S1024x6240, .f32⟩
  | .hbm, ⟨11, _⟩ => ⟨S4x256x1024, .f32⟩
  | .hbm, ⟨12, _⟩ => ⟨S1024x1024, .f32⟩
  | .hbm, ⟨13, _⟩ => ⟨S1024, .f32⟩
  | .hbm, ⟨14, _⟩ => ⟨S1024, .f32⟩
  | .hbm, ⟨15, _⟩ => ⟨S1024x16, .f32⟩
  | .hbm, ⟨16, _⟩ => ⟨S_, .f32⟩
  | .hbm, ⟨17, _⟩ => ⟨S1024x112, .f32⟩
  | .hbm, ⟨18, _⟩ => ⟨S1024x128, .f32⟩
  | .hbm, ⟨19, _⟩ => ⟨S1024x128, .bf16⟩
  | .hbm, ⟨20, _⟩ => ⟨S1024x128, .f32⟩
  | .hbm, ⟨21, _⟩ => ⟨S1024x128, .f32⟩
  | .hbm, ⟨22, _⟩ => ⟨S1024x128, .bf16⟩
  | .hbm, ⟨23, _⟩ => ⟨S1024x4096, .f32⟩
  | .hbm, ⟨24, _⟩ => ⟨S1024x4096, .bf16⟩
  | .hbm, ⟨25, _⟩ => ⟨S1x256x1024, .f32⟩
  | .hbm, ⟨26, _⟩ => ⟨S256x1024, .f32⟩
  | .hbm, ⟨27, _⟩ => ⟨S1x256x1024, .f32⟩
  | .hbm, ⟨28, _⟩ => ⟨S256x1024, .f32⟩
  | .hbm, ⟨29, _⟩ => ⟨S2x2x64x1024, .f32⟩
  | .hbm, ⟨30, _⟩ => ⟨S2x2x64x1024, .f32⟩
  | .hbm, ⟨31, _⟩ => ⟨S256x1024, .f32⟩
  | .hbm, ⟨32, _⟩ => ⟨S1x256x1024, .f32⟩
  | .hbm, ⟨33, _⟩ => ⟨S256x1024, .f32⟩
  | .hbm, ⟨34, _⟩ => ⟨S2x2x64x1024, .f32⟩
  | .hbm, ⟨35, _⟩ => ⟨S2x2x64x1024, .f32⟩
  | .hbm, ⟨36, _⟩ => ⟨S256x1024, .f32⟩
  | .hbm, ⟨37, _⟩ => ⟨S1x256x1024, .f32⟩
  | .hbm, ⟨38, _⟩ => ⟨S256x1024, .f32⟩
  | .hbm, ⟨39, _⟩ => ⟨S1x256x1024, .f32⟩
  | .hbm, ⟨40, _⟩ => ⟨S1x256x1024, .f32⟩
  | .hbm, ⟨41, _⟩ => ⟨S1x256x1024, .f32⟩
  | .hbm, ⟨42, _⟩ => ⟨S1x256x1024, .f32⟩
  | .hbm, ⟨43, _⟩ => ⟨S4x256x1024, .f32⟩
  | .hbm, ⟨44, _⟩ => ⟨S4x256x1024, .bf16⟩
  | .hbm, ⟨45, _⟩ => ⟨S1024x1024, .bf16⟩
  | .hbm, ⟨46, _⟩ => ⟨S1x1024, .f32⟩
  | .hbm, ⟨47, _⟩ => ⟨S1x1024, .f32⟩
  | .hbm, ⟨48, _⟩ => ⟨S1024x256, .bf16⟩
  | .hbm, ⟨49, _⟩ => ⟨S4x8192x2x2x64, .f32⟩
  | .hbm, ⟨50, _⟩ => ⟨S4x8192x2x2x64, .f32⟩
  | .hbm, ⟨51, _⟩ => ⟨S4x8192x256, .f32⟩
  | .hbm, ⟨52, _⟩ => ⟨S4x8192x2x2x64, .f32⟩
  | .hbm, ⟨53, _⟩ => ⟨S4x8192x2x2x64, .f32⟩
  | .hbm, ⟨54, _⟩ => ⟨S4x8192x256, .f32⟩
  | .hbm, ⟨55, _⟩ => ⟨S4x8192x256, .bf16⟩
  | .hbm, ⟨56, _⟩ => ⟨S4x8192x256, .bf16⟩
  | .hbm, ⟨57, _⟩ => ⟨S4x8192x256, .bf16⟩
  | .hbm, ⟨58, _⟩ => ⟨S4x8192x256, .bf16⟩
  | .hbm, ⟨59, _⟩ => ⟨S4x1x1024, .f32⟩
  | .hbm, ⟨60, _⟩ => ⟨S4x1x1024, .f32⟩
  | .hbm, ⟨61, _⟩ => ⟨S4x1x1024, .f32⟩
  | .hbm, ⟨62, _⟩ => ⟨S4x1x1024, .f32⟩
  | .hbm, ⟨63, _⟩ => ⟨S4x1x1024, .f32⟩
  | .hbm, ⟨64, _⟩ => ⟨S4x8192x1024, .f32⟩
  | .hbm, ⟨65, _⟩ => ⟨S4x8192x1024, .bf16⟩
  | .hbm, ⟨66, _⟩ => ⟨S4x64x16x128, .f32⟩
  | .local _ .vmem, ⟨0, _⟩ => ⟨S1x256x1024, .f32⟩
  | .local _ .vmem, ⟨1, _⟩ => ⟨S1x256x1024, .f32⟩
  | .local _ .vmem, ⟨2, _⟩ => ⟨S1x256x256, .bf16⟩
  | .local _ .vmem, ⟨3, _⟩ => ⟨S1x256x256, .bf16⟩
  | .local _ .vmem, ⟨4, _⟩ => ⟨S1x256x256, .bf16⟩
  | .local _ .vmem, ⟨5, _⟩ => ⟨S1x256x256, .bf16⟩
  | .local _ .vmem, ⟨6, _⟩ => ⟨S1x256x256, .bf16⟩
  | .local _ .vmem, ⟨7, _⟩ => ⟨S1x256x256, .bf16⟩
  | .local _ .vmem, ⟨8, _⟩ => ⟨S1x256x256, .bf16⟩
  | .local _ .vmem, ⟨9, _⟩ => ⟨S1x256x256, .bf16⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1x1024, .f32⟩
  | .local _ .vmem, ⟨20, _⟩ => ⟨S1024x4096, .bf16⟩
  | .local _ .vmem, ⟨21, _⟩ => ⟨S4x256x1024, .bf16⟩
  | .local _ .vmem, ⟨22, _⟩ => ⟨S1024x1024, .bf16⟩
  | .local _ .vmem, ⟨23, _⟩ => ⟨S1x1024, .f32⟩
  | .local _ .vmem, ⟨24, _⟩ => ⟨S1x1024, .f32⟩
  | .local _ .vmem, ⟨25, _⟩ => ⟨S1024x256, .bf16⟩
  | .local _ .vmem, ⟨26, _⟩ => ⟨S1x256x1024, .f32⟩
  | .local _ .vmem, ⟨27, _⟩ => ⟨S1x256x1024, .f32⟩
  | .local _ .vmem, ⟨28, _⟩ => ⟨S1x256x1024, .bf16⟩
  | .local _ .vmem, ⟨29, _⟩ => ⟨S1x256x1024, .bf16⟩
  | .local _ .vmem, ⟨30, _⟩ => ⟨S1x2x16x128, .f32⟩
  | .local _ .vmem, ⟨31, _⟩ => ⟨S1x2x16x128, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47_0 : Ref sig .tc := ⟨.hbm, 64, rfl⟩
abbrev main_v47_1 : Ref sig .tc := ⟨.hbm, 65, rfl⟩
abbrev main_v47_2 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1024x4096 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S4x256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1024x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x2x16x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== MergeReferenceIdeal.lean ====
abbrev S4x8192x1024 : Shape := ⟨3, ![4, 8192, 1024]⟩
abbrev S4x8192x256 : Shape := ⟨3, ![4, 8192, 256]⟩
abbrev S4x1024 : Shape := ⟨2, ![4, 1024]⟩
abbrev S1024x6240 : Shape := ⟨2, ![1024, 6240]⟩
abbrev S4x256x1024 : Shape := ⟨3, ![4, 256, 1024]⟩
abbrev S1024x1024 : Shape := ⟨2, ![1024, 1024]⟩
abbrev S1024 : Shape := ⟨1, ![1024]⟩
abbrev S1024x16 : Shape := ⟨2, ![1024, 16]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S4x8192x6240 : Shape := ⟨3, ![4, 8192, 6240]⟩
abbrev S4x8192x4096 : Shape := ⟨3, ![4, 8192, 4096]⟩
abbrev S4x8192x4x1024 : Shape := ⟨4, ![4, 8192, 4, 1024]⟩
abbrev S4x8192x1x1024 : Shape := ⟨4, ![4, 8192, 1, 1024]⟩
abbrev S1x256x1024 : Shape := ⟨3, ![1, 256, 1024]⟩
abbrev S256x1024 : Shape := ⟨2, ![256, 1024]⟩
abbrev S1x1x1024 : Shape := ⟨3, ![1, 1, 1024]⟩

abbrev nBuf : Space → Nat
  | .hbm => 156
  | .vmem => 0
  | .smem => 0
  | _ => 0

abbrev hbmTy0_0 (i : Nat) : BufTy := match i % 128 with
  | 0 => ⟨S4x8192x1024, .f32⟩
  | 1 => ⟨S4x8192x256, .f32⟩
  | 2 => ⟨S4x8192x256, .f32⟩
  | 3 => ⟨S4x8192x256, .f32⟩
  | 4 => ⟨S4x8192x256, .f32⟩
  | 5 => ⟨S4x1024, .f32⟩
  | 6 => ⟨S4x1024, .f32⟩
  | 7 => ⟨S4x1024, .f32⟩
  | 8 => ⟨S4x1024, .f32⟩
  | 9 => ⟨S4x1024, .f32⟩
  | 10 => ⟨S1024x6240, .f32⟩
  | 11 => ⟨S4x256x1024, .f32⟩
  | 12 => ⟨S1024x1024, .f32⟩
  | 13 => ⟨S1024, .f32⟩
  | 14 => ⟨S1024, .f32⟩
  | 15 => ⟨S1024x16, .f32⟩
  | 16 => ⟨S4x1x1024, .f32⟩
  | 17 => ⟨S4x1x1024, .f32⟩
  | 18 => ⟨S_, .f32⟩
  | 19 => ⟨S4x8192, .f32⟩
  | 20 => ⟨S4x8192x1, .f32⟩
  | 21 => ⟨S_, .f32⟩
  | 22 => ⟨S4x8192x1, .f32⟩
  | 23 => ⟨S4x8192x1, .f32⟩
  | 24 => ⟨S4x8192x1024, .f32⟩
  | 25 => ⟨S4x8192x1024, .f32⟩
  | 26 => ⟨S4x8192x1024, .f32⟩
  | 27 => ⟨S_, .f32⟩
  | 28 => ⟨S4x8192, .f32⟩
  | 29 => ⟨S4x8192x1, .f32⟩
  | 30 => ⟨S_, .f32⟩
  | 31 => ⟨S4x8192x1, .f32⟩
  | 32 => ⟨S4x8192x1, .f32⟩
  | 33 => ⟨S4x8192x1024, .f32⟩
  | 34 => ⟨S4x8192x1024, .f32⟩
  | 35 => ⟨S_, .f32⟩
  | 36 => ⟨S4x8192x1, .f32⟩
  | 37 => ⟨S4x8192x1, .f32⟩
  | 38 => ⟨S4x8192x1, .f32⟩
  | 39 => ⟨S4x8192x1024, .f32⟩
  | 40 => ⟨S4x8192x1024, .f32⟩
  | 41 => ⟨S_, .f32⟩
  | 42 => ⟨S4x1x1024, .f32⟩
  | 43 => ⟨S4x1x1024, .f32⟩
  | 44 => ⟨S4x8192x1024, .f32⟩
  | 45 => ⟨S4x8192x1024, .f32⟩
  | 46 => ⟨S4x8192x1024, .f32⟩
  | 47 => ⟨S4x8192x1024, .f32⟩
  | 48 => ⟨S4x8192x6240, .f32⟩
  | 49 => ⟨S4x8192x4096, .f32⟩
  | 50 => ⟨S4x8192x4x1024, .f32⟩
  | 51 => ⟨S4x8192x4x1024, .f32⟩
  | 52 => ⟨S4x8192x4x1024, .f32⟩
  | 53 => ⟨S_, .f32⟩
  | 54 => ⟨S4x8192x4x1024, .f32⟩
  | 55 => ⟨S4x8192x4x1024, .f32⟩
  | 56 => ⟨S_, .f32⟩
  | 57 => ⟨S4x8192x4x1024, .f32⟩
  | 58 => ⟨S4x8192x4x1024, .f32⟩
  | 59 => ⟨S4x8192x1x1024, .f32⟩
  | 60 => ⟨S4x8192x1024, .f32⟩
  | 61 => ⟨S1x256x1024, .f32⟩
  | 62 => ⟨S256x1024, .f32⟩
  | 63 => ⟨S4x8192x1024, .f32⟩
  | 64 => ⟨S4x8192x1024, .f32⟩
  | 65 => ⟨S4x8192x1x1024, .f32⟩
  | 66 => ⟨S4x8192x1024, .f32⟩
  | 67 => ⟨S1x256x1024, .f32⟩
  | 68 => ⟨S256x1024, .f32⟩
  | 69 => ⟨S4x8192x1024, .f32⟩
  | 70 => ⟨S4x8192x1024, .f32⟩
  | 71 => ⟨S4x8192x1024, .f32⟩
  | 72 => ⟨S4x8192x1x1024, .f32⟩
  | 73 => ⟨S4x8192x1024, .f32⟩
  | 74 => ⟨S1x256x1024, .f32⟩
  | 75 => ⟨S256x1024, .f32⟩
  | 76 => ⟨S4x8192x1024, .f32⟩
  | 77 => ⟨S4x8192x1024, .f32⟩
  | 78 => ⟨S4x8192x1024, .f32⟩
  | 79 => ⟨S4x8192x1x1024, .f32⟩
  | 80 => ⟨S4x8192x1024, .f32⟩
  | 81 => ⟨S1x256x1024, .f32⟩
  | 82 => ⟨S256x1024, .f32⟩
  | 83 => ⟨S4x8192x1024, .f32⟩
  | 84 => ⟨S4x8192x1024, .f32⟩
  | 85 => ⟨S4x8192x1024, .f32⟩
  | 86 => ⟨S4x8192x1024, .f32⟩
  | 87 => ⟨S_, .f32⟩
  | 88 => ⟨S4x8192x1024, .f32⟩
  | 89 => ⟨S4x8192x1024, .f32⟩
  | 90 => ⟨S4x1x1024, .f32⟩
  | 91 => ⟨S4x8192x1024, .f32⟩
  | 92 => ⟨S4x8192x1024, .f32⟩
  | 93 => ⟨S4x8192x1024, .f32⟩
  | 94 => ⟨S_, .f32⟩
  | 95 => ⟨S4x8192, .f32⟩
  | 96 => ⟨S4x8192x1, .f32⟩
  | 97 => ⟨S_, .f32⟩
  | 98 => ⟨S4x8192x1, .f32⟩
  | 99 => ⟨S4x8192x1, .f32⟩
  | 100 => ⟨S4x8192x1024, .f32⟩
  | 101 => ⟨S4x8192x1024, .f32⟩
  | 102 => ⟨S4x8192x1024, .f32⟩
  | 103 => ⟨S_, .f32⟩
  | 104 => ⟨S4x8192, .f32⟩
  | 105 => ⟨S4x8192x1, .f32⟩
  | 106 => ⟨S_, .f32⟩
  | 107 => ⟨S4x8192x1, .f32⟩
  | 108 => ⟨S4x8192x1, .f32⟩
  | 109 => ⟨S4x8192x1024, .f32⟩
  | 110 => ⟨S4x8192x1024, .f32⟩
  | 111 => ⟨S_, .f32⟩
  | 112 => ⟨S4x8192x1, .f32⟩
  | 113 => ⟨S4x8192x1, .f32⟩
  | 114 => ⟨S4x8192x1, .f32⟩
  | 115 => ⟨S4x8192x1024, .f32⟩
  | 116 => ⟨S4x8192x1024, .f32⟩
  | 117 => ⟨S1x1x1024, .f32⟩
  | 118 => ⟨S4x8192x1024, .f32⟩
  | 119 => ⟨S4x8192x1024, .f32⟩
  | 120 => ⟨S1x1x1024, .f32⟩
  | 121 => ⟨S4x8192x1024, .f32⟩
  | 122 => ⟨S4x8192x1024, .f32⟩
  | 123 => ⟨S4x1x1024, .f32⟩
  | 124 => ⟨S4x1x1024, .f32⟩
  | 125 => ⟨S_, .f32⟩
  | 126 => ⟨S4x8192, .f32⟩
  | 127 => ⟨S4x8192x1, .f32⟩
  | _ => ⟨S4x8192x1024, .f32⟩

abbrev hbmTy0_1 (i : Nat) : BufTy := match i % 128 with
  | 0 => ⟨S_, .f32⟩
  | 1 => ⟨S4x8192x1, .f32⟩
  | 2 => ⟨S4x8192x1, .f32⟩
  | 3 => ⟨S4x8192x1024, .f32⟩
  | 4 => ⟨S4x8192x1024, .f32⟩
  | 5 => ⟨S4x8192x1024, .f32⟩
  | 6 => ⟨S_, .f32⟩
  | 7 => ⟨S4x8192, .f32⟩
  | 8 => ⟨S4x8192x1, .f32⟩
  | 9 => ⟨S_, .f32⟩
  | 10 => ⟨S4x8192x1, .f32⟩
  | 11 => ⟨S4x8192x1, .f32⟩
  | 12 => ⟨S4x8192x1024, .f32⟩
  | 13 => ⟨S4x8192x1024, .f32⟩
  | 14 => ⟨S_, .f32⟩
  | 15 => ⟨S4x8192x1, .f32⟩
  | 16 => ⟨S4x8192x1, .f32⟩
  | 17 => ⟨S4x8192x1, .f32⟩
  | 18 => ⟨S4x8192x1024, .f32⟩
  | 19 => ⟨S4x8192x1024, .f32⟩
  | 20 => ⟨S_, .f32⟩
  | 21 => ⟨S4x1x1024, .f32⟩
  | 22 => ⟨S4x1x1024, .f32⟩
  | 23 => ⟨S4x8192x1024, .f32⟩
  | 24 => ⟨S4x8192x1024, .f32⟩
  | 25 => ⟨S4x8192x1024, .f32⟩
  | 26 => ⟨S4x8192x1024, .f32⟩
  | 27 => ⟨S4x8192x1024, .bf16⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_cst_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_v10 : Ref sig .tc := ⟨.hbm, 29, rfl⟩
abbrev main_cst_2 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_3 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_4 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_5 : Ref sig .tc := ⟨.hbm, 53, rfl⟩
abbrev main_v31 : Ref sig .tc := ⟨.hbm, 54, rfl⟩
abbrev main_v32 : Ref sig .tc := ⟨.hbm, 55, rfl⟩
abbrev main_cst_6 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_7 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_8 : Ref sig .tc := ⟨.hbm, 94, rfl⟩
abbrev main_v69 : Ref sig .tc := ⟨.hbm, 95, rfl⟩
abbrev main_v70 : Ref sig .tc := ⟨.hbm, 96, rfl⟩
abbrev main_cst_9 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_10 : Ref sig .tc := ⟨.hbm, 103, rfl⟩
abbrev main_v76 : Ref sig .tc := ⟨.hbm, 104, rfl⟩
abbrev main_v77 : Ref sig .tc := ⟨.hbm, 105, rfl⟩
abbrev main_cst_11 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_12 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_cst_13 : Ref sig .tc := ⟨.hbm, 125, rfl⟩
abbrev main_v95 : Ref sig .tc := ⟨.hbm, 126, rfl⟩
abbrev main_v96 : Ref sig .tc := ⟨.hbm, 127, rfl⟩
abbrev main_cst_14 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_cst_15 : Ref sig .tc := ⟨.hbm, 134, rfl⟩
abbrev main_v102 : Ref sig .tc := ⟨.hbm, 135, rfl⟩
abbrev main_v103 : Ref sig .tc := ⟨.hbm, 136, rfl⟩
abbrev main_cst_16 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_cst_17 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_cst_18 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩

abbrev nD : Nat := 1
abbrev τ : Topo := Topo.v7x

variable {F : FTy → Type} [FloatOps F]
-- ==== Latent.lean ====
abbrev S4x8192x4x96 : Shape := ⟨4, ![4, 8192, 4, 96]⟩
abbrev S4x8192x4x64 : Shape := ⟨4, ![4, 8192, 4, 64]⟩
abbrev S4x8192x32 : Shape := ⟨3, ![4, 8192, 32]⟩
abbrev S4x256x4x64 : Shape := ⟨4, ![4, 256, 4, 64]⟩
abbrev S4x256x32 : Shape := ⟨3, ![4, 256, 32]⟩
abbrev S_ : Shape := ⟨0, ![]⟩
abbrev S4x8192x2x2x2x64 : Shape := ⟨6, ![4, 8192, 2, 2, 2, 64]⟩
abbrev S4x8192x2x2x1x64 : Shape := ⟨6, ![4, 8192, 2, 2, 1, 64]⟩
abbrev S4x8192x4x128 : Shape := ⟨4, ![4, 8192, 4, 128]⟩
abbrev S4x8192x4x32 : Shape := ⟨4, ![4, 8192, 4, 32]⟩
abbrev S4x8192x4x2x2x8 : Shape := ⟨6, ![4, 8192, 4, 2, 2, 8]⟩
abbrev S4x8192x4x2x16 : Shape := ⟨5, ![4, 8192, 4, 2, 16]⟩
abbrev S4x8192x4x2x48 : Shape := ⟨5, ![4, 8192, 4, 2, 48]⟩
abbrev S4x8192x4x2x64 : Shape := ⟨5, ![4, 8192, 4, 2, 64]⟩
abbrev S4x8192x4x256 : Shape := ⟨4, ![4, 8192, 4, 256]⟩
abbrev S4x4x8192x256 : Shape := ⟨4, ![4, 4, 8192, 256]⟩
abbrev S4x8192x2x128 : Shape := ⟨4, ![4, 8192, 2, 128]⟩
abbrev S4x8192x2x2x8 : Shape := ⟨5, ![4, 8192, 2, 2, 8]⟩
abbrev S4x8192x2x16 : Shape := ⟨4, ![4, 8192, 2, 16]⟩
abbrev S4x8192x2x48 : Shape := ⟨4, ![4, 8192, 2, 48]⟩
abbrev S4x8192x2x64 : Shape := ⟨4, ![4, 8192, 2, 64]⟩
abbrev S4x8192x128 : Shape := ⟨3, ![4, 8192, 128]⟩
abbrev S4x8192x1x128 : Shape := ⟨4, ![4, 8192, 1, 128]⟩
abbrev S4x8192x2x256 : Shape := ⟨4, ![4, 8192, 2, 256]⟩
abbrev S4x2x8192x256 : Shape := ⟨4, ![4, 2, 8192, 256]⟩
abbrev S4x16x512x2x2x64 : Shape := ⟨6, ![4, 16, 512, 2, 2, 64]⟩
abbrev S4x2x16x2x64x512 : Shape := ⟨6, ![4, 2, 16, 2, 64, 512]⟩
abbrev S4x2x16x2x16x512 : Shape := ⟨6, ![4, 2, 16, 2, 16, 512]⟩
abbrev S4x2x16x2x80x512 : Shape := ⟨6, ![4, 2, 16, 2, 80, 512]⟩
abbrev S4x256x2x128 : Shape := ⟨4, ![4, 256, 2, 128]⟩
abbrev S4x256x2x2x8 : Shape := ⟨5, ![4, 256, 2, 2, 8]⟩
abbrev S4x256x2x16 : Shape := ⟨4, ![4, 256, 2, 16]⟩
abbrev S4x256x2x48 : Shape := ⟨4, ![4, 256, 2, 48]⟩
abbrev S4x256x2x64 : Shape := ⟨4, ![4, 256, 2, 64]⟩
abbrev S4x256x128 : Shape := ⟨3, ![4, 256, 128]⟩
abbrev S4x256x1x128 : Shape := ⟨4, ![4, 256, 1, 128]⟩
abbrev S4x256x2x256 : Shape := ⟨4, ![4, 256, 2, 256]⟩
abbrev S4x2x256x256 : Shape := ⟨4, ![4, 2, 256, 256]⟩
abbrev S4x1x256x2x2x64 : Shape := ⟨6, ![4, 1, 256, 2, 2, 64]⟩
abbrev S4x2x1x2x64x256 : Shape := ⟨6, ![4, 2, 1, 2, 64, 256]⟩
abbrev S4x2x1x2x16x256 : Shape := ⟨6, ![4, 2, 1, 2, 16, 256]⟩
abbrev S4x2x1x2x80x256 : Shape := ⟨6, ![4, 2, 1, 2, 80, 256]⟩
abbrev S4x2x8x1024x256 : Shape := ⟨5, ![4, 2, 8, 1024, 256]⟩
abbrev S4x2x1x256x256 : Shape := ⟨5, ![4, 2, 1, 256, 256]⟩
abbrev S4x8192x256 : Shape := ⟨3, ![4, 8192, 256]⟩
abbrev S1x2x8192x256 : Shape := ⟨4, ![1, 2, 8192, 256]⟩
abbrev S1x1x8x1024x256 : Shape := ⟨5, ![1, 1, 8, 1024, 256]⟩
abbrev S1x1x16x2x80x512 : Shape := ⟨6, ![1, 1, 16, 2, 80, 512]⟩
abbrev S1x1x1x256x256 : Shape := ⟨5, ![1, 1, 1, 256, 256]⟩
abbrev S1x1x1x2x80x256 : Shape := ⟨6, ![1, 1, 1, 2, 80, 256]⟩
abbrev S1x8192x128 : Shape := ⟨3, ![1, 8192, 128]⟩
abbrev S2x80x512 : Shape := ⟨3, ![2, 80, 512]⟩
abbrev S1x1024 : Shape := ⟨2, ![1, 1024]⟩
abbrev S2x1024x1024 : Shape := ⟨3, ![2, 1024, 1024]⟩
abbrev S1x1x1x1024x256 : Shape := ⟨5, ![1, 1, 1, 1024, 256]⟩
abbrev S1024x256 : Shape := ⟨2, ![1024, 256]⟩
abbrev S1x2x512x256 : Shape := ⟨4, ![1, 2, 512, 256]⟩
abbrev S2x512x256 : Shape := ⟨3, ![2, 512, 256]⟩
abbrev S1024x1024 : Shape := ⟨2, ![1024, 1024]⟩
abbrev S1x1024x1024 : Shape := ⟨3, ![1, 1024, 1024]⟩
abbrev S1x1x1x2x80x512 : Shape := ⟨6, ![1, 1, 1, 2, 80, 512]⟩
abbrev S1024 : Shape := ⟨1, ![1024]⟩
abbrev S1x80x512 : Shape := ⟨3, ![1, 80, 512]⟩
abbrev S80x512 : Shape := ⟨2, ![80, 512]⟩
abbrev S512x512 : Shape := ⟨2, ![512, 512]⟩
abbrev S1x512 : Shape := ⟨2, ![1, 512]⟩
abbrev S256x256 : Shape := ⟨2, ![256, 256]⟩
abbrev S256x1024 : Shape := ⟨2, ![256, 1024]⟩
abbrev S1x256x1024 : Shape := ⟨3, ![1, 256, 1024]⟩
abbrev S2x80x256 : Shape := ⟨3, ![2, 80, 256]⟩
abbrev S1x80x256 : Shape := ⟨3, ![1, 80, 256]⟩
abbrev S80x256 : Shape := ⟨2, ![80, 256]⟩
abbrev S256x512 : Shape := ⟨2, ![256, 512]⟩
abbrev S64x512 : Shape := ⟨2, ![64, 512]⟩
abbrev S128x512 : Shape := ⟨2, ![128, 512]⟩
abbrev S512x128 : Shape := ⟨2, ![512, 128]⟩
abbrev S1x512x128 : Shape := ⟨3, ![1, 512, 128]⟩

abbrev nBuf : Space → Nat
  | .hbm => 76
  | .vmem => 15
  | .smem => 0
  | _ => 0

abbrev bufTy : (tb : Table) → Fin (tcTables nBuf tb) → BufTy
  | .hbm, ⟨0, _⟩ => ⟨S4x8192x4x96, .f32⟩
  | .hbm, ⟨1, _⟩ => ⟨S4x8192x4x64, .f32⟩
  | .hbm, ⟨2, _⟩ => ⟨S4x8192x32, .f32⟩
  | .hbm, ⟨3, _⟩ => ⟨S4x8192x4x64, .f32⟩
  | .hbm, ⟨4, _⟩ => ⟨S4x256x4x64, .f32⟩
  | .hbm, ⟨5, _⟩ => ⟨S4x256x32, .f32⟩
  | .hbm, ⟨6, _⟩ => ⟨S4x256x4x64, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4x8192x4x96, .f32⟩
  | .hbm, ⟨12, _⟩ => ⟨S4x8192x4x96, .f32⟩
  | .hbm, ⟨13, _⟩ => ⟨S4x8192x2x2x2x64, .i32⟩
  | .hbm, ⟨14, _⟩ => ⟨S4x8192x2x2x2x64, .i32⟩
  | .hbm, ⟨15, _⟩ => ⟨S4x8192x2x2x2x64, .i1⟩
  | .hbm, ⟨16, _⟩ => ⟨S4x8192x4x64, .f32⟩
  | .hbm, ⟨17, _⟩ => ⟨S4x8192x2x2x1x64, .f32⟩
  | .hbm, ⟨18, _⟩ => ⟨S4x8192x2x2x2x64, .f32⟩
  | .hbm, ⟨19, _⟩ => ⟨S_, .f32⟩
  | .hbm, ⟨20, _⟩ => ⟨S_, .f32⟩
  | .hbm, ⟨21, _⟩ => ⟨S4x8192x2x2x2x64, .f32⟩
  | .hbm, ⟨22, _⟩ => ⟨S4x8192x2x2x2x64, .f32⟩
  | .hbm, ⟨23, _⟩ => ⟨S4x8192x4x128, .f32⟩
  | .hbm, ⟨24, _⟩ => ⟨S4x8192x4x32, .f32⟩
  | .hbm, ⟨25, _⟩ => ⟨S4x8192x4x2x2x8, .f32⟩
  | .hbm, ⟨26, _⟩ => ⟨S4x8192x4x2x2x8, .f32⟩
  | .hbm, ⟨27, _⟩ => ⟨S4x8192x4x2x16, .f32⟩
  | .hbm, ⟨28, _⟩ => ⟨S_, .f32⟩
  | .hbm, ⟨29, _⟩ => ⟨S4x8192x4x2x48, .f32⟩
  | .hbm, ⟨30, _⟩ => ⟨S4x8192x4x2x64, .f32⟩
  | .hbm, ⟨31, _⟩ => ⟨S4x8192x4x128, .f32⟩
  | .hbm, ⟨32, _⟩ => ⟨S4x8192x4x256, .f32⟩
  | .hbm, ⟨33, _⟩ => ⟨S4x4x8192x256, .f32⟩
  | .hbm, ⟨34, _⟩ => ⟨S4x4x8192x256, .bf16⟩
  | .hbm, ⟨35, _⟩ => ⟨S4x8192x2x128, .f32⟩
  | .hbm, ⟨36, _⟩ => ⟨S4x8192x2x2x8, .f32⟩
  | .hbm, ⟨37, _⟩ => ⟨S4x8192x2x2x8, .f32⟩
  | .hbm, ⟨38, _⟩ => ⟨S4x8192x2x16, .f32⟩
  | .hbm, ⟨39, _⟩ => ⟨S_, .f32⟩
  | .hbm, ⟨40, _⟩ => ⟨S4x8192x2x48, .f32⟩
  | .hbm, ⟨41, _⟩ => ⟨S4x8192x2x64, .f32⟩
  | .hbm, ⟨42, _⟩ => ⟨S4x8192x128, .f32⟩
  | .hbm, ⟨43, _⟩ => ⟨S4x8192x1x128, .f32⟩
  | .hbm, ⟨44, _⟩ => ⟨S4x8192x2x128, .f32⟩
  | .hbm, ⟨45, _⟩ => ⟨S4x8192x2x256, .f32⟩
  | .hbm, ⟨46, _⟩ => ⟨S4x2x8192x256, .f32⟩
  | .hbm, ⟨47, _⟩ => ⟨S4x2x8192x256, .bf16⟩
  | .hbm, ⟨48, _⟩ => ⟨S4x16x512x2x2x64, .f32⟩
  | .hbm, ⟨49, _⟩ => ⟨S4x2x16x2x64x512, .f32⟩
  | .hbm, ⟨50, _⟩ => ⟨S_, .f32⟩
  | .hbm, ⟨51, _⟩ => ⟨S4x2x16x2x16x512, .f32⟩
  | .hbm, ⟨52, _⟩ => ⟨S4x2x16x2x80x512, .f32⟩
  | .hbm, ⟨53, _⟩ => ⟨S4x2x16x2x80x512, .bf16⟩
  | .hbm, ⟨54, _⟩ => ⟨S4x256x2x128, .f32⟩
  | .hbm, ⟨55, _⟩ => ⟨S4x256x2x2x8, .f32⟩
  | .hbm, ⟨56, _⟩ => ⟨S4x256x2x2x8, .f32⟩
  | .hbm, ⟨57, _⟩ => ⟨S4x256x2x16, .f32⟩
  | .hbm, ⟨58, _⟩ => ⟨S_, .f32⟩
  | .hbm, ⟨59, _⟩ => ⟨S4x256x2x48, .f32⟩
  | .hbm, ⟨60, _⟩ => ⟨S4x256x2x64, .f32⟩
  | .hbm, ⟨61, _⟩ => ⟨S4x256x128, .f32⟩
  | .hbm, ⟨62, _⟩ => ⟨S4x256x1x128, .f32⟩
  | .hbm, ⟨63, _⟩ => ⟨S4x256x2x128, .f32⟩
  | .hbm, ⟨64, _⟩ => ⟨S4x256x2x256, .f32⟩
  | .hbm, ⟨65, _⟩ => ⟨S4x2x256x256, .f32⟩
  | .hbm, ⟨66, _⟩ => ⟨S4x2x256x256, .bf16⟩
  | .hbm, ⟨67, _⟩ => ⟨S4x1x256x2x2x64, .f32⟩
  | .hbm, ⟨68, _⟩ => ⟨S4x2x1x2x64x256, .f32⟩
  | .hbm, ⟨69, _⟩ => ⟨S_, .f32⟩
  | .hbm, ⟨70, _⟩ => ⟨S4x2x1x2x16x256, .f32⟩
  | .hbm, ⟨71, _⟩ => ⟨S4x2x1x2x80x256, .f32⟩
  | .hbm, ⟨72, _⟩ => ⟨S4x2x1x2x80x256, .bf16⟩
  | .hbm, ⟨73, _⟩ => ⟨S4x2x8x1024x256, .bf16⟩
  | .hbm, ⟨74, _⟩ => ⟨S4x2x1x256x256, .bf16⟩
  | .hbm, ⟨75, _⟩ => ⟨S4x8192x256, .bf16⟩
  | .local _ .vmem, ⟨0, _⟩ => ⟨S1x2x8192x256, .bf16⟩
  | .local _ .vmem, ⟨1, _⟩ => ⟨S1x2x8192x256, .bf16⟩
  | .local _ .vmem, ⟨2, _⟩ => ⟨S1x1x8x1024x256, .bf16⟩
  | .local _ .vmem, ⟨3, _⟩ => ⟨S1x1x8x1024x256, .bf16⟩
  | .local _ .vmem, ⟨4, _⟩ => ⟨S1x1x16x2x80x512, .bf16⟩
  | .local _ .vmem, ⟨5, _⟩ => ⟨S1x1x16x2x80x512, .bf16⟩
  | .local _ .vmem, ⟨6, _⟩ => ⟨S1x1x1x256x256, .bf16⟩
  | .local _ .vmem, ⟨7, _⟩ => ⟨S1x1x1x256x256, .bf16⟩
  | .local _ .vmem, ⟨8, _⟩ => ⟨S1x1x1x2x80x256, .bf16⟩
  | .local _ .vmem, ⟨9, _⟩ => ⟨S1x1x1x2x80x256, .bf16⟩
  | .local _ .vmem, ⟨10, _⟩ => ⟨S1x8192x128, .bf16⟩
  | .local _ .vmem, ⟨11, _⟩ => ⟨S1x8192x128, .bf16⟩
  | .local _ .vmem, ⟨12, _⟩ => ⟨S2x80x512, .f32⟩
  | .local _ .vmem, ⟨13, _⟩ => ⟨S1x1024, .f32⟩
  | .local _ .vmem, ⟨14, _⟩ => ⟨S2x1024x1024, .f32⟩
  | _, _ => ⟨S4x8192x4x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_4 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_5 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_6 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 2], ![false, false]⟩

def k0_mult1 : BitVec 32 :=
  let c0_i32 : BitVec 32 := 0#32
  c0_i32
@[reducible] def k0_t1_loop : Scf.Loop 32 :=
  let c0_i32_10 : BitVec 32 := 0#32
  let c8_i32 : BitVec 32 := 8#32
  let v11 : BitVec 32 := Scalar.addi c0_i32_10 c8_i32
  let c1_i32 : BitVec 32 := 1#32
  ⟨c0_i32_10, v11, c1_i32⟩
def k0_mult2 (k0_t1 : Fin k0_t1_loop.trips) : BitVec 32 :=
  let c2_i32 : BitVec 32 := 2#32
  let c0_i32_10 : BitVec 32 := 0#32
  let c1_i32 : BitVec 32 := 1#32
  let arg11 : BitVec 32 := Scf.iv c0_i32_10 c1_i32 k0_t1
  let v12 : BitVec 32 := Scalar.muli c2_i32 arg11
  let c512_i32 : BitVec 32 := 512#32
  let v13 : BitVec 32 := Scalar.muli v12 c512_i32
  v13
def k0_off1 (k0_t1 : Fin k0_t1_loop.trips) : Fin 4 → Nat :=
  let c0_12 : Index := 0#32
  let c0_13 : Index := 0#32
  let c2_i32 : BitVec 32 := 2#32
  let c0_i32_10 : BitVec 32 := 0#32
  let c1_i32 : BitVec 32 := 1#32
  let arg11 : BitVec 32 := Scf.iv c0_i32_10 c1_i32 k0_t1
  let v12 : BitVec 32 := Scalar.muli c2_i32 arg11
  let c512_i32 : BitVec 32 := 512#32
  let v13 : BitVec 32 := Scalar.muli v12 c512_i32
  let v14 : BitVec 32 := v13
  let v15 : Index := Scalar.indexCast v14
  let c0_14 : Index := 0#32
  ![0, 0, v15.toNat, 0]
def k0_mult3 (k0_t1 : Fin k0_t1_loop.trips) : BitVec 32 :=
  let c2_i32 : BitVec 32 := 2#32
  let c0_i32_10 : BitVec 32 := 0#32
  let c1_i32 : BitVec 32 := 1#32
  let arg11 : BitVec 32 := Scf.iv c0_i32_10 c1_i32 k0_t1
  let v12 : BitVec 32 := Scalar.muli c2_i32 arg11
  let c1_i32_372 : BitVec 32 := 1#32
  let v517 : BitVec 32 := Scalar.addi v12 c1_i32_372
  let c15_i32 : BitVec 32 := 15#32
  let v518 : BitVec 32 := Scalar.minsi v517 c15_i32
  let c512_i32_373 : BitVec 32 := 512#32
  let v519 : BitVec 32 := Scalar.muli v518 c512_i32_373
  v519
def k0_off2 (k0_t1 : Fin k0_t1_loop.trips) : Fin 4 → Nat :=
  let c0_374 : Index := 0#32
  let c0_375 : Index := 0#32
  let c2_i32 : BitVec 32 := 2#32
  let c0_i32_10 : BitVec 32 := 0#32
  let c1_i32 : BitVec 32 := 1#32
  let arg11 : BitVec 32 := Scf.iv c0_i32_10 c1_i32 k0_t1
  let v12 : BitVec 32 := Scalar.muli c2_i32 arg11
  let c1_i32_372 : BitVec 32 := 1#32
  let v517 : BitVec 32 := Scalar.addi v12 c1_i32_372
  let c15_i32 : BitVec 32 := 15#32
  let v518 : BitVec 32 := Scalar.minsi v517 c15_i32
  let c512_i32_373 : BitVec 32 := 512#32
  let v519 : BitVec 32 := Scalar.muli v518 c512_i32_373
  let v520 : BitVec 32 := v519
  let v521 : Index := Scalar.indexCast v520
  let c0_376 : Index := 0#32
  ![0, 0, v521.toNat, 0]
def k0_mult4 (k0_t1 : Fin k0_t1_loop.trips) : BitVec 32 :=
  let c2_i32 : BitVec 32 := 2#32
  let c0_i32_10 : BitVec 32 := 0#32
  let c1_i32 : BitVec 32 := 1#32
  let arg11 : BitVec 32 := Scf.iv c0_i32_10 c1_i32 k0_t1
  let v12 : BitVec 32 := Scalar.muli c2_i32 arg11
  let c512_i32_421 : BitVec 32 := 512#32
  let v591 : BitVec 32 := Scalar.muli v12 c512_i32_421
  v591
def k0_off3 (k0_t1 : Fin k0_t1_loop.trips) : Fin 3 → Nat :=
  let c0_422 : Index := 0#32
  let c2_i32 : BitVec 32 := 2#32
  let c0_i32_10 : BitVec 32 := 0#32
  let c1_i32 : BitVec 32 := 1#32
  let arg11 : BitVec 32 := Scf.iv c0_i32_10 c1_i32 k0_t1
  let v12 : BitVec 32 := Scalar.muli c2_i32 arg11
  let c512_i32_421 : BitVec 32 := 512#32
  let v591 : BitVec 32 := Scalar.muli v12 c512_i32_421
  let v592 : BitVec 32 := v591
  let v593 : Index := Scalar.indexCast v592
  let c0_423 : Index := 0#32
  ![0, v593.toNat, 0]
def k0_mult5 (k0_t1 : Fin k0_t1_loop.trips) : BitVec 32 :=
  let c2_i32_424 : BitVec 32 := 2#32
  let c0_i32_10 : BitVec 32 := 0#32
  let c1_i32 : BitVec 32 := 1#32
  let arg11 : BitVec 32 := Scf.iv c0_i32_10 c1_i32 k0_t1
  let v597 : BitVec 32 := Scalar.muli c2_i32_424 arg11
  let c1_i32_425 : BitVec 32 := 1#32
  let v598 : BitVec 32 := Scalar.addi v597 c1_i32_425
  let c512_i32_426 : BitVec 32 := 512#32
  let v599 : BitVec 32 := Scalar.muli v598 c512_i32_426
  v599
def k0_off4 (k0_t1 : Fin k0_t1_loop.trips) : Fin 4 → Nat :=
  let c0_427 : Index := 0#32
  let c0_428 : Index := 0#32
  let c2_i32_424 : BitVec 32 := 2#32
  let c0_i32_10 : BitVec 32 := 0#32
  let c1_i32 : BitVec 32 := 1#32
  let arg11 : BitVec 32 := Scf.iv c0_i32_10 c1_i32 k0_t1
  let v597 : BitVec 32 := Scalar.muli c2_i32_424 arg11
  let c1_i32_425 : BitVec 32 := 1#32
  let v598 : BitVec 32 := Scalar.addi v597 c1_i32_425
  let c512_i32_426 : BitVec 32 := 512#32
  let v599 : BitVec 32 := Scalar.muli v598 c512_i32_426
  let v600 : BitVec 32 := v599
  let v601 : Index := Scalar.indexCast v600
  let c0_429 : Index := 0#32
  ![0, 0, v601.toNat, 0]
def k0_mult6 (k0_t1 : Fin k0_t1_loop.trips) : BitVec 32 :=
  let c2_i32_424 : BitVec 32 := 2#32
  let c0_i32_10 : BitVec 32 := 0#32
  let c1_i32 : BitVec 32 := 1#32
  let arg11 : BitVec 32 := Scf.iv c0_i32_10 c1_i32 k0_t1
  let v597 : BitVec 32 := Scalar.muli c2_i32_424 arg11
  let c1_i32_425 : BitVec 32 := 1#32
  let v598 : BitVec 32 := Scalar.addi v597 c1_i32_425
  let c1_i32_802 : BitVec 32 := 1#32
  let v1103 : BitVec 32 := Scalar.addi v598 c1_i32_802
  let c15_i32_803 : BitVec 32 := 15#32
  let v1104 : BitVec 32 := Scalar.minsi v1103 c15_i32_803
  let c512_i32_804 : BitVec 32 := 512#32
  let v1105 : BitVec 32 := Scalar.muli v1104 c512_i32_804
  v1105
def k0_off5 (k0_t1 : Fin k0_t1_loop.trips) : Fin 4 → Nat :=
  let c0_805 : Index := 0#32
  let c0_806 : Index := 0#32
  let c2_i32_424 : BitVec 32 := 2#32
  let c0_i32_10 : BitVec 32 := 0#32
  let c1_i32 : BitVec 32 := 1#32
  let arg11 : BitVec 32 := Scf.iv c0_i32_10 c1_i32 k0_t1
  let v597 : BitVec 32 := Scalar.muli c2_i32_424 arg11
  let c1_i32_425 : BitVec 32 := 1#32
  let v598 : BitVec 32 := Scalar.addi v597 c1_i32_425
  let c1_i32_802 : BitVec 32 := 1#32
  let v1103 : BitVec 32 := Scalar.addi v598 c1_i32_802
  let c15_i32_803 : BitVec 32 := 15#32
  let v1104 : BitVec 32 := Scalar.minsi v1103 c15_i32_803
  let c512_i32_804 : BitVec 32 := 512#32
  let v1105 : BitVec 32 := Scalar.muli v1104 c512_i32_804
  let v1106 : BitVec 32 := v1105
  let v1107 : Index := Scalar.indexCast v1106
  let c0_807 : Index := 0#32
  ![0, 0, v1107.toNat, 0]
def k0_mult7 (k0_t1 : Fin k0_t1_loop.trips) : BitVec 32 :=
  let c2_i32_424 : BitVec 32 := 2#32
  let c0_i32_10 : BitVec 32 := 0#32
  let c1_i32 : BitVec 32 := 1#32
  let arg11 : BitVec 32 := Scf.iv c0_i32_10 c1_i32 k0_t1
  let v597 : BitVec 32 := Scalar.muli c2_i32_424 arg11
  let c1_i32_425 : BitVec 32 := 1#32
  let v598 : BitVec 32 := Scalar.addi v597 c1_i32_425
  let c512_i32_852 : BitVec 32 := 512#32
  let v1177 : BitVec 32 := Scalar.muli v598 c512_i32_852
  v1177
def k0_off6 (k0_t1 : Fin k0_t1_loop.trips) : Fin 3 → Nat :=
  let c0_853 : Index := 0#32
  let c2_i32_424 : BitVec 32 := 2#32
  let c0_i32_10 : BitVec 32 := 0#32
  let c1_i32 : BitVec 32 := 1#32
  let arg11 : BitVec 32 := Scf.iv c0_i32_10 c1_i32 k0_t1
  let v597 : BitVec 32 := Scalar.muli c2_i32_424 arg11
  let c1_i32_425 : BitVec 32 := 1#32
  let v598 : BitVec 32 := Scalar.addi v597 c1_i32_425
  let c512_i32_852 : BitVec 32 := 512#32
  let v1177 : BitVec 32 := Scalar.muli v598 c512_i32_852
  let v1178 : BitVec 32 := v1177
  let v1179 : Index := Scalar.indexCast v1178
  let c0_854 : Index := 0#32
  ![0, v1179.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_2 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, arg1.toNat, c0_i32.toNat, c0_i32_0.toNat, c0_i32_1.toNat, c0_i32_2.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_4 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, arg1.toNat, c0_i32.toNat, c0_i32_0.toNat, c0_i32_1.toNat, c0_i32_2.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2x8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x8x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x16x2x80x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x2x80x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8192x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== LatentReferenceIdeal.lean ====
abbrev S4x8192x4x96 : Shape := ⟨4, ![4, 8192, 4, 96]⟩
abbrev S4x8192x4x64 : Shape := ⟨4, ![4, 8192, 4, 64]⟩
abbrev S4x8192x32 : Shape := ⟨3, ![4, 8192, 32]⟩
abbrev S4x256x4x64 : Shape := ⟨4, ![4, 256, 4, 64]⟩
abbrev S4x256x32 : Shape := ⟨3, ![4, 256, 32]⟩
abbrev S4x8192x4x1x96 : Shape := ⟨5, ![4, 8192, 4, 1, 96]⟩
abbrev S4x8192x1x32 : Shape := ⟨4, ![4, 8192, 1, 32]⟩
abbrev S4x8192x4x32 : Shape := ⟨4, ![4, 8192, 4, 32]⟩
abbrev S4x256x1x32 : Shape := ⟨4, ![4, 256, 1, 32]⟩
abbrev S4x256x4x32 : Shape := ⟨4, ![4, 256, 4, 32]⟩
abbrev S4x256x4x96 : Shape := ⟨4, ![4, 256, 4, 96]⟩
abbrev S4x8448x4x96 : Shape := ⟨4, ![4, 8448, 4, 96]⟩
abbrev S4x8448x4x64 : Shape := ⟨4, ![4, 8448, 4, 64]⟩
abbrev S4x4x8448x8192x1 : Shape := ⟨5, ![4, 4, 8448, 8192, 1]⟩
abbrev S4x4x1x8192x8448 : Shape := ⟨5, ![4, 4, 1, 8192, 8448]⟩
abbrev S_ : Shape := ⟨0, ![]⟩
abbrev S4x4x1x8192 : Shape := ⟨4, ![4, 4, 1, 8192]⟩
abbrev S4x4x1x8192x1 : Shape := ⟨5, ![4, 4, 1, 8192, 1]⟩
abbrev S4x4x64x1x8192 : Shape := ⟨5, ![4, 4, 64, 1, 8192]⟩
abbrev S4x8192x4x1x64 : Shape := ⟨5, ![4, 8192, 4, 1, 64]⟩
abbrev S4x8192x256 : Shape := ⟨3, ![4, 8192, 256]⟩

abbrev nBuf : Space → Nat
  | .hbm => 39
  | .vmem => 0
  | .smem => 0
  | _ => 0

abbrev bufTy : (tb : Table) → Fin (tcTables nBuf tb) → BufTy
  | .hbm, ⟨0, _⟩ => ⟨S4x8192x4x96, .f32⟩
  | .hbm, ⟨1, _⟩ => ⟨S4x8192x4x64, .f32⟩
  | .hbm, ⟨2, _⟩ => ⟨S4x8192x32, .f32⟩
  | .hbm, ⟨3, _⟩ => ⟨S4x8192x4x64, .f32⟩
  | .hbm, ⟨4, _⟩ => ⟨S4x256x4x64, .f32⟩
  | .hbm, ⟨5, _⟩ => ⟨S4x256x32, .f32⟩
  | .hbm, ⟨6, _⟩ => ⟨S4x256x4x64, .f32⟩
  | .hbm, ⟨7, _⟩ => ⟨S4x8192x4x1x96, .f32⟩
  | .hbm, ⟨8, _⟩ => ⟨S4x8192x1x32, .f32⟩
  | .hbm, ⟨9, _⟩ => ⟨S4x8192x4x32, .f32⟩
  | .hbm, ⟨10, _⟩ => ⟨S4x8192x4x96, .f32⟩
  | .hbm, ⟨11, _⟩ => ⟨S4x256x1x32, .f32⟩
  | .hbm, ⟨12, _⟩ => ⟨S4x256x4x32, .f32⟩
  | .hbm, ⟨13, _⟩ => ⟨S4x256x4x96, .f32⟩
  | .hbm, ⟨14, _⟩ => ⟨S4x8448x4x96, .f32⟩
  | .hbm, ⟨15, _⟩ => ⟨S4x8448x4x64, .f32⟩
  | .hbm, ⟨16, _⟩ => ⟨S4x4x8448x8192x1, .f32⟩
  | .hbm, ⟨17, _⟩ => ⟨S4x4x1x8192x8448, .f32⟩
  | .hbm, ⟨18, _⟩ => ⟨S_, .f32⟩
  | .hbm, ⟨19, _⟩ => ⟨S4x4x1x8192x8448, .f32⟩
  | .hbm, ⟨20, _⟩ => ⟨S4x4x1x8192x8448, .f32⟩
  | .hbm, ⟨21, _⟩ => ⟨S_, .f32⟩
  | .hbm, ⟨22, _⟩ => ⟨S4x4x1x8192, .f32⟩
  | .hbm, ⟨23, _⟩ => ⟨S_, .f32⟩
  | .hbm, ⟨24, _⟩ => ⟨S4x4x1x8192, .f32⟩
  | .hbm, ⟨25, _⟩ => ⟨S4x4x1x8192, .f32⟩
  | .hbm, ⟨26, _⟩ => ⟨S4x4x1x8192x1, .f32⟩
  | .hbm, ⟨27, _⟩ => ⟨S4x4x1x8192x8448, .f32⟩
  | .hbm, ⟨28, _⟩ => ⟨S4x4x1x8192x8448, .f32⟩
  | .hbm, ⟨29, _⟩ => ⟨S4x4x1x8192x8448, .f32⟩
  | .hbm, ⟨30, _⟩ => ⟨S_, .f32⟩
  | .hbm, ⟨31, _⟩ => ⟨S4x4x1x8192, .f32⟩
  | .hbm, ⟨32, _⟩ => ⟨S4x4x1x8192x1, .f32⟩
  | .hbm, ⟨33, _⟩ => ⟨S4x4x1x8192x8448, .f32⟩
  | .hbm, ⟨34, _⟩ => ⟨S4x4x1x8192x8448, .f32⟩
  | .hbm, ⟨35, _⟩ => ⟨S4x4x64x1x8192, .f32⟩
  | .hbm, ⟨36, _⟩ => ⟨S4x8192x4x1x64, .f32⟩
  | .hbm, ⟨37, _⟩ => ⟨S4x8192x256, .f32⟩
  | .hbm, ⟨38, _⟩ => ⟨S4x8192x256, .bf16⟩
  | _, _ => ⟨S4x8192x4x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Proof.Spec.lean ====
/-
  One block of 512 queries of the attention kernel, as functions of the blocks it loads, for every float semantics:
  the scores of a block of keys, the running column maximum, the rescaled accumulator rows and the quotient the
  kernel stores. Two heads stand side by side in the 1024 columns.
-/
module

public import Idealize.ShloMosaic.Lib.Pipeline.FrameBody
public import Idealize.ShloMosaic.Lib.Tactic

@[expose] public section

set_option maxRecDepth 16384

noncomputable section

namespace Cert.Flash

open Idealize.ShloMosaic

variable {F : FTy → Type} [FloatOps F]

/-- `n` rows of 1024 columns. -/
abbrev Cols (n : Nat) : Shape := ⟨2, ![n, 1024]⟩
/-- One head's accumulator: 64 value rows, then the rows of ones. -/
abbrev Acc : Shape := ⟨2, ![80, 512]⟩
abbrev Acc1 : Shape := ⟨3, ![1, 80, 512]⟩
/-- Both heads' values of `w` tokens. -/
abbrev Vals (w : Nat) : Shape := ⟨3, ![2, 80, w]⟩

/-- The scores of `n` keys against the 1024 query columns. -/
def scores (n d : Nat) (k : FVec F ⟨2, ![n, d]⟩ .bf16) (q : FVec F ⟨2, ![1024, d]⟩ .bf16) : FVec F (Cols n) .f32 :=
  matmul (DotDims.transposedRhs n d 1024) none k q (constant (Cols n) .f32 0x00000000#32)

/-- What a block of `n` keys asks of its shapes. -/
structure Fits (n w : Nat) : Prop where
  red : (Cols n).Reduces [0] ⟨1, ![1024]⟩
  bc : (Cols 1).Broadcasts (Cols n)
  h0 : (Vals w).Slices ![0, 0, 0] ⟨3, ![1, 80, w]⟩
  h1 : (Vals w).Slices ![1, 0, 0] ⟨3, ![1, 80, w]⟩
  sc : (⟨3, ![1, 80, w]⟩ : Shape).ShapeCasts ⟨2, ![80, w]⟩
  p00 : (Cols n).Slices ![0, 0] ⟨2, ![w, 512]⟩
  p01 : (Cols n).Slices ![0, 512] ⟨2, ![w, 512]⟩
  c1 : (Cols n).ShapeCasts ⟨3, ![1, n, 1024]⟩
  c2 : (⟨3, ![1, n, 1024]⟩ : Shape).ShapeCasts (Cols n)

theorem fits1024 : Fits 1024 512 := by constructor <;> decide
theorem fits256 : Fits 256 256 := by constructor <;> decide

/-- Scores as they come back from the scratch, which keeps a leading unit axis. -/
def back {n w : Nat} (H : Fits n w) (s : FVec F (Cols n) .f32) : FVec F (Cols n) .f32 :=
  shapeCast (Cols n) (shapeCast ⟨3, ![1, n, 1024]⟩ s H.c1) H.c2

/-- The running maximum after a block of scores. -/
def nextMax {n w : Nat} (H : Fits n w) (s : FVec F (Cols n) .f32) (m : FVec F (Cols 1) .f32) : FVec F (Cols 1) .f32 :=
  maximumf m (shapeCast (Cols 1) (multiReduction .maximumf [0] ⟨1, ![1024]⟩ s 0xFF800000#32 H.red (.inl rfl) rfl) (by decide))

/-- The factor the accumulator is rescaled by. -/
def factor {n w : Nat} (H : Fits n w) (s : FVec F (Cols n) .f32) (m : FVec F (Cols 1) .f32) : FVec F (Cols 1) .f32 :=
  exp2 (subf m (nextMax H s m))

/-- The weights of a block of keys. -/
def weights {n w : Nat} (H : Fits n w) (s : FVec F (Cols n) .f32) (m : FVec F (Cols 1) .f32) : FVec F (Cols n) .bf16 :=
  truncf .bf16 (exp2 (subf s (broadcastTo (Cols n) (nextMax H s m) H.bc))) (by decide)

/-- One head's values, from `o`, times its weights, from row and column `r`. -/
def term {n w : Nat} (o : Fin 3 → Nat) (r : Fin 2 → Nat) (ho : (Vals w).Slices o ⟨3, ![1, 80, w]⟩)
    (hs : (⟨3, ![1, 80, w]⟩ : Shape).ShapeCasts ⟨2, ![80, w]⟩) (hr : (Cols n).Slices r ⟨2, ![w, 512]⟩)
    (v : FVec F (Vals w) .bf16) (p : FVec F (Cols n) .bf16) : FVec F Acc .f32 :=
  matmul (DotDims.plain 80 w 512) none (shapeCast ⟨2, ![80, w]⟩ (extractStridedSlice ⟨3, ![1, 80, w]⟩ o v ho) hs)
    (extractStridedSlice ⟨2, ![w, 512]⟩ r p hr) (constant Acc .f32 0x00000000#32)

/-- One head's accumulator, rescaled by its columns of the factor, and the new products added. -/
def grow (r : Fin 2 → Nat) (hr : (Cols 1).Slices r ⟨2, ![1, 512]⟩) (a : FVec F (Cols 1) .f32) (acc : FVec F Acc1 .f32)
    (pv : FVec F Acc .f32) : FVec F Acc1 .f32 :=
  shapeCast Acc1 (addf (mulf (broadcastTo Acc (extractStridedSlice ⟨2, ![1, 512]⟩ r a hr) (by decide))
    (shapeCast Acc acc (by decide))) pv) (by decide)

/-- The running maximum and the two heads' accumulators. -/
structure St (F : FTy → Type) where
  m : FVec F (Cols 1) .f32
  a0 : FVec F Acc1 .f32
  a1 : FVec F Acc1 .f32

/-- Before the first block of keys. -/
def start : St F where
  m := shapeCast (Cols 1) (broadcast (Cols 1) (Scalar.ofBits .f32 0xF149F2CA#32)) (by decide)
  a0 := broadcast Acc1 (Scalar.ofBits .f32 0x00000000#32)
  a1 := broadcast Acc1 (Scalar.ofBits .f32 0x00000000#32)

/-- A block of 1024 keys, its values in two blocks of 512. -/
def chunk (s : FVec F (Cols 1024) .f32) (u v : FVec F (Vals 512) .bf16) (x : St F) : St F where
  m := shapeCast (Cols 1) (nextMax fits1024 s x.m) (by decide)
  a0 := grow ![0, 0] (by decide) (factor fits1024 s x.m) x.a0
    (addf (term ![0, 0, 0] ![0, 0] fits1024.h0 fits1024.sc fits1024.p00 u (weights fits1024 s x.m))
      (term ![0, 0, 0] ![512, 0] fits1024.h0 fits1024.sc (by decide) v (weights fits1024 s x.m)))
  a1 := grow ![0, 512] (by decide) (factor fits1024 s x.m) x.a1
    (addf (term ![1, 0, 0] ![0, 512] fits1024.h1 fits1024.sc fits1024.p01 u (weights fits1024 s x.m))
      (term ![1, 0, 0] ![512, 512] fits1024.h1 fits1024.sc (by decide) v (weights fits1024 s x.m)))

/-- The 256 context keys. -/
def ctx (s : FVec F (Cols 256) .f32) (u : FVec F (Vals 256) .bf16) (x : St F) : St F where
  m := shapeCast (Cols 1) (nextMax fits256 s x.m) (by decide)
  a0 := grow ![0, 0] (by decide) (factor fits256 s x.m) x.a0
    (term ![0, 0, 0] ![0, 0] fits256.h0 fits256.sc fits256.p00 u (weights fits256 s x.m))
  a1 := grow ![0, 512] (by decide) (factor fits256 s x.m) x.a1
    (term ![1, 0, 0] ![0, 512] fits256.h1 fits256.sc fits256.p01 u (weights fits256 s x.m))

/-- The state after block `n` of eight blocks of 1024 keys, the first block's scores `s0` given. -/
def stateAt (s0 : FVec F (Cols 1024) .f32) (s : Fin 8 → FVec F (Cols 1024) .f32) (v : Fin 16 → FVec F (Vals 512) .bf16) :
    (n : Nat) → n < 8 → St F
  | 0, _ => chunk s0 (v 0) (v 1) start
  | n + 1, h => chunk (s ⟨n + 1, h⟩) (v ⟨2 * (n + 1), by omega⟩) (v ⟨2 * (n + 1) + 1, by omega⟩)
      (stateAt s0 s v n (by omega))

/-- One head's 64 value rows over its first row of ones. -/
def quot (a : FVec F Acc1 .f32) : FVec F ⟨2, ![64, 512]⟩ .f32 :=
  divf (extractStridedSlice ⟨2, ![64, 512]⟩ ![0, 0] (shapeCast Acc a (by decide)) (by decide))
    (broadcastTo ⟨2, ![64, 512]⟩ (extractStridedSlice ⟨2, ![1, 512]⟩ ![64, 0] (shapeCast Acc a (by decide)) (by decide)) (by decide))

/-- The block the kernel stores: the two heads' quotients, queries along the rows. -/
def result (x : St F) : FVec F ⟨3, ![1, 512, 128]⟩ .bf16 :=
  shapeCast ⟨3, ![1, 512, 128]⟩
    (truncf .bf16 (transpose ⟨2, ![512, 128]⟩ [1, 0]
      (concatenate ⟨2, ![128, 512]⟩ 0 [⟨⟨2, ![64, 512]⟩, quot x.a0⟩, ⟨⟨2, ![64, 512]⟩, quot x.a1⟩]
        (by decide : Shape.Concatenates [⟨2, ![64, 512]⟩, ⟨2, ![64, 512]⟩] ⟨2, ![128, 512]⟩ 0)) (by decide)) (by decide))
    (by decide)

/-- A whole query block. -/
def block (s0 : FVec F (Cols 1024) .f32) (s : Fin 8 → FVec F (Cols 1024) .f32) (sc : FVec F (Cols 256) .f32)
    (v : Fin 16 → FVec F (Vals 512) .bf16) (vc : FVec F (Vals 256) .bf16) : FVec F ⟨3, ![1, 512, 128]⟩ .bf16 :=
  result (ctx sc vc (stateAt s0 s v 7 (by omega)))

end Cert.Flash
-- ==== Proof.Trip.lean ====
/-
  One trip of the attention kernel's loop (two blocks of 512 queries), read as `Cert.Flash.block`: what it stores into
  the output window, and the scores of the next trip's first block that it leaves in the scratch.
-/
module

public import proofs.«01_k».proof.Proof.Spec
public import proofs.«01_k».proof.Proof.Gen.KernelIdeal.Loops
public import Idealize.ShloMosaic.Lib.Pipeline.ReadBack

@[expose] public section

set_option maxRecDepth 16384

noncomputable section

namespace Cert.KernelIdeal.Trip

open Cert.KernelIdeal Cert.KernelIdeal.Gen Cert.Flash
open Idealize.ShloMosaic Idealize.ShloMosaic.TcCoe Idealize.ShloMosaic.Tactic
open Idealize.SL Idealize.SL.Sem

variable {F : FTy → Type} [FloatOps F]

/-- A block of 512 queries of both heads, loaded at `off`. -/
def qAt (x2 : Vec F S1x2x8192x128 .bf16) (off : Fin 4 → Nat) (inb : ∀ a, off a + S1x2x512x128.size a ≤ S1x2x8192x128.size a) :
    FVec F ⟨2, ![1024, 128]⟩ .bf16 :=
  shapeCast S1024x128 (shapeCast S2x512x128
    (View.ld x2 (Rect.unit (s := S1x2x8192x128) off S1x2x512x128.size inb) : Vec F S1x2x512x128 .bf16)
    shapeCasts_S1x2x512x128_S2x512x128) shapeCasts_S2x512x128_S1024x128

theorem qAt_congr (x2 : Vec F S1x2x8192x128 .bf16) {off off' : Fin 4 → Nat} (h : off = off') (inb inb') :
    qAt x2 off inb = qAt x2 off' inb' := by subst h; rfl

theorem kInb (j : Fin 8) : ∀ a, (![0, 0, j.val, 0, 0] : Fin 5 → Nat) a + S1x1x1x1024x128.size a ≤ S1x1x8x1024x128.size a := by
  revert j; decide +kernel

/-- Block `j` of 1024 keys. -/
def kAt (x3 : Vec F S1x1x8x1024x128 .bf16) (j : Fin 8) : FVec F ⟨2, ![1024, 128]⟩ .bf16 :=
  shapeCast S1024x128 (View.ld x3 (Rect.unit (s := S1x1x8x1024x128) ![0, 0, j.val, 0, 0] S1x1x1x1024x128.size (kInb j)) :
    Vec F S1x1x1x1024x128 .bf16) shapeCasts_S1x1x1x1024x128_S1024x128

theorem vInb (u : Fin 16) : ∀ a, (![0, 0, u.val, 0, 0, 0] : Fin 6 → Nat) a + S1x1x1x2x80x512.size a ≤ S1x1x16x2x80x512.size a := by
  revert u; decide +kernel

/-- Block `u` of 512 values. -/
def vAt (x4 : Vec F S1x1x16x2x80x512 .bf16) (u : Fin 16) : FVec F (Vals 512) .bf16 :=
  shapeCast S2x80x512 (View.ld x4 (Rect.unit (s := S1x1x16x2x80x512) ![0, 0, u.val, 0, 0, 0] S1x1x1x2x80x512.size (vInb u)) :
    Vec F S1x1x1x2x80x512 .bf16) shapeCasts_S1x1x1x2x80x512_S2x80x512

/-- The context keys and values. -/
def kcAt (x5 : Vec F S1x1x1x256x128 .bf16) : FVec F ⟨2, ![256, 128]⟩ .bf16 :=
  shapeCast S256x128 (View.ld x5 (Rect.unit (s := S1x1x1x256x128) ![0, 0, 0, 0, 0] S1x1x1x256x128.size (by decide)) :
    Vec F S1x1x1x256x128 .bf16) shapeCasts_S1x1x1x256x128_S256x128

def vcAt (x6 : Vec F S1x1x1x2x80x256 .bf16) : FVec F (Vals 256) .bf16 :=
  shapeCast S2x80x256 (View.ld x6 (Rect.unit (s := S1x1x1x2x80x256) ![0, 0, 0, 0, 0, 0] S1x1x1x2x80x256.size (by decide)) :
    Vec F S1x1x1x2x80x256 .bf16) shapeCasts_S1x1x1x2x80x256_S2x80x256

/-- The state after block `n` of the keys, for the queries `q`, the first block's scores given. -/
def stOf (x3 : Vec F S1x1x8x1024x128 .bf16) (x4 : Vec F S1x1x16x2x80x512 .bf16) (s0 : FVec F (Cols 1024) .f32)
    (q : FVec F ⟨2, ![1024, 128]⟩ .bf16) (n : Nat) (h : n < 8) : St F :=
  stateAt s0 (fun j => back fits1024 (scores 1024 128 (kAt x3 j) q)) (vAt x4) n h

/-- After the context keys. -/
def endOf (x3 : Vec F S1x1x8x1024x128 .bf16) (x4 : Vec F S1x1x16x2x80x512 .bf16) (x5 : Vec F S1x1x1x256x128 .bf16)
    (x6 : Vec F S1x1x1x2x80x256 .bf16) (s0 : FVec F (Cols 1024) .f32) (q : FVec F ⟨2, ![1024, 128]⟩ .bf16) : St F :=
  ctx (back fits256 (scores 256 128 (kcAt x5) q)) (vcAt x6) (stOf x3 x4 s0 q 7 (by omega))

/-- The scores' scratch, its first half. -/
abbrev slot0 : Rect S2x1024x1024 :=
  Rect.unit (s := S2x1024x1024) ![0, 0, 0] S1x1024x1024.size inb_S2x1024x1024_S1x1024x1024_0_0_0

section
variable (𝒱 : Variants) (c : Dev nD) (bd : Option 𝒱.V) (i : grid0.Coords) (arg2 : Memref sig .tc .vmem S1x2x8192x128 .bf16) (harg2 : arg2.IsWhole) (arg3 : Memref sig .tc .vmem S1x1x8x1024x128 .bf16) (harg3 : arg3.IsWhole) (arg4 : Memref sig .tc .vmem S1x1x16x2x80x512 .bf16) (harg4 : arg4.IsWhole) (arg5 : Memref sig .tc .vmem S1x1x1x256x128 .bf16) (harg5 : arg5.IsWhole) (arg6 : Memref sig .tc .vmem S1x1x1x2x80x256 .bf16) (harg6 : arg6.IsWhole) (arg7 : Memref sig .tc .vmem S1x8192x128 .bf16) (harg7 : arg7.IsWhole) (arg8 : Memref sig .tc .vmem S2x80x512 .f32) (harg8 : arg8.IsWhole) (arg9 : Memref sig .tc .vmem S1x1024 .f32) (harg9 : arg9.IsWhole) (arg10 : Memref sig .tc .vmem S2x1024x1024 .f32) (harg10 : arg10.IsWhole)
  (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty)
  (k : Fin k0_t1_loop.trips) (f7 : BufTy.Contents (Elt F) arg7.view.ty) (f8 : BufTy.Contents (Elt F) arg8.view.ty) (f9 : BufTy.Contents (Elt F) arg9.view.ty) (f10 : BufTy.Contents (Elt F) arg10.view.ty)

theorem w_v39 : trip_k0_t1.sl.v39 (F := F) arg9 = (start : St F).m := by
  unfold trip_k0_t1.sl.v39
  simp (disch := decide) only [trip_k0_t1.sl.HW_arg9_1, ↓ View.readCov_skip, ↓ View.readCov_cons_toLoadRect, ↓ View.readCov_fill]
  rfl

theorem w_v59 : trip_k0_t1.sl.v59 (F := F) arg8 = (start : St F).a0 := by
  unfold trip_k0_t1.sl.v59
  simp (disch := decide) only [trip_k0_t1.sl.HW_arg8_1, ↓ View.readCov_skip, ↓ View.readCov_cons_toLoadRect, ↓ View.readCov_fill]
  rfl

theorem w_v77 : trip_k0_t1.sl.v77 (F := F) arg4 arg8 arg9 arg10 X4 f10 = (start : St F).a1 := by
  unfold trip_k0_t1.sl.v77
  simp (disch := decide) only [trip_k0_t1.sl.HW_arg8_2, trip_k0_t1.sl.HW_arg8_1, ↓ View.readCov_skip, ↓ View.readCov_cons_toLoadRect, ↓ View.readCov_fill]
  try simp only [trip_k0_t1.sl.r_1, trip_k0_t1.sl.r_2, w_v39, w_v59]
  rfl

theorem w_v94 : trip_k0_t1.sl.v94 (F := F) arg2 arg3 arg10 X2 X3 k = shapeCast S1x1024x1024 (scores 1024 128 (kAt (arg3.view.read (Elt F) X3) 1) (qAt (arg2.view.read (Elt F) X2) (k0_off1 k) (k0_off1_inb k))) shapeCasts_S1024x1024_S1x1024x1024 := by
  unfold trip_k0_t1.sl.v94
  simp (disch := decide) only [trip_k0_t1.sl.HW_arg10_2, ↓ View.readCov_skip, ↓ View.readCov_cons_toLoadRect, ↓ View.readCov_fill]
  try simp only [trip_k0_t1.sl.r]
  rfl

theorem w_v100 : trip_k0_t1.sl.v100 (F := F) arg9 arg10 f10 = ((stOf (arg3.view.read (Elt F) X3) (arg4.view.read (Elt F) X4) (shapeCast S1024x1024 (arg10.view.readAt (Elt F) slot0.toLoadRect f10 : Vec F S1x1024x1024 .f32) shapeCasts_S1x1024x1024_S1024x1024) (qAt (arg2.view.read (Elt F) X2) (k0_off1 k) (k0_off1_inb k)) 0 (by omega)) : St F).m := by
  unfold trip_k0_t1.sl.v100
  simp (disch := decide) only [trip_k0_t1.sl.HW_arg9_2, ↓ View.readCov_skip, ↓ View.readCov_cons_toLoadRect, ↓ View.readCov_fill]
  try simp only [trip_k0_t1.sl.r_3, trip_k0_t1.sl.r_1, w_v39]
  rfl

theorem w_v120 : trip_k0_t1.sl.v120 (F := F) arg4 arg8 arg9 arg10 X4 f10 = ((stOf (arg3.view.read (Elt F) X3) (arg4.view.read (Elt F) X4) (shapeCast S1024x1024 (arg10.view.readAt (Elt F) slot0.toLoadRect f10 : Vec F S1x1024x1024 .f32) shapeCasts_S1x1024x1024_S1024x1024) (qAt (arg2.view.read (Elt F) X2) (k0_off1 k) (k0_off1_inb k)) 0 (by omega)) : St F).a0 := by
  unfold trip_k0_t1.sl.v120
  simp (disch := decide) only [trip_k0_t1.sl.HW_arg8_3, trip_k0_t1.sl.HW_arg8_2, ↓ View.readCov_skip, ↓ View.readCov_cons_toLoadRect, ↓ View.readCov_fill]
  try simp only [trip_k0_t1.sl.r_1, trip_k0_t1.sl.r_2, trip_k0_t1.sl.r_4, trip_k0_t1.sl.r_5, w_v39, w_v59, w_v77]
  rfl

theorem w_v138 : trip_k0_t1.sl.v138 (F := F) arg2 arg3 arg4 arg8 arg9 arg10 X2 X3 X4 k f10 = ((stOf (arg3.view.read (Elt F) X3) (arg4.view.read (Elt F) X4) (shapeCast S1024x1024 (arg10.view.readAt (Elt F) slot0.toLoadRect f10 : Vec F S1x1024x1024 .f32) shapeCasts_S1x1024x1024_S1024x1024) (qAt (arg2.view.read (Elt F) X2) (k0_off1 k) (k0_off1_inb k)) 0 (by omega)) : St F).a1 := by
  unfold trip_k0_t1.sl.v138
  simp (disch := decide) only [trip_k0_t1.sl.HW_arg8_4, trip_k0_t1.sl.HW_arg8_3, ↓ View.readCov_skip, ↓ View.readCov_cons_toLoadRect, ↓ View.readCov_fill]
  try simp only [trip_k0_t1.sl.r_4, trip_k0_t1.sl.r_5, trip_k0_t1.sl.r_1, trip_k0_t1.sl.r_2, trip_k0_t1.sl.r_6, trip_k0_t1.sl.r_7, trip_k0_t1.sl.r_8, w_v39, w_v77, w_v94, w_v100 (arg2 := arg2) (arg3 := arg3) (arg4 := arg4) (k := k) (X2 := X2) (X3 := X3) (X4 := X4), w_v120 (arg2 := arg2) (arg3 := arg3) (k := k) (X2 := X2) (X3 := X3)]
  rfl

theorem w_v155 : trip_k0_t1.sl.v155 (F := F) arg2 arg3 arg10 X2 X3 k = shapeCast S1x1024x1024 (scores 1024 128 (kAt (arg3.view.read (Elt F) X3) 2) (qAt (arg2.view.read (Elt F) X2) (k0_off1 k) (k0_off1_inb k))) shapeCasts_S1024x1024_S1x1024x1024 := by
  unfold trip_k0_t1.sl.v155
  simp (disch := decide) only [trip_k0_t1.sl.HW_arg10_3, trip_k0_t1.sl.HW_arg10_2, ↓ View.readCov_skip, ↓ View.readCov_cons_toLoadRect, ↓ View.readCov_fill]
  try simp only [trip_k0_t1.sl.r]
  rfl

theorem w_v161 : trip_k0_t1.sl.v161 (F := F) arg2 arg3 arg9 arg10 X2 X3 k f10 = ((stOf (arg3.view.read (Elt F) X3) (arg4.view.read (Elt F) X4) (shapeCast S1024x1024 (arg10.view.readAt (Elt F) slot0.toLoadRect f10 : Vec F S1x1024x1024 .f32) shapeCasts_S1x1024x1024_S1024x1024) (qAt (arg2.view.read (Elt F) X2) (k0_off1 k) (k0_off1_inb k)) 1 (by omega)) : St F).m := by
  unfold trip_k0_t1.sl.v161
  simp (disch := decide) only [trip_k0_t1.sl.HW_arg9_3, ↓ View.readCov_skip, ↓ View.readCov_cons_toLoadRect, ↓ View.readCov_fill]
  try simp only [trip_k0_t1.sl.r_9, trip_k0_t1.sl.r_6, w_v94, w_v100 (arg2 := arg2) (arg3 := arg3) (arg4 := arg4) (k := k) (X2 := X2) (X3 := X3) (X4 := X4)]
  rfl

theorem w_v181 : trip_k0_t1.sl.v181 (F := F) arg2 arg3 arg4 arg8 arg9 arg10 X2 X3 X4 k f10 = ((stOf (arg3.view.read (Elt F) X3) (arg4.view.read (Elt F) X4) (shapeCast S1024x1024 (arg10.view.readAt (Elt F) slot0.toLoadRect f10 : Vec F S1x1024x1024 .f32) shapeCasts_S1x1024x1024_S1024x1024) (qAt (arg2.view.read (Elt F) X2) (k0_off1 k) (k0_off1_inb k)) 1 (by omega)) : St F).a0 := by
  unfold trip_k0_t1.sl.v181
  simp (disch := decide) only [trip_k0_t1.sl.HW_arg8_5, trip_k0_t1.sl.HW_arg8_4, ↓ View.readCov_skip, ↓ View.readCov_cons_toLoadRect, ↓ View.readCov_fill]
  try simp only [trip_k0_t1.sl.r_6, trip_k0_t1.sl.r_7, trip_k0_t1.sl.r_8, trip_k0_t1.sl.r_10, w_v94, w_v100 (arg2 := arg2) (arg3 := arg3) (arg4 := arg4) (k := k) (X2 := X2) (X3 := X3) (X4 := X4), w_v120 (arg2 := arg2) (arg3 := arg3) (k := k) (X2 := X2) (X3 := X3), w_v138]
  rfl

theorem w_v199 : trip_k0_t1.sl.v199 (F := F) arg2 arg3 arg4 arg8 arg9 arg10 X2 X3 X4 k f10 = ((stOf (arg3.view.read (Elt F) X3) (arg4.view.read (Elt F) X4) (shapeCast S1024x1024 (arg10.view.readAt (Elt F) slot0.toLoadRect f10 : Vec F S1x1024x1024 .f32) shapeCasts_S1x1024x1024_S1024x1024) (qAt (arg2.view.read (Elt F) X2) (k0_off1 k) (k0_off1_inb k)) 1 (by omega)) : St F).a1 := by
  unfold trip_k0_t1.sl.v199
  simp (disch := decide) only [trip_k0_t1.sl.HW_arg8_6, trip_k0_t1.sl.HW_arg8_5, ↓ View.readCov_skip, ↓ View.readCov_cons_toLoadRect, ↓ View.readCov_fill]
  try simp only [trip_k0_t1.sl.r_10, trip_k0_t1.sl.r_6, trip_k0_t1.sl.r_7, trip_k0_t1.sl.r_8, trip_k0_t1.sl.r_11, trip_k0_t1.sl.r_12, trip_k0_t1.sl.r_14, trip_k0_t1.sl.r_15, w_v94, w_v100 (arg2 := arg2) (arg3 := arg3) (arg4 := arg4) (k := k) (X2 := X2) (X3 := X3) (X4 := X4), w_v138, w_v155, w_v161 (arg4 := arg4) (X4 := X4), w_v181]
  rfl

theorem w_v216 : trip_k0_t1.sl.v216 (F := F) arg2 arg3 arg10 X2 X3 k = shapeCast S1x1024x1024 (scores 1024 128 (kAt (arg3.view.read (Elt F) X3) 3) (qAt (arg2.view.read (Elt F) X2) (k0_off1 k) (k0_off1_inb k))) shapeCasts_S1024x1024_S1x1024x1024 := by
  unfold trip_k0_t1.sl.v216
  simp (disch := decide) only [trip_k0_t1.sl.HW_arg10_4, trip_k0_t1.sl.HW_arg10_3, ↓ View.readCov_skip, ↓ View.readCov_cons_toLoadRect, ↓ View.readCov_fill]
  try simp only [trip_k0_t1.sl.r]
  rfl

theorem w_v222 : trip_k0_t1.sl.v222 (F := F) arg2 arg3 arg9 arg10 X2 X3 k f10 = ((stOf (arg3.view.read (Elt F) X3) (arg4.view.read (Elt F) X4) (shapeCast S1024x1024 (arg10.view.readAt (Elt F) slot0.toLoadRect f10 : Vec F S1x1024x1024 .f32) shapeCasts_S1x1024x1024_S1024x1024) (qAt (arg2.view.read (Elt F) X2) (k0_off1 k) (k0_off1_inb k)) 2 (by omega)) : St F).m := by
  unfold trip_k0_t1.sl.v222
  simp (disch := decide) only [trip_k0_t1.sl.HW_arg9_4, ↓ View.readCov_skip, ↓ View.readCov_cons_toLoadRect, ↓ View.readCov_fill]
  try simp only [trip_k0_t1.sl.r_13, w_v155, w_v161 (arg4 := arg4) (X4 := X4)]
  rfl

theorem w_v242 : trip_k0_t1.sl.v242 (F := F) arg2 arg3 arg4 arg8 arg9 arg10 X2 X3 X4 k f10 = ((stOf (arg3.view.read (Elt F) X3) (arg4.view.read (Elt F) X4) (shapeCast S1024x1024 (arg10.view.readAt (Elt F) slot0.toLoadRect f10 : Vec F S1x1024x1024 .f32) shapeCasts_S1x1024x1024_S1024x1024) (qAt (arg2.view.read (Elt F) X2) (k0_off1 k) (k0_off1_inb k)) 2 (by omega)) : St F).a0 := by
  unfold trip_k0_t1.sl.v242
  simp (disch := decide) only [trip_k0_t1.sl.HW_arg8_7, trip_k0_t1.sl.HW_arg8_6, ↓ View.readCov_skip, ↓ View.readCov_cons_toLoadRect, ↓ View.readCov_fill]
  try simp only [trip_k0_t1.sl.r_11, trip_k0_t1.sl.r_12, trip_k0_t1.sl.r_14, trip_k0_t1.sl.r_15, w_v155, w_v161 (arg4 := arg4) (X4 := X4), w_v181, w_v199]
  rfl

theorem w_v260 : trip_k0_t1.sl.v260 (F := F) arg2 arg3 arg4 arg8 arg9 arg10 X2 X3 X4 k f10 = ((stOf (arg3.view.read (Elt F) X3) (arg4.view.read (Elt F) X4) (shapeCast S1024x1024 (arg10.view.readAt (Elt F) slot0.toLoadRect f10 : Vec F S1x1024x1024 .f32) shapeCasts_S1x1024x1024_S1024x1024) (qAt (arg2.view.read (Elt F) X2) (k0_off1 k) (k0_off1_inb k)) 2 (by omega)) : St F).a1 := by
  unfold trip_k0_t1.sl.v260
  simp (disch := decide) only [trip_k0_t1.sl.HW_arg8_8, trip_k0_t1.sl.HW_arg8_7, ↓ View.readCov_skip, ↓ View.readCov_cons_toLoadRect, ↓ View.readCov_fill]
  try simp only [trip_k0_t1.sl.r_11, trip_k0_t1.sl.r_12, trip_k0_t1.sl.r_14, trip_k0_t1.sl.r_15, trip_k0_t1.sl.r_19, trip_k0_t1.sl.r_21, trip_k0_t1.sl.r_22, w_v155, w_v161 (arg4 := arg4) (X4 := X4), w_v199, w_v216, w_v222 (arg4 := arg4) (X4 := X4), w_v242]
  rfl

theorem w_v277 : trip_k0_t1.sl.v277 (F := F) arg2 arg3 arg10 X2 X3 k = shapeCast S1x1024x1024 (scores 1024 128 (kAt (arg3.view.read (Elt F) X3) 4) (qAt (arg2.view.read (Elt F) X2) (k0_off1 k) (k0_off1_inb k))) shapeCasts_S1024x1024_S1x1024x1024 := by
  unfold trip_k0_t1.sl.v277
  simp (disch := decide) only [trip_k0_t1.sl.HW_arg10_5, trip_k0_t1.sl.HW_arg10_4, ↓ View.readCov_skip, ↓ View.readCov_cons_toLoadRect, ↓ View.readCov_fill]
  try simp only [trip_k0_t1.sl.r, trip_k0_t1.sl.r_23]
  rfl

theorem w_v283 : trip_k0_t1.sl.v283 (F := F) arg2 arg3 arg9 arg10 X2 X3 k f10 = ((stOf (arg3.view.read (Elt F) X3) (arg4.view.read (Elt F) X4) (shapeCast S1024x1024 (arg10.view.readAt (Elt F) slot0.toLoadRect f10 : Vec F S1x1024x1024 .f32) shapeCasts_S1x1024x1024_S1024x1024) (qAt (arg2.view.read (Elt F) X2) (k0_off1 k) (k0_off1_inb k)) 3 (by omega)) : St F).m := by
  unfold trip_k0_t1.sl.v283
  simp (disch := decide) only [trip_k0_t1.sl.HW_arg9_5, ↓ View.readCov_skip, ↓ View.readCov_cons_toLoadRect, ↓ View.readCov_fill]
  try simp only [trip_k0_t1.sl.r_18, w_v216, w_v222 (arg4 := arg4) (X4 := X4)]
  rfl

theorem w_v303 : trip_k0_t1.sl.v303 (F := F) arg2 arg3 arg4 arg8 arg9 arg10 X2 X3 X4 k f10 = ((stOf (arg3.view.read (Elt F) X3) (arg4.view.read (Elt F) X4) (shapeCast S1024x1024 (arg10.view.readAt (Elt F) slot0.toLoadRect f10 : Vec F S1x1024x1024 .f32) shapeCasts_S1x1024x1024_S1024x1024) (qAt (arg2.view.read (Elt F) X2) (k0_off1 k) (k0_off1_inb k)) 3 (by omega)) : St F).a0 := by
  unfold trip_k0_t1.sl.v303
  simp (disch := decide) only [trip_k0_t1.sl.HW_arg8_9, trip_k0_t1.sl.HW_arg8_8, ↓ View.readCov_skip, ↓ View.readCov_cons_toLoadRect, ↓ View.readCov_fill]
  try simp only [trip_k0_t1.sl.r_19, trip_k0_t1.sl.r_21, trip_k0_t1.sl.r_22, trip_k0_t1.sl.r_16, trip_k0_t1.sl.r_17, trip_k0_t1.sl.r_20, w_v216, w_v222 (arg4 := arg4) (X4 := X4), w_v242, w_v260]
  rfl

theorem w_v321 : trip_k0_t1.sl.v321 (F := F) arg2 arg3 arg4 arg8 arg9 arg10 X2 X3 X4 k f10 = ((stOf (arg3.view.read (Elt F) X3) (arg4.view.read (Elt F) X4) (shapeCast S1024x1024 (arg10.view.readAt (Elt F) slot0.toLoadRect f10 : Vec F S1x1024x1024 .f32) shapeCasts_S1x1024x1024_S1024x1024) (qAt (arg2.view.read (Elt F) X2) (k0_off1 k) (k0_off1_inb k)) 3 (by omega)) : St F).a1 := by
  unfold trip_k0_t1.sl.v321
  simp (disch := decide) only [trip_k0_t1.sl.HW_arg8_10, trip_k0_t1.sl.HW_arg8_9, ↓ View.readCov_skip, ↓ View.readCov_cons_toLoadRect, ↓ View.readCov_fill]
  try simp only [trip_k0_t1.sl.r_16, trip_k0_t1.sl.r_17, trip_k0_t1.sl.r_19, trip_k0_t1.sl.r_20, trip_k0_t1.sl.r_29, w_v216, w_v222 (arg4 := arg4) (X4 := X4), w_v260, w_v277, w_v283 (arg4 := arg4) (X4 := X4), w_v303]
  rfl

theorem w_v : trip_k0_t1.sl.v (F := F) arg2 arg3 arg10 X2 X3 k = shapeCast S1x1024x1024 (scores 1024 128 (kAt (arg3.view.read (Elt F) X3) 5) (qAt (arg2.view.read (Elt F) X2) (k0_off1 k) (k0_off1_inb k))) shapeCasts_S1024x1024_S1x1024x1024 := by
  unfold trip_k0_t1.sl.v
  simp (disch := decide) only [trip_k0_t1.sl.HW_arg10_6, trip_k0_t1.sl.HW_arg10_5, ↓ View.readCov_skip, ↓ View.readCov_cons_toLoadRect, ↓ View.readCov_fill]
  try simp only [trip_k0_t1.sl.r_23, trip_k0_t1.sl.r]
  rfl

theorem w_v344 : trip_k0_t1.sl.v344 (F := F) arg2 arg3 arg9 arg10 X2 X3 k f10 = ((stOf (arg3.view.read (Elt F) X3) (arg4.view.read (Elt F) X4) (shapeCast S1024x1024 (arg10.view.readAt (Elt F) slot0.toLoadRect f10 : Vec F S1x1024x1024 .f32) shapeCasts_S1x1024x1024_S1024x1024) (qAt (arg2.view.read (Elt F) X2) (k0_off1 k) (k0_off1_inb k)) 4 (by omega)) : St F).m := by
  unfold trip_k0_t1.sl.v344
  simp (disch := decide) only [trip_k0_t1.sl.HW_arg9_6, ↓ View.readCov_skip, ↓ View.readCov_cons_toLoadRect, ↓ View.readCov_fill]
  try simp only [trip_k0_t1.sl.r_26, w_v277, w_v283 (arg4 := arg4) (X4 := X4)]
  rfl

theorem w_v364 : trip_k0_t1.sl.v364 (F := F) arg2 arg3 arg4 arg8 arg9 arg10 X2 X3 X4 k f10 = ((stOf (arg3.view.read (Elt F) X3) (arg4.view.read (Elt F) X4) (shapeCast S1024x1024 (arg10.view.readAt (Elt F) slot0.toLoadRect f10 : Vec F S1x1024x1024 .f32) shapeCasts_S1x1024x1024_S1024x1024) (qAt (arg2.view.read (Elt F) X2) (k0_off1 k) (k0_off1_inb k)) 4 (by omega)) : St F).a0 := by
  unfold trip_k0_t1.sl.v364
  simp (disch := decide) only [trip_k0_t1.sl.HW_arg8_11, trip_k0_t1.sl.HW_arg8_10, ↓ View.readCov_skip, ↓ View.readCov_cons_toLoadRect, ↓ View.readCov_fill]
  try simp only [trip_k0_t1.sl.r_29, trip_k0_t1.sl.r_24, trip_k0_t1.sl.r_25, trip_k0_t1.sl.r_27, trip_k0_t1.sl.r_28, w_v277, w_v283 (arg4 := arg4) (X4 := X4), w_v303, w_v321]
  rfl

theorem w_v382 : trip_k0_t1.sl.v382 (F := F) arg2 arg3 arg4 arg8 arg9 arg10 X2 X3 X4 k f10 = ((stOf (arg3.view.read (Elt F) X3) (arg4.view.read (Elt F) X4) (shapeCast S1024x1024 (arg10.view.readAt (Elt F) slot0.toLoadRect f10 : Vec F S1x1024x1024 .f32) shapeCasts_S1x1024x1024_S1024x1024) (qAt (arg2.view.read (Elt F) X2) (k0_off1 k) (k0_off1_inb k)) 4 (by omega)) : St F).a1 := by
  unfold trip_k0_t1.sl.v382
  simp (disch := decide) only [trip_k0_t1.sl.HW_arg8_12, trip_k0_t1.sl.HW_arg8_11, ↓ View.readCov_skip, ↓ View.readCov_cons_toLoadRect, ↓ View.readCov_fill]
  try simp only [trip_k0_t1.sl.r_24, trip_k0_t1.sl.r_25, trip_k0_t1.sl.r_27, trip_k0_t1.sl.r_28, w_v277, w_v283 (arg4 := arg4) (X4 := X4), w_v321, w_v, w_v344 (arg4 := arg4) (X4 := X4), w_v364]
  rfl

theorem w_v399 : trip_k0_t1.sl.v399 (F := F) arg2 arg3 arg10 X2 X3 k = shapeCast S1x1024x1024 (scores 1024 128 (kAt (arg3.view.read (Elt F) X3) 6) (qAt (arg2.view.read (Elt F) X2) (k0_off1 k) (k0_off1_inb k))) shapeCasts_S1024x1024_S1x1024x1024 := by
  unfold trip_k0_t1.sl.v399
  simp (disch := decide) only [trip_k0_t1.sl.HW_arg10_7, trip_k0_t1.sl.HW_arg10_6, ↓ View.readCov_skip, ↓ View.readCov_cons_toLoadRect, ↓ View.readCov_fill]
  try simp only [trip_k0_t1.sl.r]
  rfl

theorem w_v405 : trip_k0_t1.sl.v405 (F := F) arg2 arg3 arg9 arg10 X2 X3 k f10 = ((stOf (arg3.view.read (Elt F) X3) (arg4.view.read (Elt F) X4) (shapeCast S1024x1024 (arg10.view.readAt (Elt F) slot0.toLoadRect f10 : Vec F S1x1024x1024 .f32) shapeCasts_S1x1024x1024_S1024x1024) (qAt (arg2.view.read (Elt F) X2) (k0_off1 k) (k0_off1_inb k)) 5 (by omega)) : St F).m := by
  unfold trip_k0_t1.sl.v405
  simp (disch := decide) only [trip_k0_t1.sl.HW_arg9_7, ↓ View.readCov_skip, ↓ View.readCov_cons_toLoadRect, ↓ View.readCov_fill]
  try simp only [trip_k0_t1.sl.r_31, w_v, w_v344 (arg4 := arg4) (X4 := X4)]
  rfl

theorem w_v425 : trip_k0_t1.sl.v425 (F := F) arg2 arg3 arg4 arg8 arg9 arg10 X2 X3 X4 k f10 = ((stOf (arg3.view.read (Elt F) X3) (arg4.view.read (Elt F) X4) (shapeCast S1024x1024 (arg10.view.readAt (Elt F) slot0.toLoadRect f10 : Vec F S1x1024x1024 .f32) shapeCasts_S1x1024x1024_S1024x1024) (qAt (arg2.view.read (Elt F) X2) (k0_off1 k) (k0_off1_inb k)) 5 (by omega)) : St F).a0 := by
  unfold trip_k0_t1.sl.v425
  simp (disch := decide) only [trip_k0_t1.sl.HW_arg8_13, trip_k0_t1.sl.HW_arg8_12, ↓ View.readCov_skip, ↓ View.readCov_cons_toLoadRect, ↓ View.readCov_fill]
  try simp only [trip_k0_t1.sl.r_30, trip_k0_t1.sl.r_32, trip_k0_t1.sl.r_33, trip_k0_t1.sl.r_34, trip_k0_t1.sl.r_35, w_v, w_v344 (arg4 := arg4) (X4 := X4), w_v364, w_v382]
  rfl

theorem w_v443 : trip_k0_t1.sl.v443 (F := F) arg2 arg3 arg4 arg8 arg9 arg10 X2 X3 X4 k f10 = ((stOf (arg3.view.read (Elt F) X3) (arg4.view.read (Elt F) X4) (shapeCast S1024x1024 (arg10.view.readAt (Elt F) slot0.toLoadRect f10 : Vec F S1x1024x1024 .f32) shapeCasts_S1x1024x1024_S1024x1024) (qAt (arg2.view.read (Elt F) X2) (k0_off1 k) (k0_off1_inb k)) 5 (by omega)) : St F).a1 := by
  unfold trip_k0_t1.sl.v443
  simp (disch := decide) only [trip_k0_t1.sl.HW_arg8_14, trip_k0_t1.sl.HW_arg8_13, ↓ View.readCov_skip, ↓ View.readCov_cons_toLoadRect, ↓ View.readCov_fill]
  try simp only [trip_k0_t1.sl.r_30, trip_k0_t1.sl.r_32, trip_k0_t1.sl.r_33, trip_k0_t1.sl.r_34, trip_k0_t1.sl.r_35, trip_k0_t1.sl.r_36, trip_k0_t1.sl.r_37, w_v, w_v344 (arg4 := arg4) (X4 := X4), w_v382, w_v399, w_v405 (arg4 := arg4) (X4 := X4), w_v425]
  rfl

theorem w_v460 : trip_k0_t1.sl.v460 (F := F) arg2 arg3 arg5 arg10 X2 X3 X5 k = shapeCast S1x1024x1024 (scores 1024 128 (kAt (arg3.view.read (Elt F) X3) 7) (qAt (arg2.view.read (Elt F) X2) (k0_off1 k) (k0_off1_inb k))) shapeCasts_S1024x1024_S1x1024x1024 := by
  unfold trip_k0_t1.sl.v460
  simp (disch := decide) only [trip_k0_t1.sl.HW_arg10_8, trip_k0_t1.sl.HW_arg10_7, ↓ View.readCov_skip, ↓ View.readCov_cons_toLoadRect, ↓ View.readCov_fill]
  try simp only [trip_k0_t1.sl.r]
  rfl

theorem w_v466 : trip_k0_t1.sl.v466 (F := F) arg2 arg3 arg9 arg10 X2 X3 k f10 = ((stOf (arg3.view.read (Elt F) X3) (arg4.view.read (Elt F) X4) (shapeCast S1024x1024 (arg10.view.readAt (Elt F) slot0.toLoadRect f10 : Vec F S1x1024x1024 .f32) shapeCasts_S1x1024x1024_S1024x1024) (qAt (arg2.view.read (Elt F) X2) (k0_off1 k) (k0_off1_inb k)) 6 (by omega)) : St F).m := by
  unfold trip_k0_t1.sl.v466
  simp (disch := decide) only [trip_k0_t1.sl.HW_arg9_8, ↓ View.readCov_skip, ↓ View.readCov_cons_toLoadRect, ↓ View.readCov_fill]
  try simp only [trip_k0_t1.sl.r_38, trip_k0_t1.sl.r_36, w_v399, w_v405 (arg4 := arg4) (X4 := X4)]
  rfl

theorem w_v486 : trip_k0_t1.sl.v486 (F := F) arg2 arg3 arg4 arg8 arg9 arg10 X2 X3 X4 k f10 = ((stOf (arg3.view.read (Elt F) X3) (arg4.view.read (Elt F) X4) (shapeCast S1024x1024 (arg10.view.readAt (Elt F) slot0.toLoadRect f10 : Vec F S1x1024x1024 .f32) shapeCasts_S1x1024x1024_S1024x1024) (qAt (arg2.view.read (Elt F) X2) (k0_off1 k) (k0_off1_inb k)) 6 (by omega)) : St F).a0 := by
  unfold trip_k0_t1.sl.v486
  simp (disch := decide) only [trip_k0_t1.sl.HW_arg8_15, trip_k0_t1.sl.HW_arg8_14, ↓ View.readCov_skip, ↓ View.readCov_cons_toLoadRect, ↓ View.readCov_fill]
  try simp only [trip_k0_t1.sl.r_36, trip_k0_t1.sl.r_37, trip_k0_t1.sl.r_39, trip_k0_t1.sl.r_40, w_v399, w_v405 (arg4 := arg4) (X4 := X4), w_v425, w_v443]
  rfl

theorem w_v504 : trip_k0_t1.sl.v504 (F := F) arg2 arg3 arg4 arg5 arg8 arg9 arg10 X2 X3 X4 X5 k f10 = ((stOf (arg3.view.read (Elt F) X3) (arg4.view.read (Elt F) X4) (shapeCast S1024x1024 (arg10.view.readAt (Elt F) slot0.toLoadRect f10 : Vec F S1x1024x1024 .f32) shapeCasts_S1x1024x1024_S1024x1024) (qAt (arg2.view.read (Elt F) X2) (k0_off1 k) (k0_off1_inb k)) 6 (by omega)) : St F).a1 := by
  unfold trip_k0_t1.sl.v504
  simp (disch := decide) only [trip_k0_t1.sl.HW_arg8_16, trip_k0_t1.sl.HW_arg8_15, ↓ View.readCov_skip, ↓ View.readCov_cons_toLoadRect, ↓ View.readCov_fill]
  try simp only [trip_k0_t1.sl.r_39, trip_k0_t1.sl.r_40, trip_k0_t1.sl.r_36, trip_k0_t1.sl.r_37, trip_k0_t1.sl.r_41, trip_k0_t1.sl.r_42, trip_k0_t1.sl.r_43, w_v399, w_v405 (arg4 := arg4) (X4 := X4), w_v443, w_v460, w_v466 (arg4 := arg4) (X4 := X4), w_v486]
  rfl

theorem w_v529 : trip_k0_t1.sl.v529 (F := F) arg2 arg3 arg5 arg10 X2 X3 X5 k = shapeCast S1x256x1024 (scores 256 128 (kcAt (arg5.view.read (Elt F) X5)) (qAt (arg2.view.read (Elt F) X2) (k0_off1 k) (k0_off1_inb k))) shapeCasts_S256x1024_S1x256x1024 := by
  unfold trip_k0_t1.sl.v529
  simp (disch := decide) only [trip_k0_t1.sl.HW_arg10_9, trip_k0_t1.sl.HW_arg10_8, ↓ View.readCov_skip, ↓ View.readCov_cons_toLoadRect, ↓ View.readCov_fill]
  try simp only [trip_k0_t1.sl.r]
  rfl

theorem w_v533 : trip_k0_t1.sl.v533 (F := F) arg2 arg3 arg5 arg9 arg10 X2 X3 X5 k f10 = ((stOf (arg3.view.read (Elt F) X3) (arg4.view.read (Elt F) X4) (shapeCast S1024x1024 (arg10.view.readAt (Elt F) slot0.toLoadRect f10 : Vec F S1x1024x1024 .f32) shapeCasts_S1x1024x1024_S1024x1024) (qAt (arg2.view.read (Elt F) X2) (k0_off1 k) (k0_off1_inb k)) 7 (by omega)) : St F).m := by
  unfold trip_k0_t1.sl.v533
  simp (disch := decide) only [trip_k0_t1.sl.HW_arg9_9, ↓ View.readCov_skip, ↓ View.readCov_cons_toLoadRect, ↓ View.readCov_fill]
  try simp only [trip_k0_t1.sl.r_44, trip_k0_t1.sl.r_41, w_v460, w_v466 (arg4 := arg4) (X4 := X4)]
  rfl

theorem w_v548 : trip_k0_t1.sl.v548 (F := F) arg2 arg3 arg4 arg5 arg8 arg9 arg10 X2 X3 X4 X5 k f10 = ((stOf (arg3.view.read (Elt F) X3) (arg4.view.read (Elt F) X4) (shapeCast S1024x1024 (arg10.view.readAt (Elt F) slot0.toLoadRect f10 : Vec F S1x1024x1024 .f32) shapeCasts_S1x1024x1024_S1024x1024) (qAt (arg2.view.read (Elt F) X2) (k0_off1 k) (k0_off1_inb k)) 7 (by omega)) : St F).a0 := by
  unfold trip_k0_t1.sl.v548
  simp (disch := decide) only [trip_k0_t1.sl.HW_arg8_17, trip_k0_t1.sl.HW_arg8_16, ↓ View.readCov_skip, ↓ View.readCov_cons_toLoadRect, ↓ View.readCov_fill]
  try simp only [trip_k0_t1.sl.r_41, trip_k0_t1.sl.r_42, trip_k0_t1.sl.r_43, trip_k0_t1.sl.r_45, w_v460, w_v466 (arg4 := arg4) (X4 := X4), w_v486, w_v504]
  rfl

theorem w_v561 : trip_k0_t1.sl.v561 (F := F) arg2 arg3 arg4 arg5 arg6 arg8 arg9 arg10 X2 X3 X4 X5 X6 k f10 = ((stOf (arg3.view.read (Elt F) X3) (arg4.view.read (Elt F) X4) (shapeCast S1024x1024 (arg10.view.readAt (Elt F) slot0.toLoadRect f10 : Vec F S1x1024x1024 .f32) shapeCasts_S1x1024x1024_S1024x1024) (qAt (arg2.view.read (Elt F) X2) (k0_off1 k) (k0_off1_inb k)) 7 (by omega)) : St F).a1 := by
  unfold trip_k0_t1.sl.v561
  simp (disch := decide) only [trip_k0_t1.sl.HW_arg8_18, trip_k0_t1.sl.HW_arg8_17, ↓ View.readCov_skip, ↓ View.readCov_cons_toLoadRect, ↓ View.readCov_fill]
  try simp only [trip_k0_t1.sl.r_45, trip_k0_t1.sl.r_41, trip_k0_t1.sl.r_42, trip_k0_t1.sl.r_43, trip_k0_t1.sl.r_46, trip_k0_t1.sl.r_47, trip_k0_t1.sl.r_48, w_v460, w_v466 (arg4 := arg4) (X4 := X4), w_v504, w_v529, w_v533 (arg4 := arg4) (X4 := X4), w_v548]
  rfl

theorem w_v572 : trip_k0_t1.sl.v572 (F := F) arg2 arg3 arg4 arg5 arg6 arg8 arg9 arg10 X2 X3 X4 X5 X6 k f10 = ((endOf (arg3.view.read (Elt F) X3) (arg4.view.read (Elt F) X4) (arg5.view.read (Elt F) X5) (arg6.view.read (Elt F) X6) (shapeCast S1024x1024 (arg10.view.readAt (Elt F) slot0.toLoadRect f10 : Vec F S1x1024x1024 .f32) shapeCasts_S1x1024x1024_S1024x1024) (qAt (arg2.view.read (Elt F) X2) (k0_off1 k) (k0_off1_inb k))) : St F).a0 := by
  unfold trip_k0_t1.sl.v572
  simp (disch := decide) only [trip_k0_t1.sl.HW_arg8_19, trip_k0_t1.sl.HW_arg8_18, ↓ View.readCov_skip, ↓ View.readCov_cons_toLoadRect, ↓ View.readCov_fill]
  try simp only [trip_k0_t1.sl.r_46, trip_k0_t1.sl.r_47, trip_k0_t1.sl.r_48, w_v529, w_v533 (arg4 := arg4) (X4 := X4), w_v548, w_v561]
  rfl

theorem w_v580 : trip_k0_t1.sl.v580 (F := F) arg2 arg3 arg4 arg5 arg6 arg8 arg9 arg10 X2 X3 X4 X5 X6 k f10 = ((endOf (arg3.view.read (Elt F) X3) (arg4.view.read (Elt F) X4) (arg5.view.read (Elt F) X5) (arg6.view.read (Elt F) X6) (shapeCast S1024x1024 (arg10.view.readAt (Elt F) slot0.toLoadRect f10 : Vec F S1x1024x1024 .f32) shapeCasts_S1x1024x1024_S1024x1024) (qAt (arg2.view.read (Elt F) X2) (k0_off1 k) (k0_off1_inb k))) : St F).a1 := by
  unfold trip_k0_t1.sl.v580
  simp (disch := decide) only [trip_k0_t1.sl.HW_arg8_19, trip_k0_t1.sl.HW_arg8_18, ↓ View.readCov_skip, ↓ View.readCov_cons_toLoadRect, ↓ View.readCov_fill]
  try simp only [trip_k0_t1.sl.r_46, trip_k0_t1.sl.r_47, trip_k0_t1.sl.r_48, w_v529, w_v533 (arg4 := arg4) (X4 := X4), w_v548, w_v561]
  rfl

theorem w_v619 : trip_k0_t1.sl.v619 (F := F) arg2 arg3 arg5 arg10 X2 X3 X5 k = shapeCast S1x1024x1024 (scores 1024 128 (kAt (arg3.view.read (Elt F) X3) 0) (qAt (arg2.view.read (Elt F) X2) (k0_off2 k) (k0_off2_inb k))) shapeCasts_S1024x1024_S1x1024x1024 := by
  unfold trip_k0_t1.sl.v619
  simp (disch := decide) only [trip_k0_t1.sl.HW_arg10_10, trip_k0_t1.sl.HW_arg10_9, ↓ View.readCov_skip, ↓ View.readCov_cons_toLoadRect, ↓ View.readCov_fill]
  try simp only [trip_k0_t1.sl.r_50]
  rfl

theorem w_v625 : trip_k0_t1.sl.v625 (F := F) arg2 arg3 arg5 arg9 arg10 X2 X3 X5 k f10 = (start : St F).m := by
  unfold trip_k0_t1.sl.v625
  simp (disch := decide) only [trip_k0_t1.sl.HW_arg9_11, ↓ View.readCov_skip, ↓ View.readCov_cons_toLoadRect, ↓ View.readCov_fill]
  rfl

theorem w_v645 : trip_k0_t1.sl.v645 (F := F) arg2 arg3 arg4 arg5 arg6 arg8 arg9 arg10 X2 X3 X4 X5 X6 k f10 = (start : St F).a0 := by
  unfold trip_k0_t1.sl.v645
  simp (disch := decide) only [trip_k0_t1.sl.HW_arg8_20, ↓ View.readCov_skip, ↓ View.readCov_cons_toLoadRect, ↓ View.readCov_fill]
  rfl

theorem w_v663 : trip_k0_t1.sl.v663 (F := F) arg2 arg3 arg4 arg5 arg6 arg8 arg9 arg10 X2 X3 X4 X5 X6 k f10 = (start : St F).a1 := by
  unfold trip_k0_t1.sl.v663
  simp (disch := decide) only [trip_k0_t1.sl.HW_arg8_21, trip_k0_t1.sl.HW_arg8_20, ↓ View.readCov_skip, ↓ View.readCov_cons_toLoadRect, ↓ View.readCov_fill]
  try simp only [trip_k0_t1.sl.r_52, trip_k0_t1.sl.r_54, trip_k0_t1.sl.r_55, trip_k0_t1.sl.r_56, trip_k0_t1.sl.r_57, trip_k0_t1.sl.cst_464, w_v619, w_v625, w_v645]
  rfl

theorem w_v680 : trip_k0_t1.sl.v680 (F := F) arg2 arg3 arg5 arg10 X2 X3 X5 k = shapeCast S1x1024x1024 (scores 1024 128 (kAt (arg3.view.read (Elt F) X3) 1) (qAt (arg2.view.read (Elt F) X2) (k0_off4 k) (k0_off4_inb k))) shapeCasts_S1024x1024_S1x1024x1024 := by
  unfold trip_k0_t1.sl.v680
  simp (disch := decide) only [trip_k0_t1.sl.HW_arg10_11, trip_k0_t1.sl.HW_arg10_10, ↓ View.readCov_skip, ↓ View.readCov_cons_toLoadRect, ↓ View.readCov_fill]
  try simp only [trip_k0_t1.sl.r_50]
  rfl

theorem w_v686 : trip_k0_t1.sl.v686 (F := F) arg2 arg3 arg5 arg9 arg10 X2 X3 X5 k f10 = ((stOf (arg3.view.read (Elt F) X3) (arg4.view.read (Elt F) X4) (back fits1024 (scores 1024 128 (kAt (arg3.view.read (Elt F) X3) 0) (qAt (arg2.view.read (Elt F) X2) (k0_off2 k) (k0_off2_inb k)))) (qAt (arg2.view.read (Elt F) X2) (k0_off4 k) (k0_off4_inb k)) 0 (by omega)) : St F).m := by
  unfold trip_k0_t1.sl.v686
  simp (disch := decide) only [trip_k0_t1.sl.HW_arg9_12, ↓ View.readCov_skip, ↓ View.readCov_cons_toLoadRect, ↓ View.readCov_fill]
  try simp only [trip_k0_t1.sl.r_53, w_v619, w_v625]
  rfl

theorem w_v706 : trip_k0_t1.sl.v706 (F := F) arg2 arg3 arg4 arg5 arg6 arg8 arg9 arg10 X2 X3 X4 X5 X6 k f10 = ((stOf (arg3.view.read (Elt F) X3) (arg4.view.read (Elt F) X4) (back fits1024 (scores 1024 128 (kAt (arg3.view.read (Elt F) X3) 0) (qAt (arg2.view.read (Elt F) X2) (k0_off2 k) (k0_off2_inb k)))) (qAt (arg2.view.read (Elt F) X2) (k0_off4 k) (k0_off4_inb k)) 0 (by omega)) : St F).a0 := by
  unfold trip_k0_t1.sl.v706
  simp (disch := decide) only [trip_k0_t1.sl.HW_arg8_22, trip_k0_t1.sl.HW_arg8_21, ↓ View.readCov_skip, ↓ View.readCov_cons_toLoadRect, ↓ View.readCov_fill]
  try simp only [trip_k0_t1.sl.r_52, trip_k0_t1.sl.r_54, trip_k0_t1.sl.r_55, trip_k0_t1.sl.r_56, trip_k0_t1.sl.r_57, trip_k0_t1.sl.cst_464, trip_k0_t1.sl.r_51, w_v619, w_v625, w_v645, w_v663]
  rfl

theorem w_v724 : trip_k0_t1.sl.v724 (F := F) arg2 arg3 arg4 arg5 arg6 arg8 arg9 arg10 X2 X3 X4 X5 X6 k f10 = ((stOf (arg3.view.read (Elt F) X3) (arg4.view.read (Elt F) X4) (back fits1024 (scores 1024 128 (kAt (arg3.view.read (Elt F) X3) 0) (qAt (arg2.view.read (Elt F) X2) (k0_off2 k) (k0_off2_inb k)))) (qAt (arg2.view.read (Elt F) X2) (k0_off4 k) (k0_off4_inb k)) 0 (by omega)) : St F).a1 := by
  unfold trip_k0_t1.sl.v724
  simp (disch := decide) only [trip_k0_t1.sl.HW_arg8_23, trip_k0_t1.sl.HW_arg8_22, ↓ View.readCov_skip, ↓ View.readCov_cons_toLoadRect, ↓ View.readCov_fill]
  try simp only [trip_k0_t1.sl.r_51, trip_k0_t1.sl.r_52, trip_k0_t1.sl.r_54, trip_k0_t1.sl.r_55, trip_k0_t1.sl.r_63, trip_k0_t1.sl.r_64, w_v619, w_v625, w_v663, w_v680, w_v686 (arg4 := arg4) (X4 := X4), w_v706]
  rfl

theorem w_v741 : trip_k0_t1.sl.v741 (F := F) arg2 arg3 arg5 arg10 X2 X3 X5 k = shapeCast S1x1024x1024 (scores 1024 128 (kAt (arg3.view.read (Elt F) X3) 2) (qAt (arg2.view.read (Elt F) X2) (k0_off4 k) (k0_off4_inb k))) shapeCasts_S1024x1024_S1x1024x1024 := by
  unfold trip_k0_t1.sl.v741
  simp (disch := decide) only [trip_k0_t1.sl.HW_arg10_12, trip_k0_t1.sl.HW_arg10_11, ↓ View.readCov_skip, ↓ View.readCov_cons_toLoadRect, ↓ View.readCov_fill]
  try simp only [trip_k0_t1.sl.r_50, trip_k0_t1.sl.r_65]
  rfl

theorem w_v747 : trip_k0_t1.sl.v747 (F := F) arg2 arg3 arg5 arg9 arg10 X2 X3 X5 k f10 = ((stOf (arg3.view.read (Elt F) X3) (arg4.view.read (Elt F) X4) (back fits1024 (scores 1024 128 (kAt (arg3.view.read (Elt F) X3) 0) (qAt (arg2.view.read (Elt F) X2) (k0_off2 k) (k0_off2_inb k)))) (qAt (arg2.view.read (Elt F) X2) (k0_off4 k) (k0_off4_inb k)) 1 (by omega)) : St F).m := by
  unfold trip_k0_t1.sl.v747
  simp (disch := decide) only [trip_k0_t1.sl.HW_arg9_13, ↓ View.readCov_skip, ↓ View.readCov_cons_toLoadRect, ↓ View.readCov_fill]
  try simp only [trip_k0_t1.sl.r_60, w_v680, w_v686 (arg4 := arg4) (X4 := X4)]
  rfl

theorem w_v767 : trip_k0_t1.sl.v767 (F := F) arg2 arg3 arg4 arg5 arg6 arg8 arg9 arg10 X2 X3 X4 X5 X6 k f10 = ((stOf (arg3.view.read (Elt F) X3) (arg4.view.read (Elt F) X4) (back fits1024 (scores 1024 128 (kAt (arg3.view.read (Elt F) X3) 0) (qAt (arg2.view.read (Elt F) X2) (k0_off2 k) (k0_off2_inb k)))) (qAt (arg2.view.read (Elt F) X2) (k0_off4 k) (k0_off4_inb k)) 1 (by omega)) : St F).a0 := by
  unfold trip_k0_t1.sl.v767
  simp (disch := decide) only [trip_k0_t1.sl.HW_arg8_24, trip_k0_t1.sl.HW_arg8_23, ↓ View.readCov_skip, ↓ View.readCov_cons_toLoadRect, ↓ View.readCov_fill]
  try simp only [trip_k0_t1.sl.r_63, trip_k0_t1.sl.r_64, trip_k0_t1.sl.r_58, trip_k0_t1.sl.r_59, trip_k0_t1.sl.r_61, trip_k0_t1.sl.r_62, w_v680, w_v686 (arg4 := arg4) (X4 := X4), w_v706, w_v724]
  rfl

theorem w_v785 : trip_k0_t1.sl.v785 (F := F) arg2 arg3 arg4 arg5 arg6 arg8 arg9 arg10 X2 X3 X4 X5 X6 k f10 = ((stOf (arg3.view.read (Elt F) X3) (arg4.view.read (Elt F) X4) (back fits1024 (scores 1024 128 (kAt (arg3.view.read (Elt F) X3) 0) (qAt (arg2.view.read (Elt F) X2) (k0_off2 k) (k0_off2_inb k)))) (qAt (arg2.view.read (Elt F) X2) (k0_off4 k) (k0_off4_inb k)) 1 (by omega)) : St F).a1 := by
  unfold trip_k0_t1.sl.v785
  simp (disch := decide) only [trip_k0_t1.sl.HW_arg8_25, trip_k0_t1.sl.HW_arg8_24, ↓ View.readCov_skip, ↓ View.readCov_cons_toLoadRect, ↓ View.readCov_fill]
  try simp only [trip_k0_t1.sl.r_58, trip_k0_t1.sl.r_59, trip_k0_t1.sl.r_61, trip_k0_t1.sl.r_62, trip_k0_t1.sl.r_71, w_v680, w_v686 (arg4 := arg4) (X4 := X4), w_v724, w_v741, w_v747 (arg4 := arg4) (X4 := X4), w_v767]
  rfl

theorem w_v802 : trip_k0_t1.sl.v802 (F := F) arg2 arg3 arg5 arg10 X2 X3 X5 k = shapeCast S1x1024x1024 (scores 1024 128 (kAt (arg3.view.read (Elt F) X3) 3) (qAt (arg2.view.read (Elt F) X2) (k0_off4 k) (k0_off4_inb k))) shapeCasts_S1024x1024_S1x1024x1024 := by
  unfold trip_k0_t1.sl.v802
  simp (disch := decide) only [trip_k0_t1.sl.HW_arg10_13, trip_k0_t1.sl.HW_arg10_12, ↓ View.readCov_skip, ↓ View.readCov_cons_toLoadRect, ↓ View.readCov_fill]
  try simp only [trip_k0_t1.sl.r_65, trip_k0_t1.sl.r_50]
  rfl

theorem w_v808 : trip_k0_t1.sl.v808 (F := F) arg2 arg3 arg5 arg9 arg10 X2 X3 X5 k f10 = ((stOf (arg3.view.read (Elt F) X3) (arg4.view.read (Elt F) X4) (back fits1024 (scores 1024 128 (kAt (arg3.view.read (Elt F) X3) 0) (qAt (arg2.view.read (Elt F) X2) (k0_off2 k) (k0_off2_inb k)))) (qAt (arg2.view.read (Elt F) X2) (k0_off4 k) (k0_off4_inb k)) 2 (by omega)) : St F).m := by
  unfold trip_k0_t1.sl.v808
  simp (disch := decide) only [trip_k0_t1.sl.HW_arg9_14, ↓ View.readCov_skip, ↓ View.readCov_cons_toLoadRect, ↓ View.readCov_fill]
  try simp only [trip_k0_t1.sl.r_68, w_v741, w_v747 (arg4 := arg4) (X4 := X4)]
  rfl

theorem w_v828 : trip_k0_t1.sl.v828 (F := F) arg2 arg3 arg4 arg5 arg6 arg8 arg9 arg10 X2 X3 X4 X5 X6 k f10 = ((stOf (arg3.view.read (Elt F) X3) (arg4.view.read (Elt F) X4) (back fits1024 (scores 1024 128 (kAt (arg3.view.read (Elt F) X3) 0) (qAt (arg2.view.read (Elt F) X2) (k0_off2 k) (k0_off2_inb k)))) (qAt (arg2.view.read (Elt F) X2) (k0_off4 k) (k0_off4_inb k)) 2 (by omega)) : St F).a0 := by
  unfold trip_k0_t1.sl.v828
  simp (disch := decide) only [trip_k0_t1.sl.HW_arg8_26, trip_k0_t1.sl.HW_arg8_25, ↓ View.readCov_skip, ↓ View.readCov_cons_toLoadRect, ↓ View.readCov_fill]
  try simp only [trip_k0_t1.sl.r_71, trip_k0_t1.sl.r_66, trip_k0_t1.sl.r_67, trip_k0_t1.sl.r_69, trip_k0_t1.sl.r_70, w_v741, w_v747 (arg4 := arg4) (X4 := X4), w_v767, w_v785]
  rfl

theorem w_v846 : trip_k0_t1.sl.v846 (F := F) arg2 arg3 arg4 arg5 arg6 arg8 arg9 arg10 X2 X3 X4 X5 X6 k f10 = ((stOf (arg3.view.read (Elt F) X3) (arg4.view.read (Elt F) X4) (back fits1024 (scores 1024 128 (kAt (arg3.view.read (Elt F) X3) 0) (qAt (arg2.view.read (Elt F) X2) (k0_off2 k) (k0_off2_inb k)))) (qAt (arg2.view.read (Elt F) X2) (k0_off4 k) (k0_off4_inb k)) 2 (by omega)) : St F).a1 := by
  unfold trip_k0_t1.sl.v846
  simp (disch := decide) only [trip_k0_t1.sl.HW_arg8_27, trip_k0_t1.sl.HW_arg8_26, ↓ View.readCov_skip, ↓ View.readCov_cons_toLoadRect, ↓ View.readCov_fill]
  try simp only [trip_k0_t1.sl.r_66, trip_k0_t1.sl.r_67, trip_k0_t1.sl.r_69, trip_k0_t1.sl.r_70, trip_k0_t1.sl.r_72, w_v741, w_v747 (arg4 := arg4) (X4 := X4), w_v785, w_v802, w_v808 (arg4 := arg4) (X4 := X4), w_v828]
  rfl

theorem w_v863 : trip_k0_t1.sl.v863 (F := F) arg2 arg3 arg5 arg10 X2 X3 X5 k = shapeCast S1x1024x1024 (scores 1024 128 (kAt (arg3.view.read (Elt F) X3) 4) (qAt (arg2.view.read (Elt F) X2) (k0_off4 k) (k0_off4_inb k))) shapeCasts_S1024x1024_S1x1024x1024 := by
  unfold trip_k0_t1.sl.v863
  simp (disch := decide) only [trip_k0_t1.sl.HW_arg10_14, trip_k0_t1.sl.HW_arg10_13, ↓ View.readCov_skip, ↓ View.readCov_cons_toLoadRect, ↓ View.readCov_fill]
  try simp only [trip_k0_t1.sl.r_50]
  rfl

theorem w_v869 : trip_k0_t1.sl.v869 (F := F) arg2 arg3 arg5 arg9 arg10 X2 X3 X5 k f10 = ((stOf (arg3.view.read (Elt F) X3) (arg4.view.read (Elt F) X4) (back fits1024 (scores 1024 128 (kAt (arg3.view.read (Elt F) X3) 0) (qAt (arg2.view.read (Elt F) X2) (k0_off2 k) (k0_off2_inb k)))) (qAt (arg2.view.read (Elt F) X2) (k0_off4 k) (k0_off4_inb k)) 3 (by omega)) : St F).m := by
  unfold trip_k0_t1.sl.v869
  simp (disch := decide) only [trip_k0_t1.sl.HW_arg9_15, ↓ View.readCov_skip, ↓ View.readCov_cons_toLoadRect, ↓ View.readCov_fill]
  try simp only [trip_k0_t1.sl.r_73, trip_k0_t1.sl.r_72, w_v802, w_v808 (arg4 := arg4) (X4 := X4)]
  rfl

theorem w_v889 : trip_k0_t1.sl.v889 (F := F) arg2 arg3 arg4 arg5 arg6 arg8 arg9 arg10 X2 X3 X4 X5 X6 k f10 = ((stOf (arg3.view.read (Elt F) X3) (arg4.view.read (Elt F) X4) (back fits1024 (scores 1024 128 (kAt (arg3.view.read (Elt F) X3) 0) (qAt (arg2.view.read (Elt F) X2) (k0_off2 k) (k0_off2_inb k)))) (qAt (arg2.view.read (Elt F) X2) (k0_off4 k) (k0_off4_inb k)) 3 (by omega)) : St F).a0 := by
  unfold trip_k0_t1.sl.v889
  simp (disch := decide) only [trip_k0_t1.sl.HW_arg8_28, trip_k0_t1.sl.HW_arg8_27, ↓ View.readCov_skip, ↓ View.readCov_cons_toLoadRect, ↓ View.readCov_fill]
  try simp only [trip_k0_t1.sl.r_72, trip_k0_t1.sl.r_74, trip_k0_t1.sl.r_75, trip_k0_t1.sl.r_76, trip_k0_t1.sl.r_77, w_v802, w_v808 (arg4 := arg4) (X4 := X4), w_v828, w_v846]
  rfl

theorem w_v907 : trip_k0_t1.sl.v907 (F := F) arg2 arg3 arg4 arg5 arg6 arg8 arg9 arg10 X2 X3 X4 X5 X6 k f10 = ((stOf (arg3.view.read (Elt F) X3) (arg4.view.read (Elt F) X4) (back fits1024 (scores 1024 128 (kAt (arg3.view.read (Elt F) X3) 0) (qAt (arg2.view.read (Elt F) X2) (k0_off2 k) (k0_off2_inb k)))) (qAt (arg2.view.read (Elt F) X2) (k0_off4 k) (k0_off4_inb k)) 3 (by omega)) : St F).a1 := by
  unfold trip_k0_t1.sl.v907
  simp (disch := decide) only [trip_k0_t1.sl.HW_arg8_29, trip_k0_t1.sl.HW_arg8_28, ↓ View.readCov_skip, ↓ View.readCov_cons_toLoadRect, ↓ View.readCov_fill]
  try simp only [trip_k0_t1.sl.r_74, trip_k0_t1.sl.r_75, trip_k0_t1.sl.r_76, trip_k0_t1.sl.r_77, trip_k0_t1.sl.r_72, trip_k0_t1.sl.r_78, trip_k0_t1.sl.r_79, w_v802, w_v808 (arg4 := arg4) (X4 := X4), w_v846, w_v863, w_v869 (arg4 := arg4) (X4 := X4), w_v889]
  rfl

theorem w_v924 : trip_k0_t1.sl.v924 (F := F) arg2 arg3 arg5 arg10 X2 X3 X5 k = shapeCast S1x1024x1024 (scores 1024 128 (kAt (arg3.view.read (Elt F) X3) 5) (qAt (arg2.view.read (Elt F) X2) (k0_off4 k) (k0_off4_inb k))) shapeCasts_S1024x1024_S1x1024x1024 := by
  unfold trip_k0_t1.sl.v924
  simp (disch := decide) only [trip_k0_t1.sl.HW_arg10_15, trip_k0_t1.sl.HW_arg10_14, ↓ View.readCov_skip, ↓ View.readCov_cons_toLoadRect, ↓ View.readCov_fill]
  try simp only [trip_k0_t1.sl.r_50]
  rfl

theorem w_v930 : trip_k0_t1.sl.v930 (F := F) arg2 arg3 arg5 arg9 arg10 X2 X3 X5 k f10 = ((stOf (arg3.view.read (Elt F) X3) (arg4.view.read (Elt F) X4) (back fits1024 (scores 1024 128 (kAt (arg3.view.read (Elt F) X3) 0) (qAt (arg2.view.read (Elt F) X2) (k0_off2 k) (k0_off2_inb k)))) (qAt (arg2.view.read (Elt F) X2) (k0_off4 k) (k0_off4_inb k)) 4 (by omega)) : St F).m := by
  unfold trip_k0_t1.sl.v930
  simp (disch := decide) only [trip_k0_t1.sl.HW_arg9_16, ↓ View.readCov_skip, ↓ View.readCov_cons_toLoadRect, ↓ View.readCov_fill]
  try simp only [trip_k0_t1.sl.r_80, trip_k0_t1.sl.r_78, w_v863, w_v869 (arg4 := arg4) (X4 := X4)]
  rfl

theorem w_v950 : trip_k0_t1.sl.v950 (F := F) arg2 arg3 arg4 arg5 arg6 arg8 arg9 arg10 X2 X3 X4 X5 X6 k f10 = ((stOf (arg3.view.read (Elt F) X3) (arg4.view.read (Elt F) X4) (back fits1024 (scores 1024 128 (kAt (arg3.view.read (Elt F) X3) 0) (qAt (arg2.view.read (Elt F) X2) (k0_off2 k) (k0_off2_inb k)))) (qAt (arg2.view.read (Elt F) X2) (k0_off4 k) (k0_off4_inb k)) 4 (by omega)) : St F).a0 := by
  unfold trip_k0_t1.sl.v950
  simp (disch := decide) only [trip_k0_t1.sl.HW_arg8_30, trip_k0_t1.sl.HW_arg8_29, ↓ View.readCov_skip, ↓ View.readCov_cons_toLoadRect, ↓ View.readCov_fill]
  try simp only [trip_k0_t1.sl.r_78, trip_k0_t1.sl.r_79, trip_k0_t1.sl.r_81, trip_k0_t1.sl.r_82, trip_k0_t1.sl.r_83, w_v863, w_v869 (arg4 := arg4) (X4 := X4), w_v889, w_v907]
  rfl

theorem w_v968 : trip_k0_t1.sl.v968 (F := F) arg2 arg3 arg4 arg5 arg6 arg8 arg9 arg10 X2 X3 X4 X5 X6 k f10 = ((stOf (arg3.view.read (Elt F) X3) (arg4.view.read (Elt F) X4) (back fits1024 (scores 1024 128 (kAt (arg3.view.read (Elt F) X3) 0) (qAt (arg2.view.read (Elt F) X2) (k0_off2 k) (k0_off2_inb k)))) (qAt (arg2.view.read (Elt F) X2) (k0_off4 k) (k0_off4_inb k)) 4 (by omega)) : St F).a1 := by
  unfold trip_k0_t1.sl.v968
  simp (disch := decide) only [trip_k0_t1.sl.HW_arg8_31, trip_k0_t1.sl.HW_arg8_30, ↓ View.readCov_skip, ↓ View.readCov_cons_toLoadRect, ↓ View.readCov_fill]
  try simp only [trip_k0_t1.sl.r_81, trip_k0_t1.sl.r_82, trip_k0_t1.sl.r_83, trip_k0_t1.sl.r_78, trip_k0_t1.sl.r_79, trip_k0_t1.sl.r_84, trip_k0_t1.sl.r_85, trip_k0_t1.sl.r_86, trip_k0_t1.sl.r_87, w_v863, w_v869 (arg4 := arg4) (X4 := X4), w_v907, w_v924, w_v930 (arg4 := arg4) (X4 := X4), w_v950]
  rfl

theorem w_v985 : trip_k0_t1.sl.v985 (F := F) arg2 arg3 arg5 arg10 X2 X3 X5 k = shapeCast S1x1024x1024 (scores 1024 128 (kAt (arg3.view.read (Elt F) X3) 6) (qAt (arg2.view.read (Elt F) X2) (k0_off4 k) (k0_off4_inb k))) shapeCasts_S1024x1024_S1x1024x1024 := by
  unfold trip_k0_t1.sl.v985
  simp (disch := decide) only [trip_k0_t1.sl.HW_arg10_16, trip_k0_t1.sl.HW_arg10_15, ↓ View.readCov_skip, ↓ View.readCov_cons_toLoadRect, ↓ View.readCov_fill]
  try simp only [trip_k0_t1.sl.r_50]
  rfl

theorem w_v991 : trip_k0_t1.sl.v991 (F := F) arg2 arg3 arg5 arg9 arg10 X2 X3 X5 k f10 = ((stOf (arg3.view.read (Elt F) X3) (arg4.view.read (Elt F) X4) (back fits1024 (scores 1024 128 (kAt (arg3.view.read (Elt F) X3) 0) (qAt (arg2.view.read (Elt F) X2) (k0_off2 k) (k0_off2_inb k)))) (qAt (arg2.view.read (Elt F) X2) (k0_off4 k) (k0_off4_inb k)) 5 (by omega)) : St F).m := by
  unfold trip_k0_t1.sl.v991
  simp (disch := decide) only [trip_k0_t1.sl.HW_arg9_17, ↓ View.readCov_skip, ↓ View.readCov_cons_toLoadRect, ↓ View.readCov_fill]
  try simp only [trip_k0_t1.sl.r_87, w_v924, w_v930 (arg4 := arg4) (X4 := X4)]
  rfl

theorem w_v1011 : trip_k0_t1.sl.v1011 (F := F) arg2 arg3 arg4 arg5 arg6 arg8 arg9 arg10 X2 X3 X4 X5 X6 k f10 = ((stOf (arg3.view.read (Elt F) X3) (arg4.view.read (Elt F) X4) (back fits1024 (scores 1024 128 (kAt (arg3.view.read (Elt F) X3) 0) (qAt (arg2.view.read (Elt F) X2) (k0_off2 k) (k0_off2_inb k)))) (qAt (arg2.view.read (Elt F) X2) (k0_off4 k) (k0_off4_inb k)) 5 (by omega)) : St F).a0 := by
  unfold trip_k0_t1.sl.v1011
  simp (disch := decide) only [trip_k0_t1.sl.HW_arg8_32, trip_k0_t1.sl.HW_arg8_31, ↓ View.readCov_skip, ↓ View.readCov_cons_toLoadRect, ↓ View.readCov_fill]
  try simp only [trip_k0_t1.sl.r_84, trip_k0_t1.sl.r_85, trip_k0_t1.sl.r_86, trip_k0_t1.sl.r_87, w_v924, w_v930 (arg4 := arg4) (X4 := X4), w_v950, w_v968]
  rfl

theorem w_v1029 : trip_k0_t1.sl.v1029 (F := F) arg2 arg3 arg4 arg5 arg6 arg8 arg9 arg10 X2 X3 X4 X5 X6 k f10 = ((stOf (arg3.view.read (Elt F) X3) (arg4.view.read (Elt F) X4) (back fits1024 (scores 1024 128 (kAt (arg3.view.read (Elt F) X3) 0) (qAt (arg2.view.read (Elt F) X2) (k0_off2 k) (k0_off2_inb k)))) (qAt (arg2.view.read (Elt F) X2) (k0_off4 k) (k0_off4_inb k)) 5 (by omega)) : St F).a1 := by
  unfold trip_k0_t1.sl.v1029
  simp (disch := decide) only [trip_k0_t1.sl.HW_arg8_33, trip_k0_t1.sl.HW_arg8_32, ↓ View.readCov_skip, ↓ View.readCov_cons_toLoadRect, ↓ View.readCov_fill]
  try simp only [trip_k0_t1.sl.r_84, trip_k0_t1.sl.r_85, trip_k0_t1.sl.r_86, trip_k0_t1.sl.r_87, trip_k0_t1.sl.r_89, trip_k0_t1.sl.r_91, trip_k0_t1.sl.r_92, trip_k0_t1.sl.r_93, trip_k0_t1.sl.r_94, trip_k0_t1.sl.cst_464, w_v924, w_v930 (arg4 := arg4) (X4 := X4), w_v968, w_v985, w_v991 (arg4 := arg4) (X4 := X4), w_v1011]
  rfl

theorem w_v1046 : trip_k0_t1.sl.v1046 (F := F) arg2 arg3 arg5 arg10 X2 X3 X5 k = shapeCast S1x1024x1024 (scores 1024 128 (kAt (arg3.view.read (Elt F) X3) 7) (qAt (arg2.view.read (Elt F) X2) (k0_off4 k) (k0_off4_inb k))) shapeCasts_S1024x1024_S1x1024x1024 := by
  unfold trip_k0_t1.sl.v1046
  simp (disch := decide) only [trip_k0_t1.sl.HW_arg10_17, trip_k0_t1.sl.HW_arg10_16, ↓ View.readCov_skip, ↓ View.readCov_cons_toLoadRect, ↓ View.readCov_fill]
  try simp only [trip_k0_t1.sl.r_50]
  rfl

theorem w_v1052 : trip_k0_t1.sl.v1052 (F := F) arg2 arg3 arg5 arg9 arg10 X2 X3 X5 k f10 = ((stOf (arg3.view.read (Elt F) X3) (arg4.view.read (Elt F) X4) (back fits1024 (scores 1024 128 (kAt (arg3.view.read (Elt F) X3) 0) (qAt (arg2.view.read (Elt F) X2) (k0_off2 k) (k0_off2_inb k)))) (qAt (arg2.view.read (Elt F) X2) (k0_off4 k) (k0_off4_inb k)) 6 (by omega)) : St F).m := by
  unfold trip_k0_t1.sl.v1052
  simp (disch := decide) only [trip_k0_t1.sl.HW_arg9_18, ↓ View.readCov_skip, ↓ View.readCov_cons_toLoadRect, ↓ View.readCov_fill]
  try simp only [trip_k0_t1.sl.r_90, w_v985, w_v991 (arg4 := arg4) (X4 := X4)]
  rfl

theorem w_v1072 : trip_k0_t1.sl.v1072 (F := F) arg2 arg3 arg4 arg5 arg6 arg8 arg9 arg10 X2 X3 X4 X5 X6 k f10 = ((stOf (arg3.view.read (Elt F) X3) (arg4.view.read (Elt F) X4) (back fits1024 (scores 1024 128 (kAt (arg3.view.read (Elt F) X3) 0) (qAt (arg2.view.read (Elt F) X2) (k0_off2 k) (k0_off2_inb k)))) (qAt (arg2.view.read (Elt F) X2) (k0_off4 k) (k0_off4_inb k)) 6 (by omega)) : St F).a0 := by
  unfold trip_k0_t1.sl.v1072
  simp (disch := decide) only [trip_k0_t1.sl.HW_arg8_34, trip_k0_t1.sl.HW_arg8_33, ↓ View.readCov_skip, ↓ View.readCov_cons_toLoadRect, ↓ View.readCov_fill]
  try simp only [trip_k0_t1.sl.r_89, trip_k0_t1.sl.r_91, trip_k0_t1.sl.r_92, trip_k0_t1.sl.r_93, trip_k0_t1.sl.r_94, trip_k0_t1.sl.cst_464, trip_k0_t1.sl.r_88, w_v985, w_v991 (arg4 := arg4) (X4 := X4), w_v1011, w_v1029]
  rfl

theorem w_v1090 : trip_k0_t1.sl.v1090 (F := F) arg2 arg3 arg4 arg5 arg6 arg8 arg9 arg10 X2 X3 X4 X5 X6 k f10 = ((stOf (arg3.view.read (Elt F) X3) (arg4.view.read (Elt F) X4) (back fits1024 (scores 1024 128 (kAt (arg3.view.read (Elt F) X3) 0) (qAt (arg2.view.read (Elt F) X2) (k0_off2 k) (k0_off2_inb k)))) (qAt (arg2.view.read (Elt F) X2) (k0_off4 k) (k0_off4_inb k)) 6 (by omega)) : St F).a1 := by
  unfold trip_k0_t1.sl.v1090
  simp (disch := decide) only [trip_k0_t1.sl.HW_arg8_35, trip_k0_t1.sl.HW_arg8_34, ↓ View.readCov_skip, ↓ View.readCov_cons_toLoadRect, ↓ View.readCov_fill]
  try simp only [trip_k0_t1.sl.r_88, trip_k0_t1.sl.r_89, trip_k0_t1.sl.r_91, trip_k0_t1.sl.r_92, trip_k0_t1.sl.r_100, trip_k0_t1.sl.r_101, w_v985, w_v991 (arg4 := arg4) (X4 := X4), w_v1029, w_v1046, w_v1052 (arg4 := arg4) (X4 := X4), w_v1072]
  rfl

theorem w_v1115 : trip_k0_t1.sl.v1115 (F := F) arg2 arg3 arg5 arg10 X2 X3 X5 k = shapeCast S1x256x1024 (scores 256 128 (kcAt (arg5.view.read (Elt F) X5)) (qAt (arg2.view.read (Elt F) X2) (k0_off4 k) (k0_off4_inb k))) shapeCasts_S256x1024_S1x256x1024 := by
  unfold trip_k0_t1.sl.v1115
  simp (disch := decide) only [trip_k0_t1.sl.HW_arg10_18, trip_k0_t1.sl.HW_arg10_17, ↓ View.readCov_skip, ↓ View.readCov_cons_toLoadRect, ↓ View.readCov_fill]
  try simp only [trip_k0_t1.sl.r_50, trip_k0_t1.sl.r_102]
  rfl

theorem w_v1119 : trip_k0_t1.sl.v1119 (F := F) arg2 arg3 arg5 arg9 arg10 X2 X3 X5 k f10 = ((stOf (arg3.view.read (Elt F) X3) (arg4.view.read (Elt F) X4) (back fits1024 (scores 1024 128 (kAt (arg3.view.read (Elt F) X3) 0) (qAt (arg2.view.read (Elt F) X2) (k0_off2 k) (k0_off2_inb k)))) (qAt (arg2.view.read (Elt F) X2) (k0_off4 k) (k0_off4_inb k)) 7 (by omega)) : St F).m := by
  unfold trip_k0_t1.sl.v1119
  simp (disch := decide) only [trip_k0_t1.sl.HW_arg9_19, ↓ View.readCov_skip, ↓ View.readCov_cons_toLoadRect, ↓ View.readCov_fill]
  try simp only [trip_k0_t1.sl.r_97, w_v1046, w_v1052 (arg4 := arg4) (X4 := X4)]
  rfl

theorem w_v1134 : trip_k0_t1.sl.v1134 (F := F) arg2 arg3 arg4 arg5 arg6 arg8 arg9 arg10 X2 X3 X4 X5 X6 k f10 = ((stOf (arg3.view.read (Elt F) X3) (arg4.view.read (Elt F) X4) (back fits1024 (scores 1024 128 (kAt (arg3.view.read (Elt F) X3) 0) (qAt (arg2.view.read (Elt F) X2) (k0_off2 k) (k0_off2_inb k)))) (qAt (arg2.view.read (Elt F) X2) (k0_off4 k) (k0_off4_inb k)) 7 (by omega)) : St F).a0 := by
  unfold trip_k0_t1.sl.v1134
  simp (disch := decide) only [trip_k0_t1.sl.HW_arg8_36, trip_k0_t1.sl.HW_arg8_35, ↓ View.readCov_skip, ↓ View.readCov_cons_toLoadRect, ↓ View.readCov_fill]
  try simp only [trip_k0_t1.sl.r_100, trip_k0_t1.sl.r_101, trip_k0_t1.sl.r_95, trip_k0_t1.sl.r_96, trip_k0_t1.sl.r_98, trip_k0_t1.sl.r_99, w_v1046, w_v1052 (arg4 := arg4) (X4 := X4), w_v1072, w_v1090]
  rfl

theorem w_v1147 : trip_k0_t1.sl.v1147 (F := F) arg2 arg3 arg4 arg5 arg6 arg8 arg9 arg10 X2 X3 X4 X5 X6 k f10 = ((stOf (arg3.view.read (Elt F) X3) (arg4.view.read (Elt F) X4) (back fits1024 (scores 1024 128 (kAt (arg3.view.read (Elt F) X3) 0) (qAt (arg2.view.read (Elt F) X2) (k0_off2 k) (k0_off2_inb k)))) (qAt (arg2.view.read (Elt F) X2) (k0_off4 k) (k0_off4_inb k)) 7 (by omega)) : St F).a1 := by
  unfold trip_k0_t1.sl.v1147
  simp (disch := decide) only [trip_k0_t1.sl.HW_arg8_37, trip_k0_t1.sl.HW_arg8_36, ↓ View.readCov_skip, ↓ View.readCov_cons_toLoadRect, ↓ View.readCov_fill]
  try simp only [trip_k0_t1.sl.r_95, trip_k0_t1.sl.r_96, trip_k0_t1.sl.r_98, trip_k0_t1.sl.r_99, trip_k0_t1.sl.r_107, w_v1046, w_v1052 (arg4 := arg4) (X4 := X4), w_v1090, w_v1115, w_v1119 (arg4 := arg4) (X4 := X4), w_v1134]
  rfl

theorem w_v1158 : trip_k0_t1.sl.v1158 (F := F) arg2 arg3 arg4 arg5 arg6 arg8 arg9 arg10 X2 X3 X4 X5 X6 k f10 = ((endOf (arg3.view.read (Elt F) X3) (arg4.view.read (Elt F) X4) (arg5.view.read (Elt F) X5) (arg6.view.read (Elt F) X6) (back fits1024 (scores 1024 128 (kAt (arg3.view.read (Elt F) X3) 0) (qAt (arg2.view.read (Elt F) X2) (k0_off2 k) (k0_off2_inb k)))) (qAt (arg2.view.read (Elt F) X2) (k0_off4 k) (k0_off4_inb k))) : St F).a0 := by
  unfold trip_k0_t1.sl.v1158
  simp (disch := decide) only [trip_k0_t1.sl.HW_arg8_38, trip_k0_t1.sl.HW_arg8_37, ↓ View.readCov_skip, ↓ View.readCov_cons_toLoadRect, ↓ View.readCov_fill]
  try simp only [trip_k0_t1.sl.r_107, trip_k0_t1.sl.r_103, trip_k0_t1.sl.r_105, trip_k0_t1.sl.r_106, w_v1115, w_v1119 (arg4 := arg4) (X4 := X4), w_v1134, w_v1147]
  rfl

theorem w_v1166 : trip_k0_t1.sl.v1166 (F := F) arg2 arg3 arg4 arg5 arg6 arg8 arg9 arg10 X2 X3 X4 X5 X6 k f10 = ((endOf (arg3.view.read (Elt F) X3) (arg4.view.read (Elt F) X4) (arg5.view.read (Elt F) X5) (arg6.view.read (Elt F) X6) (back fits1024 (scores 1024 128 (kAt (arg3.view.read (Elt F) X3) 0) (qAt (arg2.view.read (Elt F) X2) (k0_off2 k) (k0_off2_inb k)))) (qAt (arg2.view.read (Elt F) X2) (k0_off4 k) (k0_off4_inb k))) : St F).a1 := by
  unfold trip_k0_t1.sl.v1166
  simp (disch := decide) only [trip_k0_t1.sl.HW_arg8_38, trip_k0_t1.sl.HW_arg8_37, ↓ View.readCov_skip, ↓ View.readCov_cons_toLoadRect, ↓ View.readCov_fill]
  try simp only [trip_k0_t1.sl.r_107, trip_k0_t1.sl.r_103, trip_k0_t1.sl.r_105, trip_k0_t1.sl.r_106, w_v1115, w_v1119 (arg4 := arg4) (X4 := X4), w_v1134, w_v1147]
  rfl

/-- What a trip stores into the output window. -/
theorem trip_out :
    (trip_k0_t1 (F := F) 𝒱 c bd i arg2 harg2 arg3 harg3 arg4 harg4 arg5 harg5 arg6 harg6 arg7 harg7 arg8 harg8 arg9 harg9 arg10 harg10 X2 X3 X4 X5 X6 k).1 f7 f8 f9 f10
      = [⟨Rect.unit (s := S1x8192x128) (k0_off6 k) S1x512x128.size (k0_off6_inb k),
          result (endOf (arg3.view.read (Elt F) X3) (arg4.view.read (Elt F) X4) (arg5.view.read (Elt F) X5) (arg6.view.read (Elt F) X6) (back fits1024 (scores 1024 128 (kAt (arg3.view.read (Elt F) X3) 0) (qAt (arg2.view.read (Elt F) X2) (k0_off2 k) (k0_off2_inb k)))) (qAt (arg2.view.read (Elt F) X2) (k0_off4 k) (k0_off4_inb k)))⟩,
         ⟨Rect.unit (s := S1x8192x128) (k0_off3 k) S1x512x128.size (k0_off3_inb k),
          result (endOf (arg3.view.read (Elt F) X3) (arg4.view.read (Elt F) X4) (arg5.view.read (Elt F) X5) (arg6.view.read (Elt F) X6) (shapeCast S1024x1024 (arg10.view.readAt (Elt F) slot0.toLoadRect f10 : Vec F S1x1024x1024 .f32) shapeCasts_S1x1024x1024_S1024x1024) (qAt (arg2.view.read (Elt F) X2) (k0_off1 k) (k0_off1_inb k)))⟩] := by
  unfold trip_k0_t1
  simp only [trip_k0_t1.sl.r_49, trip_k0_t1.sl.r_108, w_v572, w_v580, w_v1158, w_v1166]
  rfl

/-- What a trip leaves in the first half of the scores' scratch. -/
theorem trip_scores :
    arg10.view.readAt (Elt F) slot0.toLoadRect (arg10.view.writes (Elt F) f10
      ((trip_k0_t1 (F := F) 𝒱 c bd i arg2 harg2 arg3 harg3 arg4 harg4 arg5 harg5 arg6 harg6 arg7 harg7 arg8 harg8 arg9 harg9 arg10 harg10 X2 X3 X4 X5 X6 k).2.2.2.1 f7 f8 f9 f10))
      = shapeCast S1x1024x1024 (scores 1024 128 (kAt (arg3.view.read (Elt F) X3) 0)
          (qAt (arg2.view.read (Elt F) X2) (k0_off5 k) (k0_off5_inb k))) shapeCasts_S1024x1024_S1x1024x1024 := by
  unfold trip_k0_t1
  simp only [trip_k0_t1.sl.HW_arg10_18]
  funext x
  exact View.read_writes_cons_emb arg10.view f10 slot0 _ _ x

end

end Cert.KernelIdeal.Trip
-- ==== Proof.Loop.lean ====
/-
  The attention kernel's loop over pairs of query blocks: before trip `k` the first half of the scores' scratch holds
  the scores of block `2 k`, and the output window's rows of the blocks before it are done.
-/
module

public import proofs.«01_k».proof.Proof.Trip
public import Idealize.ShloMosaic.Lib.WritesUnit

@[expose] public section

set_option maxRecDepth 16384

noncomputable section

namespace Cert.KernelIdeal.Trip

open Cert.KernelIdeal Cert.KernelIdeal.Gen Cert.Flash
open Idealize.ShloMosaic Idealize.ShloMosaic.TcCoe Idealize.ShloMosaic.Tactic
open Idealize.SL Idealize.SL.Sem

variable {F : FTy → Type} [FloatOps F]

theorem trips8 : k0_t1_loop.trips = 8 := by decide +kernel

theorem qInb (n : Fin 16) : ∀ a, (![0, 0, 512 * n.val, 0] : Fin 4 → Nat) a + S1x2x512x128.size a ≤ S1x2x8192x128.size a := by
  revert n; decide +kernel

/-- Query block `n`. -/
def qBlk (x2 : Vec F S1x2x8192x128 .bf16) (n : Fin 16) : FVec F ⟨2, ![1024, 128]⟩ .bf16 :=
  qAt x2 ![0, 0, 512 * n.val, 0] (qInb n)

theorem qAt_eq (x2 : Vec F S1x2x8192x128 .bf16) {off : Fin 4 → Nat} (n : Fin 16) (h : off = ![0, 0, 512 * n.val, 0]) (inb) :
    qAt x2 off inb = qBlk x2 n := qAt_congr x2 h _ _

/-- The first block's scores of query block `n`. -/
def s0Blk (x2 : Vec F S1x2x8192x128 .bf16) (x3 : Vec F S1x1x8x1024x128 .bf16) (n : Fin 16) : FVec F (Cols 1024) .f32 :=
  scores 1024 128 (kAt x3 0) (qBlk x2 n)

/-- What the kernel stores for query block `n`. -/
def outBlk (x2 : Vec F S1x2x8192x128 .bf16) (x3 : Vec F S1x1x8x1024x128 .bf16) (x4 : Vec F S1x1x16x2x80x512 .bf16)
    (x5 : Vec F S1x1x1x256x128 .bf16) (x6 : Vec F S1x1x1x2x80x256 .bf16) (n : Fin 16) : FVec F S1x512x128 .bf16 :=
  result (endOf x3 x4 x5 x6 (back fits1024 (s0Blk x2 x3 n)) (qBlk x2 n))

/-- A position of the output window within its query block. -/
def inBlk (y : S1x8192x128.Idx) : S1x512x128.Idx
  | ⟨0, _⟩ => ⟨0, Nat.zero_lt_one⟩
  | ⟨1, _⟩ => ⟨(y 1).val % 512, Nat.mod_lt _ (by decide)⟩
  | ⟨2, _⟩ => ⟨(y 2).val, (y 2).isLt⟩

/-- The output window, from the input windows. -/
def outWin (x2 : Vec F S1x2x8192x128 .bf16) (x3 : Vec F S1x1x8x1024x128 .bf16) (x4 : Vec F S1x1x16x2x80x512 .bf16)
    (x5 : Vec F S1x1x1x256x128 .bf16) (x6 : Vec F S1x1x1x2x80x256 .bf16) : Vec F S1x8192x128 .bf16 := fun y =>
  outBlk x2 x3 x4 x5 x6 ⟨(y 1).val / 512, Nat.div_lt_of_lt_mul (y 1).isLt⟩ (inBlk y)

section
variable (𝒱 : Variants) (c : Dev nD) (bd : Option 𝒱.V) (i : grid0.Coords) (arg2 : Memref sig .tc .vmem S1x2x8192x128 .bf16) (harg2 : arg2.IsWhole) (arg3 : Memref sig .tc .vmem S1x1x8x1024x128 .bf16) (harg3 : arg3.IsWhole) (arg4 : Memref sig .tc .vmem S1x1x16x2x80x512 .bf16) (harg4 : arg4.IsWhole) (arg5 : Memref sig .tc .vmem S1x1x1x256x128 .bf16) (harg5 : arg5.IsWhole) (arg6 : Memref sig .tc .vmem S1x1x1x2x80x256 .bf16) (harg6 : arg6.IsWhole) (arg7 : Memref sig .tc .vmem S1x8192x128 .bf16) (harg7 : arg7.IsWhole) (arg8 : Memref sig .tc .vmem S2x80x512 .f32) (harg8 : arg8.IsWhole) (arg9 : Memref sig .tc .vmem S1x1024 .f32) (harg9 : arg9.IsWhole) (arg10 : Memref sig .tc .vmem S2x1024x1024 .f32) (harg10 : arg10.IsWhole)
  (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty)
  (G7 : BufTy.Contents (Elt F) arg7.view.ty) (G8 : BufTy.Contents (Elt F) arg8.view.ty) (G9 : BufTy.Contents (Elt F) arg9.view.ty) (G10 : BufTy.Contents (Elt F) arg10.view.ty)

theorem loop_scores
    (hG : arg10.view.readAt (Elt F) slot0.toLoadRect G10
      = shapeCast S1x1024x1024 (s0Blk (arg2.view.read (Elt F) X2) (arg3.view.read (Elt F) X3) 0) shapeCasts_S1024x1024_S1x1024x1024)
    (n : Nat) (hn : n ≤ 8) :
    arg10.view.readAt (Elt F) slot0.toLoadRect (arg10.view.writes (Elt F) G10 (pb_k0_t1 (F := F) 𝒱 c bd i arg2 harg2 arg3 harg3 arg4 harg4 arg5 harg5 arg6 harg6 arg7 harg7 arg8 harg8 arg9 harg9 arg10 harg10 X2 X3 X4 X5 X6 G7 G8 G9 G10 n).2.2.2)
      = shapeCast S1x1024x1024 (s0Blk (arg2.view.read (Elt F) X2) (arg3.view.read (Elt F) X3) ⟨min (2 * n) 15, by omega⟩) shapeCasts_S1024x1024_S1x1024x1024 := by
  cases n with
  | zero => rw [pb_k0_t1]; exact hG
  | succ n =>
    have hlt : n < k0_t1_loop.trips := by rw [trips8]; omega
    have e := pb_k0_t1_succ (F := F) 𝒱 c bd i arg2 harg2 arg3 harg3 arg4 harg4 arg5 harg5 arg6 harg6 arg7 harg7 arg8 harg8 arg9 harg9 arg10 harg10 X2 X3 X4 X5 X6 G7 G8 G9 G10 ⟨n, hlt⟩
    dsimp only at e
    rw [e, View.writes_append]
    refine (trip_scores 𝒱 c bd i arg2 harg2 arg3 harg3 arg4 harg4 arg5 harg5 arg6 harg6 arg7 harg7 arg8 harg8 arg9 harg9 arg10 harg10 X2 X3 X4 X5 X6 ⟨n, hlt⟩ _ _ _ _).trans ?_
    unfold s0Blk
    rw [qAt_eq (arg2.view.read (Elt F) X2) ⟨min (2 * (n + 1)) 15, by omega⟩ ((k0_off5_eq ⟨n, hlt⟩).trans (by dsimp only; rw [show 2 * (n + 1) = 2 * n + 2 from by omega]))]

/-- A store of one query block, read in the output window: its rows hold it, the others what they held. -/
theorem read_block (v : View sig .tc .vmem S1x8192x128 .bf16) (f : v.ty.Contents (Elt F)) (o : Fin 3 → Nat) (n : Fin 16)
    (inb : ∀ a, o a + S1x512x128.size a ≤ S1x8192x128.size a) (h : o = ![0, 512 * n.val, 0]) (w : FVec F S1x512x128 .bf16)
    (L : List (View.Piece (Elt F) S1x8192x128 .bf16)) (y : S1x8192x128.Idx) :
    v.read (Elt F) (v.writes (Elt F) f (⟨Rect.unit (s := S1x8192x128) o S1x512x128.size inb, w⟩ :: L)) y
      = if (y 1).val / 512 = n.val then w (inBlk y) else v.read (Elt F) (v.writes (Elt F) f L) y := by
  have h0 : (y 0).val < 1 := (y 0).isLt
  split
  · next e =>
    refine View.read_writes_cons_unit_of_mem v f inb w L y (inBlk y) h fun a => ?_
    match a with
    | ⟨0, _⟩ => show (y 0).val = 0 + 0; omega
    | ⟨1, _⟩ => show (y 1).val = 512 * n.val + (y 1).val % 512; omega
    | ⟨2, _⟩ => show (y 2).val = 0 + (y 2).val; omega
  · next e =>
    refine View.read_writes_cons_unit_of_not_mem v f inb w L y h 1 ?_
    show (y 1).val < 512 * n.val ∨ 512 * n.val + 512 ≤ (y 1).val
    omega

theorem loop_out
    (hG : arg10.view.readAt (Elt F) slot0.toLoadRect G10
      = shapeCast S1x1024x1024 (s0Blk (arg2.view.read (Elt F) X2) (arg3.view.read (Elt F) X3) 0) shapeCasts_S1024x1024_S1x1024x1024)
    (n : Nat) (hn : n ≤ 8) (y : S1x8192x128.Idx) (hy : (y 1).val < 1024 * n) :
    arg7.view.read (Elt F) (arg7.view.writes (Elt F) G7 (pb_k0_t1 (F := F) 𝒱 c bd i arg2 harg2 arg3 harg3 arg4 harg4 arg5 harg5 arg6 harg6 arg7 harg7 arg8 harg8 arg9 harg9 arg10 harg10 X2 X3 X4 X5 X6 G7 G8 G9 G10 n).1) y = outWin (arg2.view.read (Elt F) X2) (arg3.view.read (Elt F) X3) (arg4.view.read (Elt F) X4) (arg5.view.read (Elt F) X5) (arg6.view.read (Elt F) X6) y := by
  induction n with
  | zero => exact absurd hy (by omega)
  | succ n ih =>
    have hlt : n < k0_t1_loop.trips := by rw [trips8]; omega
    have e := pb_k0_t1_succ (F := F) 𝒱 c bd i arg2 harg2 arg3 harg3 arg4 harg4 arg5 harg5 arg6 harg6 arg7 harg7 arg8 harg8 arg9 harg9 arg10 harg10 X2 X3 X4 X5 X6 G7 G8 G9 G10 ⟨n, hlt⟩
    dsimp only at e
    rw [e]
    dsimp only [tripL_k0_t1]
    rw [trip_out, List.cons_append, List.cons_append, List.nil_append,
      read_block _ _ _ ⟨2 * n + 1, by omega⟩ _ ((k0_off6_eq ⟨n, hlt⟩).trans (by congr 2; dsimp only; omega)),
      read_block _ _ _ ⟨2 * n, by omega⟩ _ ((k0_off3_eq ⟨n, hlt⟩).trans (by congr 2; dsimp only; omega)),
      loop_scores 𝒱 c bd i arg2 harg2 arg3 harg3 arg4 harg4 arg5 harg5 arg6 harg6 arg7 harg7 arg8 harg8 arg9 harg9 arg10 harg10 X2 X3 X4 X5 X6 G7 G8 G9 G10 hG n (by omega),
      qAt_eq (arg2.view.read (Elt F) X2) ⟨2 * n, by omega⟩ ((k0_off1_eq ⟨n, hlt⟩).trans (by congr 3; dsimp only; omega)),
      qAt_eq (arg2.view.read (Elt F) X2) ⟨2 * n + 1, by omega⟩ ((k0_off2_eq ⟨n, hlt⟩).trans (by congr 3; dsimp only; omega)),
      qAt_eq (arg2.view.read (Elt F) X2) ⟨2 * n + 1, by omega⟩ ((k0_off4_eq ⟨n, hlt⟩).trans (by congr 3; dsimp only; omega))]
    unfold outWin outBlk
    have hm : (⟨min (2 * n) 15, by omega⟩ : Fin 16) = ⟨2 * n, by omega⟩ := Fin.ext (by dsimp only; omega)
    rw [hm]
    split
    · next e1 => rw [show (⟨(y 1).val / 512, Nat.div_lt_of_lt_mul (y 1).isLt⟩ : Fin 16) = ⟨2 * n + 1, by omega⟩ from Fin.ext e1]; rfl
    · next e1 =>
      split
      · next e2 => rw [show (⟨(y 1).val / 512, Nat.div_lt_of_lt_mul (y 1).isLt⟩ : Fin 16) = ⟨2 * n, by omega⟩ from Fin.ext e2]; rfl
      · next e2 => dsimp only at e1 e2; exact ih (by omega) (by omega)

end

end Cert.KernelIdeal.Trip
-- ==== Proof.Run.lean ====
/-
  The run of `KernelIdeal`: the attention kernel's body on its windows, the proof data of its pipeline (each input window its
  block, the output window `outWin` of the input blocks, the scratch at anything), the launch and the frame.
-/
module

public import proofs.«01_k».proof.Proof.Loop
public import proofs.«01_k».proof.Proof.Gen.KernelIdeal.Frame
public import proofs.«01_k».proof.Proof.Gen.KernelIdeal.Skeleton
public import Idealize.ShloMosaic.Lib.Claim

@[expose] public section

set_option maxRecDepth 16384

noncomputable section

namespace Cert.KernelIdeal.Run

open Cert.KernelIdeal Cert.KernelIdeal.Gen Cert.KernelIdeal.Trip Cert.Flash
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body on whole memrefs: the inputs are left as they were, the output holds `outWin` of them, the three scratch
    buffers whatever the run left. -/
theorem body_run (c : Dev nD) (E : Set ℕ) (i : grid0.Coords) (arg2 : Memref sig .tc .vmem S1x2x8192x128 .bf16) (harg2 : arg2.IsWhole) (arg3 : Memref sig .tc .vmem S1x1x8x1024x128 .bf16) (harg3 : arg3.IsWhole) (arg4 : Memref sig .tc .vmem S1x1x16x2x80x512 .bf16) (harg4 : arg4.IsWhole) (arg5 : Memref sig .tc .vmem S1x1x1x256x128 .bf16) (harg5 : arg5.IsWhole) (arg6 : Memref sig .tc .vmem S1x1x1x2x80x256 .bf16) (harg6 : arg6.IsWhole) (arg7 : Memref sig .tc .vmem S1x8192x128 .bf16) (harg7 : arg7.IsWhole) (arg8 : Memref sig .tc .vmem S2x80x512 .f32) (harg8 : arg8.IsWhole) (arg9 : Memref sig .tc .vmem S1x1024 .f32) (harg9 : arg9.IsWhole) (arg10 : Memref sig .tc .vmem S2x1024x1024 .f32) (harg10 : arg10.IsWhole)
    (x2 : Vec F S1x2x8192x128 .bf16) (x3 : Vec F S1x1x8x1024x128 .bf16) (x4 : Vec F S1x1x16x2x80x512 .bf16)
    (x5 : Vec F S1x1x1x256x128 .bf16) (x6 : Vec F S1x1x1x2x80x256 .bf16) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (outWin x2 x3 x4 x5 x6) ∗ (∃ d, owns (c : Thread nD τ) arg8 fullShare d) ∗ (∃ d, owns (c : Thread nD τ) arg9 fullShare d) ∗ (∃ d, owns (c : Thread nD τ) arg10 fullShare d)) -∗ K ⟨⟩))
      ⊢ wp frame (wpE (defs₀ (F := F)) Variants.none c none) E (cc0_dense_attn i arg2 harg2 arg3 harg3 arg4 harg4 arg5 harg5 arg6 harg6 arg7 harg7 arg8 harg8 arg9 harg9 arg10 harg10) K := by
  simp only [cc0_dense_attn_eq_skeleton]; unfold cc0_dense_attn_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
  subst hf2 hf3 hf4 hf5 hf6
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    funext y
    refine loop_out Variants.none c none i arg2 harg2 arg3 harg3 arg4 harg4 arg5 harg5 arg6 harg6 arg7 harg7 arg8 harg8 arg9 harg9 arg10 harg10 f2 f3 f4 f5 f6 f7 f8 f9 _ ?_ 8 (by omega) y (y 1).isLt
    funext x
    exact View.read_writes_cons_emb arg10.view f10 slot0 _ _ x
  isplitl [H8]
  · iexists _; iexists _; isplitr; swap; · iexact H8
    ipureintro; rfl
  isplitl [H9]
  · iexists _; iexists _; isplitr; swap; · iexact H9
    ipureintro; rfl
  iexists _; iexists _; isplitr; swap; · iexact H10
  ipureintro; rfl

/-- A whole buffer held at something, as a memref and as its location. -/
theorem whole_owns (c : Dev nD) (b : Ref sig .tc) :
    (iprop(∃ f : Buf (Elt F) ((c : Thread nD τ).loc b), ((c : Thread nD τ).loc b) ↦{fullShare} f) : sProp 𝕄)
      ⊢ iprop(∃ d, owns (c : Thread nD τ) (Memref.whole b) fullShare d) := by
  iintro ⟨%f, H⟩
  iexists f
  rw [owns_whole]
  iexact H

theorem owns_whole' (c : Dev nD) (b : Ref sig .tc) :
    (iprop(∃ d, owns (c : Thread nD τ) (Memref.whole b) fullShare d) : sProp 𝕄)
      ⊢ iprop(∃ f : Buf (Elt F) ((c : Thread nD τ).loc b), ((c : Thread nD τ).loc b) ↦{fullShare} f) := by
  simp only [owns_whole]
  exact .rfl

variable (m : (ℓ : Loc nD τ sig) → Buf (Elt F) ℓ) (ρ : Dev nD → PrngReg)

/-- The proof data: the arrays as the region finds them; each input's buffer at its block, the output's at `outWin`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outWin (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]

theorem after_5 (c : Dev nD) (t : Fin cfg0.N) : (dats m 0 c).after 5 t
    = outWin (iblk m c 0 t) (iblk m c 1 t) (iblk m c 2 t) (iblk m c 3 t) (iblk m c 4 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem point_run (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5,
    show (dats m 0 c).Φ t.castSucc = Pipeline.ΦA spec0 c from rfl]
  unfold Pipeline.ΦA
  rw [scopedRest0_eq]
  iintro ⟨⟨⟨Hs0, Hs1, Hs2⟩, Hg⟩, Ho, ⟨%d0, H0⟩, ⟨%d1, H1⟩, ⟨%d2, H2⟩, ⟨%d3, H3⟩, ⟨%d4, H4⟩, ⟨%d5, H5⟩⟩
  iapply (body_run c Set.univ _ _ _ _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [Hs0]; · iapply (whole_owns c cc0_scratch0); iexact Hs0
  isplitl [Hs1]; · iapply (whole_owns c cc0_scratch1); iexact Hs1
  isplitl [Hs2]; · iapply (whole_owns c cc0_scratch2); iexact Hs2
  iintro ⟨H0, H1, H2, H3, H4, H5, Hs0, Hs1, Hs2⟩
  isplitl [Hs0 Hs1 Hs2 Hg]
  · isplitl [Hs0 Hs1 Hs2]
    · isplitl [Hs0]; · iapply (owns_whole' c cc0_scratch0); iexact Hs0
      isplitl [Hs1]; · iapply (owns_whole' c cc0_scratch1); iexact Hs1
      iapply (owns_whole' c cc0_scratch2); iexact Hs2
    iexact Hg
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, defs₀_row]
  exact triple_restated (point_run m c t) rfl .rfl fun _ => .rfl

set_option backward.isDefEq.respectTransparency.types false in
/-- The launch, every semaphore counter at zero at the end. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

theorem counters : θ_run defs (onTc (τ := τ) (main (F := F))) (s₀ m ρ) (fun r => r.2.sem = fun _ => 0) :=
  (θ_run defs _ _).mono (fun _ h => h.2) (run_quiescent m ρ)

end Cert.KernelIdeal.Run
-- ==== Proof.Same.lean ====
/-
  The printed program and its reading over the extended reals have the same text, so one run serves both: their
  procedures are equal, and the frame of the one is the frame of the other at bit patterns.
-/
module

public import proofs.«01_k».proof.Proof.Run
public import proofs.«01_k».proof.Defs
public import proofs.«01_k».proof.Proof.Gen.Kernel

@[expose] public section

set_option maxRecDepth 100000
set_option maxHeartbeats 4000000

noncomputable section

namespace Cert.Same

open Idealize.ShloMosaic Idealize.ShloMosaic.TcCoe Idealize.SL.Sem

variable {F : FTy → Type} [FloatOps F]

theorem body_eq : Cert.Kernel.cc0_dense_attn (F := F) = Cert.KernelIdeal.cc0_dense_attn := by
  with_unfolding_all rfl

/-- The one labelled procedure is the kernel's body at a grid point in both programs. -/
theorem defs₀_eq : Cert.Kernel.defs₀ (F := F) = Cert.KernelIdeal.defs₀ := by
  unfold Cert.Kernel.defs₀ Cert.KernelIdeal.defs₀
  rw [body_eq]
  funext p
  cases p with
  | tc =>
    funext n x
    match n, x with
    | 0, (t, s) => with_unfolding_all rfl
    | ⟨_ + 1, h⟩, _ => exact absurd h (by omega)
  | scScalar _ => with_unfolding_all rfl
  | scVector _ _ => with_unfolding_all rfl

theorem defs_eq : Cert.Kernel.defs (F := F) = Cert.KernelIdeal.defs := by
  unfold Cert.Kernel.defs
  rw [defs₀_eq]
  with_unfolding_all rfl

/-- The run keeps the arguments and leaves every counter zero. -/
theorem frame_ideal : Cert.quiescent_KernelIdeal := fun m ρ _ =>
  θ_run_and (Cert.KernelIdeal.Gen.frame_of m ρ (Cert.KernelIdeal.Run.dats m) (Cert.KernelIdeal.Run.A_eq m)
    (Cert.KernelIdeal.Run.run_main (F := Ideal) m ρ)) (Cert.KernelIdeal.Run.counters m ρ)

/-- The same run at bit patterns, for the program as printed. -/
theorem frame_kernel : Cert.quiescent_Kernel := fun m ρ _ => by
  rw [defs_eq]
  with_unfolding_all exact θ_run_and (Cert.KernelIdeal.Gen.frame_of m ρ (Cert.KernelIdeal.Run.dats m)
    (Cert.KernelIdeal.Run.A_eq m) (Cert.KernelIdeal.Run.run_main (F := Bits) m ρ)) (Cert.KernelIdeal.Run.counters m ρ)

end Cert.Same

end
-- ==== Proof.Online.lean ====
/-
  The mathematics of a softmax taken block by block, over the extended reals: real scores, arbitrary values. A running
  shift in place of the maximum, a rescaled numerator and denominator, and their quotient at the end.
-/
module

public import Idealize.ShloMosaic.PureOps.Ideal
public import Idealize.ShloMosaic.PureOps.Ideal.Laws

@[expose] public section

noncomputable section

namespace Cert.Online

open Idealize.ShloMosaic

/-- A positive real factor goes through a finite sum of extended reals. -/
theorem mul_sum {ι : Type} (c : ℝ) (hc : 0 < c) (s : Finset ι) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (EReal.coe_nonneg.2 hc.le) (EReal.coe_ne_top c), ih]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of a real and finitely many reals is real. -/
theorem max_real {ι : Type} (a : ℝ) (s : Finset ι) (f : ι → EReal) (hf : ∀ i, ∃ r : ℝ, f i = r) :
    ∃ b : ℝ, max (a : EReal) (s.fold max ⊥ f) = b := by
  classical
  induction s using Finset.induction_on with
  | empty => exact ⟨a, by simp⟩
  | insert i s hi ih =>
    obtain ⟨b, hb⟩ := ih
    obtain ⟨r, hr⟩ := hf i
    refine ⟨max r b, ?_⟩
    rw [Finset.fold_insert hi, max_left_comm, hb, hr, ← EReal.coe_strictMono.monotone.map_max]

/-- The same without the leading real, over a nonempty set. -/
theorem fold_max_real {ι : Type} (s : Finset ι) (hs : s.Nonempty) (f : ι → EReal) (hf : ∀ i, ∃ r : ℝ, f i = r) :
    ∃ b : ℝ, s.fold max ⊥ f = b := by
  classical
  obtain ⟨i, hi⟩ := hs
  obtain ⟨r, hr⟩ := hf i
  obtain ⟨b, hb⟩ := max_real r (s.erase i) f hf
  exact ⟨b, by rw [← Finset.insert_erase hi, Finset.fold_insert (Finset.notMem_erase i s), hr, hb]⟩

theorem exp2_sub (a b : ℝ) : Ideal.exp2 ((a : EReal) - b) = (((2 : ℝ) ^ (a - b) : ℝ) : EReal) := by
  rw [← EReal.coe_sub, Ideal.exp2_coe]; rfl

theorem exp_sub (a b : ℝ) : Ideal.exp ((a : EReal) - b) = ((Real.exp (a - b) : ℝ) : EReal) := by
  rw [← EReal.coe_sub, Ideal.exp_coe]

/-- The first `K` values, weighted by two to the power of their scores less the shift `μ`. -/
def mass (S : ℕ → ℝ) (V : ℕ → EReal) (μ : ℝ) (K : ℕ) : EReal :=
  ∑ k ∈ Finset.range K, (((2 : ℝ) ^ (S k - μ) : ℝ) : EReal) * V k

theorem mass_zero (S : ℕ → ℝ) (V : ℕ → EReal) (μ : ℝ) : mass S V μ 0 = 0 := by simp [mass]

/-- Changing the shift rescales. -/
theorem mass_shift (S : ℕ → ℝ) (V : ℕ → EReal) (μ ν : ℝ) (K : ℕ) :
    (((2 : ℝ) ^ (μ - ν) : ℝ) : EReal) * mass S V μ K = mass S V ν K := by
  unfold mass
  rw [mul_sum _ (Real.rpow_pos_of_pos two_pos _)]
  refine Finset.sum_congr rfl fun k _ => ?_
  rw [← mul_assoc, ← EReal.coe_mul, ← Real.rpow_add two_pos]
  congr 3
  ring

/-- A further block of values adds its terms. -/
theorem mass_add (S : ℕ → ℝ) (V : ℕ → EReal) (μ : ℝ) (K n : ℕ) :
    mass S V μ (K + n) = mass S V μ K + ∑ l : Fin n, V (K + l) * (((2 : ℝ) ^ (S (K + l) - μ) : ℝ) : EReal) := by
  unfold mass
  rw [Finset.sum_range_add, Finset.sum_range (fun x => (((2 : ℝ) ^ (S (K + x) - μ) : ℝ) : EReal) * V (K + x))]
  simp only [mul_comm]

/-- Numerator over denominator is the softmax of the scores times `log 2`, at any shift, against the values. -/
theorem mass_div (S x : ℕ → ℝ) (hx : ∀ k, x k = S k * Real.log 2) (V : ℕ → EReal) (μ M : ℝ) (K : ℕ) (hK : 0 < K) :
    Ideal.div (mass S V μ K) (mass S (fun _ => 1) μ K)
      = ∑ k ∈ Finset.range K, Ideal.div ((Real.exp (x k - M) : ℝ) : EReal)
          (∑ j ∈ Finset.range K, ((Real.exp (x j - M) : ℝ) : EReal)) * V k := by
  have hw : ∀ k, (2 : ℝ) ^ (S k - μ) = Real.exp (x k - M) * Real.exp (M - μ * Real.log 2) := fun k => by
    rw [← Real.exp_add, Real.rpow_def_of_pos two_pos, hx]
    congr 1
    ring
  have hne : (Finset.range K).Nonempty := Finset.nonempty_range_iff.2 hK.ne'
  have hZ : 0 < ∑ k ∈ Finset.range K, Real.exp (x k - M) := Finset.sum_pos (fun k _ => Real.exp_pos _) hne
  have hden : mass S (fun _ => 1) μ K
      = (((∑ k ∈ Finset.range K, Real.exp (x k - M)) * Real.exp (M - μ * Real.log 2) : ℝ) : EReal) := by
    unfold mass
    rw [Finset.sum_mul, coe_sum]
    exact Finset.sum_congr rfl fun k _ => by rw [mul_one, hw]
  have hdp : 0 < (∑ k ∈ Finset.range K, Real.exp (x k - M)) * Real.exp (M - μ * Real.log 2) := mul_pos hZ (Real.exp_pos _)
  rw [hden, ← coe_sum]
  have hdiv : ∀ (y : EReal) (r : ℝ), r ≠ 0 → Ideal.div y r = ((r⁻¹ : ℝ) : EReal) * y := fun y r hr => by
    unfold Ideal.div
    rw [if_neg (by exact_mod_cast hr), mul_comm, EReal.coe_inv]
  simp only [hdiv _ _ hdp.ne', hdiv _ _ hZ.ne']
  unfold mass
  rw [mul_sum _ (inv_pos.2 hdp)]
  refine Finset.sum_congr rfl fun k _ => ?_
  rw [← mul_assoc, ← EReal.coe_mul, hw, ← EReal.coe_mul]
  congr 2
  have h1 := (Real.exp_pos (M - μ * Real.log 2)).ne'
  have h2 := hZ.ne'
  field_simp

end Cert.Online

end
-- ==== Proof.StepValue.lean ====
/-
  One block of keys at the exact instance: what the running maximum, the factor, the weights and the accumulators are
  at an index, and that the state holds the weighted sums of the keys so far.
-/
module

public import proofs.«01_k».proof.Proof.Spec
public import proofs.«01_k».proof.Proof.Online
public import Idealize.ShloMosaic.Lib.Pointwise

@[expose] public section

set_option maxRecDepth 16384

noncomputable section

namespace Cert.Flash

open Idealize.ShloMosaic Cert.Online

/-- Column `c` of the first head, among both heads' columns. -/
abbrev left (c : Fin 512) : Fin 1024 := ⟨c.val, by omega⟩
/-- Column `c` of the second head. -/
abbrev right (c : Fin 512) : Fin 1024 := ⟨512 + c.val, by omega⟩

theorem grow_left (hr : (Cols 1).Slices ![0, 0] ⟨2, ![1, 512]⟩) (a : FVec Ideal (Cols 1) .f32) (acc : FVec Ideal Acc1 .f32)
    (pv : FVec Ideal Acc .f32) (i : Fin 80) (c : Fin 512) :
    grow ![0, 0] hr a acc pv (ix3 0 i c) = a (ix2 0 (left c)) * acc (ix3 0 i c) + pv (ix2 i c) := by
  pointwise [grow]

theorem grow_right (hr : (Cols 1).Slices ![0, 512] ⟨2, ![1, 512]⟩) (a : FVec Ideal (Cols 1) .f32) (acc : FVec Ideal Acc1 .f32)
    (pv : FVec Ideal Acc .f32) (i : Fin 80) (c : Fin 512) :
    grow ![0, 512] hr a acc pv (ix3 0 i c) = a (ix2 0 (right c)) * acc (ix3 0 i c) + pv (ix2 i c) := by
  pointwise [grow]

theorem scores_apply (k : FVec Ideal ⟨2, ![1024, 128]⟩ .bf16) (q : FVec Ideal ⟨2, ![1024, 128]⟩ .bf16) (j c : Fin 1024) :
    scores 1024 128 k q (ix2 j c) = ∑ l : Fin 128, k (ix2 j l) * q (ix2 c l) := by
  pointwise [scores]

theorem scores_ctx_apply (k : FVec Ideal ⟨2, ![256, 128]⟩ .bf16) (q : FVec Ideal ⟨2, ![1024, 128]⟩ .bf16) (j : Fin 256)
    (c : Fin 1024) : scores 256 128 k q (ix2 j c) = ∑ l : Fin 128, k (ix2 j l) * q (ix2 c l) := by
  pointwise [scores]

theorem back_apply (s : FVec Ideal (Cols 1024) .f32) (j c : Fin 1024) : back fits1024 s (ix2 j c) = s (ix2 j c) := by
  pointwise [back]

theorem back_ctx_apply (s : FVec Ideal (Cols 256) .f32) (j : Fin 256) (c : Fin 1024) :
    back fits256 s (ix2 j c) = s (ix2 j c) := by
  pointwise [back]

theorem negInf : Ideal.ofBits FTy.f32 0xFF800000#32 = ⊥ := by simp [Ideal.ofBits, Ideal.ieee]

/-- The running maximum of real scores is real. -/
theorem nextMax_real (s : FVec Ideal (Cols 1024) .f32) (m : FVec Ideal (Cols 1) .f32) (c : Fin 1024) (μ : ℝ)
    (hm : m (ix2 0 c) = (μ : EReal)) (hs : ∀ j, ∃ r : ℝ, s (ix2 j c) = (r : EReal)) :
    ∃ ν : ℝ, nextMax fits1024 s m (ix2 0 c) = (ν : EReal) := by
  obtain ⟨ν, h⟩ := max_real μ Finset.univ (fun x => s (ix2 x c)) hs
  refine ⟨ν, ?_⟩
  rw [← h, ← hm, ← negInf]
  pointwise [nextMax]

theorem nextMax_ctx_real (s : FVec Ideal (Cols 256) .f32) (m : FVec Ideal (Cols 1) .f32) (c : Fin 1024) (μ : ℝ)
    (hm : m (ix2 0 c) = (μ : EReal)) (hs : ∀ j, ∃ r : ℝ, s (ix2 j c) = (r : EReal)) :
    ∃ ν : ℝ, nextMax fits256 s m (ix2 0 c) = (ν : EReal) := by
  obtain ⟨ν, h⟩ := max_real μ Finset.univ (fun x => s (ix2 x c)) hs
  refine ⟨ν, ?_⟩
  rw [← h, ← hm, ← negInf]
  pointwise [nextMax]

theorem factor_apply (s : FVec Ideal (Cols 1024) .f32) (m : FVec Ideal (Cols 1) .f32) (c : Fin 1024) :
    factor fits1024 s m (ix2 0 c) = Ideal.exp2 (m (ix2 0 c) - nextMax fits1024 s m (ix2 0 c)) := by
  pointwise [factor]
  rfl

theorem factor_ctx_apply (s : FVec Ideal (Cols 256) .f32) (m : FVec Ideal (Cols 1) .f32) (c : Fin 1024) :
    factor fits256 s m (ix2 0 c) = Ideal.exp2 (m (ix2 0 c) - nextMax fits256 s m (ix2 0 c)) := by
  pointwise [factor]
  rfl

theorem weights_apply (s : FVec Ideal (Cols 1024) .f32) (m : FVec Ideal (Cols 1) .f32) (j c : Fin 1024) :
    weights fits1024 s m (ix2 j c) = Ideal.exp2 (s (ix2 j c) - nextMax fits1024 s m (ix2 0 c)) := by
  pointwise [weights]
  rfl

theorem weights_ctx_apply (s : FVec Ideal (Cols 256) .f32) (m : FVec Ideal (Cols 1) .f32) (j : Fin 256) (c : Fin 1024) :
    weights fits256 s m (ix2 j c) = Ideal.exp2 (s (ix2 j c) - nextMax fits256 s m (ix2 0 c)) := by
  pointwise [weights]
  rfl

/-- Two blocks of 512 values against the weights of 1024 keys, the first head. -/
theorem terms_left (u v : FVec Ideal (Vals 512) .bf16) (p : FVec Ideal (Cols 1024) .bf16) (h) (i : Fin 80) (c : Fin 512) :
    addf (term ![0, 0, 0] ![0, 0] fits1024.h0 fits1024.sc fits1024.p00 u p)
      (term ![0, 0, 0] ![512, 0] fits1024.h0 fits1024.sc h v p) (ix2 i c)
     = ∑ l : Fin 512, u (ix3 0 i l) * p (ix2 (left l) (left c)) + ∑ l : Fin 512, v (ix3 0 i l) * p (ix2 (right l) (left c)) := by
  pointwise [term]

theorem terms_right (u v : FVec Ideal (Vals 512) .bf16) (p : FVec Ideal (Cols 1024) .bf16) (h) (i : Fin 80) (c : Fin 512) :
    addf (term ![1, 0, 0] ![0, 512] fits1024.h1 fits1024.sc fits1024.p01 u p)
      (term ![1, 0, 0] ![512, 512] fits1024.h1 fits1024.sc h v p) (ix2 i c)
     = ∑ l : Fin 512, u (ix3 1 i l) * p (ix2 (left l) (right c)) + ∑ l : Fin 512, v (ix3 1 i l) * p (ix2 (right l) (right c)) := by
  pointwise [term]

theorem terms_ctx_left (u : FVec Ideal (Vals 256) .bf16) (p : FVec Ideal (Cols 256) .bf16) (i : Fin 80) (c : Fin 512) :
    term ![0, 0, 0] ![0, 0] fits256.h0 fits256.sc fits256.p00 u p (ix2 i c)
     = ∑ l : Fin 256, u (ix3 0 i l) * p (ix2 l (left c)) := by
  pointwise [term]

theorem terms_ctx_right (u : FVec Ideal (Vals 256) .bf16) (p : FVec Ideal (Cols 256) .bf16) (i : Fin 80) (c : Fin 512) :
    term ![1, 0, 0] ![0, 512] fits256.h1 fits256.sc fits256.p01 u p (ix2 i c)
     = ∑ l : Fin 256, u (ix3 1 i l) * p (ix2 l (right c)) := by
  pointwise [term]

theorem quot_apply (a : FVec Ideal Acc1 .f32) (i : Fin 64) (c : Fin 512) :
    quot a (ix2 i c) = Ideal.div (a (ix3 0 ⟨i.val, by omega⟩ c)) (a (ix3 0 64 c)) := by
  pointwise [quot]

theorem result_left (x : St Ideal) (c : Fin 512) (l : Fin 64) :
    result x (ix3 0 c ⟨l.val, by omega⟩) = quot x.a0 (ix2 l c) := by
  pointwise [result]

theorem result_right (x : St Ideal) (c : Fin 512) (l : Fin 64) :
    result x (ix3 0 c ⟨64 + l.val, by omega⟩) = quot x.a1 (ix2 l c) := by
  pointwise [result]

/-- The state holds, at a real shift of each column, the weighted sums over the first `K` keys: `S` their scores of
    each column, `V` each head's value rows. -/
structure Holds (S : Fin 1024 → ℕ → ℝ) (V : Fin 2 → Fin 80 → ℕ → EReal) (K : ℕ) (x : St Ideal) (μ : Fin 1024 → ℝ) : Prop where
  m : ∀ c, x.m (ix2 0 c) = (μ c : EReal)
  a0 : ∀ i c, x.a0 (ix3 0 i c) = mass (S (left c)) (V 0 i) (μ (left c)) K
  a1 : ∀ i c, x.a1 (ix3 0 i c) = mass (S (right c)) (V 1 i) (μ (right c)) K

theorem holds_start (S : Fin 1024 → ℕ → ℝ) (V : Fin 2 → Fin 80 → ℕ → EReal) : ∃ μ, Holds S V 0 start μ := by
  obtain ⟨r, hr⟩ : ∃ r : ℝ, Ideal.ofBits FTy.f32 0xF149F2CA#32 = (r : EReal) := by
    simp only [Ideal.ofBits, Ideal.ieee]
    simp [-EReal.coe_mul]
    exact ⟨-(13234890 * 2 ^ 76), rfl⟩
  refine ⟨fun _ => r, fun c => ?_, fun i c => ?_, fun i c => ?_⟩
  · rw [← hr]; pointwise [start]
  · rw [mass_zero]; pointwise [start]
  · rw [mass_zero]; pointwise [start]

variable (S : Fin 1024 → ℕ → ℝ) (V : Fin 2 → Fin 80 → ℕ → EReal) (K : ℕ) (x : St Ideal) (μ : Fin 1024 → ℝ)

/-- A block of 1024 keys carries the sums on. -/
theorem holds_chunk (hx : Holds S V K x μ) (s : FVec Ideal (Cols 1024) .f32) (u v : FVec Ideal (Vals 512) .bf16)
    (hs : ∀ j c : Fin 1024, s (ix2 j c) = (S c (K + j) : EReal))
    (hu : ∀ h i (l : Fin 512), u (ix3 h i l) = V h i (K + l)) (hv : ∀ h i (l : Fin 512), v (ix3 h i l) = V h i (K + 512 + l)) :
    ∃ ν, Holds S V (K + 1024) (chunk s u v x) ν := by
  choose ν hν using fun c => nextMax_real s x.m c (μ c) (hx.m c) fun j => ⟨_, hs j c⟩
  have hw : ∀ j c : Fin 1024, weights fits1024 s x.m (ix2 j c) = (((2 : ℝ) ^ (S c (K + j) - ν c) : ℝ) : EReal) := fun j c => by
    rw [weights_apply, hν, hs, exp2_sub]
  have hf : ∀ c : Fin 1024, factor fits1024 s x.m (ix2 0 c) = (((2 : ℝ) ^ (μ c - ν c) : ℝ) : EReal) := fun c => by
    rw [factor_apply, hν, hx.m, exp2_sub]
  refine ⟨ν, fun c => ?_, fun i c => ?_, fun i c => ?_⟩
  · rw [← hν]; pointwise [chunk]
  · show grow _ _ _ _ _ _ = _
    rw [grow_left, terms_left, hx.a0, hf, mass_shift, show K + 1024 = K + 512 + 512 from rfl, mass_add, mass_add, add_assoc]
    congr 2 <;> refine Finset.sum_congr rfl fun l _ => ?_
    · rw [hu, hw]
    · rw [hv, hw, show K + (right l).val = K + 512 + l from by simp only; omega]
  · show grow _ _ _ _ _ _ = _
    rw [grow_right, terms_right, hx.a1, hf, mass_shift, show K + 1024 = K + 512 + 512 from rfl, mass_add, mass_add, add_assoc]
    congr 2 <;> refine Finset.sum_congr rfl fun l _ => ?_
    · rw [hu, hw]
    · rw [hv, hw, show K + (right l).val = K + 512 + l from by simp only; omega]

/-- So do the 256 context keys. -/
theorem holds_ctx (hx : Holds S V K x μ) (s : FVec Ideal (Cols 256) .f32) (u : FVec Ideal (Vals 256) .bf16)
    (hs : ∀ (j : Fin 256) (c : Fin 1024), s (ix2 j c) = (S c (K + j) : EReal))
    (hu : ∀ h i (l : Fin 256), u (ix3 h i l) = V h i (K + l)) :
    ∃ ν, Holds S V (K + 256) (ctx s u x) ν := by
  choose ν hν using fun c => nextMax_ctx_real s x.m c (μ c) (hx.m c) fun j => ⟨_, hs j c⟩
  have hw : ∀ (j : Fin 256) (c : Fin 1024), weights fits256 s x.m (ix2 j c) = (((2 : ℝ) ^ (S c (K + j) - ν c) : ℝ) : EReal) :=
    fun j c => by rw [weights_ctx_apply, hν, hs, exp2_sub]
  have hf : ∀ c : Fin 1024, factor fits256 s x.m (ix2 0 c) = (((2 : ℝ) ^ (μ c - ν c) : ℝ) : EReal) := fun c => by
    rw [factor_ctx_apply, hν, hx.m, exp2_sub]
  refine ⟨ν, fun c => ?_, fun i c => ?_, fun i c => ?_⟩
  · rw [← hν]; pointwise [ctx]
  · show grow _ _ _ _ _ _ = _
    rw [grow_left, terms_ctx_left, hx.a0, hf, mass_shift, mass_add]
    congr 1; refine Finset.sum_congr rfl fun l _ => by rw [hu, hw]
  · show grow _ _ _ _ _ _ = _
    rw [grow_right, terms_ctx_right, hx.a1, hf, mass_shift, mass_add]
    congr 1; refine Finset.sum_congr rfl fun l _ => by rw [hu, hw]

/-- After block `n` the state holds the sums over the first `1024 (n + 1)` keys. -/
theorem holds_stateAt (s0 : FVec Ideal (Cols 1024) .f32) (s : Fin 8 → FVec Ideal (Cols 1024) .f32)
    (v : Fin 16 → FVec Ideal (Vals 512) .bf16)
    (h0 : ∀ j c : Fin 1024, s0 (ix2 j c) = (S c j : EReal))
    (hs : ∀ (n : Fin 8) (j c : Fin 1024), s n (ix2 j c) = (S c (1024 * n + j) : EReal))
    (hv : ∀ (n : Fin 16) h i (l : Fin 512), v n (ix3 h i l) = V h i (512 * n + l)) (n : ℕ) (hn : n < 8) :
    ∃ μ, Holds S V (1024 * (n + 1)) (stateAt s0 s v n hn) μ := by
  induction n with
  | zero =>
    obtain ⟨μ, hμ⟩ := holds_start S V
    refine holds_chunk S V 0 _ _ hμ s0 (v 0) (v 1) (fun j c => by rw [h0, Nat.zero_add]) (fun h i l => ?_) fun h i l => ?_
    · rw [hv]; congr 1
    · rw [hv]; congr 1
  | succ n ih =>
    obtain ⟨μ, hμ⟩ := ih (by omega)
    refine holds_chunk S V _ _ _ hμ (s ⟨n + 1, hn⟩) _ _ (fun j c => hs _ j c) (fun h i l => ?_) fun h i l => ?_
    · rw [hv]; congr 1; simp only; omega
    · rw [hv]; congr 1; simp only; omega

end Cert.Flash

end
-- ==== Proof.OutValue.lean ====
/-
  The output window at the exact instance: at a query and a lane of either head, the weighted sum of that head's value
  rows over all 8448 keys, over the weighted sum of its row of ones.
-/
module

public import proofs.«01_k».proof.Proof.StepValue
public import proofs.«01_k».proof.Proof.Loop
public import Idealize.ShloMosaic.Lib.Pipeline.ValueKit

@[expose] public section

set_option maxRecDepth 16384

noncomputable section

namespace Cert.KernelIdeal.Trip

open Cert.KernelIdeal Cert.KernelIdeal.Gen Cert.Flash Cert.Online
open Idealize.ShloMosaic

theorem kAt_apply (x3 : Vec Ideal S1x1x8x1024x128 .bf16) (j : Fin 8) (r : Fin 1024) (l : Fin 128) :
    kAt x3 j (ix2 r l) = x3 (ix5 0 0 j r l) := by
  have h : ∀ (w : Vec Ideal S1x1x1x1024x128 .bf16), shapeCast S1024x128 w shapeCasts_S1x1x1x1024x128_S1024x128 (ix2 r l) = w (ix5 0 0 0 r l) :=
    fun w => by pointwise
  refine (h _).trans (View.ld_unit_apply_of x3 _ _ _ _ _ fun a => ?_)
  match a with
  | 0 | 1 | 2 => rfl
  | 3 | 4 => exact (Nat.zero_add _).symm

theorem kcAt_apply (x5 : Vec Ideal S1x1x1x256x128 .bf16) (r : Fin 256) (l : Fin 128) :
    kcAt x5 (ix2 r l) = x5 (ix5 0 0 0 r l) := by
  have h : ∀ (w : Vec Ideal S1x1x1x256x128 .bf16), shapeCast S256x128 w shapeCasts_S1x1x1x256x128_S256x128 (ix2 r l) = w (ix5 0 0 0 r l) :=
    fun w => by pointwise
  refine (h _).trans (View.ld_unit_apply_of x5 _ _ _ _ _ fun a => ?_)
  match a with
  | 0 | 1 | 2 => rfl
  | 3 | 4 => exact (Nat.zero_add _).symm

theorem vAt_apply (x4 : Vec Ideal S1x1x16x2x80x512 .bf16) (u : Fin 16) (h : Fin 2) (i : Fin 80) (l : Fin 512) :
    vAt x4 u (ix3 h i l) = x4 (ix6 0 0 u h i l) := by
  have e : ∀ (w : Vec Ideal S1x1x1x2x80x512 .bf16), shapeCast S2x80x512 w shapeCasts_S1x1x1x2x80x512_S2x80x512 (ix3 h i l) = w (ix6 0 0 0 h i l) :=
    fun w => by pointwise
  refine (e _).trans (View.ld_unit_apply_of x4 _ _ _ _ _ fun a => ?_)
  match a with
  | 0 | 1 | 2 => rfl
  | 3 | 4 | 5 => exact (Nat.zero_add _).symm

theorem vcAt_apply (x6 : Vec Ideal S1x1x1x2x80x256 .bf16) (h : Fin 2) (i : Fin 80) (l : Fin 256) :
    vcAt x6 (ix3 h i l) = x6 (ix6 0 0 0 h i l) := by
  have e : ∀ (w : Vec Ideal S1x1x1x2x80x256 .bf16), shapeCast S2x80x256 w shapeCasts_S1x1x1x2x80x256_S2x80x256 (ix3 h i l) = w (ix6 0 0 0 h i l) :=
    fun w => by pointwise
  refine (e _).trans (View.ld_unit_apply_of x6 _ _ _ _ _ fun a => ?_)
  match a with
  | 0 | 1 | 2 => rfl
  | 3 | 4 | 5 => exact (Nat.zero_add _).symm

/-- The head of a column of the scores. -/
abbrev headOf (c : Fin 1024) : Fin 2 := ⟨c.val / 512, by omega⟩
/-- The query of a column of the scores of query block `n`. -/
abbrev rowOf (n : Fin 16) (c : Fin 1024) : Fin 8192 := ⟨512 * n.val + c.val % 512, by omega⟩

theorem qBlk_apply (x2 : Vec Ideal S1x2x8192x128 .bf16) (n : Fin 16) (c : Fin 1024) (l : Fin 128) :
    qBlk x2 n (ix2 c l) = x2 (ix4 0 (headOf c) (rowOf n c) l) := by
  have e : ∀ (w : Vec Ideal S1x2x512x128 .bf16), shapeCast S1024x128 (shapeCast S2x512x128 w
      shapeCasts_S1x2x512x128_S2x512x128) shapeCasts_S2x512x128_S1024x128 (ix2 c l)
        = w (ix4 0 (headOf c) ⟨c.val % 512, Nat.mod_lt _ (by decide)⟩ l) :=
    fun w => by pointwise
  have f := View.ld_unit_apply_of x2 ![0, 0, 512 * n.val, 0] ![1, 2, 512, 128] (by intro a; fin_cases a <;> simp <;> omega)
    (ix4 0 (headOf c) ⟨c.val % 512, Nat.mod_lt _ (by decide)⟩ l) (ix4 0 (headOf c) (rowOf n c) l) fun a => by
      match a with
      | 0 | 2 => rfl
      | 1 | 3 => exact (Nat.zero_add _).symm
  unfold qBlk qAt
  rw [e]
  exact f

/-- The score of key `k` for query `t` of head `h`. -/
def score (Q : Fin 2 → Fin 8192 → Fin 128 → ℝ) (Kf : ℕ → Fin 128 → ℝ) (h : Fin 2) (t : Fin 8192) (k : ℕ) : ℝ :=
  ∑ l : Fin 128, Kf k l * Q h t l

section
variable (x2 : Vec Ideal S1x2x8192x128 .bf16) (x3 : Vec Ideal S1x1x8x1024x128 .bf16) (x4 : Vec Ideal S1x1x16x2x80x512 .bf16)
  (x5 : Vec Ideal S1x1x1x256x128 .bf16) (x6 : Vec Ideal S1x1x1x2x80x256 .bf16)
  (Q : Fin 2 → Fin 8192 → Fin 128 → ℝ) (Kf : ℕ → Fin 128 → ℝ) (V : Fin 2 → Fin 80 → ℕ → EReal)
  (h2 : ∀ h t l, x2 (ix4 0 h t l) = (Q h t l : EReal))
  (h3 : ∀ (j : Fin 8) (r : Fin 1024) l, x3 (ix5 0 0 j r l) = (Kf (1024 * j + r) l : EReal))
  (h4 : ∀ (u : Fin 16) h i (l : Fin 512), x4 (ix6 0 0 u h i l) = V h i (512 * u + l))
  (h5 : ∀ (r : Fin 256) l, x5 (ix5 0 0 0 r l) = (Kf (8192 + r) l : EReal))
  (h6 : ∀ h i (l : Fin 256), x6 (ix6 0 0 0 h i l) = V h i (8192 + l))
include h2 h3 h4 h5 h6

/-- What the kernel's state holds at the end of query block `n`. -/
theorem holds_end (n : Fin 16) :
    ∃ μ, Holds (fun c => score Q Kf (headOf c) (rowOf n c)) V 8448
      (endOf x3 x4 x5 x6 (back fits1024 (s0Blk x2 x3 n)) (qBlk x2 n)) μ := by
  have hsc : ∀ (c : Fin 1024) (k : ℕ) (f : Fin 128 → EReal), (∀ l, f l = (Kf k l : EReal)) →
      ∑ l : Fin 128, f l * qBlk x2 n (ix2 c l) = (score Q Kf (headOf c) (rowOf n c) k : EReal) := fun c k f hf => by
    unfold score
    rw [coe_sum]
    exact Finset.sum_congr rfl fun l _ => by rw [hf, qBlk_apply, h2, EReal.coe_mul]
  obtain ⟨μ, hμ⟩ := holds_stateAt (fun c => score Q Kf (headOf c) (rowOf n c)) V (back fits1024 (s0Blk x2 x3 n))
    (fun j => back fits1024 (scores 1024 128 (kAt x3 j) (qBlk x2 n))) (vAt x4)
    (fun j c => by
      rw [back_apply, s0Blk, scores_apply]
      exact hsc c j _ fun l => by rw [kAt_apply, h3]; congr 2; simp)
    (fun m j c => by
      rw [back_apply, scores_apply]
      exact hsc c _ _ fun l => by rw [kAt_apply, h3])
    (fun u h i l => by rw [vAt_apply, h4]) 7 (by omega)
  refine holds_ctx _ V 8192 _ μ hμ _ _ (fun j c => ?_) fun h i l => by rw [vcAt_apply, h6]
  rw [back_ctx_apply, scores_ctx_apply]
  exact hsc c _ _ fun l => by rw [kcAt_apply, h5]

/-- The output window at query `t` and lane `d` of head `h`. -/
theorem outWin_apply (h : Fin 2) (t : Fin 8192) (d : Fin 64) :
    ∃ μ, outWin x2 x3 x4 x5 x6 (ix3 0 t ⟨64 * h.val + d.val, by omega⟩)
      = Ideal.div (mass (score Q Kf h t) (V h ⟨d.val, by omega⟩) μ 8448) (mass (score Q Kf h t) (V h 64) μ 8448) := by
  obtain ⟨μ, hμ⟩ := holds_end x2 x3 x4 x5 x6 Q Kf V h2 h3 h4 h5 h6 ⟨t.val / 512, by omega⟩
  generalize hE : endOf x3 x4 x5 x6 (back fits1024 (s0Blk x2 x3 ⟨t.val / 512, by omega⟩)) (qBlk x2 ⟨t.val / 512, by omega⟩) = E at hμ
  have hout : outWin x2 x3 x4 x5 x6 (ix3 0 t ⟨64 * h.val + d.val, by omega⟩)
      = result E (ix3 0 ⟨t.val % 512, Nat.mod_lt _ (by decide)⟩ ⟨64 * h.val + d.val, by omega⟩) := by
    rw [← hE]
    refine congrArg (result _) (funext fun a => ?_)
    match a with
    | 0 | 1 | 2 => rfl
  have hr : ∀ c : Fin 1024, c.val % 512 = t.val % 512 → rowOf ⟨t.val / 512, by omega⟩ c = t := fun c hc =>
    Fin.ext (by simp only [hc]; omega)
  revert hout
  match h with
  | 0 =>
    intro hout
    refine ⟨μ (left ⟨t.val % 512, Nat.mod_lt _ (by decide)⟩), hout.trans ?_⟩
    rw [show (⟨64 * (0 : Fin 2).val + d.val, by omega⟩ : Fin 128) = ⟨d.val, by omega⟩ from Fin.ext (by simp)]
    rw [result_left, quot_apply, hμ.a0, hμ.a0, hr _ (by simp)]
    rw [show headOf (left ⟨t.val % 512, Nat.mod_lt _ (by decide)⟩) = 0 from Fin.ext (by simp only [Fin.val_zero]; omega)]
  | 1 =>
    intro hout
    refine ⟨μ (right ⟨t.val % 512, Nat.mod_lt _ (by decide)⟩), hout.trans ?_⟩
    rw [show (⟨64 * (1 : Fin 2).val + d.val, by omega⟩ : Fin 128) = ⟨64 + d.val, by omega⟩ from Fin.ext (by simp)]
    rw [result_right, quot_apply, hμ.a1, hμ.a1, hr _ (by simp only; omega)]
    rw [show headOf (right ⟨t.val % 512, Nat.mod_lt _ (by decide)⟩) = 1 from Fin.ext (by simp only [Fin.val_one]; omega)]

end

end Cert.KernelIdeal.Trip

end
-- ==== Proof.Pack.lean ====
/-
  The arrays the attention kernel is called on, element by element: the queries scaled and laid on the lanes of their
  key head, the keys on the same lanes, the values turned and a block of ones added.
-/
module

public import proofs.«01_k».proof.Proof.Run
public import Idealize.ShloMosaic.Lib.Pointwise
public import Idealize.ShloMosaic.Lib.Pipeline.ValueKit

@[expose] public section

set_option maxRecDepth 16384
set_option maxHeartbeats 2000000

noncomputable section

namespace Cert.KernelIdeal.Pack

open Cert.KernelIdeal Cert.KernelIdeal.Gen Cert.KernelIdeal.Run
open Idealize.ShloMosaic Idealize.ShloMosaic.TcCoe Idealize.SL.Sem

variable (m : (ℓ : Loc nD τ sig) → Buf (Elt Ideal) ℓ) (c : Dev nD)

/-- The head dimension at a lane. -/
abbrev dimOf (l : Fin 128) : Fin 64 := ⟨32 * (l.val % 32 / 16) + 16 * (l.val / 64) + l.val % 16, by omega⟩
/-- The key head whose lane it is. -/
abbrev kvOf (l : Fin 128) : Fin 2 := ⟨l.val % 64 / 32, by omega⟩

/-- The queries, scaled. -/
def qScaled (q : Vec Ideal S4x8192x2x2x64 .f32) : Vec Ideal S4x8192x2x2x64 .f32 :=
  mulf q (broadcastInDim S4x8192x2x2x64 ![] bcast_S_S4x8192x2x2x64 (Host.divf (constant (F := Ideal) S_ .f32 0x3E000000#32) (Host.log (constant S_ .f32 0x40000000#32))))
/-- The scaled queries, the head dimension split by half and axis. -/
def qLanes (w : Vec Ideal S4x8192x2x2x64 .f32) : Vec Ideal S4x2x2x8192x2x1x32 .f32 :=
  shapeCast _ (transpose S4x2x2x8192x2x2x16 [0, 3, 2, 1, 5, 4, 6] (shapeCast S4x8192x2x2x2x2x16 w shapeCasts_S4x8192x2x2x64_S4x8192x2x2x2x2x16)
    transposes_S4x8192x2x2x2x2x16_S4x2x2x8192x2x2x16_0_3_2_1_5_4_6) shapeCasts_S4x2x2x8192x2x2x16_S4x2x2x8192x2x1x32
/-- The lanes of each query's own key head kept, the others zero. -/
def qArr (w : Vec Ideal S4x2x2x8192x2x1x32 .f32) : Vec Ideal S4x4x8192x128 .bf16 :=
  truncf .bf16 (shapeCast _ (select (cmpi .eq (iotaInDim S4x2x2x8192x2x2x32 32 2) (iotaInDim S4x2x2x8192x2x2x32 32 5))
    (broadcastInDim S4x2x2x8192x2x2x32 ![0, 1, 2, 3, 4, 5, 6] bcast_S4x2x2x8192x2x1x32_S4x2x2x8192x2x2x32_0_1_2_3_4_5_6 w)
    (broadcastInDim S4x2x2x8192x2x2x32 ![] bcast_S_S4x2x2x8192x2x2x32 (constant (F := Ideal) S_ .f32 0x00000000#32)))
    shapeCasts_S4x2x2x8192x2x2x32_S4x4x8192x128) bitsLt_bf16_f32
/-- The keys of the sequence on their lanes. -/
def kArr (k : Vec Ideal S4x8192x2x64 .f32) : Vec Ideal S4x1x8x1024x128 .bf16 :=
  shapeCast _ (broadcastInDim S4x1x8192x128 ![0, 2, 3] bcast_S4x8192x128_S4x1x8192x128_0_2_3 ((truncf (F := Ideal) .bf16 (shapeCast S4x8192x128
    (transpose S4x8192x2x2x2x16 [0, 1, 4, 2, 3, 5] (shapeCast S4x8192x2x2x2x16 k shapeCasts_S4x8192x2x64_S4x8192x2x2x2x16)
    transposes_S4x8192x2x2x2x16_S4x8192x2x2x2x16_0_1_4_2_3_5) shapeCasts_S4x8192x2x2x2x16_S4x8192x128) bitsLt_bf16_f32 : Vec Ideal S4x8192x128 .bf16))) shapeCasts_S4x1x8192x128_S4x1x8x1024x128
/-- The context's keys on their lanes. -/
def kcArr (k : Vec Ideal S4x256x2x64 .f32) : Vec Ideal S4x1x1x256x128 .bf16 :=
  broadcastInDim S4x1x1x256x128 ![0, 1, 3, 4] bcast_S4x1x256x128_S4x1x1x256x128_0_1_3_4 (broadcastInDim S4x1x256x128 ![0, 2, 3] bcast_S4x256x128_S4x1x256x128_0_2_3 ((truncf (F := Ideal) .bf16 (shapeCast S4x256x128
    (transpose S4x256x2x2x2x16 [0, 1, 4, 2, 3, 5] (shapeCast S4x256x2x2x2x16 k shapeCasts_S4x256x2x64_S4x256x2x2x2x16)
    transposes_S4x256x2x2x2x16_S4x256x2x2x2x16_0_1_4_2_3_5) shapeCasts_S4x256x2x2x2x16_S4x256x128) bitsLt_bf16_f32 : Vec Ideal S4x256x128 .bf16)))
/-- The values of the sequence turned, sixteen rows of ones below each head's. -/
def vArr (v : Vec Ideal S4x8192x2x64 .f32) : Vec Ideal S4x1x16x2x80x512 .bf16 :=
  truncf .bf16 (broadcastInDim S4x1x16x2x80x512 ![0, 2, 3, 4, 5] bcast_S4x16x2x80x512_S4x1x16x2x80x512_0_2_3_4_5
    (concatenate S4x16x2x80x512 3 [⟨S4x16x2x64x512, transpose S4x16x2x64x512 [0, 1, 3, 4, 2] (shapeCast S4x16x512x2x64 v shapeCasts_S4x8192x2x64_S4x16x512x2x64)
      transposes_S4x16x512x2x64_S4x16x2x64x512_0_1_3_4_2⟩, ⟨S4x16x2x16x512, broadcastInDim S4x16x2x16x512 ![] bcast_S_S4x16x2x16x512 (constant (F := Ideal) S_ .f32 0x3F800000#32)⟩]
      concatenates_S4x16x2x64x512_S4x16x2x16x512_S4x16x2x80x512_d3)) bitsLt_bf16_f32
/-- The context's values turned, sixteen rows of ones below each head's. -/
def vcArr (v : Vec Ideal S4x256x2x64 .f32) : Vec Ideal S4x1x1x2x80x256 .bf16 :=
  truncf .bf16 (broadcastInDim S4x1x1x2x80x256 ![0, 2, 3, 4, 5] bcast_S4x1x2x80x256_S4x1x1x2x80x256_0_2_3_4_5
    (concatenate S4x1x2x80x256 3 [⟨S4x1x2x64x256, transpose S4x1x2x64x256 [0, 1, 3, 4, 2] (shapeCast S4x1x256x2x64 v shapeCasts_S4x256x2x64_S4x1x256x2x64)
      transposes_S4x1x256x2x64_S4x1x2x64x256_0_1_3_4_2⟩, ⟨S4x1x2x16x256, broadcastInDim S4x1x2x16x256 ![] bcast_S_S4x1x2x16x256 (constant (F := Ideal) S_ .f32 0x3F800000#32)⟩]
      concatenates_S4x1x2x64x256_S4x1x2x16x256_S4x1x2x80x256_d3)) bitsLt_bf16_f32

theorem select_eq {α : Type} (a b : ℕ) (ha : a < 2) (hb : b < 2) (x y : α) :
    Scalar.select (IntOp.cmpi CmpIPredicate.eq (BitVec.ofNat 32 a) (BitVec.ofNat 32 b)) x y = if a = b then x else y := by
  interval_cases a <;> interval_cases b <;> rfl

/-- The factor of the queries. -/
abbrev qScale : ℝ := 0.125 / Real.log 2

theorem qScale_eq : Ideal.div (Ideal.ofBits FTy.f32 0x3E000000#32) (Ideal.log (Ideal.ofBits FTy.f32 0x40000000#32)) = (qScale : EReal) := by
  have a : Ideal.ofBits FTy.f32 0x3E000000#32 = ((0.125 : ℝ) : EReal) := by
    simp [Ideal.ofBits, Ideal.ieee, -EReal.coe_mul]; norm_num
  have b : Ideal.ofBits FTy.f32 0x40000000#32 = ((2 : ℝ) : EReal) := by
    simp [Ideal.ofBits, Ideal.ieee, -EReal.coe_mul]; norm_num
  have hl : 0 < Real.log 2 := Real.log_pos one_lt_two
  rw [a, b, Ideal.log_coe, if_neg (by norm_num), Ideal.div, if_neg (by exact_mod_cast hl.ne'), ← EReal.coe_inv, ← EReal.coe_mul]
  rfl

theorem q_apply (w) (b : Fin 4) (s : Fin 4) (t : Fin 8192) (l : Fin 128) : qArr (qLanes w) (ix4 b s t l) =
    if s.val % 2 = l.val % 64 / 32 then w (ix5 b t (kvOf l) ⟨s.val / 2, by omega⟩ (dimOf l)) else 0 := by
  pointwise [qArr, qLanes]
  rw [select_eq _ _ (by omega) (by omega)]
  by_cases h : s.val % 2 = l.val % 64 / 32
  · rw [if_pos h, if_pos (by omega)]
    refine congrArg w ?_
    rw [show (⟨s.val % 2, by omega⟩ : Fin 2) = kvOf l from Fin.ext h,
      show (⟨l.val % 32 / 16 * 32 + l.val / 64 * 16 + l.val % 32 % 16, by omega⟩ : Fin 64) = dimOf l from Fin.ext (by simp only; omega)]
  · rw [if_neg h, if_neg (by omega)]

theorem k_apply (k) (b : Fin 4) (j : Fin 8) (r : Fin 1024) (l : Fin 128) :
    kArr k (ix5 b 0 j r l) = k (ix4 b ⟨1024 * j.val + r.val, by omega⟩ (kvOf l) (dimOf l)) := by
  pointwise [kArr]
  simp only [Nat.mul_comm]
  rw [show (⟨l.val / 32 % 2, by omega⟩ : Fin 2) = kvOf l from Fin.ext (by simp only; omega),
    show (⟨l.val / 16 % 2 * 32 + 16 * (l.val / 64) + l.val % 16, by omega⟩ : Fin 64) = dimOf l from Fin.ext (by simp only; omega)]

theorem kc_apply (k) (b : Fin 4) (r : Fin 256) (l : Fin 128) :
    kcArr k (ix5 b 0 0 r l) = k (ix4 b r (kvOf l) (dimOf l)) := by
  pointwise [kcArr]
  simp only [Nat.mul_comm]
  rw [show (⟨l.val / 32 % 2, by omega⟩ : Fin 2) = kvOf l from Fin.ext (by simp only; omega),
    show (⟨l.val / 16 % 2 * 32 + 16 * (l.val / 64) + l.val % 16, by omega⟩ : Fin 64) = dimOf l from Fin.ext (by simp only; omega)]

theorem v_apply (v) (b : Fin 4) (u : Fin 16) (h : Fin 2) (i : Fin 80) (l : Fin 512) :
    vArr v (ix6 b 0 u h i l) = if hi : i.val < 64 then v (ix4 b ⟨512 * u.val + l.val, by omega⟩ h ⟨i.val, hi⟩) else 1 := by
  pointwise [vArr]
  simp only [Nat.mul_comm]

theorem vc_apply (v) (b : Fin 4) (h : Fin 2) (i : Fin 80) (l : Fin 256) :
    vcArr v (ix6 b 0 0 h i l) = if hi : i.val < 64 then v (ix4 b l h ⟨i.val, hi⟩) else 1 := by
  pointwise [vcArr]

theorem qScaled_apply (q) (b : Fin 4) (t : Fin 8192) (kv g : Fin 2) (d : Fin 64) :
    qScaled q (ix5 b t kv g d) = q (ix5 b t kv g d) * (qScale : EReal) := by
  rw [← qScale_eq]
  pointwise [qScaled]

end Cert.KernelIdeal.Pack
-- ==== Proof.Ref.lean ====
/-
  The reference attention, element by element: the scores, their largest, the weights and their sum, the weighted sum of
  the values.
-/
module

public import proofs.«01_k».proof.Proof.StepValue
public import proofs.«01_k».proof.Proof.Gen.ReferenceIdeal.Run
public import Idealize.ShloMosaic.Lib.Pointwise

@[expose] public section

set_option maxRecDepth 16384
set_option maxHeartbeats 2000000

noncomputable section

namespace Cert.ReferenceIdeal.Spec

open Cert.ReferenceIdeal Cert.ReferenceIdeal.Gen Cert.Online
open Idealize.ShloMosaic Idealize.ShloMosaic.TcCoe Idealize.SL.Sem

/-- The sequence's rows and the context's below them. -/
def join (a : Vec Ideal S4x8192x2x64 .f32) (b : Vec Ideal S4x256x2x64 .f32) : Vec Ideal S4x8448x2x64 .f32 :=
  concatenate S4x8448x2x64 1 [⟨S4x8192x2x64, a⟩, ⟨S4x256x2x64, b⟩] concatenates_S4x8192x2x64_S4x256x2x64_S4x8448x2x64_d1
/-- The scaled scores. -/
def xs (k : FVec Ideal S4x8448x2x64 .f32) (q : FVec Ideal S4x8192x2x2x64 .f32) : FVec Ideal S4x2x2x8192x8448 .f32 :=
  mulf (transpose S4x2x2x8192x8448 [0, 1, 4, 3, 2] (Host.dotGeneral dot_S4x8448x2x64_S4x8192x2x2x64_S4x2x8448x8192x2_3_4_1_13_02_02 none k q)
    transposes_S4x2x8448x8192x2_S4x2x2x8192x8448_0_1_4_3_2) (broadcastInDim S4x2x2x8192x8448 ![] bcast_S_S4x2x2x8192x8448 (constant S_ .f32 0x3E000000#32))
/-- The largest score of each query. -/
def top (x : FVec Ideal S4x2x2x8192x8448 .f32) : FVec Ideal S4x2x2x8192 .f32 :=
  maximumf (broadcastInDim S4x2x2x8192 ![] bcast_S_S4x2x2x8192 (constant S_ .f32 0xFF800000#32))
    (Host.reduce FloatOps.maximumf x (constant (F := Ideal) S_ .f32 0xFF800000#32) reducesTo_S4x2x2x8192x8448_S4x2x2x8192_d4 h_S_)
/-- A number for each query, at every key. -/
def wide (y : FVec Ideal S4x2x2x8192 .f32) : FVec Ideal S4x2x2x8192x8448 .f32 :=
  broadcastInDim S4x2x2x8192x8448 ![0, 1, 2, 3, 4] bcast_S4x2x2x8192x1_S4x2x2x8192x8448_0_1_2_3_4
    (broadcastInDim S4x2x2x8192x1 ![0, 1, 2, 3] bcast_S4x2x2x8192_S4x2x2x8192x1_0_1_2_3 y)
/-- The exponentials of the scores below the largest. -/
def ws (x : FVec Ideal S4x2x2x8192x8448 .f32) : FVec Ideal S4x2x2x8192x8448 .f32 := Host.exp (subf x (wide (top x)))
/-- Their sum over the keys. -/
def total (w : FVec Ideal S4x2x2x8192x8448 .f32) : FVec Ideal S4x2x2x8192 .f32 :=
  Host.reduceAdd w (constant S_ .f32 0x00000000#32) reducesTo_S4x2x2x8192x8448_S4x2x2x8192_d4 h_S_
/-- The weights. -/
def ps (w : FVec Ideal S4x2x2x8192x8448 .f32) : FVec Ideal S4x2x2x8192x8448 .f32 := Host.divf w (wide (total w))
/-- The weighted sum of the values. -/
def out (v : FVec Ideal S4x8448x2x64 .f32) (p : FVec Ideal S4x2x2x8192x8448 .f32) : FVec Ideal S4x8192x256 .bf16 :=
  truncf .bf16 (shapeCast _ (transpose S4x8192x2x2x64 [0, 1, 3, 2, 4] (transpose S4x8192x2x2x64 [0, 4, 1, 3, 2]
    (Host.dotGeneral dot_S4x8448x2x64_S4x2x2x8192x8448_S4x2x64x2x8192_1_4_3_23_02_01 none v p)
    transposes_S4x2x64x2x8192_S4x8192x2x2x64_0_4_1_3_2) transposes_S4x8192x2x2x64_S4x8192x2x2x64_0_1_3_2_4) shapeCasts_S4x8192x2x2x64_S4x8192x256) bitsLt_bf16_f32

theorem join_apply (a b) (n : Fin 4) (k : Fin 8448) (h : Fin 2) (d : Fin 64) : join a b (ix4 n k h d) =
    if hk : k.val < 8192 then a (ix4 n ⟨k.val, hk⟩ h d) else b (ix4 n ⟨k.val - 8192, by omega⟩ h d) := by
  pointwise [join]

theorem xs_apply (k q) (n : Fin 4) (kv g : Fin 2) (t : Fin 8192) (j : Fin 8448) : xs k q (ix5 n kv g t j) =
    (∑ d : Fin 64, k (ix4 n j kv d) * q (ix5 n t kv g d)) * Ideal.ofBits .f32 0x3E000000#32 := by
  pointwise [xs]

theorem ws_apply (x) (n : Fin 4) (kv g : Fin 2) (t : Fin 8192) (j : Fin 8448) : ws x (ix5 n kv g t j) =
    Ideal.exp (x (ix5 n kv g t j) - top x (ix4 n kv g t)) := by
  pointwise [ws, wide]

theorem ps_apply (w) (n : Fin 4) (kv g : Fin 2) (t : Fin 8192) (j : Fin 8448) : ps w (ix5 n kv g t j) =
    Ideal.div (w (ix5 n kv g t j)) (∑ i : Fin 8448, w (ix5 n kv g t i)) := by
  pointwise [ps, wide, total]

theorem out_apply (v p) (n : Fin 4) (kv g : Fin 2) (t : Fin 8192) (d : Fin 64) :
    out v p (ix3 n t ⟨128 * g.val + 64 * kv.val + d.val, by omega⟩) = ∑ j : Fin 8448, v (ix4 n j kv d) * p (ix5 n kv g t j) := by
  have h : ∀ e : Fin 256, out v p (ix3 n t e) = ∑ j : Fin 8448, v (ix4 n j ⟨e.val % 128 / 64, by omega⟩ ⟨e.val % 64, by omega⟩)
      * p (ix5 n ⟨e.val % 128 / 64, by omega⟩ ⟨e.val / 128, by omega⟩ t j) := fun e => by
    pointwise [out]
    refine Finset.sum_congr rfl fun j _ => ?_
    rw [show (⟨e.val / 64 % 2, by omega⟩ : Fin 2) = ⟨e.val % 128 / 64, by omega⟩ from Fin.ext (by simp only; omega)]
  rw [h]
  refine Finset.sum_congr rfl fun j _ => ?_
  simp only
  rw [show (⟨(128 * g.val + 64 * kv.val + d.val) % 128 / 64, by omega⟩ : Fin 2) = kv from Fin.ext (by simp only; omega),
    show (⟨(128 * g.val + 64 * kv.val + d.val) % 64, by omega⟩ : Fin 64) = d from Fin.ext (by simp only; omega),
    show (⟨(128 * g.val + 64 * kv.val + d.val) / 128, by omega⟩ : Fin 2) = g from Fin.ext (by simp only; omega)]

/-- The largest of real numbers is real. -/
theorem largest_real {s t u : Shape} {axes : List (Fin s.rank)} (h : s.ReducesTo axes t) (hu : 0 < u.numel) (b : FVec Ideal t .f32)
    (x : FVec Ideal s .f32) (init : FVec Ideal u .f32) (hinit : init (Shape.Idx.first hu) = (⊥ : EReal)) (hx : ∀ i, ∃ r : ℝ, x i = (r : EReal))
    (j : t.Idx) (hb : b j = (⊥ : EReal)) (i : s.Idx) (hi : h.drop i = j) :
    ∃ M : ℝ, maximumf b (Host.reduce FloatOps.maximumf x init h hu) j = (M : EReal) := by
  classical
  obtain ⟨M, hM⟩ := fold_max_real (Finset.univ.filter fun i => h.drop i = j) ⟨i, Finset.mem_filter.2 ⟨Finset.mem_univ _, hi⟩⟩ x hx
  refine ⟨M, ?_⟩
  show max (b j) (Host.reduce FloatOps.maximumf x init h hu j) = _
  rw [Host.reduce_eq_fold, hb, max_eq_right bot_le, ← hM, hinit]
  congr

theorem top_real (x : FVec Ideal S4x2x2x8192x8448 .f32) (hx : ∀ i, ∃ r : ℝ, x i = (r : EReal)) (n : Fin 4) (kv g : Fin 2)
    (t : Fin 8192) : ∃ M : ℝ, top x (ix4 n kv g t) = (M : EReal) :=
  largest_real _ _ _ x _ Cert.Flash.negInf hx (ix4 n kv g t) Cert.Flash.negInf (ix5 n kv g t 0) (funext fun a => by
      match a with
      | 0 | 1 | 2 | 3 => rfl)

end Cert.ReferenceIdeal.Spec
-- ==== Proof.Value.lean ====
/-
  One window of the kernel's result is the reference's attention: the scores agree up to the logarithm of two, and the
  quotient of the two running sums is the weighted sum of the values.
-/
module

public import proofs.«01_k».proof.Proof.OutValue
public import proofs.«01_k».proof.Proof.Pack
public import proofs.«01_k».proof.Proof.Ref

@[expose] public section

set_option maxRecDepth 16384
set_option maxHeartbeats 1000000

noncomputable section

namespace Cert.Value

open Cert.Online Cert.Flash
open Cert.KernelIdeal.Pack Cert.KernelIdeal.Trip
open Idealize.ShloMosaic Idealize.ShloMosaic.TcCoe Idealize.SL.Sem
open Cert.KernelIdeal (S4x8192x2x64 S4x256x2x64 S4x8192x2x2x64 S1x2x8192x128 S1x1x8x1024x128 S1x1x16x2x80x512 S1x1x1x256x128 S1x1x1x2x80x256)
open Cert.ReferenceIdeal.Spec

theorem lanes_bijective : Function.Bijective (fun l : Fin 128 => (kvOf l, dimOf l)) := by decide +kernel

/-- A sum over the lanes of one key head is a sum over the head's dimensions. -/
theorem sum_lanes (f : Fin 2 → Fin 64 → ℝ) (h : Fin 2) :
    ∑ l : Fin 128, (if h = kvOf l then f (kvOf l) (dimOf l) else 0) = ∑ d : Fin 64, f h d := by
  rw [Fintype.sum_bijective _ lanes_bijective _ (fun p : Fin 2 × Fin 64 => if h = p.1 then f p.1 p.2 else 0) fun l => rfl,
    Fintype.sum_prod_type]
  rw [Finset.sum_eq_single h (fun b _ hb => Finset.sum_eq_zero fun d _ => if_neg (Ne.symm hb)) fun hh => absurd (Finset.mem_univ _) hh]
  exact Finset.sum_congr rfl fun d _ => if_pos rfl

variable (q : Vec Ideal S4x8192x2x2x64 .f32) (k v : Vec Ideal S4x8192x2x64 .f32) (kc vc : Vec Ideal S4x256x2x64 .f32)

/-- A row of the keys or values by its number, `z` past the last. -/
def row {α : Type} (a : Fin 8448 → α) (z : α) (j : ℕ) : α := if h : j < 8448 then a ⟨j, h⟩ else z

theorem row_lt {α : Type} (a : Fin 8448 → α) (z : α) (j : ℕ) (h : j < 8448) : row a z j = a ⟨j, h⟩ := dif_pos h

theorem join_left (a : Vec Ideal S4x8192x2x64 .f32) (b : Vec Ideal S4x256x2x64 .f32) (n : Fin 4) (j : ℕ) (hj : j < 8192) (h : Fin 2) (d : Fin 64) :
    join a b (ix4 n ⟨j, by omega⟩ h d) = a (ix4 n ⟨j, hj⟩ h d) := by
  rw [join_apply, dif_pos hj]

theorem join_right (a : Vec Ideal S4x8192x2x64 .f32) (b : Vec Ideal S4x256x2x64 .f32) (n : Fin 4) (l : Fin 256) (h : Fin 2) (d : Fin 64) :
    join a b (ix4 n ⟨8192 + l.val, by omega⟩ h d) = b (ix4 n l h d) := by
  rw [join_apply, dif_neg (by simp)]
  exact congrArg (fun r => b (ix4 n r h d)) (Fin.ext (by simp))

theorem eighth : Ideal.ofBits FTy.f32 0x3E000000#32 = ((0.125 : ℝ) : EReal) := by
  simp [Ideal.ofBits, Ideal.ieee, -EReal.coe_mul]; norm_num

/-- The reference's result over real scores. -/
theorem out_eq (kk vv : FVec Ideal Cert.ReferenceIdeal.S4x8448x2x64 .f32) (qr : Fin 4 → Fin 8192 → Fin 2 → Fin 2 → Fin 64 → ℝ)
    (kr : Fin 4 → Fin 8448 → Fin 2 → Fin 64 → ℝ) (hq : ∀ n t h g d, q (ix5 n t h g d) = (qr n t h g d : EReal))
    (hk : ∀ n j h d, kk (ix4 n j h d) = (kr n j h d : EReal)) (n : Fin 4) (g h : Fin 2) (t : Fin 8192) (d : Fin 64) :
    ∃ M : ℝ, out vv (ps (ws (xs kk q))) (ix3 n t ⟨128 * g.val + 64 * h.val + d.val, by omega⟩)
      = ∑ j : Fin 8448, Ideal.div ((Real.exp ((∑ d, kr n j h d * qr n t h g d) * 0.125 - M) : ℝ) : EReal)
        (∑ i : Fin 8448, ((Real.exp ((∑ d, kr n i h d * qr n t h g d) * 0.125 - M) : ℝ) : EReal)) * vv (ix4 n j h d) := by
  have hx : ∀ n h g t j, xs kk q (ix5 n h g t j) = (((∑ d, kr n j h d * qr n t h g d) * 0.125 : ℝ) : EReal) := fun n h g t j => by
    rw [xs_apply, eighth, EReal.coe_mul, coe_sum]
    congr 1
    exact Finset.sum_congr rfl fun d _ => by rw [hk, hq, EReal.coe_mul]
  obtain ⟨M, hM⟩ := top_real (xs kk q) (fun i => ⟨_, (congrArg (xs kk q) (funext fun a => by
    match a with
    | 0 | 1 | 2 | 3 | 4 => rfl)).trans (hx (i 0) (i 1) (i 2) (i 3) (i 4))⟩) n h g t
  have hw : ∀ j, ws (xs kk q) (ix5 n h g t j) = ((Real.exp ((∑ d, kr n j h d * qr n t h g d) * 0.125 - M) : ℝ) : EReal) := fun j => by
    rw [ws_apply, hM, hx, exp_sub]
  refine ⟨M, ?_⟩
  rw [out_apply]
  refine Finset.sum_congr rfl fun j _ => ?_
  rw [ps_apply, mul_comm, hw]
  rw [Finset.sum_congr rfl fun i _ => hw i]

theorem attend (hq : ∀ i, ∃ r : ℝ, q i = (r : EReal)) (hk : ∀ i, ∃ r : ℝ, k i = (r : EReal)) (hkc : ∀ i, ∃ r : ℝ, kc i = (r : EReal))
    (x2 : Vec Ideal S1x2x8192x128 .bf16) (x3 : Vec Ideal S1x1x8x1024x128 .bf16) (x4 : Vec Ideal S1x1x16x2x80x512 .bf16)
    (x5 : Vec Ideal S1x1x1x256x128 .bf16) (x6 : Vec Ideal S1x1x1x2x80x256 .bf16) (n : Fin 4) (g : Fin 2)
    (h2 : ∀ (h : Fin 2) t l, x2 (ix4 0 h t l) = qArr (qLanes (qScaled q)) (ix4 n ⟨2 * g.val + h.val, by omega⟩ t l))
    (h3 : ∀ j r l, x3 (ix5 0 0 j r l) = kArr k (ix5 n 0 j r l))
    (h4 : ∀ u h i l, x4 (ix6 0 0 u h i l) = vArr v (ix6 n 0 u h i l))
    (h5 : ∀ r l, x5 (ix5 0 0 0 r l) = kcArr kc (ix5 n 0 0 r l))
    (h6 : ∀ h i l, x6 (ix6 0 0 0 h i l) = vcArr vc (ix6 n 0 0 h i l))
    (h : Fin 2) (t : Fin 8192) (d : Fin 64) :
    outWin x2 x3 x4 x5 x6 (ix3 0 t ⟨64 * h.val + d.val, by omega⟩)
      = out (join v vc) (ps (ws (xs (join k kc) q))) (ix3 n t ⟨128 * g.val + 64 * h.val + d.val, by omega⟩) := by
  choose qr hqr using hq
  choose k1 hk1 using hk
  choose k2 hk2 using hkc
  have hkk : ∀ n j h d, join k kc (ix4 n j h d) = ((join k kc (ix4 n j h d)).toReal : EReal) := fun n j h d => by
    rw [join_apply]
    split
    · rw [hk1, EReal.toReal_coe]
    · rw [hk2, EReal.toReal_coe]
  obtain ⟨M, hM⟩ := out_eq q (join k kc) (join v vc) (fun n t h g d => qr (ix5 n t h g d)) (fun n j h d => (join k kc (ix4 n j h d)).toReal)
    (fun n t h g d => hqr _) hkk n g h t d
  -- keys, queries and values as the kernel's sums read them
  let kf : Fin 2 → Fin 64 → ℕ → ℝ := fun h d => row (fun j => (join k kc (ix4 n j h d)).toReal) 0
  let Kf : ℕ → Fin 128 → ℝ := fun j l => kf (kvOf l) (dimOf l) j
  let Q : Fin 2 → Fin 8192 → Fin 128 → ℝ := fun h t l => if h = kvOf l then qr (ix5 n t (kvOf l) g (dimOf l)) * qScale else 0
  let V : Fin 2 → Fin 80 → ℕ → EReal := fun h i => row (fun j => if hi : i.val < 64 then join v vc (ix4 n j h ⟨i.val, hi⟩) else 1) 1
  obtain ⟨μ, hμ⟩ := outWin_apply x2 x3 x4 x5 x6 Q Kf V
    (fun h t l => by
      rw [h2, q_apply]
      simp only [Q]
      by_cases hh : h = kvOf l
      · rw [if_pos hh, if_pos (by have := congrArg Fin.val hh; simp only at this; omega), qScaled_apply,
          show (⟨(2 * g.val + h.val) / 2, by omega⟩ : Fin 2) = g from Fin.ext (by simp only; omega), hqr, EReal.coe_mul]
      · rw [if_neg hh, if_neg (fun e => hh (Fin.ext (by simp only; omega)))]
        rfl)
    (fun j r l => by
      rw [h3, k_apply]
      simp only [Kf, kf]
      rw [row_lt _ _ _ (by omega), ← hkk, join_left _ _ _ _ (by omega)])
    (fun u h i l => by
      rw [h4, v_apply]
      simp only [V]
      rw [row_lt _ _ _ (by omega)]
      split
      · rw [join_left _ _ _ _ (by omega)]
      · rfl)
    (fun r l => by
      rw [h5, kc_apply]
      simp only [Kf, kf]
      rw [row_lt _ _ _ (by omega), ← hkk, join_right])
    (fun h i l => by
      rw [h6, vc_apply]
      simp only [V]
      rw [row_lt _ _ _ (by omega)]
      split
      · rw [join_right]
      · rfl) h t d
  have hone : V h 64 = fun _ => 1 := funext fun j => by
    simp only [V, row]
    split <;> rfl
  have hscore : ∀ j, (∑ d, kf h d j * qr (ix5 n t h g d)) * 0.125 = score Q Kf h t j * Real.log 2 := fun j => by
    have e : score Q Kf h t j = ∑ d, kf h d j * (qr (ix5 n t h g d) * qScale) := by
      rw [← sum_lanes (fun h d => kf h d j * (qr (ix5 n t h g d) * qScale)) h]
      refine Finset.sum_congr rfl fun l _ => ?_
      simp only [Q, Kf, mul_ite, mul_zero]
    have hl : Real.log 2 ≠ 0 := (Real.log_pos one_lt_two).ne'
    rw [e, Finset.sum_mul, Finset.sum_mul]
    refine Finset.sum_congr rfl fun d _ => ?_
    rw [qScale]
    field_simp
  rw [hμ, hone, mass_div _ _ hscore _ μ M 8448 (by norm_num), hM, Finset.sum_range]
  refine Finset.sum_congr rfl fun j _ => ?_
  have hrow : ∀ i : Fin 8448, ∀ d, kf h d i.val = (join k kc (ix4 n i h d)).toReal := fun i d => row_lt _ _ _ i.isLt
  rw [Finset.sum_range]
  simp only [hrow]
  congr 1
  simp only [V]
  rw [row_lt _ _ _ j.isLt, dif_pos d.isLt]

end Cert.Value
-- ==== Proof.Entry.lean ====
/-
  What the attention kernel is called on: each operand's buffer holds the arguments laid out as in Pack.
-/
module

public import proofs.«01_k».proof.Proof.Pack

@[expose] public section

set_option maxRecDepth 16384
set_option maxHeartbeats 2000000

noncomputable section

namespace Cert.KernelIdeal.Pack

open Cert.KernelIdeal Cert.KernelIdeal.Gen Cert.KernelIdeal.Run
open Idealize.ShloMosaic Idealize.ShloMosaic.TcCoe Idealize.SL.Sem

variable (m : (ℓ : Loc nD τ sig) → Buf (Elt Ideal) ℓ) (c : Dev nD)

theorem V_q : V m c main_v13 = qArr (qLanes (qScaled (m ((c : Thread nD τ).loc main_arg0)))) := by
  unfold V
  simp only [List.flatten_cons, List.flatten_nil, List.append_nil, List.cons_append, List.nil_append]
  after_results
  all_goals simp -implicitDefEqProofs only [StableHlo.TRef.toBuf, StableHlo.TRef.ofBuf, cast_cast, cast_eq, id_eq]
  all_goals unfold qArr qLanes qScaled
  all_goals rfl
theorem V_k : V m c main_v36 = kArr (m ((c : Thread nD τ).loc main_arg1)) := by
  unfold V
  simp only [List.flatten_cons, List.flatten_nil, List.append_nil, List.cons_append, List.nil_append]
  after_results
  all_goals unfold kArr
  all_goals rfl
theorem V_v : V m c main_v24 = vArr (m ((c : Thread nD τ).loc main_arg2)) := by
  unfold V
  simp only [List.flatten_cons, List.flatten_nil, List.append_nil, List.cons_append, List.nil_append]
  after_results
  all_goals unfold vArr
  all_goals rfl
theorem V_kc : V m c main_v37 = kcArr (m ((c : Thread nD τ).loc main_arg3)) := by
  unfold V
  simp only [List.flatten_cons, List.flatten_nil, List.append_nil, List.cons_append, List.nil_append]
  after_results
  all_goals unfold kcArr
  all_goals rfl
theorem V_vc : V m c main_v35 = vcArr (m ((c : Thread nD τ).loc main_arg4)) := by
  unfold V
  simp only [List.flatten_cons, List.flatten_nil, List.append_nil, List.cons_append, List.nil_append]
  after_results
  all_goals unfold vcArr
  all_goals rfl

end Cert.KernelIdeal.Pack
-- ==== Proof.Finite.lean ====
/-
  What the precondition says: every query and every key is a real number.
-/
module

public import proofs.«01_k».proof.Defs
public import Idealize.ShloMosaic.Lib.Pointwise

@[expose] public section

set_option maxRecDepth 16384

noncomputable section

namespace Cert.Finite

open Idealize.ShloMosaic Idealize.ShloMosaic.TcCoe Idealize.SL.Sem

theorem facts : Cert.Pre_finite.Facts := ⟨by decide, by decide, by decide⟩

theorem topBits : Ideal.ofBits FTy.f32 0x7F800000#32 = ⊤ := by simp [Ideal.ofBits, Ideal.ieee]

/-- A value whose size is below the top is real. -/
theorem real_of_abs (x : EReal) (h : max x (-x) < ⊤) : ∃ r : ℝ, x = (r : EReal) := by
  have h1 : x ≠ ⊤ := fun e => by simp [e] at h
  have h2 : x ≠ ⊥ := fun e => by simp [e] at h
  exact ⟨x.toReal, (EReal.coe_toReal h1 h2).symm⟩

/-- The comparison of the sizes with the top, all ones, makes every element real. -/
theorem real_of_ones {s : Shape} (x b : FVec Ideal s .f32) (hb : ∀ i, b i = (⊤ : EReal))
    (h : cmpf .olt (Host.absf x) b = fun _ => 1#1) (i : s.Idx) : ∃ r : ℝ, x i = (r : EReal) := by
  refine real_of_abs _ ?_
  have e : Ideal.cmp .olt (max (x i) (-(x i)) : EReal) (b i) = 1#1 := congrFun h i
  rw [hb] at e
  by_contra hn
  simp [Ideal.cmp, hn] at e

attribute [local instance] facts in
theorem real_of_pre (m : (ℓ : Loc Cert.KernelIdeal.nD Cert.KernelIdeal.τ Cert.KernelIdeal.sig) → Buf (Elt Ideal) ℓ)
    (h : Cert.Pre_KernelIdeal_finite m) (c : Dev Cert.KernelIdeal.nD) :
    (∀ i, ∃ r : ℝ, (m ((c.tc : Thread Cert.KernelIdeal.nD Cert.KernelIdeal.τ).loc Cert.KernelIdeal.main_arg0) :
      Vec Ideal Cert.KernelIdeal.S4x8192x2x2x64 .f32) i = (r : EReal))
    ∧ (∀ i, ∃ r : ℝ, (m ((c.tc : Thread Cert.KernelIdeal.nD Cert.KernelIdeal.τ).loc Cert.KernelIdeal.main_arg1) :
      Vec Ideal Cert.KernelIdeal.S4x8192x2x64 .f32) i = (r : EReal))
    ∧ (∀ i, ∃ r : ℝ, (m ((c.tc : Thread Cert.KernelIdeal.nD Cert.KernelIdeal.τ).loc Cert.KernelIdeal.main_arg3) :
      Vec Ideal Cert.KernelIdeal.S4x256x2x64 .f32) i = (r : EReal)) :=
  ⟨real_of_ones _ _ (fun _ => topBits) (h c).1, real_of_ones _ _ (fun _ => topBits) (h c).2.1,
    real_of_ones _ _ (fun _ => topBits) (h c).2.2⟩

end Cert.Finite
-- ==== Proof.Algebraic.lean ====
/-
  The kernel's result array is the reference's: each grid point writes one sequence's window of two heads, and the windows
  cover the array.
-/
module

public import proofs.«01_k».proof.Proof.Value
public import proofs.«01_k».proof.Proof.Entry
public import proofs.«01_k».proof.Proof.Finite

@[expose] public section

set_option maxRecDepth 16384
set_option maxHeartbeats 1000000

noncomputable section

namespace Cert.Algebraic

open Cert.KernelIdeal Cert.KernelIdeal.Gen Cert.KernelIdeal.Run Cert.KernelIdeal.Pack Cert.KernelIdeal.Trip
open Idealize.ShloMosaic Idealize.ShloMosaic.TcCoe Idealize.SL.Sem
open Idealize.ShloMosaic.Pipeline (Dat)

/-- Where each window stands at a grid point. -/
theorem idx : ∀ t : Fin cfg0.N, win0_0.index t = ![(grid0.coords t 0).val, (grid0.coords t 1).val, 0, 0]
    ∧ win0_1.index t = ![(grid0.coords t 0).val, 0, 0, 0, 0] ∧ win0_2.index t = ![(grid0.coords t 0).val, 0, 0, 0, 0, 0]
    ∧ win0_3.index t = ![(grid0.coords t 0).val, 0, 0, 0, 0] ∧ win0_4.index t = ![(grid0.coords t 0).val, 0, 0, 0, 0, 0]
    ∧ win0_5.index t = ![(grid0.coords t 0).val, 0, (grid0.coords t 1).val] := by decide +kernel

attribute [local instance] Cert.Finite.facts

variable (m : (ℓ : Loc nD τ sig) → Buf (Elt Ideal) ℓ) (c : Dev nD)

/-- The sequence of a grid point. -/
abbrev seqOf (t : Fin cfg0.N) : Fin 4 := ⟨(grid0.coords t 0).val, (grid0.coords t 0).isLt⟩
/-- The pair of query heads of a grid point. -/
abbrev pairOf (t : Fin cfg0.N) : Fin 2 := ⟨(grid0.coords t 1).val, (grid0.coords t 1).isLt⟩

theorem read0 (X : Buf (Elt Ideal) ((c : Thread nD τ).loc main_v13)) (t : Fin cfg0.N) (h : Fin 2) (r : Fin 8192) (l : Fin 128) :
    (((cfg0.win 0).blk t).view.read (Elt Ideal) X : Vec Ideal S1x2x8192x128 .bf16) (ix4 0 h r l)
    = (X : Vec Ideal S4x4x8192x128 .bf16) (ix4 (seqOf t) ⟨2 * (pairOf t).val + h.val, by omega⟩ r l) := by
  blk_ext [idx t]
theorem read1 (X : Buf (Elt Ideal) ((c : Thread nD τ).loc main_v36)) (t : Fin cfg0.N) (j : Fin 8) (r : Fin 1024) (l : Fin 128) :
    (((cfg0.win 1).blk t).view.read (Elt Ideal) X : Vec Ideal S1x1x8x1024x128 .bf16) (ix5 0 0 j r l)
    = (X : Vec Ideal S4x1x8x1024x128 .bf16) (ix5 (seqOf t) 0 j r l) := by
  blk_ext [idx t]
theorem read2 (X : Buf (Elt Ideal) ((c : Thread nD τ).loc main_v24)) (t : Fin cfg0.N) (u : Fin 16) (h : Fin 2) (i : Fin 80) (l : Fin 512) :
    (((cfg0.win 2).blk t).view.read (Elt Ideal) X : Vec Ideal S1x1x16x2x80x512 .bf16) (ix6 0 0 u h i l)
    = (X : Vec Ideal S4x1x16x2x80x512 .bf16) (ix6 (seqOf t) 0 u h i l) := by
  blk_ext [idx t]
theorem read3 (X : Buf (Elt Ideal) ((c : Thread nD τ).loc main_v37)) (t : Fin cfg0.N) (r : Fin 256) (l : Fin 128) :
    (((cfg0.win 3).blk t).view.read (Elt Ideal) X : Vec Ideal S1x1x1x256x128 .bf16) (ix5 0 0 0 r l)
    = (X : Vec Ideal S4x1x1x256x128 .bf16) (ix5 (seqOf t) 0 0 r l) := by
  blk_ext [idx t]
theorem read4 (X : Buf (Elt Ideal) ((c : Thread nD τ).loc main_v35)) (t : Fin cfg0.N) (h : Fin 2) (i : Fin 80) (l : Fin 256) :
    (((cfg0.win 4).blk t).view.read (Elt Ideal) X : Vec Ideal S1x1x1x2x80x256 .bf16) (ix6 0 0 0 h i l)
    = (X : Vec Ideal S4x1x1x2x80x256 .bf16) (ix6 (seqOf t) 0 0 h i l) := by
  blk_ext [idx t]

/-- The reference's result of the launch's arguments. -/
def want : Vec Ideal S4x8192x256 .bf16 :=
  ReferenceIdeal.Spec.out (ReferenceIdeal.Spec.join (m ((c : Thread nD τ).loc main_arg2)) (m ((c : Thread nD τ).loc main_arg4)))
    (ReferenceIdeal.Spec.ps (ReferenceIdeal.Spec.ws (ReferenceIdeal.Spec.xs
      (ReferenceIdeal.Spec.join (m ((c : Thread nD τ).loc main_arg1)) (m ((c : Thread nD τ).loc main_arg3))) (m ((c : Thread nD τ).loc main_arg0)))))

/-- An entry of an output window lands at its sequence's rows and its pair's columns. -/
theorem place (t : Fin cfg0.N) (h : Fin 2) (r : Fin 8192) (d : Fin 64) :
    (((cfg0.win 5).blk t).view.emb (ix3 0 r ⟨64 * h.val + d.val, by omega⟩) : S4x8192x256.Idx)
      = ix3 (seqOf t) r ⟨128 * (pairOf t).val + 64 * h.val + d.val, by omega⟩ := by
  blk_ext [idx t]

/-- An entry of an output window is a head's row and lane. -/
theorem split (y : S1x8192x128.Idx) : ∃ (h : Fin 2) (r : Fin 8192) (d : Fin 64), y = ix3 0 r ⟨64 * h.val + d.val, by omega⟩ := by
  have y2 : (y 2).val < 128 := (y 2).isLt
  refine ⟨⟨(y 2).val / 64, by omega⟩, y 1, ⟨(y 2).val % 64, by omega⟩, ?_⟩
  blk_ext

theorem window (hp : Cert.Pre_KernelIdeal_finite m) (t : Fin cfg0.N) (h : Fin 2) (r : Fin 8192) (d : Fin 64) :
    outWin (F := Ideal) (iblk m c 0 t) (iblk m c 1 t) (iblk m c 2 t) (iblk m c 3 t) (iblk m c 4 t) (ix3 0 r ⟨64 * h.val + d.val, by omega⟩)
      = want m c (ix3 (seqOf t) r ⟨128 * (pairOf t).val + 64 * h.val + d.val, by omega⟩) := by
  obtain ⟨hq, hk, hkc⟩ := Cert.Finite.real_of_pre m hp c
  refine Cert.Value.attend _ _ _ _ _ hq hk hkc _ _ _ _ _ (seqOf t) (pairOf t) ?_ ?_ ?_ ?_ ?_ h r d
  · intro h r l
    exact (read0 c _ t h r l).trans (congrFun (V_q m c) _)
  · intro j r l
    exact (read1 c _ t j r l).trans (congrFun (V_k m c) _)
  · intro u h i l
    exact (read2 c _ t u h i l).trans (congrFun (V_v m c) _)
  · intro r l
    exact (read3 c _ t r l).trans (congrFun (V_kc m c) _)
  · intro h i l
    exact (read4 c _ t h i l).trans (congrFun (V_vc m c) _)

/-- The result array of the run. -/
theorem arr_eq (hp : Cert.Pre_KernelIdeal_finite m) : (dats m 0 c).arrAt 5 cfg0.N = want m c := by
  refine (dats m 0 c).arrAt_eq_of_covers 5 _ (by decide +kernel) fun t hf y => ?_
  blk_simp
  rw [after_5]
  obtain ⟨h, r, d, rfl⟩ := split y
  exact (window m c hp t h r d).trans (congrArg (want m c) (place t h r d)).symm

/-- The run leaves the reference's result, and its arguments as they were. -/
theorem run_ideal (hp : Cert.Pre_KernelIdeal_finite m) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v38) = want m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (defs (F := Ideal)) _ _).mono (fun _ h c => ⟨(Pipeline.FramePost.out_eq h.2 c 5).trans (arr_eq m c hp), h.1 c⟩)
    (θ_run_and (frame_of m ρ (dats m) (A_eq m) (run_main (F := Ideal) m ρ)) (run_main (F := Ideal) m ρ))

/-- The two programs, from the same arguments, all real, leave the same result. -/
theorem algebraic : Cert.algebraic_KernelIdeal_ReferenceIdeal_pre_finite := fun m g m' g' hp ha =>
  ⟨want m, run_ideal m hp g, (θ_run Cert.ReferenceIdeal.defs _ _).mono (fun _ h c => ⟨(h c).1.trans (by
    obtain ⟨e0, e1, e2, e3, e4⟩ := ha c
    rw [e0, e1, e2, e3, e4]
    rfl), (h c).2⟩) (Cert.ReferenceIdeal.Value.run m' g')⟩

end Cert.Algebraic
-- ==== Proof.ExpertsValue.lean ====
/-
  The experts' feed-forward call: what it leaves in an output window, and that this is the reference's.
-/
module

public import proofs.«01_k».proof.Defs
public import proofs.«01_k».proof.Proof.Gen.ExpertsIdeal.Frame
public import proofs.«01_k».proof.Proof.Gen.ExpertsReferenceIdeal.Run
public import Idealize.ShloMosaic.Lib.Pointwise
public import Idealize.ShloMosaic.Lib.Pipeline.ValueKit
public import Idealize.ShloMosaic.Lib.Pipeline.ReadBack

@[expose] public section

set_option maxRecDepth 16384
set_option maxHeartbeats 2000000

noncomputable section

namespace Cert.ExpertsIdeal.Value

open Cert.ExpertsIdeal Cert.ExpertsIdeal.Gen
open Idealize.ShloMosaic Idealize.ShloMosaic.TcCoe Idealize.SL.Sem
open Idealize.ShloMosaic.Pipeline (Dat)

/-- Where each window stands at a grid point. -/
theorem idx : ∀ t : Fin cfg0.N, win0_0.index t = ![(grid0.coords t 1).val, (grid0.coords t 0).val, 0, 0]
    ∧ win0_1.index t = ![(grid0.coords t 1).val, (grid0.coords t 0).val, 0, 0]
    ∧ win0_2.index t = ![0, (grid0.coords t 0).val, 0, 0] ∧ win0_3.index t = ![0, (grid0.coords t 0).val, 0, 0]
    ∧ win0_4.index t = ![0, (grid0.coords t 0).val, 0, 0]
    ∧ win0_5.index t = ![(grid0.coords t 1).val, (grid0.coords t 0).val, 0, 0] := by decide +kernel

/-- The expert of a grid point; it changes at every fourth point only. -/
theorem expert : ∀ t : Fin cfg0.N, (grid0.coords t 0).val = t.val / 4 := by decide +kernel

variable (m : (ℓ : Loc nD τ sig) → Buf (Elt Ideal) ℓ) (c : Dev nD)

theorem blk2 (t u : Fin cfg0.N) (h : t.val / 4 = u.val / 4) : iblk (F := Ideal) m c 2 t = iblk (F := Ideal) m c 2 u := by
  have e := (expert t).trans (h.trans (expert u).symm)
  funext y
  blk_ext [iblk, idx t, idx u]

theorem blk3 (t u : Fin cfg0.N) (h : t.val / 4 = u.val / 4) : iblk (F := Ideal) m c 3 t = iblk (F := Ideal) m c 3 u := by
  have e := (expert t).trans (h.trans (expert u).symm)
  funext y
  blk_ext [iblk, idx t, idx u]

theorem blk4 (t u : Fin cfg0.N) (h : t.val / 4 = u.val / 4) : iblk (F := Ideal) m c 4 t = iblk (F := Ideal) m c 4 u := by
  have e := (expert t).trans (h.trans (expert u).symm)
  funext y
  blk_ext [iblk, idx t, idx u]

/-- After each point the three scratch buffers hold the expert's weights, whichever point cast them, and the output window
    holds the body's value of the point's blocks. -/
theorem left (n : ℕ) (hn : n < cfg0.N) : outsAt0 (F := Ideal) m c n hn
    = (k0_pay4 (iblk m c 0 ⟨n, hn⟩) (k0_pay1 (iblk m c 2 ⟨n, hn⟩)) (k0_pay2 (iblk m c 3 ⟨n, hn⟩)) (k0_pay3 (iblk m c 4 ⟨n, hn⟩)) (iblk m c 1 ⟨n, hn⟩),
      k0_pay1 (iblk m c 2 ⟨n, hn⟩), k0_pay2 (iblk m c 3 ⟨n, hn⟩), k0_pay3 (iblk m c 4 ⟨n, hn⟩)) := by
  induction n with
  | zero =>
    rw [outsAt0_A m c ⟨0, hn⟩ rfl]
    frame_out
  | succ n ih =>
    by_cases h : (n + 1) % 4 = 0
    · rw [outsAt0_A m c ⟨n + 1, hn⟩ h]
      frame_out
    · rw [outsAt0_B m c ⟨n + 1, hn⟩ h]
      frame_out
      have e : (⟨n + 1, hn⟩ : Fin cfg0.N).val / 4 = (⟨n, by omega⟩ : Fin cfg0.N).val / 4 := by simp only; omega
      simp only [read_unread_whole, sout0_B_0, sout0_B_1, sout0_B_2, Nat.add_sub_cancel, ih, blk2 m c _ _ e, blk3 m c _ _ e, blk4 m c _ _ e]

/-- The body's value at an index: the gate's and the up projection's products, the gated middle, the down projection, the
    row's routing weight. -/
theorem pay_apply (x : Vec Ideal S1x1x1024x1024 .bf16) (w1 w2 w3 : Vec Ideal S1x1x1024x1024 .f32) (g : Vec Ideal S1x1x1024x1 .f32)
    (r d : Fin 1024) : k0_pay4 x (k0_pay1 w1) (k0_pay2 w2) (k0_pay3 w3) g (ix4 0 0 r d) =
      (∑ f : Fin 1024, Ideal.div (∑ k : Fin 1024, x (ix4 0 0 r k) * w1 (ix4 0 0 k f))
        (Ideal.ofBits .f32 0x3F800000#32 + Ideal.exp (Ideal.ofBits .f32 0x00000000#32 - ∑ k : Fin 1024, x (ix4 0 0 r k) * w1 (ix4 0 0 k f)))
        * (∑ k : Fin 1024, x (ix4 0 0 r k) * w2 (ix4 0 0 k f)) * w3 (ix4 0 0 f d)) * g (ix4 0 0 r 0) := by
  pointwise [k0_pay4, k0_pay1, k0_pay2, k0_pay3]

end Cert.ExpertsIdeal.Value

namespace Cert.ExpertsReferenceIdeal.Spec

open Cert.ExpertsReferenceIdeal Cert.ExpertsReferenceIdeal.Gen
open Idealize.ShloMosaic Idealize.ShloMosaic.TcCoe Idealize.SL.Sem

/-- The layer's weights, of every expert. -/
def layer (w : Vec Ideal S2x16x1024x1024 .f32) : FVec Ideal S16x1024x1024 .f32 :=
  shapeCast _ (extractStridedSlice S1x16x1024x1024 ![0, 0, 0, 0] w slices_S2x16x1024x1024_S1x16x1024x1024_0_0_0_0) shapeCasts_S1x16x1024x1024_S16x1024x1024
/-- Each expert's rows times its weights. -/
def prod (w : Vec Ideal S2x16x1024x1024 .f32) (x : FVec Ideal S4x16x1024x1024 .f32) : FVec Ideal S4x16x1024x1024 .f32 :=
  transpose S4x16x1024x1024 [2, 0, 3, 1] (Host.dotGeneral dot_S16x1024x1024_S4x16x1024x1024_S16x1024x4x1024_1_3_2_02_0_1 none (layer w) x)
    transposes_S16x1024x4x1024_S4x16x1024x1024_2_0_3_1
/-- The number one, everywhere. -/
def one : FVec Ideal S4x16x1024x1024 .f32 := broadcastInDim S4x16x1024x1024 ![] bcast_S_S4x16x1024x1024 (constant S_ .f32 0x3F800000#32)
/-- `a` through the gate's nonlinearity. -/
def silu (a : FVec Ideal S4x16x1024x1024 .f32) : FVec Ideal S4x16x1024x1024 .f32 :=
  mulf a (Host.divf one (addf one (Host.exp (Host.negf a))))
/-- The experts' outputs, weighted. -/
def out (x : Vec Ideal S4x16x1024x1024 .f32) (g : Vec Ideal S4x16x1024 .f32) (w1 w2 w3 : Vec Ideal S2x16x1024x1024 .f32) :
    FVec Ideal S4x16x1024x1024 .bf16 :=
  truncf .bf16 (mulf (prod w3 (mulf (silu (prod w1 x)) (prod w2 x))) (broadcastInDim S4x16x1024x1024 ![0, 1, 2, 3]
    bcast_S4x16x1024x1_S4x16x1024x1024_0_1_2_3 (broadcastInDim S4x16x1024x1 ![0, 1, 2] bcast_S4x16x1024_S4x16x1024x1_0_1_2 g))) bitsLt_bf16_f32

theorem prod_apply (w x) (b : Fin 4) (e : Fin 16) (r d : Fin 1024) : prod w x (ix4 b e r d) =
    ∑ k : Fin 1024, w (ix4 0 e k d) * x (ix4 b e r k) := by
  pointwise [prod, layer]

theorem silu_apply (a) (b : Fin 4) (e : Fin 16) (r d : Fin 1024) : silu a (ix4 b e r d) = a (ix4 b e r d) *
    Ideal.div (Ideal.ofBits .f32 0x3F800000#32) (Ideal.ofBits .f32 0x3F800000#32 + Ideal.exp (-a (ix4 b e r d))) := by
  pointwise [silu, one]

theorem out_apply (x g w1 w2 w3) (b : Fin 4) (e : Fin 16) (r d : Fin 1024) : out x g w1 w2 w3 (ix4 b e r d) =
    (∑ f : Fin 1024, w3 (ix4 0 e f d) * (silu (prod w1 x) (ix4 b e r f) * prod w2 x (ix4 b e r f))) * g (ix3 b e r) := by
  rw [show out x g w1 w2 w3 (ix4 b e r d) = prod w3 (mulf (silu (prod w1 x)) (prod w2 x)) (ix4 b e r d) * g (ix3 b e r) from by
    pointwise [out], prod_apply]
  rfl

end Cert.ExpertsReferenceIdeal.Spec
-- ==== Proof.ExpertsClaim.lean ====
/-
  The experts' call leaves the reference's result: each grid point writes one expert's rows of one sequence, and the windows
  cover the array.
-/
module

public import proofs.«01_k».proof.Proof.ExpertsValue

@[expose] public section

set_option maxRecDepth 16384
set_option maxHeartbeats 1000000

noncomputable section

namespace Cert.ExpertsIdeal.Value

open Cert.ExpertsIdeal Cert.ExpertsIdeal.Gen
open Idealize.ShloMosaic Idealize.ShloMosaic.TcCoe Idealize.SL.Sem
open Idealize.ShloMosaic.Pipeline (Dat)

/-- The quotient by one plus an exponential is the product with its reciprocal, whatever the number. -/
theorem gate (a : EReal) : Ideal.div a (Ideal.ofBits .f32 0x3F800000#32 + Ideal.exp (Ideal.ofBits .f32 0x00000000#32 - a))
    = a * Ideal.div (Ideal.ofBits .f32 0x3F800000#32) (Ideal.ofBits .f32 0x3F800000#32 + Ideal.exp (-a)) := by
  have h1 : Ideal.ofBits .f32 0x3F800000#32 = (1 : EReal) := by
    simp [Ideal.ofBits, Ideal.ieee, -EReal.coe_mul]
    norm_num [← EReal.coe_one, -EReal.coe_one]
  have h0 : Ideal.ofBits .f32 0x00000000#32 = (0 : EReal) := by
    simp [Ideal.ofBits, Ideal.ieee, -EReal.coe_mul]
  have he : (0 : EReal) ≤ Ideal.exp (-a) := by
    induction -a using EReal.rec with
    | bot => simp
    | top => simp
    | coe r => rw [Ideal.exp_coe]; exact_mod_cast (Real.exp_pos r).le
  have hne : (1 : EReal) + Ideal.exp (-a) ≠ 0 := fun e => by
    have h : (1 : EReal) ≤ 1 + Ideal.exp (-a) := le_add_of_nonneg_right he
    rw [e] at h
    exact absurd h (by norm_num)
  rw [h1, h0, zero_sub, Ideal.div, Ideal.div, if_neg hne, if_neg hne, one_mul]

open Cert.ExpertsReferenceIdeal.Spec in
/-- The body's value is the reference's where its blocks hold one expert's weights and one sequence's rows. -/
theorem value (x : Vec Ideal S1x1x1024x1024 .bf16) (w1 w2 w3 : Vec Ideal S1x1x1024x1024 .f32) (g : Vec Ideal S1x1x1024x1 .f32)
    (X : Vec Ideal S4x16x1024x1024 .f32) (G : Vec Ideal S4x16x1024 .f32) (W1 W2 W3 : Vec Ideal S2x16x1024x1024 .f32) (b : Fin 4) (e : Fin 16)
    (hx : ∀ r k : Fin 1024, x (ix4 0 0 r k) = X (ix4 b e r k)) (hg : ∀ r : Fin 1024, g (ix4 0 0 r 0) = G (ix3 b e r))
    (h1 : ∀ k f : Fin 1024, w1 (ix4 0 0 k f) = W1 (ix4 0 e k f)) (h2 : ∀ k f : Fin 1024, w2 (ix4 0 0 k f) = W2 (ix4 0 e k f))
    (h3 : ∀ k f : Fin 1024, w3 (ix4 0 0 k f) = W3 (ix4 0 e k f)) (r d : Fin 1024) :
    k0_pay4 x (k0_pay1 w1) (k0_pay2 w2) (k0_pay3 w3) g (ix4 0 0 r d) = out X G W1 W2 W3 (ix4 b e r d) := by
  have e1 (f : Fin 1024) : ∑ k : Fin 1024, x (ix4 0 0 r k) * w1 (ix4 0 0 k f) = prod W1 X (ix4 b e r f) := by
    rw [prod_apply]
    exact Finset.sum_congr rfl fun k _ => by rw [hx, h1]; exact mul_comm _ _
  have e2 (f : Fin 1024) : ∑ k : Fin 1024, x (ix4 0 0 r k) * w2 (ix4 0 0 k f) = prod W2 X (ix4 b e r f) := by
    rw [prod_apply]
    exact Finset.sum_congr rfl fun k _ => by rw [hx, h2]; exact mul_comm _ _
  rw [pay_apply, out_apply, hg]
  refine congrArg (· * G (ix3 b e r)) (Finset.sum_congr rfl fun f _ => ?_)
  rw [e1, e2, gate, h3, silu_apply]
  exact mul_comm _ _

variable (m : (ℓ : Loc nD τ sig) → Buf (Elt Ideal) ℓ) (c : Dev nD)

/-- The sequence of a grid point. -/
abbrev seqOf (t : Fin cfg0.N) : Fin 4 := ⟨(grid0.coords t 1).val, (grid0.coords t 1).isLt⟩
/-- The expert of a grid point. -/
abbrev expertOf (t : Fin cfg0.N) : Fin 16 := ⟨(grid0.coords t 0).val, (grid0.coords t 0).isLt⟩

theorem V_x : V (F := Ideal) m c main_v0 = truncf (F := Ideal) .bf16 (m ((c : Thread nD τ).loc main_arg0) : Vec Ideal S4x16x1024x1024 .f32) bitsLt_bf16_f32 := by
  unfold V
  after_results
theorem V_g : V (F := Ideal) m c main_v1 = broadcastInDim S4x16x1024x1 ![0, 1, 2] bcast_S4x16x1024_S4x16x1024x1_0_1_2
    (m ((c : Thread nD τ).loc main_arg1) : Vec Ideal S4x16x1024 .f32) := by
  unfold V
  after_results

theorem read0 (X : Buf (Elt Ideal) ((c : Thread nD τ).loc main_v0)) (t : Fin cfg0.N) (r k : Fin 1024) :
    (((cfg0.win 0).blk t).view.read (Elt Ideal) X : Vec Ideal S1x1x1024x1024 .bf16) (ix4 0 0 r k)
      = (X : Vec Ideal S4x16x1024x1024 .bf16) (ix4 (seqOf t) (expertOf t) r k) := by
  blk_ext [idx t]
theorem read1 (X : Buf (Elt Ideal) ((c : Thread nD τ).loc main_v1)) (t : Fin cfg0.N) (r : Fin 1024) :
    (((cfg0.win 1).blk t).view.read (Elt Ideal) X : Vec Ideal S1x1x1024x1 .f32) (ix4 0 0 r 0)
      = (X : Vec Ideal S4x16x1024x1 .f32) (ix4 (seqOf t) (expertOf t) r 0) := by
  blk_ext [idx t]
theorem read2 (X : Buf (Elt Ideal) ((c : Thread nD τ).loc main_arg2)) (t : Fin cfg0.N) (k f : Fin 1024) :
    (((cfg0.win 2).blk t).view.read (Elt Ideal) X : Vec Ideal S1x1x1024x1024 .f32) (ix4 0 0 k f)
      = (X : Vec Ideal S2x16x1024x1024 .f32) (ix4 0 (expertOf t) k f) := by
  blk_ext [idx t]
theorem read3 (X : Buf (Elt Ideal) ((c : Thread nD τ).loc main_arg3)) (t : Fin cfg0.N) (k f : Fin 1024) :
    (((cfg0.win 3).blk t).view.read (Elt Ideal) X : Vec Ideal S1x1x1024x1024 .f32) (ix4 0 0 k f)
      = (X : Vec Ideal S2x16x1024x1024 .f32) (ix4 0 (expertOf t) k f) := by
  blk_ext [idx t]
theorem read4 (X : Buf (Elt Ideal) ((c : Thread nD τ).loc main_arg4)) (t : Fin cfg0.N) (k f : Fin 1024) :
    (((cfg0.win 4).blk t).view.read (Elt Ideal) X : Vec Ideal S1x1x1024x1024 .f32) (ix4 0 0 k f)
      = (X : Vec Ideal S2x16x1024x1024 .f32) (ix4 0 (expertOf t) k f) := by
  blk_ext [idx t]

theorem blk_x (t : Fin cfg0.N) (r k : Fin 1024) : (iblk (F := Ideal) m c 0 t : Vec Ideal S1x1x1024x1024 .bf16) (ix4 0 0 r k)
    = (m ((c : Thread nD τ).loc main_arg0) : Vec Ideal S4x16x1024x1024 .f32) (ix4 (seqOf t) (expertOf t) r k) :=
  (read0 c _ t r k).trans (congrFun (V_x m c) _)
theorem blk_g (t : Fin cfg0.N) (r : Fin 1024) : (iblk (F := Ideal) m c 1 t : Vec Ideal S1x1x1024x1 .f32) (ix4 0 0 r 0)
    = (m ((c : Thread nD τ).loc main_arg1) : Vec Ideal S4x16x1024 .f32) (ix3 (seqOf t) (expertOf t) r) :=
  (read1 c _ t r).trans ((congrFun (V_g m c) _).trans (by pointwise; rfl))
theorem blk_w1 (t : Fin cfg0.N) (k f : Fin 1024) : (iblk (F := Ideal) m c 2 t : Vec Ideal S1x1x1024x1024 .f32) (ix4 0 0 k f)
    = (m ((c : Thread nD τ).loc main_arg2) : Vec Ideal S2x16x1024x1024 .f32) (ix4 0 (expertOf t) k f) :=
  (read2 c _ t k f).trans (congrFun (V_main_arg2 m c) _)
theorem blk_w2 (t : Fin cfg0.N) (k f : Fin 1024) : (iblk (F := Ideal) m c 3 t : Vec Ideal S1x1x1024x1024 .f32) (ix4 0 0 k f)
    = (m ((c : Thread nD τ).loc main_arg3) : Vec Ideal S2x16x1024x1024 .f32) (ix4 0 (expertOf t) k f) :=
  (read3 c _ t k f).trans (congrFun (V_main_arg3 m c) _)
theorem blk_w3 (t : Fin cfg0.N) (k f : Fin 1024) : (iblk (F := Ideal) m c 4 t : Vec Ideal S1x1x1024x1024 .f32) (ix4 0 0 k f)
    = (m ((c : Thread nD τ).loc main_arg4) : Vec Ideal S2x16x1024x1024 .f32) (ix4 0 (expertOf t) k f) :=
  (read4 c _ t k f).trans (congrFun (V_main_arg4 m c) _)

/-- The reference's result of the launch's arguments. -/
def want : Vec Ideal S4x16x1024x1024 .bf16 :=
  ExpertsReferenceIdeal.Spec.out (m ((c : Thread nD τ).loc main_arg0)) (m ((c : Thread nD τ).loc main_arg1))
    (m ((c : Thread nD τ).loc main_arg2)) (m ((c : Thread nD τ).loc main_arg3)) (m ((c : Thread nD τ).loc main_arg4))

theorem window (t : Fin cfg0.N) (r d : Fin 1024) : k0_pay4 (F := Ideal) (iblk m c 0 t) (k0_pay1 (iblk m c 2 t)) (k0_pay2 (iblk m c 3 t))
    (k0_pay3 (iblk m c 4 t)) (iblk m c 1 t) (ix4 0 0 r d) = want m c (ix4 (seqOf t) (expertOf t) r d) :=
  value _ _ _ _ _ _ _ _ _ _ _ _ (blk_x m c t) (blk_g m c t) (blk_w1 m c t) (blk_w2 m c t) (blk_w3 m c t) r d

/-- An entry of an output window lands at its sequence's and expert's rows. -/
theorem place (t : Fin cfg0.N) (r d : Fin 1024) : (((cfg0.win 5).blk t).view.emb (ix4 0 0 r d) : S4x16x1024x1024.Idx)
    = ix4 (seqOf t) (expertOf t) r d := by
  blk_ext [idx t]
theorem split (y : S1x1x1024x1024.Idx) : ∃ (r d : Fin 1024), y = ix4 0 0 r d := by
  refine ⟨y 2, y 3, ?_⟩
  blk_ext

/-- The result array of the run. -/
theorem arr_eq : (dats m 0 c).arrAt 5 cfg0.N = want m c := by
  refine (dats m 0 c).arrAt_eq_of_covers 5 _ (by decide +kernel) fun t hf y => ?_
  blk_simp
  rw [after0_5, left]
  obtain ⟨r, d, rfl⟩ := split y
  exact (window m c t r d).trans (congrArg (want m c) (place t r d)).symm

/-- The run leaves the reference's result, and its arguments as they were. -/
theorem run_ideal (ρ : Dev nD → PrngReg) :
    θ_run (defs (F := Ideal)) (onTc (τ := τ) (main (F := Ideal))) ⟨m, fun _ => 0, ρ⟩ (fun r => ∀ c : Dev nD,
      r.2.mem ((c.tc : Thread nD τ).loc main_v2) = want m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (defs (F := Ideal)) _ _).mono (fun _ h c => ⟨(Pipeline.FramePost.out_eq h.2 c 5).trans (arr_eq m c), h.1 c⟩)
    (θ_run_and (unchanged (F := Ideal) m ρ) (run_main (F := Ideal) m ρ))

/-- The two programs, from the same arguments, leave the same result. -/
theorem algebraic : Cert.algebraic_ExpertsIdeal_ExpertsReferenceIdeal := fun m g m' g' _ ha =>
  ⟨want m, run_ideal m g, (θ_run Cert.ExpertsReferenceIdeal.defs _ _).mono (fun _ h c => ⟨(h c).1.trans (by
    obtain ⟨e0, e1, e2, e3, e4⟩ := ha c
    rw [e0, e1, e2, e3, e4]
    rfl), (h c).2⟩) (Cert.ExpertsReferenceIdeal.Value.run m' g')⟩

end Cert.ExpertsIdeal.Value
-- ==== Proof.MergeSpec.lean ====
/-
  One token's part of the merge, on rows of numbers: the norm, the modulation, the gated sum of the branches, the residual.
-/
module

public import Idealize.ShloMosaic.PureOps
public import Idealize.ShloMosaic.PureOps.Ideal

@[expose] public section

noncomputable section

namespace Cert.Merge

open Idealize.ShloMosaic

/-- A token's row. -/
abbrev Row := Fin 1024 → EReal

/-- The number of a row's entries. -/
def width : EReal := Ideal.ofBits .f32 0x44800000#32
/-- The norm's small number. -/
def eps : EReal := Ideal.ofBits .f32 0x358637BD#32
/-- One. -/
def one : EReal := Ideal.ofBits .f32 0x3F800000#32
/-- The residual's factor. -/
def alpha : EReal := Ideal.ofBits .f32 0x3FB504F3#32

/-- The mean of a row. -/
def mean (v : Row) : EReal := Ideal.div (∑ k, v k) width
/-- The row off its mean, over its deviation. -/
def normed (v : Row) (d : Fin 1024) : EReal :=
  (v d - mean v) * Ideal.rsqrt (Ideal.div (∑ k, (v k - mean v) * (v k - mean v)) width + eps)
/-- The normed row, scaled and shifted. -/
def modulate (v shift scale : Row) (d : Fin 1024) : EReal := normed v d * (one + scale d) + shift d
/-- The sigmoid of a row's product with a column. -/
def gate (h w : Row) : EReal := Ideal.div one (one + Ideal.exp (-∑ k, h k * w k))
/-- One branch: its gate times its projection. -/
def branch (h w : Row) (o p : Fin 256 → EReal) : EReal := gate h w * ∑ j, o j * p j
/-- The four branches' sum. -/
def merged (h : Row) (o : Fin 4 → Fin 256 → EReal) (wg : Fin 4 → Fin 1024 → Row) (wb : Fin 4 → Fin 256 → Row) (e : Fin 1024) : EReal :=
  branch h (wg 0 · e) (o 0) (wb 0 · e) + branch h (wg 1 · e) (o 1) (wb 1 · e) + branch h (wg 2 · e) (o 2) (wb 2 · e)
    + branch h (wg 3 · e) (o 3) (wb 3 · e)
/-- The residual and the gated output projection. -/
def resid (x ga : Row) (y : Row) (wo : Fin 1024 → Row) (d : Fin 1024) : EReal := alpha * x d + ga d * ∑ e, y e * wo e d
/-- The token after the mixers. -/
def mixed (x shift scale ga g b : Row) (o : Fin 4 → Fin 256 → EReal) (wg : Fin 4 → Fin 1024 → Row) (wb : Fin 4 → Fin 256 → Row)
    (wo : Fin 1024 → Row) (d : Fin 1024) : EReal :=
  normed (resid x ga (merged (modulate x shift scale) o wg wb) wo) d * g d + b d

end Cert.Merge
-- ==== Proof.MergeValue.lean ====
/-
  The merge call: what its body computes of a token's row.
-/
module

public import proofs.«01_k».proof.Defs
public import proofs.«01_k».proof.Proof.MergeSpec
public import proofs.«01_k».proof.Proof.Gen.MergeIdeal.Value
public import Idealize.ShloMosaic.Lib.Pointwise
public import Idealize.ShloMosaic.Lib.Pipeline.ValueKit
public import Idealize.ShloMosaic.Lib.Pipeline.ReadBack

@[expose] public section

set_option maxRecDepth 16384
set_option maxHeartbeats 2000000

noncomputable section

namespace Cert.MergeIdeal.Value

open Cert.MergeIdeal Cert.MergeIdeal.Gen Cert.Merge
open Idealize.ShloMosaic Idealize.ShloMosaic.TcCoe Idealize.SL.Sem
open Idealize.ShloMosaic.Pipeline (Dat)

theorem zero_sub' (a : EReal) : Ideal.ofBits .f32 0x00000000#32 - a = -a := by
  rw [show Ideal.ofBits .f32 0x00000000#32 = (0 : EReal) by simp [Ideal.ofBits, Ideal.ieee, -EReal.coe_mul], zero_sub]

theorem pay5_apply (x : Vec Ideal S1x256x1024 .f32) (sh sc : Vec Ideal S1x1x1024 .f32) (r : Fin 256) (d : Fin 1024) :
    k0_pay5 x sh sc (ix2 r d) = modulate (fun k => x (ix3 0 r k)) (fun k => sh (ix3 0 0 k)) (fun k => sc (ix3 0 0 k)) d := by
  unfold modulate normed mean width eps one
  pointwise [k0_pay5, k0_pay4]

theorem pay6_apply (x : Vec Ideal S1x256x1024 .f32) (sh sc : Vec Ideal S1x1x1024 .f32) (w : Vec Ideal S1024x1024 .bf16) (r : Fin 256) (d : Fin 1024) :
    k0_pay6 x sh sc w (ix2 r d) = one + Ideal.exp (-∑ k : Fin 1024, k0_pay5 x sh sc (ix2 r k) * w (ix2 k d)) := by
  unfold one
  rw [← zero_sub']
  pointwise [k0_pay6]

theorem pay8_apply (h : Vec Ideal S256x1024 .bf16) (w : Vec Ideal S1024x1024 .bf16) (r : Fin 256) (d : Fin 1024) :
    k0_pay8 h w (ix2 r d) = one + Ideal.exp (-∑ k : Fin 1024, h (ix2 r k) * w (ix2 k d)) := by
  unfold one
  rw [← zero_sub']
  pointwise [k0_pay8]

theorem pay7_apply (h : Vec Ideal S256x1024 .bf16) (z : Vec Ideal S256x1024 .f32) (o0 o1 : Vec Ideal S1x256x256 .bf16)
    (p0 p1 : Vec Ideal S1x256x1024 .bf16) (w : Vec Ideal S1024x1024 .bf16) (r : Fin 256) (d : Fin 1024) :
    k0_pay7 h z (Scalar.ofBits .f32 0x3F800000#32) o0 p0 w o1 p1 (ix2 r d) =
      Ideal.div one (z (ix2 r d)) * (∑ j : Fin 256, o0 (ix3 0 r j) * p0 (ix3 0 j d))
      + branch (fun k => h (ix2 r k)) (fun k => w (ix2 k d)) (fun j => o1 (ix3 0 r j)) (fun j => p1 (ix3 0 j d)) := by
  unfold branch gate one
  rw [← zero_sub']
  pointwise [k0_pay7]

theorem pay10_apply (h : Vec Ideal S256x1024 .bf16) (y z : Vec Ideal S256x1024 .f32) (o2 o3 : Vec Ideal S1x256x256 .bf16)
    (p2 p3 : Vec Ideal S1x256x1024 .bf16) (w wo : Vec Ideal S1024x1024 .bf16) (r : Fin 256) (d : Fin 1024) :
    k0_pay10 h y z k0_pay9 o2 p2 w o3 p3 wo (ix2 r d) =
      ∑ e : Fin 1024, (y (ix2 r e) + Ideal.div one (z (ix2 r e)) * (∑ j : Fin 256, o2 (ix3 0 r j) * p2 (ix3 0 j e))
      + branch (fun k => h (ix2 r k)) (fun k => w (ix2 k e)) (fun j => o3 (ix3 0 r j)) (fun j => p3 (ix3 0 j e))) * wo (ix2 e d) := by
  unfold branch gate one
  simp only [← zero_sub']
  pointwise [k0_pay10, k0_pay9]

theorem pay13_apply (y a : Vec Ideal S256x1024 .f32) (ga g b : Vec Ideal S1x1024 .f32) (r : Fin 256) (d : Fin 1024) :
    k0_pay13 y a ga g b (ix2 r d) = normed (fun k => a (ix2 r k) + ga (ix2 0 k) * y (ix2 r k)) d * g (ix2 0 d) + b (ix2 0 d) := by
  unfold normed mean width eps
  pointwise [k0_pay13]

theorem pay17_apply (y a : Vec Ideal S256x1024 .f32) (ga g b : Vec Ideal S1x1024 .f32) (r : Fin 256) (d : Fin 1024) :
    k0_pay17 y a ga g b (ix2 r d) = mean (fun k => k0_pay13 y a ga g b (ix2 r k)) := by
  unfold mean width
  pointwise [k0_pay17]

theorem pay18_apply (x u : Vec Ideal S256x1024 .f32) (sh sc : Vec Ideal S1x1024 .f32) (r : Fin 256) (d : Fin 1024)
    (hu : ∀ k : Fin 1024, u (ix2 r k) = mean (fun k => x (ix2 r k))) :
    (k0_pay18 (F := Ideal) x sh sc u (ix2 r d) : EReal) = modulate (fun k => x (ix2 r k)) (fun k => sh (ix2 0 k)) (fun k => sc (ix2 0 k)) d := by
  unfold modulate normed one width eps
  pointwise [k0_pay18]
  simp only [hu]

theorem pay11_apply (x : Vec Ideal S1x256x1024 .f32) (r : Fin 256) (d : Fin 1024) :
    k0_pay11 (k0_pay4 x) (ix2 r d) = alpha * x (ix3 0 r d) := by
  unfold alpha
  pointwise [k0_pay11, k0_pay4]

theorem pay12_apply (x : Vec Ideal S1x1x1024 .f32) (d : Fin 1024) : k0_pay12 x (ix2 0 d) = x (ix3 0 0 d) := by
  pointwise [k0_pay12]

/-- A load of a whole buffer is the buffer. -/
theorem ld_x (x : Vec Ideal S1x256x1024 .f32) : View.ld x r0_0 = x := by frame_out
theorem ld_mod (x : Vec Ideal S1x1x1024 .f32) : View.ld x r0_1 = x := by frame_out
theorem ld_o (x : Vec Ideal S1x256x256 .bf16) : View.ld x r0_3 = x := by frame_out
theorem ld_wo (x : Vec Ideal S1024x1024 .bf16) : View.ld x r0_11 = x := by frame_out
theorem ld_ln (x : Vec Ideal S1x1024 .f32) : View.ld x r0_12 = x := by frame_out

/-- The column of gate `i` in the gates' joined weights. -/
abbrev col (i : Fin 4) (e : Fin 1024) : Fin 4096 := ⟨i.val * 1024 + e.val, by omega⟩

theorem gates_apply (x : Vec Ideal S1024x4096 .bf16) (i : Fin 4) (off : Fin 2 → ℕ) (h)
    (h0 : off 0 = 0) (h1 : off 1 = i.val * 1024) (k e : Fin 1024) :
    View.ld x (Rect.unit (s := S1024x4096) off S1024x1024.size h) (ix2 k e) = x (ix2 k (col i e)) :=
  View.ld_unit_apply_of x _ _ _ _ _ fun a => by
    match a with
    | 0 => show k.val = off 0 + k.val; omega
    | 1 => show i.val * 1024 + e.val = off 1 + e.val; omega

theorem slab_apply (x : Vec Ideal S4x256x1024 .bf16) (i : Fin 4) (off : Fin 3 → ℕ) (h)
    (h0 : off 0 = i.val) (h1 : off 1 = 0) (h2 : off 2 = 0) (j : Fin 256) (e : Fin 1024) :
    View.ld x (Rect.unit (s := S4x256x1024) off S1x256x1024.size h) (ix3 0 j e) = x (ix3 i j e) :=
  View.ld_unit_apply_of x _ _ _ _ _ fun a => by
    match a with
    | 0 => show i.val = off 0 + 0; omega
    | 1 => show j.val = off 1 + j.val; omega
    | 2 => show e.val = off 2 + e.val; omega

section
variable (x0 : Vec Ideal S1x256x1024 .f32) (x1 x2 x3 x4 : Vec Ideal S1x256x256 .bf16) (x5 x6 x7 x8 x9 : Vec Ideal S1x1x1024 .f32)
  (x10 : Vec Ideal S1024x4096 .bf16) (x11 : Vec Ideal S4x256x1024 .bf16) (x12 : Vec Ideal S1024x1024 .bf16) (x13 x14 : Vec Ideal S1x1024 .f32)
  (x15 : Vec Ideal S1024x256 .bf16)

/-- The mixed row of a block's row `r`. -/
def mixedOf (r : Fin 256) (d : Fin 1024) : EReal :=
  mixed (fun k => x0 (ix3 0 r k)) (fun k => x5 (ix3 0 0 k)) (fun k => x6 (ix3 0 0 k)) (fun k => x7 (ix3 0 0 k))
    (fun k => x13 (ix2 0 k)) (fun k => x14 (ix2 0 k))
    ![fun j => x1 (ix3 0 r j), fun j => x2 (ix3 0 r j), fun j => x3 (ix3 0 r j), fun j => x4 (ix3 0 r j)]
    (fun i k e => x10 (ix2 k (col i e))) (fun i j e => x11 (ix3 i j e)) (fun e d => x12 (ix2 e d)) d

theorem pay27_apply (r : Fin 256) (d : Fin 1024) :
    (k0_pay27 x0 x1 x2 x3 x4 x5 x6 x7 x8 x9 x10 x11 x12 x13 x14 x15 (ix2 r d) : EReal)
      = mixedOf x0 x1 x2 x3 x4 x5 x6 x7 x10 x11 x12 x13 x14 r d := by
  unfold k0_pay27 k0_pay26 k0_pay25 k0_pay24 k0_pay23
  rw [ld_x, ld_mod, ld_mod, ld_mod, ld_o, ld_o, ld_o, ld_o, ld_wo, ld_ln, ld_ln, pay13_apply]
  unfold mixedOf mixed
  refine congrArg (fun v => normed v d * x13 (ix2 0 d) + x14 (ix2 0 d)) (funext fun k => ?_)
  unfold resid merged
  rw [pay10_apply, pay11_apply, pay12_apply]
  refine congrArg (fun y => alpha * x0 (ix3 0 r k) + x7 (ix3 0 0 k) * y) (Finset.sum_congr rfl fun e _ => ?_)
  rw [pay7_apply, pay6_apply, pay8_apply]
  have h (k : Fin 1024) := pay5_apply x0 x5 x6 r k
  have g0 (k : Fin 1024) : View.ld x10 r0_2 (ix2 k e) = _ := gates_apply x10 0 _ _ rfl rfl k e
  have g1 (k : Fin 1024) : View.ld x10 r0_5 (ix2 k e) = _ := gates_apply x10 1 _ _ rfl rfl k e
  have g2 (k : Fin 1024) : View.ld x10 r0_7 (ix2 k e) = _ := gates_apply x10 2 _ _ rfl rfl k e
  have g3 (k : Fin 1024) : View.ld x10 r0_9 (ix2 k e) = _ := gates_apply x10 3 _ _ rfl rfl k e
  have p0 (j : Fin 256) : View.ld x11 r0_4 (ix3 0 j e) = _ := slab_apply x11 0 _ _ rfl rfl rfl j e
  have p1 (j : Fin 256) : View.ld x11 r0_6 (ix3 0 j e) = _ := slab_apply x11 1 _ _ rfl rfl rfl j e
  have p2 (j : Fin 256) : View.ld x11 r0_8 (ix3 0 j e) = _ := slab_apply x11 2 _ _ rfl rfl rfl j e
  have p3 (j : Fin 256) : View.ld x11 r0_10 (ix3 0 j e) = _ := slab_apply x11 3 _ _ rfl rfl rfl j e
  simp only [h, g0, g1, g2, g3, p0, p1, p2, p3]
  rfl

theorem out16_apply (r : Fin 256) (d : Fin 1024) :
    (out0_16 x0 x1 x2 x3 x4 x5 x6 x7 x8 x9 x10 x11 x12 x13 x14 x15 (ix3 0 r d) : EReal)
      = mixedOf x0 x1 x2 x3 x4 x5 x6 x7 x10 x11 x12 x13 x14 r d := by
  rw [← pay27_apply x0 x1 x2 x3 x4 x5 x6 x7 x8 x9 x10 x11 x12 x13 x14 x15 r d]
  have e : out0_16 x0 x1 x2 x3 x4 x5 x6 x7 x8 x9 x10 x11 x12 x13 x14 x15
      = k0_pay14 (k0_pay24 x0 x1 x2 x3 x4 x5 x6 x7 x8 x9 x10 x11 x12 x13 x14 x15) (k0_pay25 x0 x1 x2 x3 x4 x5 x6 x7 x8 x9 x10 x11 x12 x13 x14 x15)
          (k0_pay26 x0 x1 x2 x3 x4 x5 x6 x7 x8 x9 x10 x11 x12 x13 x14 x15) (View.ld x13 r0_12) (View.ld x14 r0_12) := by
    unfold out0_16
    frame_out
  rw [e]
  unfold k0_pay27
  pointwise [k0_pay14]

theorem out17_apply (r : Fin 256) (d : Fin 1024) :
    (out0_17 x0 x1 x2 x3 x4 x5 x6 x7 x8 x9 x10 x11 x12 x13 x14 x15 (ix3 0 r d) : EReal)
      = modulate (mixedOf x0 x1 x2 x3 x4 x5 x6 x7 x10 x11 x12 x13 x14 r) (fun k => x8 (ix3 0 0 k)) (fun k => x9 (ix3 0 0 k)) d := by
  have e : out0_17 x0 x1 x2 x3 x4 x5 x6 x7 x8 x9 x10 x11 x12 x13 x14 x15
      = k0_pay20 (k0_pay27 x0 x1 x2 x3 x4 x5 x6 x7 x8 x9 x10 x11 x12 x13 x14 x15) (k0_pay28 x0 x1 x2 x3 x4 x5 x6 x7 x8 x9 x10 x11 x12 x13 x14 x15)
          (k0_pay29 x0 x1 x2 x3 x4 x5 x6 x7 x8 x9 x10 x11 x12 x13 x14 x15) (k0_pay30 x0 x1 x2 x3 x4 x5 x6 x7 x8 x9 x10 x11 x12 x13 x14 x15) := by
    unfold out0_17
    frame_out
  have h28 (k : Fin 1024) : k0_pay28 x0 x1 x2 x3 x4 x5 x6 x7 x8 x9 x10 x11 x12 x13 x14 x15 (ix2 0 k) = x8 (ix3 0 0 k) := by
    unfold k0_pay28
    rw [ld_mod]
    pointwise [k0_pay15]
  have h29 (k : Fin 1024) : k0_pay29 x0 x1 x2 x3 x4 x5 x6 x7 x8 x9 x10 x11 x12 x13 x14 x15 (ix2 0 k) = x9 (ix3 0 0 k) := by
    unfold k0_pay29
    rw [ld_mod]
    pointwise [k0_pay16]
  have h := pay18_apply (k0_pay27 x0 x1 x2 x3 x4 x5 x6 x7 x8 x9 x10 x11 x12 x13 x14 x15)
    (k0_pay30 x0 x1 x2 x3 x4 x5 x6 x7 x8 x9 x10 x11 x12 x13 x14 x15) (k0_pay28 x0 x1 x2 x3 x4 x5 x6 x7 x8 x9 x10 x11 x12 x13 x14 x15)
    (k0_pay29 x0 x1 x2 x3 x4 x5 x6 x7 x8 x9 x10 x11 x12 x13 x14 x15) r d fun k => by
      unfold k0_pay30
      exact pay17_apply _ _ _ _ _ r k
  simp only [h28, h29, pay27_apply] at h
  rw [e]
  refine Eq.trans ?_ h
  pointwise [k0_pay20, k0_pay19]

end

end Cert.MergeIdeal.Value
-- ==== Proof.MergeHost.lean ====
/-
  What the host hands the merge call's windows, and where each window stands.
-/
module

public import proofs.«01_k».proof.Proof.MergeValue

@[expose] public section

set_option maxRecDepth 16384
set_option maxHeartbeats 2000000

noncomputable section

namespace Cert.MergeIdeal.Value

open Cert.MergeIdeal Cert.MergeIdeal.Gen Cert.Merge
open Idealize.ShloMosaic Idealize.ShloMosaic.TcCoe Idealize.SL.Sem
open Idealize.ShloMosaic.Pipeline (Dat)

/-- The lane of entry `j` of the four heads' 64 entries in the order 0, 2, 1, 3. -/
abbrev lane (j : Fin 256) : Fin 256 := ⟨j.val / 64 % 2 * 128 + j.val / 128 * 64 + j.val % 64, by omega⟩

/-- A branch's output with its heads in the order 0, 2, 1, 3. -/
def lanes (o : FVec Ideal S4x8192x256 .f32) : FVec Ideal S4x8192x256 .bf16 :=
  truncf .bf16 (shapeCast S4x8192x256 (transpose S4x8192x2x2x64 [0, 1, 3, 2, 4] (shapeCast S4x8192x2x2x64 o shapeCasts_S4x8192x256_S4x8192x2x2x64)
    transposes_S4x8192x2x2x64_S4x8192x2x2x64_0_1_3_2_4) shapeCasts_S4x8192x2x2x64_S4x8192x256) bitsLt_bf16_f32

theorem lanes_apply (o : FVec Ideal S4x8192x256 .f32) (n : Fin 4) (t : Fin 8192) (j : Fin 256) : lanes o (ix3 n t j) = o (ix3 n t (lane j)) := by
  pointwise [lanes]

/-- One branch's projection. -/
def slab0 (w : FVec Ideal S4x256x1024 .f32) : FVec Ideal S1x256x1024 .f32 :=
  broadcastInDim S1x256x1024 ![1, 2] bcast_S256x1024_S1x256x1024_1_2 (shapeCast S256x1024
    (extractStridedSlice S1x256x1024 ![0, 0, 0] w slices_S4x256x1024_S1x256x1024_0_0_0) shapeCasts_S1x256x1024_S256x1024)
/-- The second branch's projection, its rows in the order of the lanes. -/
def slab1 (w : FVec Ideal S4x256x1024 .f32) : FVec Ideal S1x256x1024 .f32 :=
  broadcastInDim S1x256x1024 ![1, 2] bcast_S256x1024_S1x256x1024_1_2 (shapeCast S256x1024 (transpose S2x2x64x1024 [1, 0, 2, 3]
    (shapeCast S2x2x64x1024 (shapeCast S256x1024
    (extractStridedSlice S1x256x1024 ![1, 0, 0] w slices_S4x256x1024_S1x256x1024_1_0_0) shapeCasts_S1x256x1024_S256x1024)
    shapeCasts_S256x1024_S2x2x64x1024) transposes_S2x2x64x1024_S2x2x64x1024_1_0_2_3) shapeCasts_S2x2x64x1024_S256x1024)
/-- The third branch's projection, its rows in the order of the lanes. -/
def slab2 (w : FVec Ideal S4x256x1024 .f32) : FVec Ideal S1x256x1024 .f32 :=
  broadcastInDim S1x256x1024 ![1, 2] bcast_S256x1024_S1x256x1024_1_2 (shapeCast S256x1024 (transpose S2x2x64x1024 [1, 0, 2, 3]
    (shapeCast S2x2x64x1024 (shapeCast S256x1024
    (extractStridedSlice S1x256x1024 ![2, 0, 0] w slices_S4x256x1024_S1x256x1024_2_0_0) shapeCasts_S1x256x1024_S256x1024)
    shapeCasts_S256x1024_S2x2x64x1024) transposes_S2x2x64x1024_S2x2x64x1024_1_0_2_3) shapeCasts_S2x2x64x1024_S256x1024)
/-- The fourth branch's projection. -/
def slab3 (w : FVec Ideal S4x256x1024 .f32) : FVec Ideal S1x256x1024 .f32 :=
  broadcastInDim S1x256x1024 ![1, 2] bcast_S256x1024_S1x256x1024_1_2 (shapeCast S256x1024
    (extractStridedSlice S1x256x1024 ![3, 0, 0] w slices_S4x256x1024_S1x256x1024_3_0_0) shapeCasts_S1x256x1024_S256x1024)
/-- The four projections as the call takes them. -/
def slabs (w : FVec Ideal S4x256x1024 .f32) : FVec Ideal S4x256x1024 .bf16 :=
  truncf .bf16 (concatenate S4x256x1024 0 [⟨S1x256x1024, slab0 w⟩, ⟨S1x256x1024, slab1 w⟩, ⟨S1x256x1024, slab2 w⟩, ⟨S1x256x1024, slab3 w⟩]
    concatenates_S1x256x1024_S1x256x1024_S1x256x1024_S1x256x1024_S4x256x1024_d0) bitsLt_bf16_f32

theorem slab0_apply (w : FVec Ideal S4x256x1024 .f32) (j : Fin 256) (e : Fin 1024) : slab0 w (ix3 0 j e) = w (ix3 0 j e) := by pointwise [slab0]
theorem slab1_apply (w : FVec Ideal S4x256x1024 .f32) (j : Fin 256) (e : Fin 1024) : slab1 w (ix3 0 j e) = w (ix3 1 (lane j) e) := by pointwise [slab1]
theorem slab2_apply (w : FVec Ideal S4x256x1024 .f32) (j : Fin 256) (e : Fin 1024) : slab2 w (ix3 0 j e) = w (ix3 2 (lane j) e) := by pointwise [slab2]
theorem slab3_apply (w : FVec Ideal S4x256x1024 .f32) (j : Fin 256) (e : Fin 1024) : slab3 w (ix3 0 j e) = w (ix3 3 j e) := by pointwise [slab3]

theorem slabs0_apply (w : FVec Ideal S4x256x1024 .f32) (j : Fin 256) (e : Fin 1024) : slabs w (ix3 0 j e) = w (ix3 0 j e) := by
  refine Eq.trans ?_ (slab0_apply w j e)
  pointwise [slabs]
theorem slabs1_apply (w : FVec Ideal S4x256x1024 .f32) (j : Fin 256) (e : Fin 1024) : slabs w (ix3 1 j e) = w (ix3 1 (lane j) e) := by
  refine Eq.trans ?_ (slab1_apply w j e)
  pointwise [slabs]
theorem slabs2_apply (w : FVec Ideal S4x256x1024 .f32) (j : Fin 256) (e : Fin 1024) : slabs w (ix3 2 j e) = w (ix3 2 (lane j) e) := by
  refine Eq.trans ?_ (slab2_apply w j e)
  pointwise [slabs]
theorem slabs3_apply (w : FVec Ideal S4x256x1024 .f32) (j : Fin 256) (e : Fin 1024) : slabs w (ix3 3 j e) = w (ix3 3 j e) := by
  refine Eq.trans ?_ (slab3_apply w j e)
  pointwise [slabs]

/-- Where each window stands at a grid point. -/
theorem idxTokens : ∀ t : Fin cfg0.N, win0_0.index t = ![(grid0.coords t 0).val, (grid0.coords t 1).val, 0]
    ∧ win0_1.index t = ![(grid0.coords t 0).val, (grid0.coords t 1).val, 0] ∧ win0_2.index t = ![(grid0.coords t 0).val, (grid0.coords t 1).val, 0]
    ∧ win0_3.index t = ![(grid0.coords t 0).val, (grid0.coords t 1).val, 0] ∧ win0_4.index t = ![(grid0.coords t 0).val, (grid0.coords t 1).val, 0]
    ∧ win0_16.index t = ![(grid0.coords t 0).val, (grid0.coords t 1).val, 0]
    ∧ win0_17.index t = ![(grid0.coords t 0).val, (grid0.coords t 1).val, 0] := by decide +kernel
theorem idxMods : ∀ t : Fin cfg0.N, win0_5.index t = ![(grid0.coords t 0).val, 0, 0] ∧ win0_6.index t = ![(grid0.coords t 0).val, 0, 0]
    ∧ win0_7.index t = ![(grid0.coords t 0).val, 0, 0] ∧ win0_8.index t = ![(grid0.coords t 0).val, 0, 0]
    ∧ win0_9.index t = ![(grid0.coords t 0).val, 0, 0] := by decide +kernel
theorem idxWeights : ∀ t : Fin cfg0.N, win0_10.index t = ![0, 0] ∧ win0_11.index t = ![0, 0, 0] ∧ win0_12.index t = ![0, 0]
    ∧ win0_13.index t = ![0, 0] ∧ win0_14.index t = ![0, 0] := by decide +kernel

variable (m : (ℓ : Loc nD τ sig) → Buf (Elt Ideal) ℓ) (c : Dev nD)

/-- The sequence of a grid point. -/
abbrev seqOf (t : Fin cfg0.N) : Fin 4 := ⟨(grid0.coords t 0).val, (grid0.coords t 0).isLt⟩
/-- The token of a block's row. -/
abbrev tokenOf (t : Fin cfg0.N) (r : Fin 256) : Fin 8192 := ⟨(grid0.coords t 1).val * 256 + r.val, by
  have h : (grid0.coords t 1).val < 32 := (grid0.coords t 1).isLt
  omega⟩

theorem V_oa : V (F := Ideal) m c main_v38 = truncf (F := Ideal) .bf16 (m ((c : Thread nD τ).loc main_arg1) : Vec Ideal S4x8192x256 .f32) bitsLt_bf16_f32 := by
  unfold V
  after_results
theorem V_ob : V (F := Ideal) m c main_v39 = lanes (m ((c : Thread nD τ).loc main_arg2)) := by
  unfold V
  after_results
  rfl
theorem V_oc : V (F := Ideal) m c main_v40 = lanes (m ((c : Thread nD τ).loc main_arg3)) := by
  unfold V
  after_results
  rfl
theorem V_od : V (F := Ideal) m c main_v41 = truncf (F := Ideal) .bf16 (m ((c : Thread nD τ).loc main_arg4) : Vec Ideal S4x8192x256 .f32) bitsLt_bf16_f32 := by
  unfold V
  after_results
/-- A modulation vector with an axis for the token. -/
abbrev axis (s : Vec Ideal S4x1024 .f32) : Vec Ideal S4x1x1024 .f32 := broadcastInDim S4x1x1024 ![0, 2] bcast_S4x1024_S4x1x1024_0_2 s
theorem V_sha : V (F := Ideal) m c main_v42 = axis (m ((c : Thread nD τ).loc main_arg5)) := by
  unfold V
  after_results
theorem V_sca : V (F := Ideal) m c main_v43 = axis (m ((c : Thread nD τ).loc main_arg6)) := by
  unfold V
  after_results
theorem V_ga : V (F := Ideal) m c main_v44 = axis (m ((c : Thread nD τ).loc main_arg7)) := by
  unfold V
  after_results
theorem V_shf : V (F := Ideal) m c main_v45 = axis (m ((c : Thread nD τ).loc main_arg8)) := by
  unfold V
  after_results
theorem V_scf : V (F := Ideal) m c main_v46 = axis (m ((c : Thread nD τ).loc main_arg9)) := by
  unfold V
  after_results
theorem V_win : V (F := Ideal) m c main_v7 = truncf (F := Ideal) .bf16 (extractStridedSlice S1024x4096 ![0, 2144]
    (m ((c : Thread nD τ).loc main_arg10) : Vec Ideal S1024x6240 .f32) slices_S1024x6240_S1024x4096_0_2144) bitsLt_bf16_f32 := by
  unfold V
  after_results
theorem V_wb : V (F := Ideal) m c main_v27 = slabs (m ((c : Thread nD τ).loc main_arg11)) := by
  unfold V
  after_results
  rfl
theorem V_wo : V (F := Ideal) m c main_v28 = truncf (F := Ideal) .bf16 (m ((c : Thread nD τ).loc main_arg12) : Vec Ideal S1024x1024 .f32) bitsLt_bf16_f32 := by
  unfold V
  after_results
theorem V_g : V (F := Ideal) m c main_v29 = broadcastInDim S1x1024 ![1] bcast_S1024_S1x1024_1
    (m ((c : Thread nD τ).loc main_arg13) : Vec Ideal S1024 .f32) := by
  unfold V
  after_results
theorem V_b : V (F := Ideal) m c main_v30 = broadcastInDim S1x1024 ![1] bcast_S1024_S1x1024_1
    (m ((c : Thread nD τ).loc main_arg14) : Vec Ideal S1024 .f32) := by
  unfold V
  after_results

theorem read0 (X : Buf (Elt Ideal) ((c : Thread nD τ).loc main_arg0)) (t : Fin cfg0.N) (r : Fin 256) (k : Fin 1024) :
    (((cfg0.win 0).blk t).view.read (Elt Ideal) X : Vec Ideal S1x256x1024 .f32) (ix3 0 r k)
      = (X : Vec Ideal S4x8192x1024 .f32) (ix3 (seqOf t) (tokenOf t r) k) := by
  blk_ext [idxTokens t]
theorem read1 (X : Buf (Elt Ideal) ((c : Thread nD τ).loc main_v38)) (t : Fin cfg0.N) (r j : Fin 256) :
    (((cfg0.win 1).blk t).view.read (Elt Ideal) X : Vec Ideal S1x256x256 .bf16) (ix3 0 r j)
      = (X : Vec Ideal S4x8192x256 .bf16) (ix3 (seqOf t) (tokenOf t r) j) := by
  blk_ext [idxTokens t]
theorem read2 (X : Buf (Elt Ideal) ((c : Thread nD τ).loc main_v39)) (t : Fin cfg0.N) (r j : Fin 256) :
    (((cfg0.win 2).blk t).view.read (Elt Ideal) X : Vec Ideal S1x256x256 .bf16) (ix3 0 r j)
      = (X : Vec Ideal S4x8192x256 .bf16) (ix3 (seqOf t) (tokenOf t r) j) := by
  blk_ext [idxTokens t]
theorem read3 (X : Buf (Elt Ideal) ((c : Thread nD τ).loc main_v40)) (t : Fin cfg0.N) (r j : Fin 256) :
    (((cfg0.win 3).blk t).view.read (Elt Ideal) X : Vec Ideal S1x256x256 .bf16) (ix3 0 r j)
      = (X : Vec Ideal S4x8192x256 .bf16) (ix3 (seqOf t) (tokenOf t r) j) := by
  blk_ext [idxTokens t]
theorem read4 (X : Buf (Elt Ideal) ((c : Thread nD τ).loc main_v41)) (t : Fin cfg0.N) (r j : Fin 256) :
    (((cfg0.win 4).blk t).view.read (Elt Ideal) X : Vec Ideal S1x256x256 .bf16) (ix3 0 r j)
      = (X : Vec Ideal S4x8192x256 .bf16) (ix3 (seqOf t) (tokenOf t r) j) := by
  blk_ext [idxTokens t]
theorem read5 (X : Buf (Elt Ideal) ((c : Thread nD τ).loc main_v42)) (t : Fin cfg0.N) (k : Fin 1024) :
    (((cfg0.win 5).blk t).view.read (Elt Ideal) X : Vec Ideal S1x1x1024 .f32) (ix3 0 0 k)
      = (X : Vec Ideal S4x1x1024 .f32) (ix3 (seqOf t) 0 k) := by
  blk_ext [idxMods t]
theorem read6 (X : Buf (Elt Ideal) ((c : Thread nD τ).loc main_v43)) (t : Fin cfg0.N) (k : Fin 1024) :
    (((cfg0.win 6).blk t).view.read (Elt Ideal) X : Vec Ideal S1x1x1024 .f32) (ix3 0 0 k)
      = (X : Vec Ideal S4x1x1024 .f32) (ix3 (seqOf t) 0 k) := by
  blk_ext [idxMods t]
theorem read7 (X : Buf (Elt Ideal) ((c : Thread nD τ).loc main_v44)) (t : Fin cfg0.N) (k : Fin 1024) :
    (((cfg0.win 7).blk t).view.read (Elt Ideal) X : Vec Ideal S1x1x1024 .f32) (ix3 0 0 k)
      = (X : Vec Ideal S4x1x1024 .f32) (ix3 (seqOf t) 0 k) := by
  blk_ext [idxMods t]
theorem read8 (X : Buf (Elt Ideal) ((c : Thread nD τ).loc main_v45)) (t : Fin cfg0.N) (k : Fin 1024) :
    (((cfg0.win 8).blk t).view.read (Elt Ideal) X : Vec Ideal S1x1x1024 .f32) (ix3 0 0 k)
      = (X : Vec Ideal S4x1x1024 .f32) (ix3 (seqOf t) 0 k) := by
  blk_ext [idxMods t]
theorem read9 (X : Buf (Elt Ideal) ((c : Thread nD τ).loc main_v46)) (t : Fin cfg0.N) (k : Fin 1024) :
    (((cfg0.win 9).blk t).view.read (Elt Ideal) X : Vec Ideal S1x1x1024 .f32) (ix3 0 0 k)
      = (X : Vec Ideal S4x1x1024 .f32) (ix3 (seqOf t) 0 k) := by
  blk_ext [idxMods t]
theorem read10 (X : Buf (Elt Ideal) ((c : Thread nD τ).loc main_v7)) (t : Fin cfg0.N) (k : Fin 1024) (e : Fin 4096) :
    (((cfg0.win 10).blk t).view.read (Elt Ideal) X : Vec Ideal S1024x4096 .bf16) (ix2 k e) = (X : Vec Ideal S1024x4096 .bf16) (ix2 k e) := by
  blk_ext [idxWeights t]
theorem read11 (X : Buf (Elt Ideal) ((c : Thread nD τ).loc main_v27)) (t : Fin cfg0.N) (i : Fin 4) (j : Fin 256) (e : Fin 1024) :
    (((cfg0.win 11).blk t).view.read (Elt Ideal) X : Vec Ideal S4x256x1024 .bf16) (ix3 i j e) = (X : Vec Ideal S4x256x1024 .bf16) (ix3 i j e) := by
  blk_ext [idxWeights t]
theorem read12 (X : Buf (Elt Ideal) ((c : Thread nD τ).loc main_v28)) (t : Fin cfg0.N) (e d : Fin 1024) :
    (((cfg0.win 12).blk t).view.read (Elt Ideal) X : Vec Ideal S1024x1024 .bf16) (ix2 e d) = (X : Vec Ideal S1024x1024 .bf16) (ix2 e d) := by
  blk_ext [idxWeights t]
theorem read13 (X : Buf (Elt Ideal) ((c : Thread nD τ).loc main_v29)) (t : Fin cfg0.N) (k : Fin 1024) :
    (((cfg0.win 13).blk t).view.read (Elt Ideal) X : Vec Ideal S1x1024 .f32) (ix2 0 k) = (X : Vec Ideal S1x1024 .f32) (ix2 0 k) := by
  blk_ext [idxWeights t]
theorem read14 (X : Buf (Elt Ideal) ((c : Thread nD τ).loc main_v30)) (t : Fin cfg0.N) (k : Fin 1024) :
    (((cfg0.win 14).blk t).view.read (Elt Ideal) X : Vec Ideal S1x1024 .f32) (ix2 0 k) = (X : Vec Ideal S1x1024 .f32) (ix2 0 k) := by
  blk_ext [idxWeights t]

theorem axis_apply (s : Vec Ideal S4x1024 .f32) (n : Fin 4) (k : Fin 1024) : axis s (ix3 n 0 k) = s (ix2 n k) := by pointwise
theorem lift_apply (s : Vec Ideal S1024 .f32) (k : Fin 1024) : broadcastInDim S1x1024 ![1] bcast_S1024_S1x1024_1 s (ix2 0 k) = s (ix1 k) := by
  pointwise
/-- The column of gate `i` in the input projection's weights. -/
abbrev inCol (i : Fin 4) (e : Fin 1024) : Fin 6240 := ⟨2144 + (i.val * 1024 + e.val), by omega⟩
theorem slice_apply (w : FVec Ideal S1024x6240 .f32) (k : Fin 1024) (i : Fin 4) (e : Fin 1024) :
    truncf (F := Ideal) .bf16 (extractStridedSlice S1024x4096 ![0, 2144] w slices_S1024x6240_S1024x4096_0_2144) bitsLt_bf16_f32 (ix2 k (col i e))
      = w (ix2 k (inCol i e)) := by
  pointwise

section
variable (t : Fin cfg0.N) (r j : Fin 256) (i : Fin 4) (k e d : Fin 1024)

theorem blk_x : (iblk (F := Ideal) m c 0 t : Vec Ideal S1x256x1024 .f32) (ix3 0 r k)
    = (m ((c : Thread nD τ).loc main_arg0) : Vec Ideal S4x8192x1024 .f32) (ix3 (seqOf t) (tokenOf t r) k) :=
  (read0 c _ t r k).trans (congrFun (V_main_arg0 m c) _)
theorem blk_oa : (iblk (F := Ideal) m c 1 t : Vec Ideal S1x256x256 .bf16) (ix3 0 r j)
    = (m ((c : Thread nD τ).loc main_arg1) : Vec Ideal S4x8192x256 .f32) (ix3 (seqOf t) (tokenOf t r) j) :=
  (read1 c _ t r j).trans (congrFun (V_oa m c) _)
theorem blk_ob : (iblk (F := Ideal) m c 2 t : Vec Ideal S1x256x256 .bf16) (ix3 0 r j)
    = (m ((c : Thread nD τ).loc main_arg2) : Vec Ideal S4x8192x256 .f32) (ix3 (seqOf t) (tokenOf t r) (lane j)) :=
  (read2 c _ t r j).trans ((congrFun (V_ob m c) _).trans (lanes_apply _ _ _ _))
theorem blk_oc : (iblk (F := Ideal) m c 3 t : Vec Ideal S1x256x256 .bf16) (ix3 0 r j)
    = (m ((c : Thread nD τ).loc main_arg3) : Vec Ideal S4x8192x256 .f32) (ix3 (seqOf t) (tokenOf t r) (lane j)) :=
  (read3 c _ t r j).trans ((congrFun (V_oc m c) _).trans (lanes_apply _ _ _ _))
theorem blk_od : (iblk (F := Ideal) m c 4 t : Vec Ideal S1x256x256 .bf16) (ix3 0 r j)
    = (m ((c : Thread nD τ).loc main_arg4) : Vec Ideal S4x8192x256 .f32) (ix3 (seqOf t) (tokenOf t r) j) :=
  (read4 c _ t r j).trans (congrFun (V_od m c) _)
theorem blk_sha : (iblk (F := Ideal) m c 5 t : Vec Ideal S1x1x1024 .f32) (ix3 0 0 k)
    = (m ((c : Thread nD τ).loc main_arg5) : Vec Ideal S4x1024 .f32) (ix2 (seqOf t) k) :=
  (read5 c _ t k).trans ((congrFun (V_sha m c) _).trans (axis_apply _ _ _))
theorem blk_sca : (iblk (F := Ideal) m c 6 t : Vec Ideal S1x1x1024 .f32) (ix3 0 0 k)
    = (m ((c : Thread nD τ).loc main_arg6) : Vec Ideal S4x1024 .f32) (ix2 (seqOf t) k) :=
  (read6 c _ t k).trans ((congrFun (V_sca m c) _).trans (axis_apply _ _ _))
theorem blk_ga : (iblk (F := Ideal) m c 7 t : Vec Ideal S1x1x1024 .f32) (ix3 0 0 k)
    = (m ((c : Thread nD τ).loc main_arg7) : Vec Ideal S4x1024 .f32) (ix2 (seqOf t) k) :=
  (read7 c _ t k).trans ((congrFun (V_ga m c) _).trans (axis_apply _ _ _))
theorem blk_shf : (iblk (F := Ideal) m c 8 t : Vec Ideal S1x1x1024 .f32) (ix3 0 0 k)
    = (m ((c : Thread nD τ).loc main_arg8) : Vec Ideal S4x1024 .f32) (ix2 (seqOf t) k) :=
  (read8 c _ t k).trans ((congrFun (V_shf m c) _).trans (axis_apply _ _ _))
theorem blk_scf : (iblk (F := Ideal) m c 9 t : Vec Ideal S1x1x1024 .f32) (ix3 0 0 k)
    = (m ((c : Thread nD τ).loc main_arg9) : Vec Ideal S4x1024 .f32) (ix2 (seqOf t) k) :=
  (read9 c _ t k).trans ((congrFun (V_scf m c) _).trans (axis_apply _ _ _))
theorem blk_win : (iblk (F := Ideal) m c 10 t : Vec Ideal S1024x4096 .bf16) (ix2 k (col i e))
    = (m ((c : Thread nD τ).loc main_arg10) : Vec Ideal S1024x6240 .f32) (ix2 k (inCol i e)) :=
  (read10 c _ t k _).trans ((congrFun (V_win m c) _).trans (slice_apply _ _ _ _))
theorem blk_wb : (iblk (F := Ideal) m c 11 t : Vec Ideal S4x256x1024 .bf16) (ix3 i j e)
    = slabs (m ((c : Thread nD τ).loc main_arg11)) (ix3 i j e) :=
  (read11 c _ t i j e).trans (congrFun (V_wb m c) _)
theorem blk_wo : (iblk (F := Ideal) m c 12 t : Vec Ideal S1024x1024 .bf16) (ix2 e d)
    = (m ((c : Thread nD τ).loc main_arg12) : Vec Ideal S1024x1024 .f32) (ix2 e d) :=
  (read12 c _ t e d).trans (congrFun (V_wo m c) _)
theorem blk_ln_g : (iblk (F := Ideal) m c 13 t : Vec Ideal S1x1024 .f32) (ix2 0 k)
    = (m ((c : Thread nD τ).loc main_arg13) : Vec Ideal S1024 .f32) (ix1 k) :=
  (read13 c _ t k).trans ((congrFun (V_g m c) _).trans (lift_apply _ _))
theorem blk_ln_b : (iblk (F := Ideal) m c 14 t : Vec Ideal S1x1024 .f32) (ix2 0 k)
    = (m ((c : Thread nD τ).loc main_arg14) : Vec Ideal S1024 .f32) (ix1 k) :=
  (read14 c _ t k).trans ((congrFun (V_b m c) _).trans (lift_apply _ _))
end

/-- An entry of an output window lands at its sequence's and token's row. -/
theorem place16 (t : Fin cfg0.N) (r : Fin 256) (d : Fin 1024) : (((cfg0.win 16).blk t).view.emb (ix3 0 r d) : S4x8192x1024.Idx)
    = ix3 (seqOf t) (tokenOf t r) d := by
  blk_ext [idxTokens t]
theorem place17 (t : Fin cfg0.N) (r : Fin 256) (d : Fin 1024) : (((cfg0.win 17).blk t).view.emb (ix3 0 r d) : S4x8192x1024.Idx)
    = ix3 (seqOf t) (tokenOf t r) d := by
  blk_ext [idxTokens t]
theorem split (y : S1x256x1024.Idx) : ∃ (r : Fin 256) (d : Fin 1024), y = ix3 0 r d := by
  refine ⟨y 1, y 2, ?_⟩
  blk_ext

end Cert.MergeIdeal.Value
-- ==== Proof.MergeRef.lean ====
/-
  The merge's reference: its vectors, and what they are at one token.
-/
module

public import proofs.«01_k».proof.Defs
public import proofs.«01_k».proof.Proof.MergeSpec
public import proofs.«01_k».proof.Proof.Gen.MergeReferenceIdeal.Run
public import Idealize.ShloMosaic.Lib.Pointwise

@[expose] public section

set_option maxRecDepth 16384
set_option maxHeartbeats 2000000

noncomputable section

namespace Cert.MergeReferenceIdeal.Spec

open Cert.MergeReferenceIdeal Cert.MergeReferenceIdeal.Gen Cert.Merge
open Idealize.ShloMosaic Idealize.ShloMosaic.TcCoe Idealize.SL.Sem

/-- The token's means. -/
def means (v : FVec Ideal S4x8192x1024 .f32) : FVec Ideal S4x8192x1 .f32 :=
  Host.divf (broadcastInDim S4x8192x1 ![0, 1] bcast_S4x8192_S4x8192x1_0_1 (Host.reduceAdd v (constant S_ .f32 0x00000000#32)
    reducesTo_S4x8192x1024_S4x8192_d2 h_S_)) (broadcastInDim S4x8192x1 ![] bcast_S_S4x8192x1 (constant S_ .f32 0x44800000#32))
/-- The tokens off their means. -/
def off (v : FVec Ideal S4x8192x1024 .f32) : FVec Ideal S4x8192x1024 .f32 :=
  subf v (broadcastInDim S4x8192x1024 ![0, 1, 2] bcast_S4x8192x1_S4x8192x1024_0_1_2 (means v))
/-- The tokens normed. -/
def norms (v : FVec Ideal S4x8192x1024 .f32) : FVec Ideal S4x8192x1024 .f32 :=
  mulf (off v) (broadcastInDim S4x8192x1024 ![0, 1, 2] bcast_S4x8192x1_S4x8192x1024_0_1_2 (Host.rsqrt (addf (Host.divf
    (broadcastInDim S4x8192x1 ![0, 1] bcast_S4x8192_S4x8192x1_0_1 (Host.reduceAdd (mulf (off v) (off v)) (constant S_ .f32 0x00000000#32)
      reducesTo_S4x8192x1024_S4x8192_d2 h_S_)) (broadcastInDim S4x8192x1 ![] bcast_S_S4x8192x1 (constant S_ .f32 0x44800000#32)))
    (broadcastInDim S4x8192x1 ![] bcast_S_S4x8192x1 (constant S_ .f32 0x358637BD#32)))))
/-- A vector of each sequence, at every token. -/
def every (s : FVec Ideal S4x1x1024 .f32) : FVec Ideal S4x8192x1024 .f32 :=
  broadcastInDim S4x8192x1024 ![0, 1, 2] bcast_S4x1x1024_S4x8192x1024_0_1_2 s
/-- A vector of each sequence, with an axis for the token. -/
def axis (s : FVec Ideal S4x1024 .f32) : FVec Ideal S4x1x1024 .f32 := broadcastInDim S4x1x1024 ![0, 2] bcast_S4x1024_S4x1x1024_0_2 s
/-- The tokens normed, scaled and shifted. -/
def mods (v : FVec Ideal S4x8192x1024 .f32) (sh sc : FVec Ideal S4x1024 .f32) : FVec Ideal S4x8192x1024 .f32 :=
  addf (mulf (norms v) (every (addf (broadcastInDim S4x1x1024 ![] bcast_S_S4x1x1024 (constant S_ .f32 0x3F800000#32)) (axis sc)))) (every (axis sh))
/-- The four gates. -/
def gates (h : FVec Ideal S4x8192x1024 .f32) (w : FVec Ideal S1024x6240 .f32) : FVec Ideal S4x8192x4x1024 .f32 :=
  Host.divf (broadcastInDim S4x8192x4x1024 ![] bcast_S_S4x8192x4x1024 (constant S_ .f32 0x3F800000#32))
    (addf (broadcastInDim S4x8192x4x1024 ![] bcast_S_S4x8192x4x1024 (constant S_ .f32 0x3F800000#32)) (Host.exp (Host.negf
      (shapeCast _ (extractStridedSlice S4x8192x4096 ![0, 0, 2144] (Host.dotGeneral dot_S4x8192x1024_S1024x6240_S4x8192x6240_2_0_01_1_n_n none h w)
        slices_S4x8192x6240_S4x8192x4096_0_0_2144) shapeCasts_S4x8192x4096_S4x8192x4x1024))))
/-- The first branch, gated. -/
def part0 (G : FVec Ideal S4x8192x4x1024 .f32) (o : FVec Ideal S4x8192x256 .f32) (w : FVec Ideal S4x256x1024 .f32) : FVec Ideal S4x8192x1024 .f32 :=
  mulf (shapeCast _ (extractStridedSlice S4x8192x1x1024 ![0, 0, 0, 0] G slices_S4x8192x4x1024_S4x8192x1x1024_0_0_0_0)
      shapeCasts_S4x8192x1x1024_S4x8192x1024)
    (Host.dotGeneral dot_S4x8192x256_S256x1024_S4x8192x1024_2_0_01_1_n_n none o
      (shapeCast _ (extractStridedSlice S1x256x1024 ![0, 0, 0] w slices_S4x256x1024_S1x256x1024_0_0_0) shapeCasts_S1x256x1024_S256x1024))
/-- The second branch, gated. -/
def part1 (G : FVec Ideal S4x8192x4x1024 .f32) (o : FVec Ideal S4x8192x256 .f32) (w : FVec Ideal S4x256x1024 .f32) : FVec Ideal S4x8192x1024 .f32 :=
  mulf (shapeCast _ (extractStridedSlice S4x8192x1x1024 ![0, 0, 1, 0] G slices_S4x8192x4x1024_S4x8192x1x1024_0_0_1_0)
      shapeCasts_S4x8192x1x1024_S4x8192x1024)
    (Host.dotGeneral dot_S4x8192x256_S256x1024_S4x8192x1024_2_0_01_1_n_n none o
      (shapeCast _ (extractStridedSlice S1x256x1024 ![1, 0, 0] w slices_S4x256x1024_S1x256x1024_1_0_0) shapeCasts_S1x256x1024_S256x1024))
/-- The third branch, gated. -/
def part2 (G : FVec Ideal S4x8192x4x1024 .f32) (o : FVec Ideal S4x8192x256 .f32) (w : FVec Ideal S4x256x1024 .f32) : FVec Ideal S4x8192x1024 .f32 :=
  mulf (shapeCast _ (extractStridedSlice S4x8192x1x1024 ![0, 0, 2, 0] G slices_S4x8192x4x1024_S4x8192x1x1024_0_0_2_0)
      shapeCasts_S4x8192x1x1024_S4x8192x1024)
    (Host.dotGeneral dot_S4x8192x256_S256x1024_S4x8192x1024_2_0_01_1_n_n none o
      (shapeCast _ (extractStridedSlice S1x256x1024 ![2, 0, 0] w slices_S4x256x1024_S1x256x1024_2_0_0) shapeCasts_S1x256x1024_S256x1024))
/-- The fourth branch, gated. -/
def part3 (G : FVec Ideal S4x8192x4x1024 .f32) (o : FVec Ideal S4x8192x256 .f32) (w : FVec Ideal S4x256x1024 .f32) : FVec Ideal S4x8192x1024 .f32 :=
  mulf (shapeCast _ (extractStridedSlice S4x8192x1x1024 ![0, 0, 3, 0] G slices_S4x8192x4x1024_S4x8192x1x1024_0_0_3_0)
      shapeCasts_S4x8192x1x1024_S4x8192x1024)
    (Host.dotGeneral dot_S4x8192x256_S256x1024_S4x8192x1024_2_0_01_1_n_n none o
      (shapeCast _ (extractStridedSlice S1x256x1024 ![3, 0, 0] w slices_S4x256x1024_S1x256x1024_3_0_0) shapeCasts_S1x256x1024_S256x1024))
/-- The residual with the gated output projection. -/
def resids (x : FVec Ideal S4x8192x1024 .f32) (ga : FVec Ideal S4x1024 .f32) (y : FVec Ideal S4x8192x1024 .f32) (w : FVec Ideal S1024x1024 .f32) :
    FVec Ideal S4x8192x1024 .f32 :=
  addf (mulf (broadcastInDim S4x8192x1024 ![] bcast_S_S4x8192x1024 (constant S_ .f32 0x3FB504F3#32)) x)
    (mulf (every (axis ga)) (Host.dotGeneral dot_S4x8192x1024_S1024x1024_S4x8192x1024_2_0_01_1_n_n none y w))
/-- A vector at every token. -/
def wide (g : FVec Ideal S1024 .f32) : FVec Ideal S4x8192x1024 .f32 :=
  broadcastInDim S4x8192x1024 ![0, 1, 2] bcast_S1x1x1024_S4x8192x1024_0_1_2 (broadcastInDim S1x1x1024 ![2] bcast_S1024_S1x1x1024_2 g)

section
variable (x : FVec Ideal S4x8192x1024 .f32) (oa ob oc od : FVec Ideal S4x8192x256 .f32) (sha sca ga shf scf : FVec Ideal S4x1024 .f32)
  (win : FVec Ideal S1024x6240 .f32) (wb : FVec Ideal S4x256x1024 .f32) (wo : FVec Ideal S1024x1024 .f32) (g b : FVec Ideal S1024 .f32)

/-- The first result: the tokens after the mixers. -/
def out0 : FVec Ideal S4x8192x1024 .f32 :=
  addf (mulf (norms (resids x ga (addf (addf (addf (part0 (gates (mods x sha sca) win) oa wb) (part1 (gates (mods x sha sca) win) ob wb))
    (part2 (gates (mods x sha sca) win) oc wb)) (part3 (gates (mods x sha sca) win) od wb)) wo)) (wide g)) (wide b)
/-- The second result: the first, modulated for the experts. -/
def out1 : FVec Ideal S4x8192x1024 .bf16 := truncf .bf16 (mods (out0 x oa ob oc od sha sca ga win wb wo g b) shf scf) bitsLt_bf16_f32
end

variable (n : Fin 4) (t : Fin 8192)

theorem means_apply (v : FVec Ideal S4x8192x1024 .f32) : means v (ix3 n t 0) = mean (fun k => v (ix3 n t k)) := by
  unfold mean width
  pointwise [means]
theorem off_apply (v : FVec Ideal S4x8192x1024 .f32) (d : Fin 1024) : off v (ix3 n t d) = v (ix3 n t d) - mean (fun k => v (ix3 n t k)) := by
  rw [← means_apply]
  pointwise [off]
theorem norms_apply (v : FVec Ideal S4x8192x1024 .f32) (d : Fin 1024) : norms v (ix3 n t d) = normed (fun k => v (ix3 n t k)) d := by
  unfold normed width eps
  simp only [← off_apply]
  pointwise [norms]
theorem every_apply (s : FVec Ideal S4x1x1024 .f32) (d : Fin 1024) : every s (ix3 n t d) = s (ix3 n 0 d) := by
  pointwise [every]
theorem axis_apply (s : FVec Ideal S4x1024 .f32) (d : Fin 1024) : axis s (ix3 n 0 d) = s (ix2 n d) := by
  pointwise [axis]
theorem mods_apply (v : FVec Ideal S4x8192x1024 .f32) (sh sc : FVec Ideal S4x1024 .f32) (d : Fin 1024) :
    mods v sh sc (ix3 n t d) = modulate (fun k => v (ix3 n t k)) (fun k => sh (ix2 n k)) (fun k => sc (ix2 n k)) d := by
  unfold modulate one
  rw [← norms_apply]
  pointwise [mods, every, axis]
/-- The column of gate `i` in the input projection's weights. -/
abbrev col (i : Fin 4) (e : Fin 1024) : Fin 6240 := ⟨2144 + (i.val * 1024 + e.val), by omega⟩
theorem gates_apply (h : FVec Ideal S4x8192x1024 .f32) (w : FVec Ideal S1024x6240 .f32) (i : Fin 4) (e : Fin 1024) :
    gates h w (ix4 n t i e) = gate (fun k => h (ix3 n t k)) (fun k => w (ix2 k (col i e))) := by
  unfold gate one
  pointwise [gates]
theorem part0_apply (G : FVec Ideal S4x8192x4x1024 .f32) (o : FVec Ideal S4x8192x256 .f32) (w : FVec Ideal S4x256x1024 .f32) (e : Fin 1024) :
    part0 G o w (ix3 n t e) = G (ix4 n t 0 e) * ∑ j : Fin 256, o (ix3 n t j) * w (ix3 0 j e) := by
  pointwise [part0]
theorem part1_apply (G : FVec Ideal S4x8192x4x1024 .f32) (o : FVec Ideal S4x8192x256 .f32) (w : FVec Ideal S4x256x1024 .f32) (e : Fin 1024) :
    part1 G o w (ix3 n t e) = G (ix4 n t 1 e) * ∑ j : Fin 256, o (ix3 n t j) * w (ix3 1 j e) := by
  pointwise [part1]
theorem part2_apply (G : FVec Ideal S4x8192x4x1024 .f32) (o : FVec Ideal S4x8192x256 .f32) (w : FVec Ideal S4x256x1024 .f32) (e : Fin 1024) :
    part2 G o w (ix3 n t e) = G (ix4 n t 2 e) * ∑ j : Fin 256, o (ix3 n t j) * w (ix3 2 j e) := by
  pointwise [part2]
theorem part3_apply (G : FVec Ideal S4x8192x4x1024 .f32) (o : FVec Ideal S4x8192x256 .f32) (w : FVec Ideal S4x256x1024 .f32) (e : Fin 1024) :
    part3 G o w (ix3 n t e) = G (ix4 n t 3 e) * ∑ j : Fin 256, o (ix3 n t j) * w (ix3 3 j e) := by
  pointwise [part3]
theorem resids_apply (x : FVec Ideal S4x8192x1024 .f32) (ga : FVec Ideal S4x1024 .f32) (y : FVec Ideal S4x8192x1024 .f32)
    (w : FVec Ideal S1024x1024 .f32) (d : Fin 1024) : resids x ga y w (ix3 n t d)
      = resid (fun k => x (ix3 n t k)) (fun k => ga (ix2 n k)) (fun k => y (ix3 n t k)) (fun e d => w (ix2 e d)) d := by
  unfold resid alpha
  pointwise [resids, every, axis]
theorem wide_apply (g : FVec Ideal S1024 .f32) (d : Fin 1024) : wide g (ix3 n t d) = g (ix1 d) := by
  pointwise [wide]

section
variable (x : FVec Ideal S4x8192x1024 .f32) (oa ob oc od : FVec Ideal S4x8192x256 .f32) (sha sca ga shf scf : FVec Ideal S4x1024 .f32)
  (win : FVec Ideal S1024x6240 .f32) (wb : FVec Ideal S4x256x1024 .f32) (wo : FVec Ideal S1024x1024 .f32) (g b : FVec Ideal S1024 .f32)

/-- The mixed row of a token. -/
def mixedOf (d : Fin 1024) : EReal :=
  mixed (fun k => x (ix3 n t k)) (fun k => sha (ix2 n k)) (fun k => sca (ix2 n k)) (fun k => ga (ix2 n k)) (fun k => g (ix1 k)) (fun k => b (ix1 k))
    ![fun j => oa (ix3 n t j), fun j => ob (ix3 n t j), fun j => oc (ix3 n t j), fun j => od (ix3 n t j)]
    (fun i k e => win (ix2 k (col i e))) (fun i j e => wb (ix3 i j e)) (fun e d => wo (ix2 e d)) d

theorem out0_apply (d : Fin 1024) : out0 x oa ob oc od sha sca ga win wb wo g b (ix3 n t d)
    = mixedOf n t x oa ob oc od sha sca ga win wb wo g b d := by
  have s (y : FVec Ideal S4x8192x1024 .f32) : addf (mulf (norms y) (wide g)) (wide b) (ix3 n t d) = norms y (ix3 n t d) * g (ix1 d) + b (ix1 d) := by
    rw [← wide_apply n t g, ← wide_apply n t b]
    rfl
  have p (a b c d : FVec Ideal S4x8192x1024 .f32) (e : Fin 1024) : addf (addf (addf a b) c) d (ix3 n t e)
      = a (ix3 n t e) + b (ix3 n t e) + c (ix3 n t e) + d (ix3 n t e) := rfl
  unfold out0
  rw [s, norms_apply]
  simp only [resids_apply, p, part0_apply, part1_apply, part2_apply, part3_apply, gates_apply, mods_apply]
  rfl

theorem out1_apply (d : Fin 1024) : out1 x oa ob oc od sha sca ga shf scf win wb wo g b (ix3 n t d)
    = modulate (mixedOf n t x oa ob oc od sha sca ga win wb wo g b) (fun k => shf (ix2 n k)) (fun k => scf (ix2 n k)) d := by
  refine (mods_apply n t _ shf scf d).trans ?_
  simp only [out0_apply]
end

variable (m : (ℓ : Loc nD τ sig) → Buf (Elt Ideal) ℓ) (c : Dev nD)

theorem res0 : Value.res_main_v92 (F := Ideal) (StableHlo.launchContents m c)
    = out0 (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg10))
        (m ((c.tc : Thread nD τ).loc main_arg11)) (m ((c.tc : Thread nD τ).loc main_arg12)) (m ((c.tc : Thread nD τ).loc main_arg13))
        (m ((c.tc : Thread nD τ).loc main_arg14)) := rfl

/-- The reference's run leaves its two vectors. -/
theorem run_vectors (ρ : Dev nD → PrngReg) :
    θ_run (defs (F := Ideal)) (onTc (τ := τ) (main (F := Ideal))) ⟨m, fun _ => 0, ρ⟩ (fun r => ∀ c : Dev nD,
      r.2.mem ((c.tc : Thread nD τ).loc main_v92) =
        out0 (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg10))
          (m ((c.tc : Thread nD τ).loc main_arg11)) (m ((c.tc : Thread nD τ).loc main_arg12)) (m ((c.tc : Thread nD τ).loc main_arg13))
          (m ((c.tc : Thread nD τ).loc main_arg14))
      ∧ r.2.mem ((c.tc : Thread nD τ).loc main_v119) =
        out1 (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10))
          (m ((c.tc : Thread nD τ).loc main_arg11)) (m ((c.tc : Thread nD τ).loc main_arg12)) (m ((c.tc : Thread nD τ).loc main_arg13))
          (m ((c.tc : Thread nD τ).loc main_arg14))) :=
  (θ_run (defs (F := Ideal)) _ _).mono (fun _ h c => ⟨(h c).1.trans (res0 m c), (h c).2.1⟩) (Value.run (F := Ideal) m ρ)

end Cert.MergeReferenceIdeal.Spec
-- ==== Proof.MergeClaim.lean ====
/-
  The merge call leaves the reference's two results: each grid point writes one sequence's block of tokens, and the windows
  cover the arrays.
-/
module

public import proofs.«01_k».proof.Proof.MergeHost
public import proofs.«01_k».proof.Proof.MergeRef

@[expose] public section

set_option maxRecDepth 16384
set_option maxHeartbeats 1000000

noncomputable section

namespace Cert.MergeIdeal.Value

open Cert.MergeIdeal Cert.MergeIdeal.Gen Cert.Merge
open Idealize.ShloMosaic Idealize.ShloMosaic.TcCoe Idealize.SL.Sem
open Idealize.ShloMosaic.Pipeline (Dat)

/-- The order of the lanes is its own inverse. -/
theorem lane_lane : ∀ j : Fin 256, lane (lane j) = j := by decide +kernel
/-- A sum over the lanes is a sum over the heads' entries. -/
theorem sum_lane (f : Fin 256 → EReal) : ∑ j, f (lane j) = ∑ j, f j :=
  Equiv.sum_comp (⟨lane, lane, lane_lane, lane_lane⟩ : Fin 256 ≃ Fin 256) f

section
variable (x0 : Vec Ideal S1x256x1024 .f32) (x1 x2 x3 x4 : Vec Ideal S1x256x256 .bf16) (x5 x6 x7 : Vec Ideal S1x1x1024 .f32)
  (x10 : Vec Ideal S1024x4096 .bf16) (x11 : Vec Ideal S4x256x1024 .bf16) (x12 : Vec Ideal S1024x1024 .bf16) (x13 x14 : Vec Ideal S1x1024 .f32)
  (X : Vec Ideal S4x8192x1024 .f32) (OA OB OC OD : Vec Ideal S4x8192x256 .f32) (SHA SCA GA : Vec Ideal S4x1024 .f32)
  (WIN : Vec Ideal S1024x6240 .f32) (WB : Vec Ideal S4x256x1024 .f32) (WO : Vec Ideal S1024x1024 .f32) (G B : Vec Ideal S1024 .f32)
  (r : Fin 256) (n : Fin 4) (t : Fin 8192)

/-- The body's row is the reference's where its blocks hold the token, the branches' lanes and the weights. -/
theorem value (h0 : ∀ k, x0 (ix3 0 r k) = X (ix3 n t k)) (h1 : ∀ j, x1 (ix3 0 r j) = OA (ix3 n t j))
    (h2 : ∀ j, x2 (ix3 0 r j) = OB (ix3 n t (lane j))) (h3 : ∀ j, x3 (ix3 0 r j) = OC (ix3 n t (lane j)))
    (h4 : ∀ j, x4 (ix3 0 r j) = OD (ix3 n t j)) (h5 : ∀ k, x5 (ix3 0 0 k) = SHA (ix2 n k)) (h6 : ∀ k, x6 (ix3 0 0 k) = SCA (ix2 n k))
    (h7 : ∀ k, x7 (ix3 0 0 k) = GA (ix2 n k)) (h10 : ∀ k i e, x10 (ix2 k (col i e)) = WIN (ix2 k (inCol i e)))
    (h11 : ∀ i j e, x11 (ix3 i j e) = slabs WB (ix3 i j e)) (h12 : ∀ e d : Fin 1024, x12 (ix2 e d) = WO (ix2 e d))
    (h13 : ∀ k, x13 (ix2 0 k) = G (ix1 k)) (h14 : ∀ k, x14 (ix2 0 k) = B (ix1 k)) :
    mixedOf x0 x1 x2 x3 x4 x5 x6 x7 x10 x11 x12 x13 x14 r
      = MergeReferenceIdeal.Spec.mixedOf n t X OA OB OC OD SHA SCA GA WIN WB WO G B := by
  funext d
  unfold mixedOf MergeReferenceIdeal.Spec.mixedOf
  simp only [h0, h1, h2, h3, h4, h5, h6, h7, h10, h11, h12, h13, h14]
  unfold mixed
  refine congrArg (fun y => normed (resid _ _ y _) d * G (ix1 d) + B (ix1 d)) (funext fun e => ?_)
  have p (h w : Row) (o p : Fin 256 → EReal) : branch h w (fun j => o (lane j)) (fun j => p (lane j)) = branch h w o p :=
    congrArg (gate h w * ·) (sum_lane fun j => o j * p j)
  have e1 : (fun j => slabs WB (ix3 1 j e)) = fun j => WB (ix3 1 (lane j) e) := funext fun j => slabs1_apply WB j e
  have e2 : (fun j => slabs WB (ix3 2 j e)) = fun j => WB (ix3 2 (lane j) e) := funext fun j => slabs2_apply WB j e
  have e0 : (fun j => slabs WB (ix3 0 j e)) = fun j => WB (ix3 0 j e) := funext fun j => slabs0_apply WB j e
  have e3 : (fun j => slabs WB (ix3 3 j e)) = fun j => WB (ix3 3 j e) := funext fun j => slabs3_apply WB j e
  show branch _ _ (fun j => OA (ix3 n t j)) (fun j => slabs WB (ix3 0 j e))
      + branch _ _ (fun j => OB (ix3 n t (lane j))) (fun j => slabs WB (ix3 1 j e))
      + branch _ _ (fun j => OC (ix3 n t (lane j))) (fun j => slabs WB (ix3 2 j e))
      + branch _ _ (fun j => OD (ix3 n t j)) (fun j => slabs WB (ix3 3 j e)) = _
  rw [e0, e1, e2, e3, p _ _ (fun j => OB (ix3 n t j)) (fun j => WB (ix3 1 j e)), p _ _ (fun j => OC (ix3 n t j)) (fun j => WB (ix3 2 j e))]
  rfl
end

variable (m : (ℓ : Loc nD τ sig) → Buf (Elt Ideal) ℓ) (c : Dev nD)

/-- The reference's first result of the launch's arguments. -/
def want0 : Vec Ideal S4x8192x1024 .f32 :=
  MergeReferenceIdeal.Spec.out0 (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg10)) (m ((c : Thread nD τ).loc main_arg11)) (m ((c : Thread nD τ).loc main_arg12))
    (m ((c : Thread nD τ).loc main_arg13)) (m ((c : Thread nD τ).loc main_arg14))
/-- The reference's second result of the launch's arguments. -/
def want1 : Vec Ideal S4x8192x1024 .bf16 :=
  MergeReferenceIdeal.Spec.out1 (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9))
    (m ((c : Thread nD τ).loc main_arg10)) (m ((c : Thread nD τ).loc main_arg11)) (m ((c : Thread nD τ).loc main_arg12))
    (m ((c : Thread nD τ).loc main_arg13)) (m ((c : Thread nD τ).loc main_arg14))

theorem row (t : Fin cfg0.N) (r : Fin 256) : mixedOf (iblk (F := Ideal) m c 0 t) (iblk m c 1 t) (iblk m c 2 t) (iblk m c 3 t) (iblk m c 4 t)
    (iblk m c 5 t) (iblk m c 6 t) (iblk m c 7 t) (iblk m c 10 t) (iblk m c 11 t) (iblk m c 12 t) (iblk m c 13 t) (iblk m c 14 t) r
      = MergeReferenceIdeal.Spec.mixedOf (seqOf t) (tokenOf t r) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg10)) (m ((c : Thread nD τ).loc main_arg11)) (m ((c : Thread nD τ).loc main_arg12))
        (m ((c : Thread nD τ).loc main_arg13)) (m ((c : Thread nD τ).loc main_arg14)) :=
  value _ _ _ _ _ _ _ _ _ _ _ _ _ _ _ _ _ _ _ _ _ _ _ _ _ _ _ _ _ (blk_x m c t r) (blk_oa m c t r) (blk_ob m c t r) (blk_oc m c t r)
    (blk_od m c t r) (blk_sha m c t) (blk_sca m c t) (blk_ga m c t) (fun k i e => blk_win m c t i k e) (fun i j e => blk_wb m c t j i e) (blk_wo m c t)
    (blk_ln_g m c t) (blk_ln_b m c t)

theorem window16 (t : Fin cfg0.N) (r : Fin 256) (d : Fin 1024) : out0_16 (F := Ideal) (iblk m c 0 t) (iblk m c 1 t) (iblk m c 2 t) (iblk m c 3 t)
    (iblk m c 4 t) (iblk m c 5 t) (iblk m c 6 t) (iblk m c 7 t) (iblk m c 8 t) (iblk m c 9 t) (iblk m c 10 t) (iblk m c 11 t) (iblk m c 12 t)
    (iblk m c 13 t) (iblk m c 14 t) (iblk m c 15 t) (ix3 0 r d) = want0 m c (ix3 (seqOf t) (tokenOf t r) d) :=
  (out16_apply _ _ _ _ _ _ _ _ _ _ _ _ _ _ _ _ r d).trans
    ((congrFun (row m c t r) d).trans (MergeReferenceIdeal.Spec.out0_apply _ _ _ _ _ _ _ _ _ _ _ _ _ _ _ _).symm)

theorem window17 (t : Fin cfg0.N) (r : Fin 256) (d : Fin 1024) : out0_17 (F := Ideal) (iblk m c 0 t) (iblk m c 1 t) (iblk m c 2 t) (iblk m c 3 t)
    (iblk m c 4 t) (iblk m c 5 t) (iblk m c 6 t) (iblk m c 7 t) (iblk m c 8 t) (iblk m c 9 t) (iblk m c 10 t) (iblk m c 11 t) (iblk m c 12 t)
    (iblk m c 13 t) (iblk m c 14 t) (iblk m c 15 t) (ix3 0 r d) = want1 m c (ix3 (seqOf t) (tokenOf t r) d) := by
  refine (out17_apply _ _ _ _ _ _ _ _ _ _ _ _ _ _ _ _ r d).trans (Eq.trans ?_ (MergeReferenceIdeal.Spec.out1_apply _ _ _ _ _ _ _ _ _ _ _ _ _ _ _ _ _ _).symm)
  exact congr (congr (congr (congrArg modulate (row m c t r)) (funext (blk_shf m c t))) (funext (blk_scf m c t))) rfl

/-- The first result array of the run. -/
theorem arr16 : (dats m 0 c).arrAt 16 cfg0.N = want0 m c := by
  refine (dats m 0 c).arrAt_eq_of_covers 16 _ (by decide +kernel) fun t hf y => ?_
  blk_simp
  rw [after0_16]
  obtain ⟨r, d, rfl⟩ := split y
  exact (window16 m c t r d).trans (congrArg (want0 m c) (place16 t r d)).symm
/-- The second result array of the run. -/
theorem arr17 : (dats m 0 c).arrAt 17 cfg0.N = want1 m c := by
  refine (dats m 0 c).arrAt_eq_of_covers 17 _ (by decide +kernel) fun t hf y => ?_
  blk_simp
  rw [after0_17]
  obtain ⟨r, d, rfl⟩ := split y
  exact (window17 m c t r d).trans (congrArg (want1 m c) (place17 t r d)).symm

/-- The two programs, from the same arguments, leave the same results. -/
theorem algebraic : Cert.algebraic_MergeIdeal_MergeReferenceIdeal := fun m g m' g' _ ha =>
  ⟨want0 m, want1 m,
    (θ_run (defs (F := Ideal)) _ _).mono (fun _ h c => ⟨(h c).1.trans (arr16 m c), (h c).2.1.trans (arr17 m c), (h c).2.2.2⟩)
      (run_blocks (F := Ideal) m g),
    (θ_run Cert.MergeReferenceIdeal.defs _ _).mono (fun _ h c => by
      obtain ⟨e0, e1, e2, e3, e4, e5, e6, e7, e8, e9, e10, e11, e12, e13, e14, e15⟩ := ha c
      refine ⟨(h.1 c).1.trans ?_, (h.1 c).2.trans ?_, (h.2 c).2.2⟩
      · rw [e0, e1, e2, e3, e4, e5, e6, e7, e10, e11, e12, e13, e14]
        rfl
      · rw [e0, e1, e2, e3, e4, e5, e6, e7, e8, e9, e10, e11, e12, e13, e14]
        rfl)
      (θ_run_and (MergeReferenceIdeal.Spec.run_vectors m' g') (Cert.MergeReferenceIdeal.Value.run m' g'))⟩

end Cert.MergeIdeal.Value
-- ==== Proof.LatentTrip.lean ====
/-
  One trip of the latent attention's loop (keys of 256 lanes, two blocks of 512 queries), read as `Cert.Flash.block`: what it stores into
  the output window, and the scores of the next trip's first block that it leaves in the scratch.
-/
module

public import proofs.«01_k».proof.Proof.Spec
public import proofs.«01_k».proof.Proof.Gen.LatentIdeal.Loops
public import Idealize.ShloMosaic.Lib.Pipeline.ReadBack

@[expose] public section

set_option maxRecDepth 16384

noncomputable section

namespace Cert.LatentIdeal.Trip

open Cert.LatentIdeal Cert.LatentIdeal.Gen Cert.Flash
open Idealize.ShloMosaic Idealize.ShloMosaic.TcCoe Idealize.ShloMosaic.Tactic
open Idealize.SL Idealize.SL.Sem

variable {F : FTy → Type} [FloatOps F]

/-- A block of 512 queries of both heads, loaded at `off`. -/
def qAt (x2 : Vec F S1x2x8192x256 .bf16) (off : Fin 4 → Nat) (inb : ∀ a, off a + S1x2x512x256.size a ≤ S1x2x8192x256.size a) :
    FVec F ⟨2, ![1024, 256]⟩ .bf16 :=
  shapeCast S1024x256 (shapeCast S2x512x256
    (View.ld x2 (Rect.unit (s := S1x2x8192x256) off S1x2x512x256.size inb) : Vec F S1x2x512x256 .bf16)
    shapeCasts_S1x2x512x256_S2x512x256) shapeCasts_S2x512x256_S1024x256

theorem qAt_congr (x2 : Vec F S1x2x8192x256 .bf16) {off off' : Fin 4 → Nat} (h : off = off') (inb inb') :
    qAt x2 off inb = qAt x2 off' inb' := by subst h; rfl

theorem kInb (j : Fin 8) : ∀ a, (![0, 0, j.val, 0, 0] : Fin 5 → Nat) a + S1x1x1x1024x256.size a ≤ S1x1x8x1024x256.size a := by
  revert j; decide +kernel

/-- Block `j` of 1024 keys. -/
def kAt (x3 : Vec F S1x1x8x1024x256 .bf16) (j : Fin 8) : FVec F ⟨2, ![1024, 256]⟩ .bf16 :=
  shapeCast S1024x256 (View.ld x3 (Rect.unit (s := S1x1x8x1024x256) ![0, 0, j.val, 0, 0] S1x1x1x1024x256.size (kInb j)) :
    Vec F S1x1x1x1024x256 .bf16) shapeCasts_S1x1x1x1024x256_S1024x256

theorem vInb (u : Fin 16) : ∀ a, (![0, 0, u.val, 0, 0, 0] : Fin 6 → Nat) a + S1x1x1x2x80x512.size a ≤ S1x1x16x2x80x512.size a := by
  revert u; decide +kernel

/-- Block `u` of 512 values. -/
def vAt (x4 : Vec F S1x1x16x2x80x512 .bf16) (u : Fin 16) : FVec F (Vals 512) .bf16 :=
  shapeCast S2x80x512 (View.ld x4 (Rect.unit (s := S1x1x16x2x80x512) ![0, 0, u.val, 0, 0, 0] S1x1x1x2x80x512.size (vInb u)) :
    Vec F S1x1x1x2x80x512 .bf16) shapeCasts_S1x1x1x2x80x512_S2x80x512

/-- The context keys and values. -/
def kcAt (x5 : Vec F S1x1x1x256x256 .bf16) : FVec F ⟨2, ![256, 256]⟩ .bf16 :=
  shapeCast S256x256 (View.ld x5 (Rect.unit (s := S1x1x1x256x256) ![0, 0, 0, 0, 0] S1x1x1x256x256.size (by decide)) :
    Vec F S1x1x1x256x256 .bf16) shapeCasts_S1x1x1x256x256_S256x256

def vcAt (x6 : Vec F S1x1x1x2x80x256 .bf16) : FVec F (Vals 256) .bf16 :=
  shapeCast S2x80x256 (View.ld x6 (Rect.unit (s := S1x1x1x2x80x256) ![0, 0, 0, 0, 0, 0] S1x1x1x2x80x256.size (by decide)) :
    Vec F S1x1x1x2x80x256 .bf16) shapeCasts_S1x1x1x2x80x256_S2x80x256

/-- The state after block `n` of the keys, for the queries `q`, the first block's scores given. -/
def stOf (x3 : Vec F S1x1x8x1024x256 .bf16) (x4 : Vec F S1x1x16x2x80x512 .bf16) (s0 : FVec F (Cols 1024) .f32)
    (q : FVec F ⟨2, ![1024, 256]⟩ .bf16) (n : Nat) (h : n < 8) : St F :=
  stateAt s0 (fun j => back fits1024 (scores 1024 256 (kAt x3 j) q)) (vAt x4) n h

/-- After the context keys. -/
def endOf (x3 : Vec F S1x1x8x1024x256 .bf16) (x4 : Vec F S1x1x16x2x80x512 .bf16) (x5 : Vec F S1x1x1x256x256 .bf16)
    (x6 : Vec F S1x1x1x2x80x256 .bf16) (s0 : FVec F (Cols 1024) .f32) (q : FVec F ⟨2, ![1024, 256]⟩ .bf16) : St F :=
  ctx (back fits256 (scores 256 256 (kcAt x5) q)) (vcAt x6) (stOf x3 x4 s0 q 7 (by omega))

/-- The scores' scratch, its first half. -/
abbrev slot0 : Rect S2x1024x1024 :=
  Rect.unit (s := S2x1024x1024) ![0, 0, 0] S1x1024x1024.size inb_S2x1024x1024_S1x1024x1024_0_0_0

section
variable (𝒱 : Variants) (c : Dev nD) (bd : Option 𝒱.V) (i : grid0.Coords) (arg2 : Memref sig .tc .vmem S1x2x8192x256 .bf16) (harg2 : arg2.IsWhole) (arg3 : Memref sig .tc .vmem S1x1x8x1024x256 .bf16) (harg3 : arg3.IsWhole) (arg4 : Memref sig .tc .vmem S1x1x16x2x80x512 .bf16) (harg4 : arg4.IsWhole) (arg5 : Memref sig .tc .vmem S1x1x1x256x256 .bf16) (harg5 : arg5.IsWhole) (arg6 : Memref sig .tc .vmem S1x1x1x2x80x256 .bf16) (harg6 : arg6.IsWhole) (arg7 : Memref sig .tc .vmem S1x8192x128 .bf16) (harg7 : arg7.IsWhole) (arg8 : Memref sig .tc .vmem S2x80x512 .f32) (harg8 : arg8.IsWhole) (arg9 : Memref sig .tc .vmem S1x1024 .f32) (harg9 : arg9.IsWhole) (arg10 : Memref sig .tc .vmem S2x1024x1024 .f32) (harg10 : arg10.IsWhole)
  (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty)
  (k : Fin k0_t1_loop.trips) (f7 : BufTy.Contents (Elt F) arg7.view.ty) (f8 : BufTy.Contents (Elt F) arg8.view.ty) (f9 : BufTy.Contents (Elt F) arg9.view.ty) (f10 : BufTy.Contents (Elt F) arg10.view.ty)

theorem w_v39 : trip_k0_t1.sl.v39 (F := F) arg9 = (start : St F).m := by
  unfold trip_k0_t1.sl.v39
  simp (disch := decide) only [trip_k0_t1.sl.HW_arg9_1, ↓ View.readCov_skip, ↓ View.readCov_cons_toLoadRect, ↓ View.readCov_fill]
  rfl

theorem w_v59 : trip_k0_t1.sl.v59 (F := F) arg8 = (start : St F).a0 := by
  unfold trip_k0_t1.sl.v59
  simp (disch := decide) only [trip_k0_t1.sl.HW_arg8_1, ↓ View.readCov_skip, ↓ View.readCov_cons_toLoadRect, ↓ View.readCov_fill]
  rfl

theorem w_v77 : trip_k0_t1.sl.v77 (F := F) arg4 arg8 arg9 arg10 X4 f10 = (start : St F).a1 := by
  unfold trip_k0_t1.sl.v77
  simp (disch := decide) only [trip_k0_t1.sl.HW_arg8_2, trip_k0_t1.sl.HW_arg8_1, ↓ View.readCov_skip, ↓ View.readCov_cons_toLoadRect, ↓ View.readCov_fill]
  try simp only [trip_k0_t1.sl.r_1, trip_k0_t1.sl.r_2, w_v39, w_v59]
  rfl

theorem w_v94 : trip_k0_t1.sl.v94 (F := F) arg2 arg3 arg10 X2 X3 k = shapeCast S1x1024x1024 (scores 1024 256 (kAt (arg3.view.read (Elt F) X3) 1) (qAt (arg2.view.read (Elt F) X2) (k0_off1 k) (k0_off1_inb k))) shapeCasts_S1024x1024_S1x1024x1024 := by
  unfold trip_k0_t1.sl.v94
  simp (disch := decide) only [trip_k0_t1.sl.HW_arg10_2, ↓ View.readCov_skip, ↓ View.readCov_cons_toLoadRect, ↓ View.readCov_fill]
  try simp only [trip_k0_t1.sl.r]
  rfl

theorem w_v100 : trip_k0_t1.sl.v100 (F := F) arg9 arg10 f10 = ((stOf (arg3.view.read (Elt F) X3) (arg4.view.read (Elt F) X4) (shapeCast S1024x1024 (arg10.view.readAt (Elt F) slot0.toLoadRect f10 : Vec F S1x1024x1024 .f32) shapeCasts_S1x1024x1024_S1024x1024) (qAt (arg2.view.read (Elt F) X2) (k0_off1 k) (k0_off1_inb k)) 0 (by omega)) : St F).m := by
  unfold trip_k0_t1.sl.v100
  simp (disch := decide) only [trip_k0_t1.sl.HW_arg9_2, ↓ View.readCov_skip, ↓ View.readCov_cons_toLoadRect, ↓ View.readCov_fill]
  try simp only [trip_k0_t1.sl.r_3, trip_k0_t1.sl.r_1, w_v39]
  rfl

theorem w_v120 : trip_k0_t1.sl.v120 (F := F) arg4 arg8 arg9 arg10 X4 f10 = ((stOf (arg3.view.read (Elt F) X3) (arg4.view.read (Elt F) X4) (shapeCast S1024x1024 (arg10.view.readAt (Elt F) slot0.toLoadRect f10 : Vec F S1x1024x1024 .f32) shapeCasts_S1x1024x1024_S1024x1024) (qAt (arg2.view.read (Elt F) X2) (k0_off1 k) (k0_off1_inb k)) 0 (by omega)) : St F).a0 := by
  unfold trip_k0_t1.sl.v120
  simp (disch := decide) only [trip_k0_t1.sl.HW_arg8_3, trip_k0_t1.sl.HW_arg8_2, ↓ View.readCov_skip, ↓ View.readCov_cons_toLoadRect, ↓ View.readCov_fill]
  try simp only [trip_k0_t1.sl.r_1, trip_k0_t1.sl.r_2, trip_k0_t1.sl.r_4, trip_k0_t1.sl.r_5, w_v39, w_v59, w_v77]
  rfl

theorem w_v138 : trip_k0_t1.sl.v138 (F := F) arg2 arg3 arg4 arg8 arg9 arg10 X2 X3 X4 k f10 = ((stOf (arg3.view.read (Elt F) X3) (arg4.view.read (Elt F) X4) (shapeCast S1024x1024 (arg10.view.readAt (Elt F) slot0.toLoadRect f10 : Vec F S1x1024x1024 .f32) shapeCasts_S1x1024x1024_S1024x1024) (qAt (arg2.view.read (Elt F) X2) (k0_off1 k) (k0_off1_inb k)) 0 (by omega)) : St F).a1 := by
  unfold trip_k0_t1.sl.v138
  simp (disch := decide) only [trip_k0_t1.sl.HW_arg8_4, trip_k0_t1.sl.HW_arg8_3, ↓ View.readCov_skip, ↓ View.readCov_cons_toLoadRect, ↓ View.readCov_fill]
  try simp only [trip_k0_t1.sl.r_4, trip_k0_t1.sl.r_5, trip_k0_t1.sl.r_1, trip_k0_t1.sl.r_2, trip_k0_t1.sl.r_6, trip_k0_t1.sl.r_7, trip_k0_t1.sl.r_8, w_v39, w_v77, w_v94, w_v100 (arg2 := arg2) (arg3 := arg3) (arg4 := arg4) (k := k) (X2 := X2) (X3 := X3) (X4 := X4), w_v120 (arg2 := arg2) (arg3 := arg3) (k := k) (X2 := X2) (X3 := X3)]
  rfl

theorem w_v155 : trip_k0_t1.sl.v155 (F := F) arg2 arg3 arg10 X2 X3 k = shapeCast S1x1024x1024 (scores 1024 256 (kAt (arg3.view.read (Elt F) X3) 2) (qAt (arg2.view.read (Elt F) X2) (k0_off1 k) (k0_off1_inb k))) shapeCasts_S1024x1024_S1x1024x1024 := by
  unfold trip_k0_t1.sl.v155
  simp (disch := decide) only [trip_k0_t1.sl.HW_arg10_3, trip_k0_t1.sl.HW_arg10_2, ↓ View.readCov_skip, ↓ View.readCov_cons_toLoadRect, ↓ View.readCov_fill]
  try simp only [trip_k0_t1.sl.r]
  rfl

theorem w_v161 : trip_k0_t1.sl.v161 (F := F) arg2 arg3 arg9 arg10 X2 X3 k f10 = ((stOf (arg3.view.read (Elt F) X3) (arg4.view.read (Elt F) X4) (shapeCast S1024x1024 (arg10.view.readAt (Elt F) slot0.toLoadRect f10 : Vec F S1x1024x1024 .f32) shapeCasts_S1x1024x1024_S1024x1024) (qAt (arg2.view.read (Elt F) X2) (k0_off1 k) (k0_off1_inb k)) 1 (by omega)) : St F).m := by
  unfold trip_k0_t1.sl.v161
  simp (disch := decide) only [trip_k0_t1.sl.HW_arg9_3, ↓ View.readCov_skip, ↓ View.readCov_cons_toLoadRect, ↓ View.readCov_fill]
  try simp only [trip_k0_t1.sl.r_9, trip_k0_t1.sl.r_6, w_v94, w_v100 (arg2 := arg2) (arg3 := arg3) (arg4 := arg4) (k := k) (X2 := X2) (X3 := X3) (X4 := X4)]
  rfl

theorem w_v181 : trip_k0_t1.sl.v181 (F := F) arg2 arg3 arg4 arg8 arg9 arg10 X2 X3 X4 k f10 = ((stOf (arg3.view.read (Elt F) X3) (arg4.view.read (Elt F) X4) (shapeCast S1024x1024 (arg10.view.readAt (Elt F) slot0.toLoadRect f10 : Vec F S1x1024x1024 .f32) shapeCasts_S1x1024x1024_S1024x1024) (qAt (arg2.view.read (Elt F) X2) (k0_off1 k) (k0_off1_inb k)) 1 (by omega)) : St F).a0 := by
  unfold trip_k0_t1.sl.v181
  simp (disch := decide) only [trip_k0_t1.sl.HW_arg8_5, trip_k0_t1.sl.HW_arg8_4, ↓ View.readCov_skip, ↓ View.readCov_cons_toLoadRect, ↓ View.readCov_fill]
  try simp only [trip_k0_t1.sl.r_6, trip_k0_t1.sl.r_7, trip_k0_t1.sl.r_8, trip_k0_t1.sl.r_10, w_v94, w_v100 (arg2 := arg2) (arg3 := arg3) (arg4 := arg4) (k := k) (X2 := X2) (X3 := X3) (X4 := X4), w_v120 (arg2 := arg2) (arg3 := arg3) (k := k) (X2 := X2) (X3 := X3), w_v138]
  rfl

theorem w_v199 : trip_k0_t1.sl.v199 (F := F) arg2 arg3 arg4 arg8 arg9 arg10 X2 X3 X4 k f10 = ((stOf (arg3.view.read (Elt F) X3) (arg4.view.read (Elt F) X4) (shapeCast S1024x1024 (arg10.view.readAt (Elt F) slot0.toLoadRect f10 : Vec F S1x1024x1024 .f32) shapeCasts_S1x1024x1024_S1024x1024) (qAt (arg2.view.read (Elt F) X2) (k0_off1 k) (k0_off1_inb k)) 1 (by omega)) : St F).a1 := by
  unfold trip_k0_t1.sl.v199
  simp (disch := decide) only [trip_k0_t1.sl.HW_arg8_6, trip_k0_t1.sl.HW_arg8_5, ↓ View.readCov_skip, ↓ View.readCov_cons_toLoadRect, ↓ View.readCov_fill]
  try simp only [trip_k0_t1.sl.r_10, trip_k0_t1.sl.r_6, trip_k0_t1.sl.r_7, trip_k0_t1.sl.r_8, trip_k0_t1.sl.r_11, trip_k0_t1.sl.r_12, trip_k0_t1.sl.r_14, trip_k0_t1.sl.r_15, w_v94, w_v100 (arg2 := arg2) (arg3 := arg3) (arg4 := arg4) (k := k) (X2 := X2) (X3 := X3) (X4 := X4), w_v138, w_v155, w_v161 (arg4 := arg4) (X4 := X4), w_v181]
  rfl

theorem w_v216 : trip_k0_t1.sl.v216 (F := F) arg2 arg3 arg10 X2 X3 k = shapeCast S1x1024x1024 (scores 1024 256 (kAt (arg3.view.read (Elt F) X3) 3) (qAt (arg2.view.read (Elt F) X2) (k0_off1 k) (k0_off1_inb k))) shapeCasts_S1024x1024_S1x1024x1024 := by
  unfold trip_k0_t1.sl.v216
  simp (disch := decide) only [trip_k0_t1.sl.HW_arg10_4, trip_k0_t1.sl.HW_arg10_3, ↓ View.readCov_skip, ↓ View.readCov_cons_toLoadRect, ↓ View.readCov_fill]
  try simp only [trip_k0_t1.sl.r]
  rfl

theorem w_v222 : trip_k0_t1.sl.v222 (F := F) arg2 arg3 arg9 arg10 X2 X3 k f10 = ((stOf (arg3.view.read (Elt F) X3) (arg4.view.read (Elt F) X4) (shapeCast S1024x1024 (arg10.view.readAt (Elt F) slot0.toLoadRect f10 : Vec F S1x1024x1024 .f32) shapeCasts_S1x1024x1024_S1024x1024) (qAt (arg2.view.read (Elt F) X2) (k0_off1 k) (k0_off1_inb k)) 2 (by omega)) : St F).m := by
  unfold trip_k0_t1.sl.v222
  simp (disch := decide) only [trip_k0_t1.sl.HW_arg9_4, ↓ View.readCov_skip, ↓ View.readCov_cons_toLoadRect, ↓ View.readCov_fill]
  try simp only [trip_k0_t1.sl.r_13, w_v155, w_v161 (arg4 := arg4) (X4 := X4)]
  rfl

theorem w_v242 : trip_k0_t1.sl.v242 (F := F) arg2 arg3 arg4 arg8 arg9 arg10 X2 X3 X4 k f10 = ((stOf (arg3.view.read (Elt F) X3) (arg4.view.read (Elt F) X4) (shapeCast S1024x1024 (arg10.view.readAt (Elt F) slot0.toLoadRect f10 : Vec F S1x1024x1024 .f32) shapeCasts_S1x1024x1024_S1024x1024) (qAt (arg2.view.read (Elt F) X2) (k0_off1 k) (k0_off1_inb k)) 2 (by omega)) : St F).a0 := by
  unfold trip_k0_t1.sl.v242
  simp (disch := decide) only [trip_k0_t1.sl.HW_arg8_7, trip_k0_t1.sl.HW_arg8_6, ↓ View.readCov_skip, ↓ View.readCov_cons_toLoadRect, ↓ View.readCov_fill]
  try simp only [trip_k0_t1.sl.r_11, trip_k0_t1.sl.r_12, trip_k0_t1.sl.r_14, trip_k0_t1.sl.r_15, w_v155, w_v161 (arg4 := arg4) (X4 := X4), w_v181, w_v199]
  rfl

theorem w_v260 : trip_k0_t1.sl.v260 (F := F) arg2 arg3 arg4 arg8 arg9 arg10 X2 X3 X4 k f10 = ((stOf (arg3.view.read (Elt F) X3) (arg4.view.read (Elt F) X4) (shapeCast S1024x1024 (arg10.view.readAt (Elt F) slot0.toLoadRect f10 : Vec F S1x1024x1024 .f32) shapeCasts_S1x1024x1024_S1024x1024) (qAt (arg2.view.read (Elt F) X2) (k0_off1 k) (k0_off1_inb k)) 2 (by omega)) : St F).a1 := by
  unfold trip_k0_t1.sl.v260
  simp (disch := decide) only [trip_k0_t1.sl.HW_arg8_8, trip_k0_t1.sl.HW_arg8_7, ↓ View.readCov_skip, ↓ View.readCov_cons_toLoadRect, ↓ View.readCov_fill]
  try simp only [trip_k0_t1.sl.r_11, trip_k0_t1.sl.r_12, trip_k0_t1.sl.r_14, trip_k0_t1.sl.r_15, trip_k0_t1.sl.r_19, trip_k0_t1.sl.r_21, trip_k0_t1.sl.r_22, w_v155, w_v161 (arg4 := arg4) (X4 := X4), w_v199, w_v216, w_v222 (arg4 := arg4) (X4 := X4), w_v242]
  rfl

theorem w_v277 : trip_k0_t1.sl.v277 (F := F) arg2 arg3 arg10 X2 X3 k = shapeCast S1x1024x1024 (scores 1024 256 (kAt (arg3.view.read (Elt F) X3) 4) (qAt (arg2.view.read (Elt F) X2) (k0_off1 k) (k0_off1_inb k))) shapeCasts_S1024x1024_S1x1024x1024 := by
  unfold trip_k0_t1.sl.v277
  simp (disch := decide) only [trip_k0_t1.sl.HW_arg10_5, trip_k0_t1.sl.HW_arg10_4, ↓ View.readCov_skip, ↓ View.readCov_cons_toLoadRect, ↓ View.readCov_fill]
  try simp only [trip_k0_t1.sl.r, trip_k0_t1.sl.r_23]
  rfl

theorem w_v283 : trip_k0_t1.sl.v283 (F := F) arg2 arg3 arg9 arg10 X2 X3 k f10 = ((stOf (arg3.view.read (Elt F) X3) (arg4.view.read (Elt F) X4) (shapeCast S1024x1024 (arg10.view.readAt (Elt F) slot0.toLoadRect f10 : Vec F S1x1024x1024 .f32) shapeCasts_S1x1024x1024_S1024x1024) (qAt (arg2.view.read (Elt F) X2) (k0_off1 k) (k0_off1_inb k)) 3 (by omega)) : St F).m := by
  unfold trip_k0_t1.sl.v283
  simp (disch := decide) only [trip_k0_t1.sl.HW_arg9_5, ↓ View.readCov_skip, ↓ View.readCov_cons_toLoadRect, ↓ View.readCov_fill]
  try simp only [trip_k0_t1.sl.r_18, w_v216, w_v222 (arg4 := arg4) (X4 := X4)]
  rfl

theorem w_v303 : trip_k0_t1.sl.v303 (F := F) arg2 arg3 arg4 arg8 arg9 arg10 X2 X3 X4 k f10 = ((stOf (arg3.view.read (Elt F) X3) (arg4.view.read (Elt F) X4) (shapeCast S1024x1024 (arg10.view.readAt (Elt F) slot0.toLoadRect f10 : Vec F S1x1024x1024 .f32) shapeCasts_S1x1024x1024_S1024x1024) (qAt (arg2.view.read (Elt F) X2) (k0_off1 k) (k0_off1_inb k)) 3 (by omega)) : St F).a0 := by
  unfold trip_k0_t1.sl.v303
  simp (disch := decide) only [trip_k0_t1.sl.HW_arg8_9, trip_k0_t1.sl.HW_arg8_8, ↓ View.readCov_skip, ↓ View.readCov_cons_toLoadRect, ↓ View.readCov_fill]
  try simp only [trip_k0_t1.sl.r_19, trip_k0_t1.sl.r_21, trip_k0_t1.sl.r_22, trip_k0_t1.sl.r_16, trip_k0_t1.sl.r_17, trip_k0_t1.sl.r_20, w_v216, w_v222 (arg4 := arg4) (X4 := X4), w_v242, w_v260]
  rfl

theorem w_v321 : trip_k0_t1.sl.v321 (F := F) arg2 arg3 arg4 arg8 arg9 arg10 X2 X3 X4 k f10 = ((stOf (arg3.view.read (Elt F) X3) (arg4.view.read (Elt F) X4) (shapeCast S1024x1024 (arg10.view.readAt (Elt F) slot0.toLoadRect f10 : Vec F S1x1024x1024 .f32) shapeCasts_S1x1024x1024_S1024x1024) (qAt (arg2.view.read (Elt F) X2) (k0_off1 k) (k0_off1_inb k)) 3 (by omega)) : St F).a1 := by
  unfold trip_k0_t1.sl.v321
  simp (disch := decide) only [trip_k0_t1.sl.HW_arg8_10, trip_k0_t1.sl.HW_arg8_9, ↓ View.readCov_skip, ↓ View.readCov_cons_toLoadRect, ↓ View.readCov_fill]
  try simp only [trip_k0_t1.sl.r_16, trip_k0_t1.sl.r_17, trip_k0_t1.sl.r_19, trip_k0_t1.sl.r_20, trip_k0_t1.sl.r_29, w_v216, w_v222 (arg4 := arg4) (X4 := X4), w_v260, w_v277, w_v283 (arg4 := arg4) (X4 := X4), w_v303]
  rfl

theorem w_v : trip_k0_t1.sl.v (F := F) arg2 arg3 arg10 X2 X3 k = shapeCast S1x1024x1024 (scores 1024 256 (kAt (arg3.view.read (Elt F) X3) 5) (qAt (arg2.view.read (Elt F) X2) (k0_off1 k) (k0_off1_inb k))) shapeCasts_S1024x1024_S1x1024x1024 := by
  unfold trip_k0_t1.sl.v
  simp (disch := decide) only [trip_k0_t1.sl.HW_arg10_6, trip_k0_t1.sl.HW_arg10_5, ↓ View.readCov_skip, ↓ View.readCov_cons_toLoadRect, ↓ View.readCov_fill]
  try simp only [trip_k0_t1.sl.r_23, trip_k0_t1.sl.r]
  rfl

theorem w_v344 : trip_k0_t1.sl.v344 (F := F) arg2 arg3 arg9 arg10 X2 X3 k f10 = ((stOf (arg3.view.read (Elt F) X3) (arg4.view.read (Elt F) X4) (shapeCast S1024x1024 (arg10.view.readAt (Elt F) slot0.toLoadRect f10 : Vec F S1x1024x1024 .f32) shapeCasts_S1x1024x1024_S1024x1024) (qAt (arg2.view.read (Elt F) X2) (k0_off1 k) (k0_off1_inb k)) 4 (by omega)) : St F).m := by
  unfold trip_k0_t1.sl.v344
  simp (disch := decide) only [trip_k0_t1.sl.HW_arg9_6, ↓ View.readCov_skip, ↓ View.readCov_cons_toLoadRect, ↓ View.readCov_fill]
  try simp only [trip_k0_t1.sl.r_26, w_v277, w_v283 (arg4 := arg4) (X4 := X4)]
  rfl

theorem w_v364 : trip_k0_t1.sl.v364 (F := F) arg2 arg3 arg4 arg8 arg9 arg10 X2 X3 X4 k f10 = ((stOf (arg3.view.read (Elt F) X3) (arg4.view.read (Elt F) X4) (shapeCast S1024x1024 (arg10.view.readAt (Elt F) slot0.toLoadRect f10 : Vec F S1x1024x1024 .f32) shapeCasts_S1x1024x1024_S1024x1024) (qAt (arg2.view.read (Elt F) X2) (k0_off1 k) (k0_off1_inb k)) 4 (by omega)) : St F).a0 := by
  unfold trip_k0_t1.sl.v364
  simp (disch := decide) only [trip_k0_t1.sl.HW_arg8_11, trip_k0_t1.sl.HW_arg8_10, ↓ View.readCov_skip, ↓ View.readCov_cons_toLoadRect, ↓ View.readCov_fill]
  try simp only [trip_k0_t1.sl.r_29, trip_k0_t1.sl.r_24, trip_k0_t1.sl.r_25, trip_k0_t1.sl.r_27, trip_k0_t1.sl.r_28, w_v277, w_v283 (arg4 := arg4) (X4 := X4), w_v303, w_v321]
  rfl

theorem w_v382 : trip_k0_t1.sl.v382 (F := F) arg2 arg3 arg4 arg8 arg9 arg10 X2 X3 X4 k f10 = ((stOf (arg3.view.read (Elt F) X3) (arg4.view.read (Elt F) X4) (shapeCast S1024x1024 (arg10.view.readAt (Elt F) slot0.toLoadRect f10 : Vec F S1x1024x1024 .f32) shapeCasts_S1x1024x1024_S1024x1024) (qAt (arg2.view.read (Elt F) X2) (k0_off1 k) (k0_off1_inb k)) 4 (by omega)) : St F).a1 := by
  unfold trip_k0_t1.sl.v382
  simp (disch := decide) only [trip_k0_t1.sl.HW_arg8_12, trip_k0_t1.sl.HW_arg8_11, ↓ View.readCov_skip, ↓ View.readCov_cons_toLoadRect, ↓ View.readCov_fill]
  try simp only [trip_k0_t1.sl.r_24, trip_k0_t1.sl.r_25, trip_k0_t1.sl.r_27, trip_k0_t1.sl.r_28, w_v277, w_v283 (arg4 := arg4) (X4 := X4), w_v321, w_v, w_v344 (arg4 := arg4) (X4 := X4), w_v364]
  rfl

theorem w_v399 : trip_k0_t1.sl.v399 (F := F) arg2 arg3 arg10 X2 X3 k = shapeCast S1x1024x1024 (scores 1024 256 (kAt (arg3.view.read (Elt F) X3) 6) (qAt (arg2.view.read (Elt F) X2) (k0_off1 k) (k0_off1_inb k))) shapeCasts_S1024x1024_S1x1024x1024 := by
  unfold trip_k0_t1.sl.v399
  simp (disch := decide) only [trip_k0_t1.sl.HW_arg10_7, trip_k0_t1.sl.HW_arg10_6, ↓ View.readCov_skip, ↓ View.readCov_cons_toLoadRect, ↓ View.readCov_fill]
  try simp only [trip_k0_t1.sl.r]
  rfl

theorem w_v405 : trip_k0_t1.sl.v405 (F := F) arg2 arg3 arg9 arg10 X2 X3 k f10 = ((stOf (arg3.view.read (Elt F) X3) (arg4.view.read (Elt F) X4) (shapeCast S1024x1024 (arg10.view.readAt (Elt F) slot0.toLoadRect f10 : Vec F S1x1024x1024 .f32) shapeCasts_S1x1024x1024_S1024x1024) (qAt (arg2.view.read (Elt F) X2) (k0_off1 k) (k0_off1_inb k)) 5 (by omega)) : St F).m := by
  unfold trip_k0_t1.sl.v405
  simp (disch := decide) only [trip_k0_t1.sl.HW_arg9_7, ↓ View.readCov_skip, ↓ View.readCov_cons_toLoadRect, ↓ View.readCov_fill]
  try simp only [trip_k0_t1.sl.r_31, w_v, w_v344 (arg4 := arg4) (X4 := X4)]
  rfl

theorem w_v425 : trip_k0_t1.sl.v425 (F := F) arg2 arg3 arg4 arg8 arg9 arg10 X2 X3 X4 k f10 = ((stOf (arg3.view.read (Elt F) X3) (arg4.view.read (Elt F) X4) (shapeCast S1024x1024 (arg10.view.readAt (Elt F) slot0.toLoadRect f10 : Vec F S1x1024x1024 .f32) shapeCasts_S1x1024x1024_S1024x1024) (qAt (arg2.view.read (Elt F) X2) (k0_off1 k) (k0_off1_inb k)) 5 (by omega)) : St F).a0 := by
  unfold trip_k0_t1.sl.v425
  simp (disch := decide) only [trip_k0_t1.sl.HW_arg8_13, trip_k0_t1.sl.HW_arg8_12, ↓ View.readCov_skip, ↓ View.readCov_cons_toLoadRect, ↓ View.readCov_fill]
  try simp only [trip_k0_t1.sl.r_30, trip_k0_t1.sl.r_32, trip_k0_t1.sl.r_33, trip_k0_t1.sl.r_34, trip_k0_t1.sl.r_35, w_v, w_v344 (arg4 := arg4) (X4 := X4), w_v364, w_v382]
  rfl

theorem w_v443 : trip_k0_t1.sl.v443 (F := F) arg2 arg3 arg4 arg8 arg9 arg10 X2 X3 X4 k f10 = ((stOf (arg3.view.read (Elt F) X3) (arg4.view.read (Elt F) X4) (shapeCast S1024x1024 (arg10.view.readAt (Elt F) slot0.toLoadRect f10 : Vec F S1x1024x1024 .f32) shapeCasts_S1x1024x1024_S1024x1024) (qAt (arg2.view.read (Elt F) X2) (k0_off1 k) (k0_off1_inb k)) 5 (by omega)) : St F).a1 := by
  unfold trip_k0_t1.sl.v443
  simp (disch := decide) only [trip_k0_t1.sl.HW_arg8_14, trip_k0_t1.sl.HW_arg8_13, ↓ View.readCov_skip, ↓ View.readCov_cons_toLoadRect, ↓ View.readCov_fill]
  try simp only [trip_k0_t1.sl.r_30, trip_k0_t1.sl.r_32, trip_k0_t1.sl.r_33, trip_k0_t1.sl.r_34, trip_k0_t1.sl.r_35, trip_k0_t1.sl.r_36, trip_k0_t1.sl.r_37, w_v, w_v344 (arg4 := arg4) (X4 := X4), w_v382, w_v399, w_v405 (arg4 := arg4) (X4 := X4), w_v425]
  rfl

theorem w_v460 : trip_k0_t1.sl.v460 (F := F) arg2 arg3 arg5 arg10 X2 X3 X5 k = shapeCast S1x1024x1024 (scores 1024 256 (kAt (arg3.view.read (Elt F) X3) 7) (qAt (arg2.view.read (Elt F) X2) (k0_off1 k) (k0_off1_inb k))) shapeCasts_S1024x1024_S1x1024x1024 := by
  unfold trip_k0_t1.sl.v460
  simp (disch := decide) only [trip_k0_t1.sl.HW_arg10_8, trip_k0_t1.sl.HW_arg10_7, ↓ View.readCov_skip, ↓ View.readCov_cons_toLoadRect, ↓ View.readCov_fill]
  try simp only [trip_k0_t1.sl.r]
  rfl

theorem w_v466 : trip_k0_t1.sl.v466 (F := F) arg2 arg3 arg9 arg10 X2 X3 k f10 = ((stOf (arg3.view.read (Elt F) X3) (arg4.view.read (Elt F) X4) (shapeCast S1024x1024 (arg10.view.readAt (Elt F) slot0.toLoadRect f10 : Vec F S1x1024x1024 .f32) shapeCasts_S1x1024x1024_S1024x1024) (qAt (arg2.view.read (Elt F) X2) (k0_off1 k) (k0_off1_inb k)) 6 (by omega)) : St F).m := by
  unfold trip_k0_t1.sl.v466
  simp (disch := decide) only [trip_k0_t1.sl.HW_arg9_8, ↓ View.readCov_skip, ↓ View.readCov_cons_toLoadRect, ↓ View.readCov_fill]
  try simp only [trip_k0_t1.sl.r_38, trip_k0_t1.sl.r_36, w_v399, w_v405 (arg4 := arg4) (X4 := X4)]
  rfl

theorem w_v486 : trip_k0_t1.sl.v486 (F := F) arg2 arg3 arg4 arg8 arg9 arg10 X2 X3 X4 k f10 = ((stOf (arg3.view.read (Elt F) X3) (arg4.view.read (Elt F) X4) (shapeCast S1024x1024 (arg10.view.readAt (Elt F) slot0.toLoadRect f10 : Vec F S1x1024x1024 .f32) shapeCasts_S1x1024x1024_S1024x1024) (qAt (arg2.view.read (Elt F) X2) (k0_off1 k) (k0_off1_inb k)) 6 (by omega)) : St F).a0 := by
  unfold trip_k0_t1.sl.v486
  simp (disch := decide) only [trip_k0_t1.sl.HW_arg8_15, trip_k0_t1.sl.HW_arg8_14, ↓ View.readCov_skip, ↓ View.readCov_cons_toLoadRect, ↓ View.readCov_fill]
  try simp only [trip_k0_t1.sl.r_36, trip_k0_t1.sl.r_37, trip_k0_t1.sl.r_39, trip_k0_t1.sl.r_40, w_v399, w_v405 (arg4 := arg4) (X4 := X4), w_v425, w_v443]
  rfl

theorem w_v504 : trip_k0_t1.sl.v504 (F := F) arg2 arg3 arg4 arg5 arg8 arg9 arg10 X2 X3 X4 X5 k f10 = ((stOf (arg3.view.read (Elt F) X3) (arg4.view.read (Elt F) X4) (shapeCast S1024x1024 (arg10.view.readAt (Elt F) slot0.toLoadRect f10 : Vec F S1x1024x1024 .f32) shapeCasts_S1x1024x1024_S1024x1024) (qAt (arg2.view.read (Elt F) X2) (k0_off1 k) (k0_off1_inb k)) 6 (by omega)) : St F).a1 := by
  unfold trip_k0_t1.sl.v504
  simp (disch := decide) only [trip_k0_t1.sl.HW_arg8_16, trip_k0_t1.sl.HW_arg8_15, ↓ View.readCov_skip, ↓ View.readCov_cons_toLoadRect, ↓ View.readCov_fill]
  try simp only [trip_k0_t1.sl.r_39, trip_k0_t1.sl.r_40, trip_k0_t1.sl.r_36, trip_k0_t1.sl.r_37, trip_k0_t1.sl.r_41, trip_k0_t1.sl.r_42, trip_k0_t1.sl.r_43, w_v399, w_v405 (arg4 := arg4) (X4 := X4), w_v443, w_v460, w_v466 (arg4 := arg4) (X4 := X4), w_v486]
  rfl

theorem w_v529 : trip_k0_t1.sl.v529 (F := F) arg2 arg3 arg5 arg10 X2 X3 X5 k = shapeCast S1x256x1024 (scores 256 256 (kcAt (arg5.view.read (Elt F) X5)) (qAt (arg2.view.read (Elt F) X2) (k0_off1 k) (k0_off1_inb k))) shapeCasts_S256x1024_S1x256x1024 := by
  unfold trip_k0_t1.sl.v529
  simp (disch := decide) only [trip_k0_t1.sl.HW_arg10_9, trip_k0_t1.sl.HW_arg10_8, ↓ View.readCov_skip, ↓ View.readCov_cons_toLoadRect, ↓ View.readCov_fill]
  try simp only [trip_k0_t1.sl.r]
  rfl

theorem w_v533 : trip_k0_t1.sl.v533 (F := F) arg2 arg3 arg5 arg9 arg10 X2 X3 X5 k f10 = ((stOf (arg3.view.read (Elt F) X3) (arg4.view.read (Elt F) X4) (shapeCast S1024x1024 (arg10.view.readAt (Elt F) slot0.toLoadRect f10 : Vec F S1x1024x1024 .f32) shapeCasts_S1x1024x1024_S1024x1024) (qAt (arg2.view.read (Elt F) X2) (k0_off1 k) (k0_off1_inb k)) 7 (by omega)) : St F).m := by
  unfold trip_k0_t1.sl.v533
  simp (disch := decide) only [trip_k0_t1.sl.HW_arg9_9, ↓ View.readCov_skip, ↓ View.readCov_cons_toLoadRect, ↓ View.readCov_fill]
  try simp only [trip_k0_t1.sl.r_44, trip_k0_t1.sl.r_41, w_v460, w_v466 (arg4 := arg4) (X4 := X4)]
  rfl

theorem w_v548 : trip_k0_t1.sl.v548 (F := F) arg2 arg3 arg4 arg5 arg8 arg9 arg10 X2 X3 X4 X5 k f10 = ((stOf (arg3.view.read (Elt F) X3) (arg4.view.read (Elt F) X4) (shapeCast S1024x1024 (arg10.view.readAt (Elt F) slot0.toLoadRect f10 : Vec F S1x1024x1024 .f32) shapeCasts_S1x1024x1024_S1024x1024) (qAt (arg2.view.read (Elt F) X2) (k0_off1 k) (k0_off1_inb k)) 7 (by omega)) : St F).a0 := by
  unfold trip_k0_t1.sl.v548
  simp (disch := decide) only [trip_k0_t1.sl.HW_arg8_17, trip_k0_t1.sl.HW_arg8_16, ↓ View.readCov_skip, ↓ View.readCov_cons_toLoadRect, ↓ View.readCov_fill]
  try simp only [trip_k0_t1.sl.r_41, trip_k0_t1.sl.r_42, trip_k0_t1.sl.r_43, trip_k0_t1.sl.r_45, w_v460, w_v466 (arg4 := arg4) (X4 := X4), w_v486, w_v504]
  rfl

theorem w_v561 : trip_k0_t1.sl.v561 (F := F) arg2 arg3 arg4 arg5 arg6 arg8 arg9 arg10 X2 X3 X4 X5 X6 k f10 = ((stOf (arg3.view.read (Elt F) X3) (arg4.view.read (Elt F) X4) (shapeCast S1024x1024 (arg10.view.readAt (Elt F) slot0.toLoadRect f10 : Vec F S1x1024x1024 .f32) shapeCasts_S1x1024x1024_S1024x1024) (qAt (arg2.view.read (Elt F) X2) (k0_off1 k) (k0_off1_inb k)) 7 (by omega)) : St F).a1 := by
  unfold trip_k0_t1.sl.v561
  simp (disch := decide) only [trip_k0_t1.sl.HW_arg8_18, trip_k0_t1.sl.HW_arg8_17, ↓ View.readCov_skip, ↓ View.readCov_cons_toLoadRect, ↓ View.readCov_fill]
  try simp only [trip_k0_t1.sl.r_45, trip_k0_t1.sl.r_41, trip_k0_t1.sl.r_42, trip_k0_t1.sl.r_43, trip_k0_t1.sl.r_46, trip_k0_t1.sl.r_47, trip_k0_t1.sl.r_48, w_v460, w_v466 (arg4 := arg4) (X4 := X4), w_v504, w_v529, w_v533 (arg4 := arg4) (X4 := X4), w_v548]
  rfl

theorem w_v572 : trip_k0_t1.sl.v572 (F := F) arg2 arg3 arg4 arg5 arg6 arg8 arg9 arg10 X2 X3 X4 X5 X6 k f10 = ((endOf (arg3.view.read (Elt F) X3) (arg4.view.read (Elt F) X4) (arg5.view.read (Elt F) X5) (arg6.view.read (Elt F) X6) (shapeCast S1024x1024 (arg10.view.readAt (Elt F) slot0.toLoadRect f10 : Vec F S1x1024x1024 .f32) shapeCasts_S1x1024x1024_S1024x1024) (qAt (arg2.view.read (Elt F) X2) (k0_off1 k) (k0_off1_inb k))) : St F).a0 := by
  unfold trip_k0_t1.sl.v572
  simp (disch := decide) only [trip_k0_t1.sl.HW_arg8_19, trip_k0_t1.sl.HW_arg8_18, ↓ View.readCov_skip, ↓ View.readCov_cons_toLoadRect, ↓ View.readCov_fill]
  try simp only [trip_k0_t1.sl.r_46, trip_k0_t1.sl.r_47, trip_k0_t1.sl.r_48, w_v529, w_v533 (arg4 := arg4) (X4 := X4), w_v548, w_v561]
  rfl

theorem w_v580 : trip_k0_t1.sl.v580 (F := F) arg2 arg3 arg4 arg5 arg6 arg8 arg9 arg10 X2 X3 X4 X5 X6 k f10 = ((endOf (arg3.view.read (Elt F) X3) (arg4.view.read (Elt F) X4) (arg5.view.read (Elt F) X5) (arg6.view.read (Elt F) X6) (shapeCast S1024x1024 (arg10.view.readAt (Elt F) slot0.toLoadRect f10 : Vec F S1x1024x1024 .f32) shapeCasts_S1x1024x1024_S1024x1024) (qAt (arg2.view.read (Elt F) X2) (k0_off1 k) (k0_off1_inb k))) : St F).a1 := by
  unfold trip_k0_t1.sl.v580
  simp (disch := decide) only [trip_k0_t1.sl.HW_arg8_19, trip_k0_t1.sl.HW_arg8_18, ↓ View.readCov_skip, ↓ View.readCov_cons_toLoadRect, ↓ View.readCov_fill]
  try simp only [trip_k0_t1.sl.r_46, trip_k0_t1.sl.r_47, trip_k0_t1.sl.r_48, w_v529, w_v533 (arg4 := arg4) (X4 := X4), w_v548, w_v561]
  rfl

theorem w_v619 : trip_k0_t1.sl.v619 (F := F) arg2 arg3 arg5 arg10 X2 X3 X5 k = shapeCast S1x1024x1024 (scores 1024 256 (kAt (arg3.view.read (Elt F) X3) 0) (qAt (arg2.view.read (Elt F) X2) (k0_off2 k) (k0_off2_inb k))) shapeCasts_S1024x1024_S1x1024x1024 := by
  unfold trip_k0_t1.sl.v619
  simp (disch := decide) only [trip_k0_t1.sl.HW_arg10_10, trip_k0_t1.sl.HW_arg10_9, ↓ View.readCov_skip, ↓ View.readCov_cons_toLoadRect, ↓ View.readCov_fill]
  try simp only [trip_k0_t1.sl.r_50]
  rfl

theorem w_v625 : trip_k0_t1.sl.v625 (F := F) arg2 arg3 arg5 arg9 arg10 X2 X3 X5 k f10 = (start : St F).m := by
  unfold trip_k0_t1.sl.v625
  simp (disch := decide) only [trip_k0_t1.sl.HW_arg9_11, ↓ View.readCov_skip, ↓ View.readCov_cons_toLoadRect, ↓ View.readCov_fill]
  rfl

theorem w_v645 : trip_k0_t1.sl.v645 (F := F) arg2 arg3 arg4 arg5 arg6 arg8 arg9 arg10 X2 X3 X4 X5 X6 k f10 = (start : St F).a0 := by
  unfold trip_k0_t1.sl.v645
  simp (disch := decide) only [trip_k0_t1.sl.HW_arg8_20, ↓ View.readCov_skip, ↓ View.readCov_cons_toLoadRect, ↓ View.readCov_fill]
  rfl

theorem w_v663 : trip_k0_t1.sl.v663 (F := F) arg2 arg3 arg4 arg5 arg6 arg8 arg9 arg10 X2 X3 X4 X5 X6 k f10 = (start : St F).a1 := by
  unfold trip_k0_t1.sl.v663
  simp (disch := decide) only [trip_k0_t1.sl.HW_arg8_21, trip_k0_t1.sl.HW_arg8_20, ↓ View.readCov_skip, ↓ View.readCov_cons_toLoadRect, ↓ View.readCov_fill]
  try simp only [trip_k0_t1.sl.r_52, trip_k0_t1.sl.r_54, trip_k0_t1.sl.r_55, trip_k0_t1.sl.r_56, trip_k0_t1.sl.r_57, trip_k0_t1.sl.cst_464, w_v619, w_v625, w_v645]
  rfl

theorem w_v680 : trip_k0_t1.sl.v680 (F := F) arg2 arg3 arg5 arg10 X2 X3 X5 k = shapeCast S1x1024x1024 (scores 1024 256 (kAt (arg3.view.read (Elt F) X3) 1) (qAt (arg2.view.read (Elt F) X2) (k0_off4 k) (k0_off4_inb k))) shapeCasts_S1024x1024_S1x1024x1024 := by
  unfold trip_k0_t1.sl.v680
  simp (disch := decide) only [trip_k0_t1.sl.HW_arg10_11, trip_k0_t1.sl.HW_arg10_10, ↓ View.readCov_skip, ↓ View.readCov_cons_toLoadRect, ↓ View.readCov_fill]
  try simp only [trip_k0_t1.sl.r_50]
  rfl

theorem w_v686 : trip_k0_t1.sl.v686 (F := F) arg2 arg3 arg5 arg9 arg10 X2 X3 X5 k f10 = ((stOf (arg3.view.read (Elt F) X3) (arg4.view.read (Elt F) X4) (back fits1024 (scores 1024 256 (kAt (arg3.view.read (Elt F) X3) 0) (qAt (arg2.view.read (Elt F) X2) (k0_off2 k) (k0_off2_inb k)))) (qAt (arg2.view.read (Elt F) X2) (k0_off4 k) (k0_off4_inb k)) 0 (by omega)) : St F).m := by
  unfold trip_k0_t1.sl.v686
  simp (disch := decide) only [trip_k0_t1.sl.HW_arg9_12, ↓ View.readCov_skip, ↓ View.readCov_cons_toLoadRect, ↓ View.readCov_fill]
  try simp only [trip_k0_t1.sl.r_53, w_v619, w_v625]
  rfl

theorem w_v706 : trip_k0_t1.sl.v706 (F := F) arg2 arg3 arg4 arg5 arg6 arg8 arg9 arg10 X2 X3 X4 X5 X6 k f10 = ((stOf (arg3.view.read (Elt F) X3) (arg4.view.read (Elt F) X4) (back fits1024 (scores 1024 256 (kAt (arg3.view.read (Elt F) X3) 0) (qAt (arg2.view.read (Elt F) X2) (k0_off2 k) (k0_off2_inb k)))) (qAt (arg2.view.read (Elt F) X2) (k0_off4 k) (k0_off4_inb k)) 0 (by omega)) : St F).a0 := by
  unfold trip_k0_t1.sl.v706
  simp (disch := decide) only [trip_k0_t1.sl.HW_arg8_22, trip_k0_t1.sl.HW_arg8_21, ↓ View.readCov_skip, ↓ View.readCov_cons_toLoadRect, ↓ View.readCov_fill]
  try simp only [trip_k0_t1.sl.r_52, trip_k0_t1.sl.r_54, trip_k0_t1.sl.r_55, trip_k0_t1.sl.r_56, trip_k0_t1.sl.r_57, trip_k0_t1.sl.cst_464, trip_k0_t1.sl.r_51, w_v619, w_v625, w_v645, w_v663]
  rfl

theorem w_v724 : trip_k0_t1.sl.v724 (F := F) arg2 arg3 arg4 arg5 arg6 arg8 arg9 arg10 X2 X3 X4 X5 X6 k f10 = ((stOf (arg3.view.read (Elt F) X3) (arg4.view.read (Elt F) X4) (back fits1024 (scores 1024 256 (kAt (arg3.view.read (Elt F) X3) 0) (qAt (arg2.view.read (Elt F) X2) (k0_off2 k) (k0_off2_inb k)))) (qAt (arg2.view.read (Elt F) X2) (k0_off4 k) (k0_off4_inb k)) 0 (by omega)) : St F).a1 := by
  unfold trip_k0_t1.sl.v724
  simp (disch := decide) only [trip_k0_t1.sl.HW_arg8_23, trip_k0_t1.sl.HW_arg8_22, ↓ View.readCov_skip, ↓ View.readCov_cons_toLoadRect, ↓ View.readCov_fill]
  try simp only [trip_k0_t1.sl.r_51, trip_k0_t1.sl.r_52, trip_k0_t1.sl.r_54, trip_k0_t1.sl.r_55, trip_k0_t1.sl.r_63, trip_k0_t1.sl.r_64, w_v619, w_v625, w_v663, w_v680, w_v686 (arg4 := arg4) (X4 := X4), w_v706]
  rfl

theorem w_v741 : trip_k0_t1.sl.v741 (F := F) arg2 arg3 arg5 arg10 X2 X3 X5 k = shapeCast S1x1024x1024 (scores 1024 256 (kAt (arg3.view.read (Elt F) X3) 2) (qAt (arg2.view.read (Elt F) X2) (k0_off4 k) (k0_off4_inb k))) shapeCasts_S1024x1024_S1x1024x1024 := by
  unfold trip_k0_t1.sl.v741
  simp (disch := decide) only [trip_k0_t1.sl.HW_arg10_12, trip_k0_t1.sl.HW_arg10_11, ↓ View.readCov_skip, ↓ View.readCov_cons_toLoadRect, ↓ View.readCov_fill]
  try simp only [trip_k0_t1.sl.r_50, trip_k0_t1.sl.r_65]
  rfl

theorem w_v747 : trip_k0_t1.sl.v747 (F := F) arg2 arg3 arg5 arg9 arg10 X2 X3 X5 k f10 = ((stOf (arg3.view.read (Elt F) X3) (arg4.view.read (Elt F) X4) (back fits1024 (scores 1024 256 (kAt (arg3.view.read (Elt F) X3) 0) (qAt (arg2.view.read (Elt F) X2) (k0_off2 k) (k0_off2_inb k)))) (qAt (arg2.view.read (Elt F) X2) (k0_off4 k) (k0_off4_inb k)) 1 (by omega)) : St F).m := by
  unfold trip_k0_t1.sl.v747
  simp (disch := decide) only [trip_k0_t1.sl.HW_arg9_13, ↓ View.readCov_skip, ↓ View.readCov_cons_toLoadRect, ↓ View.readCov_fill]
  try simp only [trip_k0_t1.sl.r_60, w_v680, w_v686 (arg4 := arg4) (X4 := X4)]
  rfl

theorem w_v767 : trip_k0_t1.sl.v767 (F := F) arg2 arg3 arg4 arg5 arg6 arg8 arg9 arg10 X2 X3 X4 X5 X6 k f10 = ((stOf (arg3.view.read (Elt F) X3) (arg4.view.read (Elt F) X4) (back fits1024 (scores 1024 256 (kAt (arg3.view.read (Elt F) X3) 0) (qAt (arg2.view.read (Elt F) X2) (k0_off2 k) (k0_off2_inb k)))) (qAt (arg2.view.read (Elt F) X2) (k0_off4 k) (k0_off4_inb k)) 1 (by omega)) : St F).a0 := by
  unfold trip_k0_t1.sl.v767
  simp (disch := decide) only [trip_k0_t1.sl.HW_arg8_24, trip_k0_t1.sl.HW_arg8_23, ↓ View.readCov_skip, ↓ View.readCov_cons_toLoadRect, ↓ View.readCov_fill]
  try simp only [trip_k0_t1.sl.r_63, trip_k0_t1.sl.r_64, trip_k0_t1.sl.r_58, trip_k0_t1.sl.r_59, trip_k0_t1.sl.r_61, trip_k0_t1.sl.r_62, w_v680, w_v686 (arg4 := arg4) (X4 := X4), w_v706, w_v724]
  rfl

theorem w_v785 : trip_k0_t1.sl.v785 (F := F) arg2 arg3 arg4 arg5 arg6 arg8 arg9 arg10 X2 X3 X4 X5 X6 k f10 = ((stOf (arg3.view.read (Elt F) X3) (arg4.view.read (Elt F) X4) (back fits1024 (scores 1024 256 (kAt (arg3.view.read (Elt F) X3) 0) (qAt (arg2.view.read (Elt F) X2) (k0_off2 k) (k0_off2_inb k)))) (qAt (arg2.view.read (Elt F) X2) (k0_off4 k) (k0_off4_inb k)) 1 (by omega)) : St F).a1 := by
  unfold trip_k0_t1.sl.v785
  simp (disch := decide) only [trip_k0_t1.sl.HW_arg8_25, trip_k0_t1.sl.HW_arg8_24, ↓ View.readCov_skip, ↓ View.readCov_cons_toLoadRect, ↓ View.readCov_fill]
  try simp only [trip_k0_t1.sl.r_58, trip_k0_t1.sl.r_59, trip_k0_t1.sl.r_61, trip_k0_t1.sl.r_62, trip_k0_t1.sl.r_71, w_v680, w_v686 (arg4 := arg4) (X4 := X4), w_v724, w_v741, w_v747 (arg4 := arg4) (X4 := X4), w_v767]
  rfl

theorem w_v802 : trip_k0_t1.sl.v802 (F := F) arg2 arg3 arg5 arg10 X2 X3 X5 k = shapeCast S1x1024x1024 (scores 1024 256 (kAt (arg3.view.read (Elt F) X3) 3) (qAt (arg2.view.read (Elt F) X2) (k0_off4 k) (k0_off4_inb k))) shapeCasts_S1024x1024_S1x1024x1024 := by
  unfold trip_k0_t1.sl.v802
  simp (disch := decide) only [trip_k0_t1.sl.HW_arg10_13, trip_k0_t1.sl.HW_arg10_12, ↓ View.readCov_skip, ↓ View.readCov_cons_toLoadRect, ↓ View.readCov_fill]
  try simp only [trip_k0_t1.sl.r_65, trip_k0_t1.sl.r_50]
  rfl

theorem w_v808 : trip_k0_t1.sl.v808 (F := F) arg2 arg3 arg5 arg9 arg10 X2 X3 X5 k f10 = ((stOf (arg3.view.read (Elt F) X3) (arg4.view.read (Elt F) X4) (back fits1024 (scores 1024 256 (kAt (arg3.view.read (Elt F) X3) 0) (qAt (arg2.view.read (Elt F) X2) (k0_off2 k) (k0_off2_inb k)))) (qAt (arg2.view.read (Elt F) X2) (k0_off4 k) (k0_off4_inb k)) 2 (by omega)) : St F).m := by
  unfold trip_k0_t1.sl.v808
  simp (disch := decide) only [trip_k0_t1.sl.HW_arg9_14, ↓ View.readCov_skip, ↓ View.readCov_cons_toLoadRect, ↓ View.readCov_fill]
  try simp only [trip_k0_t1.sl.r_68, w_v741, w_v747 (arg4 := arg4) (X4 := X4)]
  rfl

theorem w_v828 : trip_k0_t1.sl.v828 (F := F) arg2 arg3 arg4 arg5 arg6 arg8 arg9 arg10 X2 X3 X4 X5 X6 k f10 = ((stOf (arg3.view.read (Elt F) X3) (arg4.view.read (Elt F) X4) (back fits1024 (scores 1024 256 (kAt (arg3.view.read (Elt F) X3) 0) (qAt (arg2.view.read (Elt F) X2) (k0_off2 k) (k0_off2_inb k)))) (qAt (arg2.view.read (Elt F) X2) (k0_off4 k) (k0_off4_inb k)) 2 (by omega)) : St F).a0 := by
  unfold trip_k0_t1.sl.v828
  simp (disch := decide) only [trip_k0_t1.sl.HW_arg8_26, trip_k0_t1.sl.HW_arg8_25, ↓ View.readCov_skip, ↓ View.readCov_cons_toLoadRect, ↓ View.readCov_fill]
  try simp only [trip_k0_t1.sl.r_71, trip_k0_t1.sl.r_66, trip_k0_t1.sl.r_67, trip_k0_t1.sl.r_69, trip_k0_t1.sl.r_70, w_v741, w_v747 (arg4 := arg4) (X4 := X4), w_v767, w_v785]
  rfl

theorem w_v846 : trip_k0_t1.sl.v846 (F := F) arg2 arg3 arg4 arg5 arg6 arg8 arg9 arg10 X2 X3 X4 X5 X6 k f10 = ((stOf (arg3.view.read (Elt F) X3) (arg4.view.read (Elt F) X4) (back fits1024 (scores 1024 256 (kAt (arg3.view.read (Elt F) X3) 0) (qAt (arg2.view.read (Elt F) X2) (k0_off2 k) (k0_off2_inb k)))) (qAt (arg2.view.read (Elt F) X2) (k0_off4 k) (k0_off4_inb k)) 2 (by omega)) : St F).a1 := by
  unfold trip_k0_t1.sl.v846
  simp (disch := decide) only [trip_k0_t1.sl.HW_arg8_27, trip_k0_t1.sl.HW_arg8_26, ↓ View.readCov_skip, ↓ View.readCov_cons_toLoadRect, ↓ View.readCov_fill]
  try simp only [trip_k0_t1.sl.r_66, trip_k0_t1.sl.r_67, trip_k0_t1.sl.r_69, trip_k0_t1.sl.r_70, trip_k0_t1.sl.r_72, w_v741, w_v747 (arg4 := arg4) (X4 := X4), w_v785, w_v802, w_v808 (arg4 := arg4) (X4 := X4), w_v828]
  rfl

theorem w_v863 : trip_k0_t1.sl.v863 (F := F) arg2 arg3 arg5 arg10 X2 X3 X5 k = shapeCast S1x1024x1024 (scores 1024 256 (kAt (arg3.view.read (Elt F) X3) 4) (qAt (arg2.view.read (Elt F) X2) (k0_off4 k) (k0_off4_inb k))) shapeCasts_S1024x1024_S1x1024x1024 := by
  unfold trip_k0_t1.sl.v863
  simp (disch := decide) only [trip_k0_t1.sl.HW_arg10_14, trip_k0_t1.sl.HW_arg10_13, ↓ View.readCov_skip, ↓ View.readCov_cons_toLoadRect, ↓ View.readCov_fill]
  try simp only [trip_k0_t1.sl.r_50]
  rfl

theorem w_v869 : trip_k0_t1.sl.v869 (F := F) arg2 arg3 arg5 arg9 arg10 X2 X3 X5 k f10 = ((stOf (arg3.view.read (Elt F) X3) (arg4.view.read (Elt F) X4) (back fits1024 (scores 1024 256 (kAt (arg3.view.read (Elt F) X3) 0) (qAt (arg2.view.read (Elt F) X2) (k0_off2 k) (k0_off2_inb k)))) (qAt (arg2.view.read (Elt F) X2) (k0_off4 k) (k0_off4_inb k)) 3 (by omega)) : St F).m := by
  unfold trip_k0_t1.sl.v869
  simp (disch := decide) only [trip_k0_t1.sl.HW_arg9_15, ↓ View.readCov_skip, ↓ View.readCov_cons_toLoadRect, ↓ View.readCov_fill]
  try simp only [trip_k0_t1.sl.r_73, trip_k0_t1.sl.r_72, w_v802, w_v808 (arg4 := arg4) (X4 := X4)]
  rfl

theorem w_v889 : trip_k0_t1.sl.v889 (F := F) arg2 arg3 arg4 arg5 arg6 arg8 arg9 arg10 X2 X3 X4 X5 X6 k f10 = ((stOf (arg3.view.read (Elt F) X3) (arg4.view.read (Elt F) X4) (back fits1024 (scores 1024 256 (kAt (arg3.view.read (Elt F) X3) 0) (qAt (arg2.view.read (Elt F) X2) (k0_off2 k) (k0_off2_inb k)))) (qAt (arg2.view.read (Elt F) X2) (k0_off4 k) (k0_off4_inb k)) 3 (by omega)) : St F).a0 := by
  unfold trip_k0_t1.sl.v889
  simp (disch := decide) only [trip_k0_t1.sl.HW_arg8_28, trip_k0_t1.sl.HW_arg8_27, ↓ View.readCov_skip, ↓ View.readCov_cons_toLoadRect, ↓ View.readCov_fill]
  try simp only [trip_k0_t1.sl.r_72, trip_k0_t1.sl.r_74, trip_k0_t1.sl.r_75, trip_k0_t1.sl.r_76, trip_k0_t1.sl.r_77, w_v802, w_v808 (arg4 := arg4) (X4 := X4), w_v828, w_v846]
  rfl

theorem w_v907 : trip_k0_t1.sl.v907 (F := F) arg2 arg3 arg4 arg5 arg6 arg8 arg9 arg10 X2 X3 X4 X5 X6 k f10 = ((stOf (arg3.view.read (Elt F) X3) (arg4.view.read (Elt F) X4) (back fits1024 (scores 1024 256 (kAt (arg3.view.read (Elt F) X3) 0) (qAt (arg2.view.read (Elt F) X2) (k0_off2 k) (k0_off2_inb k)))) (qAt (arg2.view.read (Elt F) X2) (k0_off4 k) (k0_off4_inb k)) 3 (by omega)) : St F).a1 := by
  unfold trip_k0_t1.sl.v907
  simp (disch := decide) only [trip_k0_t1.sl.HW_arg8_29, trip_k0_t1.sl.HW_arg8_28, ↓ View.readCov_skip, ↓ View.readCov_cons_toLoadRect, ↓ View.readCov_fill]
  try simp only [trip_k0_t1.sl.r_74, trip_k0_t1.sl.r_75, trip_k0_t1.sl.r_76, trip_k0_t1.sl.r_77, trip_k0_t1.sl.r_72, trip_k0_t1.sl.r_78, trip_k0_t1.sl.r_79, w_v802, w_v808 (arg4 := arg4) (X4 := X4), w_v846, w_v863, w_v869 (arg4 := arg4) (X4 := X4), w_v889]
  rfl

theorem w_v924 : trip_k0_t1.sl.v924 (F := F) arg2 arg3 arg5 arg10 X2 X3 X5 k = shapeCast S1x1024x1024 (scores 1024 256 (kAt (arg3.view.read (Elt F) X3) 5) (qAt (arg2.view.read (Elt F) X2) (k0_off4 k) (k0_off4_inb k))) shapeCasts_S1024x1024_S1x1024x1024 := by
  unfold trip_k0_t1.sl.v924
  simp (disch := decide) only [trip_k0_t1.sl.HW_arg10_15, trip_k0_t1.sl.HW_arg10_14, ↓ View.readCov_skip, ↓ View.readCov_cons_toLoadRect, ↓ View.readCov_fill]
  try simp only [trip_k0_t1.sl.r_50]
  rfl

theorem w_v930 : trip_k0_t1.sl.v930 (F := F) arg2 arg3 arg5 arg9 arg10 X2 X3 X5 k f10 = ((stOf (arg3.view.read (Elt F) X3) (arg4.view.read (Elt F) X4) (back fits1024 (scores 1024 256 (kAt (arg3.view.read (Elt F) X3) 0) (qAt (arg2.view.read (Elt F) X2) (k0_off2 k) (k0_off2_inb k)))) (qAt (arg2.view.read (Elt F) X2) (k0_off4 k) (k0_off4_inb k)) 4 (by omega)) : St F).m := by
  unfold trip_k0_t1.sl.v930
  simp (disch := decide) only [trip_k0_t1.sl.HW_arg9_16, ↓ View.readCov_skip, ↓ View.readCov_cons_toLoadRect, ↓ View.readCov_fill]
  try simp only [trip_k0_t1.sl.r_80, trip_k0_t1.sl.r_78, w_v863, w_v869 (arg4 := arg4) (X4 := X4)]
  rfl

theorem w_v950 : trip_k0_t1.sl.v950 (F := F) arg2 arg3 arg4 arg5 arg6 arg8 arg9 arg10 X2 X3 X4 X5 X6 k f10 = ((stOf (arg3.view.read (Elt F) X3) (arg4.view.read (Elt F) X4) (back fits1024 (scores 1024 256 (kAt (arg3.view.read (Elt F) X3) 0) (qAt (arg2.view.read (Elt F) X2) (k0_off2 k) (k0_off2_inb k)))) (qAt (arg2.view.read (Elt F) X2) (k0_off4 k) (k0_off4_inb k)) 4 (by omega)) : St F).a0 := by
  unfold trip_k0_t1.sl.v950
  simp (disch := decide) only [trip_k0_t1.sl.HW_arg8_30, trip_k0_t1.sl.HW_arg8_29, ↓ View.readCov_skip, ↓ View.readCov_cons_toLoadRect, ↓ View.readCov_fill]
  try simp only [trip_k0_t1.sl.r_78, trip_k0_t1.sl.r_79, trip_k0_t1.sl.r_81, trip_k0_t1.sl.r_82, trip_k0_t1.sl.r_83, w_v863, w_v869 (arg4 := arg4) (X4 := X4), w_v889, w_v907]
  rfl

theorem w_v968 : trip_k0_t1.sl.v968 (F := F) arg2 arg3 arg4 arg5 arg6 arg8 arg9 arg10 X2 X3 X4 X5 X6 k f10 = ((stOf (arg3.view.read (Elt F) X3) (arg4.view.read (Elt F) X4) (back fits1024 (scores 1024 256 (kAt (arg3.view.read (Elt F) X3) 0) (qAt (arg2.view.read (Elt F) X2) (k0_off2 k) (k0_off2_inb k)))) (qAt (arg2.view.read (Elt F) X2) (k0_off4 k) (k0_off4_inb k)) 4 (by omega)) : St F).a1 := by
  unfold trip_k0_t1.sl.v968
  simp (disch := decide) only [trip_k0_t1.sl.HW_arg8_31, trip_k0_t1.sl.HW_arg8_30, ↓ View.readCov_skip, ↓ View.readCov_cons_toLoadRect, ↓ View.readCov_fill]
  try simp only [trip_k0_t1.sl.r_81, trip_k0_t1.sl.r_82, trip_k0_t1.sl.r_83, trip_k0_t1.sl.r_78, trip_k0_t1.sl.r_79, trip_k0_t1.sl.r_84, trip_k0_t1.sl.r_85, trip_k0_t1.sl.r_86, trip_k0_t1.sl.r_87, w_v863, w_v869 (arg4 := arg4) (X4 := X4), w_v907, w_v924, w_v930 (arg4 := arg4) (X4 := X4), w_v950]
  rfl

theorem w_v985 : trip_k0_t1.sl.v985 (F := F) arg2 arg3 arg5 arg10 X2 X3 X5 k = shapeCast S1x1024x1024 (scores 1024 256 (kAt (arg3.view.read (Elt F) X3) 6) (qAt (arg2.view.read (Elt F) X2) (k0_off4 k) (k0_off4_inb k))) shapeCasts_S1024x1024_S1x1024x1024 := by
  unfold trip_k0_t1.sl.v985
  simp (disch := decide) only [trip_k0_t1.sl.HW_arg10_16, trip_k0_t1.sl.HW_arg10_15, ↓ View.readCov_skip, ↓ View.readCov_cons_toLoadRect, ↓ View.readCov_fill]
  try simp only [trip_k0_t1.sl.r_50]
  rfl

theorem w_v991 : trip_k0_t1.sl.v991 (F := F) arg2 arg3 arg5 arg9 arg10 X2 X3 X5 k f10 = ((stOf (arg3.view.read (Elt F) X3) (arg4.view.read (Elt F) X4) (back fits1024 (scores 1024 256 (kAt (arg3.view.read (Elt F) X3) 0) (qAt (arg2.view.read (Elt F) X2) (k0_off2 k) (k0_off2_inb k)))) (qAt (arg2.view.read (Elt F) X2) (k0_off4 k) (k0_off4_inb k)) 5 (by omega)) : St F).m := by
  unfold trip_k0_t1.sl.v991
  simp (disch := decide) only [trip_k0_t1.sl.HW_arg9_17, ↓ View.readCov_skip, ↓ View.readCov_cons_toLoadRect, ↓ View.readCov_fill]
  try simp only [trip_k0_t1.sl.r_87, w_v924, w_v930 (arg4 := arg4) (X4 := X4)]
  rfl

theorem w_v1011 : trip_k0_t1.sl.v1011 (F := F) arg2 arg3 arg4 arg5 arg6 arg8 arg9 arg10 X2 X3 X4 X5 X6 k f10 = ((stOf (arg3.view.read (Elt F) X3) (arg4.view.read (Elt F) X4) (back fits1024 (scores 1024 256 (kAt (arg3.view.read (Elt F) X3) 0) (qAt (arg2.view.read (Elt F) X2) (k0_off2 k) (k0_off2_inb k)))) (qAt (arg2.view.read (Elt F) X2) (k0_off4 k) (k0_off4_inb k)) 5 (by omega)) : St F).a0 := by
  unfold trip_k0_t1.sl.v1011
  simp (disch := decide) only [trip_k0_t1.sl.HW_arg8_32, trip_k0_t1.sl.HW_arg8_31, ↓ View.readCov_skip, ↓ View.readCov_cons_toLoadRect, ↓ View.readCov_fill]
  try simp only [trip_k0_t1.sl.r_84, trip_k0_t1.sl.r_85, trip_k0_t1.sl.r_86, trip_k0_t1.sl.r_87, w_v924, w_v930 (arg4 := arg4) (X4 := X4), w_v950, w_v968]
  rfl

theorem w_v1029 : trip_k0_t1.sl.v1029 (F := F) arg2 arg3 arg4 arg5 arg6 arg8 arg9 arg10 X2 X3 X4 X5 X6 k f10 = ((stOf (arg3.view.read (Elt F) X3) (arg4.view.read (Elt F) X4) (back fits1024 (scores 1024 256 (kAt (arg3.view.read (Elt F) X3) 0) (qAt (arg2.view.read (Elt F) X2) (k0_off2 k) (k0_off2_inb k)))) (qAt (arg2.view.read (Elt F) X2) (k0_off4 k) (k0_off4_inb k)) 5 (by omega)) : St F).a1 := by
  unfold trip_k0_t1.sl.v1029
  simp (disch := decide) only [trip_k0_t1.sl.HW_arg8_33, trip_k0_t1.sl.HW_arg8_32, ↓ View.readCov_skip, ↓ View.readCov_cons_toLoadRect, ↓ View.readCov_fill]
  try simp only [trip_k0_t1.sl.r_84, trip_k0_t1.sl.r_85, trip_k0_t1.sl.r_86, trip_k0_t1.sl.r_87, trip_k0_t1.sl.r_89, trip_k0_t1.sl.r_91, trip_k0_t1.sl.r_92, trip_k0_t1.sl.r_93, trip_k0_t1.sl.r_94, trip_k0_t1.sl.cst_464, w_v924, w_v930 (arg4 := arg4) (X4 := X4), w_v968, w_v985, w_v991 (arg4 := arg4) (X4 := X4), w_v1011]
  rfl

theorem w_v1046 : trip_k0_t1.sl.v1046 (F := F) arg2 arg3 arg5 arg10 X2 X3 X5 k = shapeCast S1x1024x1024 (scores 1024 256 (kAt (arg3.view.read (Elt F) X3) 7) (qAt (arg2.view.read (Elt F) X2) (k0_off4 k) (k0_off4_inb k))) shapeCasts_S1024x1024_S1x1024x1024 := by
  unfold trip_k0_t1.sl.v1046
  simp (disch := decide) only [trip_k0_t1.sl.HW_arg10_17, trip_k0_t1.sl.HW_arg10_16, ↓ View.readCov_skip, ↓ View.readCov_cons_toLoadRect, ↓ View.readCov_fill]
  try simp only [trip_k0_t1.sl.r_50]
  rfl

theorem w_v1052 : trip_k0_t1.sl.v1052 (F := F) arg2 arg3 arg5 arg9 arg10 X2 X3 X5 k f10 = ((stOf (arg3.view.read (Elt F) X3) (arg4.view.read (Elt F) X4) (back fits1024 (scores 1024 256 (kAt (arg3.view.read (Elt F) X3) 0) (qAt (arg2.view.read (Elt F) X2) (k0_off2 k) (k0_off2_inb k)))) (qAt (arg2.view.read (Elt F) X2) (k0_off4 k) (k0_off4_inb k)) 6 (by omega)) : St F).m := by
  unfold trip_k0_t1.sl.v1052
  simp (disch := decide) only [trip_k0_t1.sl.HW_arg9_18, ↓ View.readCov_skip, ↓ View.readCov_cons_toLoadRect, ↓ View.readCov_fill]
  try simp only [trip_k0_t1.sl.r_90, w_v985, w_v991 (arg4 := arg4) (X4 := X4)]
  rfl

theorem w_v1072 : trip_k0_t1.sl.v1072 (F := F) arg2 arg3 arg4 arg5 arg6 arg8 arg9 arg10 X2 X3 X4 X5 X6 k f10 = ((stOf (arg3.view.read (Elt F) X3) (arg4.view.read (Elt F) X4) (back fits1024 (scores 1024 256 (kAt (arg3.view.read (Elt F) X3) 0) (qAt (arg2.view.read (Elt F) X2) (k0_off2 k) (k0_off2_inb k)))) (qAt (arg2.view.read (Elt F) X2) (k0_off4 k) (k0_off4_inb k)) 6 (by omega)) : St F).a0 := by
  unfold trip_k0_t1.sl.v1072
  simp (disch := decide) only [trip_k0_t1.sl.HW_arg8_34, trip_k0_t1.sl.HW_arg8_33, ↓ View.readCov_skip, ↓ View.readCov_cons_toLoadRect, ↓ View.readCov_fill]
  try simp only [trip_k0_t1.sl.r_89, trip_k0_t1.sl.r_91, trip_k0_t1.sl.r_92, trip_k0_t1.sl.r_93, trip_k0_t1.sl.r_94, trip_k0_t1.sl.cst_464, trip_k0_t1.sl.r_88, w_v985, w_v991 (arg4 := arg4) (X4 := X4), w_v1011, w_v1029]
  rfl

theorem w_v1090 : trip_k0_t1.sl.v1090 (F := F) arg2 arg3 arg4 arg5 arg6 arg8 arg9 arg10 X2 X3 X4 X5 X6 k f10 = ((stOf (arg3.view.read (Elt F) X3) (arg4.view.read (Elt F) X4) (back fits1024 (scores 1024 256 (kAt (arg3.view.read (Elt F) X3) 0) (qAt (arg2.view.read (Elt F) X2) (k0_off2 k) (k0_off2_inb k)))) (qAt (arg2.view.read (Elt F) X2) (k0_off4 k) (k0_off4_inb k)) 6 (by omega)) : St F).a1 := by
  unfold trip_k0_t1.sl.v1090
  simp (disch := decide) only [trip_k0_t1.sl.HW_arg8_35, trip_k0_t1.sl.HW_arg8_34, ↓ View.readCov_skip, ↓ View.readCov_cons_toLoadRect, ↓ View.readCov_fill]
  try simp only [trip_k0_t1.sl.r_88, trip_k0_t1.sl.r_89, trip_k0_t1.sl.r_91, trip_k0_t1.sl.r_92, trip_k0_t1.sl.r_100, trip_k0_t1.sl.r_101, w_v985, w_v991 (arg4 := arg4) (X4 := X4), w_v1029, w_v1046, w_v1052 (arg4 := arg4) (X4 := X4), w_v1072]
  rfl

theorem w_v1115 : trip_k0_t1.sl.v1115 (F := F) arg2 arg3 arg5 arg10 X2 X3 X5 k = shapeCast S1x256x1024 (scores 256 256 (kcAt (arg5.view.read (Elt F) X5)) (qAt (arg2.view.read (Elt F) X2) (k0_off4 k) (k0_off4_inb k))) shapeCasts_S256x1024_S1x256x1024 := by
  unfold trip_k0_t1.sl.v1115
  simp (disch := decide) only [trip_k0_t1.sl.HW_arg10_18, trip_k0_t1.sl.HW_arg10_17, ↓ View.readCov_skip, ↓ View.readCov_cons_toLoadRect, ↓ View.readCov_fill]
  try simp only [trip_k0_t1.sl.r_50, trip_k0_t1.sl.r_102]
  rfl

theorem w_v1119 : trip_k0_t1.sl.v1119 (F := F) arg2 arg3 arg5 arg9 arg10 X2 X3 X5 k f10 = ((stOf (arg3.view.read (Elt F) X3) (arg4.view.read (Elt F) X4) (back fits1024 (scores 1024 256 (kAt (arg3.view.read (Elt F) X3) 0) (qAt (arg2.view.read (Elt F) X2) (k0_off2 k) (k0_off2_inb k)))) (qAt (arg2.view.read (Elt F) X2) (k0_off4 k) (k0_off4_inb k)) 7 (by omega)) : St F).m := by
  unfold trip_k0_t1.sl.v1119
  simp (disch := decide) only [trip_k0_t1.sl.HW_arg9_19, ↓ View.readCov_skip, ↓ View.readCov_cons_toLoadRect, ↓ View.readCov_fill]
  try simp only [trip_k0_t1.sl.r_97, w_v1046, w_v1052 (arg4 := arg4) (X4 := X4)]
  rfl

theorem w_v1134 : trip_k0_t1.sl.v1134 (F := F) arg2 arg3 arg4 arg5 arg6 arg8 arg9 arg10 X2 X3 X4 X5 X6 k f10 = ((stOf (arg3.view.read (Elt F) X3) (arg4.view.read (Elt F) X4) (back fits1024 (scores 1024 256 (kAt (arg3.view.read (Elt F) X3) 0) (qAt (arg2.view.read (Elt F) X2) (k0_off2 k) (k0_off2_inb k)))) (qAt (arg2.view.read (Elt F) X2) (k0_off4 k) (k0_off4_inb k)) 7 (by omega)) : St F).a0 := by
  unfold trip_k0_t1.sl.v1134
  simp (disch := decide) only [trip_k0_t1.sl.HW_arg8_36, trip_k0_t1.sl.HW_arg8_35, ↓ View.readCov_skip, ↓ View.readCov_cons_toLoadRect, ↓ View.readCov_fill]
  try simp only [trip_k0_t1.sl.r_100, trip_k0_t1.sl.r_101, trip_k0_t1.sl.r_95, trip_k0_t1.sl.r_96, trip_k0_t1.sl.r_98, trip_k0_t1.sl.r_99, w_v1046, w_v1052 (arg4 := arg4) (X4 := X4), w_v1072, w_v1090]
  rfl

theorem w_v1147 : trip_k0_t1.sl.v1147 (F := F) arg2 arg3 arg4 arg5 arg6 arg8 arg9 arg10 X2 X3 X4 X5 X6 k f10 = ((stOf (arg3.view.read (Elt F) X3) (arg4.view.read (Elt F) X4) (back fits1024 (scores 1024 256 (kAt (arg3.view.read (Elt F) X3) 0) (qAt (arg2.view.read (Elt F) X2) (k0_off2 k) (k0_off2_inb k)))) (qAt (arg2.view.read (Elt F) X2) (k0_off4 k) (k0_off4_inb k)) 7 (by omega)) : St F).a1 := by
  unfold trip_k0_t1.sl.v1147
  simp (disch := decide) only [trip_k0_t1.sl.HW_arg8_37, trip_k0_t1.sl.HW_arg8_36, ↓ View.readCov_skip, ↓ View.readCov_cons_toLoadRect, ↓ View.readCov_fill]
  try simp only [trip_k0_t1.sl.r_95, trip_k0_t1.sl.r_96, trip_k0_t1.sl.r_98, trip_k0_t1.sl.r_99, trip_k0_t1.sl.r_107, w_v1046, w_v1052 (arg4 := arg4) (X4 := X4), w_v1090, w_v1115, w_v1119 (arg4 := arg4) (X4 := X4), w_v1134]
  rfl

theorem w_v1158 : trip_k0_t1.sl.v1158 (F := F) arg2 arg3 arg4 arg5 arg6 arg8 arg9 arg10 X2 X3 X4 X5 X6 k f10 = ((endOf (arg3.view.read (Elt F) X3) (arg4.view.read (Elt F) X4) (arg5.view.read (Elt F) X5) (arg6.view.read (Elt F) X6) (back fits1024 (scores 1024 256 (kAt (arg3.view.read (Elt F) X3) 0) (qAt (arg2.view.read (Elt F) X2) (k0_off2 k) (k0_off2_inb k)))) (qAt (arg2.view.read (Elt F) X2) (k0_off4 k) (k0_off4_inb k))) : St F).a0 := by
  unfold trip_k0_t1.sl.v1158
  simp (disch := decide) only [trip_k0_t1.sl.HW_arg8_38, trip_k0_t1.sl.HW_arg8_37, ↓ View.readCov_skip, ↓ View.readCov_cons_toLoadRect, ↓ View.readCov_fill]
  try simp only [trip_k0_t1.sl.r_107, trip_k0_t1.sl.r_103, trip_k0_t1.sl.r_105, trip_k0_t1.sl.r_106, w_v1115, w_v1119 (arg4 := arg4) (X4 := X4), w_v1134, w_v1147]
  rfl

theorem w_v1166 : trip_k0_t1.sl.v1166 (F := F) arg2 arg3 arg4 arg5 arg6 arg8 arg9 arg10 X2 X3 X4 X5 X6 k f10 = ((endOf (arg3.view.read (Elt F) X3) (arg4.view.read (Elt F) X4) (arg5.view.read (Elt F) X5) (arg6.view.read (Elt F) X6) (back fits1024 (scores 1024 256 (kAt (arg3.view.read (Elt F) X3) 0) (qAt (arg2.view.read (Elt F) X2) (k0_off2 k) (k0_off2_inb k)))) (qAt (arg2.view.read (Elt F) X2) (k0_off4 k) (k0_off4_inb k))) : St F).a1 := by
  unfold trip_k0_t1.sl.v1166
  simp (disch := decide) only [trip_k0_t1.sl.HW_arg8_38, trip_k0_t1.sl.HW_arg8_37, ↓ View.readCov_skip, ↓ View.readCov_cons_toLoadRect, ↓ View.readCov_fill]
  try simp only [trip_k0_t1.sl.r_107, trip_k0_t1.sl.r_103, trip_k0_t1.sl.r_105, trip_k0_t1.sl.r_106, w_v1115, w_v1119 (arg4 := arg4) (X4 := X4), w_v1134, w_v1147]
  rfl

/-- What a trip stores into the output window. -/
theorem trip_out :
    (trip_k0_t1 (F := F) 𝒱 c bd i arg2 harg2 arg3 harg3 arg4 harg4 arg5 harg5 arg6 harg6 arg7 harg7 arg8 harg8 arg9 harg9 arg10 harg10 X2 X3 X4 X5 X6 k).1 f7 f8 f9 f10
      = [⟨Rect.unit (s := S1x8192x128) (k0_off6 k) S1x512x128.size (k0_off6_inb k),
          result (endOf (arg3.view.read (Elt F) X3) (arg4.view.read (Elt F) X4) (arg5.view.read (Elt F) X5) (arg6.view.read (Elt F) X6) (back fits1024 (scores 1024 256 (kAt (arg3.view.read (Elt F) X3) 0) (qAt (arg2.view.read (Elt F) X2) (k0_off2 k) (k0_off2_inb k)))) (qAt (arg2.view.read (Elt F) X2) (k0_off4 k) (k0_off4_inb k)))⟩,
         ⟨Rect.unit (s := S1x8192x128) (k0_off3 k) S1x512x128.size (k0_off3_inb k),
          result (endOf (arg3.view.read (Elt F) X3) (arg4.view.read (Elt F) X4) (arg5.view.read (Elt F) X5) (arg6.view.read (Elt F) X6) (shapeCast S1024x1024 (arg10.view.readAt (Elt F) slot0.toLoadRect f10 : Vec F S1x1024x1024 .f32) shapeCasts_S1x1024x1024_S1024x1024) (qAt (arg2.view.read (Elt F) X2) (k0_off1 k) (k0_off1_inb k)))⟩] := by
  unfold trip_k0_t1
  simp only [trip_k0_t1.sl.r_49, trip_k0_t1.sl.r_108, w_v572, w_v580, w_v1158, w_v1166]
  rfl

/-- What a trip leaves in the first half of the scores' scratch. -/
theorem trip_scores :
    arg10.view.readAt (Elt F) slot0.toLoadRect (arg10.view.writes (Elt F) f10
      ((trip_k0_t1 (F := F) 𝒱 c bd i arg2 harg2 arg3 harg3 arg4 harg4 arg5 harg5 arg6 harg6 arg7 harg7 arg8 harg8 arg9 harg9 arg10 harg10 X2 X3 X4 X5 X6 k).2.2.2.1 f7 f8 f9 f10))
      = shapeCast S1x1024x1024 (scores 1024 256 (kAt (arg3.view.read (Elt F) X3) 0)
          (qAt (arg2.view.read (Elt F) X2) (k0_off5 k) (k0_off5_inb k))) shapeCasts_S1024x1024_S1x1024x1024 := by
  unfold trip_k0_t1
  simp only [trip_k0_t1.sl.HW_arg10_18]
  funext x
  exact View.read_writes_cons_emb arg10.view f10 slot0 _ _ x

end

end Cert.LatentIdeal.Trip
-- ==== Proof.LatentLoop.lean ====
/-
  The latent attention's loop over pairs of query blocks: before trip `k` the first half of the scores' scratch holds
  the scores of block `2 k`, and the output window's rows of the blocks before it are done.
-/
module

public import proofs.«01_k».proof.Proof.LatentTrip
public import Idealize.ShloMosaic.Lib.WritesUnit

@[expose] public section

set_option maxRecDepth 16384

noncomputable section

namespace Cert.LatentIdeal.Trip

open Cert.LatentIdeal Cert.LatentIdeal.Gen Cert.Flash
open Idealize.ShloMosaic Idealize.ShloMosaic.TcCoe Idealize.ShloMosaic.Tactic
open Idealize.SL Idealize.SL.Sem

variable {F : FTy → Type} [FloatOps F]

theorem trips8 : k0_t1_loop.trips = 8 := by decide +kernel

theorem qInb (n : Fin 16) : ∀ a, (![0, 0, 512 * n.val, 0] : Fin 4 → Nat) a + S1x2x512x256.size a ≤ S1x2x8192x256.size a := by
  revert n; decide +kernel

/-- Query block `n`. -/
def qBlk (x2 : Vec F S1x2x8192x256 .bf16) (n : Fin 16) : FVec F ⟨2, ![1024, 256]⟩ .bf16 :=
  qAt x2 ![0, 0, 512 * n.val, 0] (qInb n)

theorem qAt_eq (x2 : Vec F S1x2x8192x256 .bf16) {off : Fin 4 → Nat} (n : Fin 16) (h : off = ![0, 0, 512 * n.val, 0]) (inb) :
    qAt x2 off inb = qBlk x2 n := qAt_congr x2 h _ _

/-- The first block's scores of query block `n`. -/
def s0Blk (x2 : Vec F S1x2x8192x256 .bf16) (x3 : Vec F S1x1x8x1024x256 .bf16) (n : Fin 16) : FVec F (Cols 1024) .f32 :=
  scores 1024 256 (kAt x3 0) (qBlk x2 n)

/-- What the kernel stores for query block `n`. -/
def outBlk (x2 : Vec F S1x2x8192x256 .bf16) (x3 : Vec F S1x1x8x1024x256 .bf16) (x4 : Vec F S1x1x16x2x80x512 .bf16)
    (x5 : Vec F S1x1x1x256x256 .bf16) (x6 : Vec F S1x1x1x2x80x256 .bf16) (n : Fin 16) : FVec F S1x512x128 .bf16 :=
  result (endOf x3 x4 x5 x6 (back fits1024 (s0Blk x2 x3 n)) (qBlk x2 n))

/-- A position of the output window within its query block. -/
def inBlk (y : S1x8192x128.Idx) : S1x512x128.Idx
  | ⟨0, _⟩ => ⟨0, Nat.zero_lt_one⟩
  | ⟨1, _⟩ => ⟨(y 1).val % 512, Nat.mod_lt _ (by decide)⟩
  | ⟨2, _⟩ => ⟨(y 2).val, (y 2).isLt⟩

/-- The output window, from the input windows. -/
def outWin (x2 : Vec F S1x2x8192x256 .bf16) (x3 : Vec F S1x1x8x1024x256 .bf16) (x4 : Vec F S1x1x16x2x80x512 .bf16)
    (x5 : Vec F S1x1x1x256x256 .bf16) (x6 : Vec F S1x1x1x2x80x256 .bf16) : Vec F S1x8192x128 .bf16 := fun y =>
  outBlk x2 x3 x4 x5 x6 ⟨(y 1).val / 512, Nat.div_lt_of_lt_mul (y 1).isLt⟩ (inBlk y)

section
variable (𝒱 : Variants) (c : Dev nD) (bd : Option 𝒱.V) (i : grid0.Coords) (arg2 : Memref sig .tc .vmem S1x2x8192x256 .bf16) (harg2 : arg2.IsWhole) (arg3 : Memref sig .tc .vmem S1x1x8x1024x256 .bf16) (harg3 : arg3.IsWhole) (arg4 : Memref sig .tc .vmem S1x1x16x2x80x512 .bf16) (harg4 : arg4.IsWhole) (arg5 : Memref sig .tc .vmem S1x1x1x256x256 .bf16) (harg5 : arg5.IsWhole) (arg6 : Memref sig .tc .vmem S1x1x1x2x80x256 .bf16) (harg6 : arg6.IsWhole) (arg7 : Memref sig .tc .vmem S1x8192x128 .bf16) (harg7 : arg7.IsWhole) (arg8 : Memref sig .tc .vmem S2x80x512 .f32) (harg8 : arg8.IsWhole) (arg9 : Memref sig .tc .vmem S1x1024 .f32) (harg9 : arg9.IsWhole) (arg10 : Memref sig .tc .vmem S2x1024x1024 .f32) (harg10 : arg10.IsWhole)
  (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty)
  (G7 : BufTy.Contents (Elt F) arg7.view.ty) (G8 : BufTy.Contents (Elt F) arg8.view.ty) (G9 : BufTy.Contents (Elt F) arg9.view.ty) (G10 : BufTy.Contents (Elt F) arg10.view.ty)

theorem loop_scores
    (hG : arg10.view.readAt (Elt F) slot0.toLoadRect G10
      = shapeCast S1x1024x1024 (s0Blk (arg2.view.read (Elt F) X2) (arg3.view.read (Elt F) X3) 0) shapeCasts_S1024x1024_S1x1024x1024)
    (n : Nat) (hn : n ≤ 8) :
    arg10.view.readAt (Elt F) slot0.toLoadRect (arg10.view.writes (Elt F) G10 (pb_k0_t1 (F := F) 𝒱 c bd i arg2 harg2 arg3 harg3 arg4 harg4 arg5 harg5 arg6 harg6 arg7 harg7 arg8 harg8 arg9 harg9 arg10 harg10 X2 X3 X4 X5 X6 G7 G8 G9 G10 n).2.2.2)
      = shapeCast S1x1024x1024 (s0Blk (arg2.view.read (Elt F) X2) (arg3.view.read (Elt F) X3) ⟨min (2 * n) 15, by omega⟩) shapeCasts_S1024x1024_S1x1024x1024 := by
  cases n with
  | zero => rw [pb_k0_t1]; exact hG
  | succ n =>
    have hlt : n < k0_t1_loop.trips := by rw [trips8]; omega
    have e := pb_k0_t1_succ (F := F) 𝒱 c bd i arg2 harg2 arg3 harg3 arg4 harg4 arg5 harg5 arg6 harg6 arg7 harg7 arg8 harg8 arg9 harg9 arg10 harg10 X2 X3 X4 X5 X6 G7 G8 G9 G10 ⟨n, hlt⟩
    dsimp only at e
    rw [e, View.writes_append]
    refine (trip_scores 𝒱 c bd i arg2 harg2 arg3 harg3 arg4 harg4 arg5 harg5 arg6 harg6 arg7 harg7 arg8 harg8 arg9 harg9 arg10 harg10 X2 X3 X4 X5 X6 ⟨n, hlt⟩ _ _ _ _).trans ?_
    unfold s0Blk
    rw [qAt_eq (arg2.view.read (Elt F) X2) ⟨min (2 * (n + 1)) 15, by omega⟩ ((k0_off5_eq ⟨n, hlt⟩).trans (by dsimp only; rw [show 2 * (n + 1) = 2 * n + 2 from by omega]))]

/-- A store of one query block, read in the output window: its rows hold it, the others what they held. -/
theorem read_block (v : View sig .tc .vmem S1x8192x128 .bf16) (f : v.ty.Contents (Elt F)) (o : Fin 3 → Nat) (n : Fin 16)
    (inb : ∀ a, o a + S1x512x128.size a ≤ S1x8192x128.size a) (h : o = ![0, 512 * n.val, 0]) (w : FVec F S1x512x128 .bf16)
    (L : List (View.Piece (Elt F) S1x8192x128 .bf16)) (y : S1x8192x128.Idx) :
    v.read (Elt F) (v.writes (Elt F) f (⟨Rect.unit (s := S1x8192x128) o S1x512x128.size inb, w⟩ :: L)) y
      = if (y 1).val / 512 = n.val then w (inBlk y) else v.read (Elt F) (v.writes (Elt F) f L) y := by
  have h0 : (y 0).val < 1 := (y 0).isLt
  split
  · next e =>
    refine View.read_writes_cons_unit_of_mem v f inb w L y (inBlk y) h fun a => ?_
    match a with
    | ⟨0, _⟩ => show (y 0).val = 0 + 0; omega
    | ⟨1, _⟩ => show (y 1).val = 512 * n.val + (y 1).val % 512; omega
    | ⟨2, _⟩ => show (y 2).val = 0 + (y 2).val; omega
  · next e =>
    refine View.read_writes_cons_unit_of_not_mem v f inb w L y h 1 ?_
    show (y 1).val < 512 * n.val ∨ 512 * n.val + 512 ≤ (y 1).val
    omega

theorem loop_out
    (hG : arg10.view.readAt (Elt F) slot0.toLoadRect G10
      = shapeCast S1x1024x1024 (s0Blk (arg2.view.read (Elt F) X2) (arg3.view.read (Elt F) X3) 0) shapeCasts_S1024x1024_S1x1024x1024)
    (n : Nat) (hn : n ≤ 8) (y : S1x8192x128.Idx) (hy : (y 1).val < 1024 * n) :
    arg7.view.read (Elt F) (arg7.view.writes (Elt F) G7 (pb_k0_t1 (F := F) 𝒱 c bd i arg2 harg2 arg3 harg3 arg4 harg4 arg5 harg5 arg6 harg6 arg7 harg7 arg8 harg8 arg9 harg9 arg10 harg10 X2 X3 X4 X5 X6 G7 G8 G9 G10 n).1) y = outWin (arg2.view.read (Elt F) X2) (arg3.view.read (Elt F) X3) (arg4.view.read (Elt F) X4) (arg5.view.read (Elt F) X5) (arg6.view.read (Elt F) X6) y := by
  induction n with
  | zero => exact absurd hy (by omega)
  | succ n ih =>
    have hlt : n < k0_t1_loop.trips := by rw [trips8]; omega
    have e := pb_k0_t1_succ (F := F) 𝒱 c bd i arg2 harg2 arg3 harg3 arg4 harg4 arg5 harg5 arg6 harg6 arg7 harg7 arg8 harg8 arg9 harg9 arg10 harg10 X2 X3 X4 X5 X6 G7 G8 G9 G10 ⟨n, hlt⟩
    dsimp only at e
    rw [e]
    dsimp only [tripL_k0_t1]
    rw [trip_out, List.cons_append, List.cons_append, List.nil_append,
      read_block _ _ _ ⟨2 * n + 1, by omega⟩ _ ((k0_off6_eq ⟨n, hlt⟩).trans (by congr 2; dsimp only; omega)),
      read_block _ _ _ ⟨2 * n, by omega⟩ _ ((k0_off3_eq ⟨n, hlt⟩).trans (by congr 2; dsimp only; omega)),
      loop_scores 𝒱 c bd i arg2 harg2 arg3 harg3 arg4 harg4 arg5 harg5 arg6 harg6 arg7 harg7 arg8 harg8 arg9 harg9 arg10 harg10 X2 X3 X4 X5 X6 G7 G8 G9 G10 hG n (by omega),
      qAt_eq (arg2.view.read (Elt F) X2) ⟨2 * n, by omega⟩ ((k0_off1_eq ⟨n, hlt⟩).trans (by congr 3; dsimp only; omega)),
      qAt_eq (arg2.view.read (Elt F) X2) ⟨2 * n + 1, by omega⟩ ((k0_off2_eq ⟨n, hlt⟩).trans (by congr 3; dsimp only; omega)),
      qAt_eq (arg2.view.read (Elt F) X2) ⟨2 * n + 1, by omega⟩ ((k0_off4_eq ⟨n, hlt⟩).trans (by congr 3; dsimp only; omega))]
    unfold outWin outBlk
    have hm : (⟨min (2 * n) 15, by omega⟩ : Fin 16) = ⟨2 * n, by omega⟩ := Fin.ext (by dsimp only; omega)
    rw [hm]
    split
    · next e1 => rw [show (⟨(y 1).val / 512, Nat.div_lt_of_lt_mul (y 1).isLt⟩ : Fin 16) = ⟨2 * n + 1, by omega⟩ from Fin.ext e1]; rfl
    · next e1 =>
      split
      · next e2 => rw [show (⟨(y 1).val / 512, Nat.div_lt_of_lt_mul (y 1).isLt⟩ : Fin 16) = ⟨2 * n, by omega⟩ from Fin.ext e2]; rfl
      · next e2 => dsimp only at e1 e2; exact ih (by omega) (by omega)

end

end Cert.LatentIdeal.Trip
-- ==== Proof.LatentRun.lean ====
/-
  The run of `LatentIdeal`: the latent attention's body on its windows, the proof data of its pipeline (each input window its
  block, the output window `outWin` of the input blocks, the scratch at anything), the launch and the frame.
-/
module

public import proofs.«01_k».proof.Proof.LatentLoop
public import proofs.«01_k».proof.Proof.Gen.LatentIdeal.Frame
public import proofs.«01_k».proof.Proof.Gen.LatentIdeal.Skeleton
public import Idealize.ShloMosaic.Lib.Claim

@[expose] public section

set_option maxRecDepth 16384

noncomputable section

namespace Cert.LatentIdeal.Run

open Cert.LatentIdeal Cert.LatentIdeal.Gen Cert.LatentIdeal.Trip Cert.Flash
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body on whole memrefs: the inputs are left as they were, the output holds `outWin` of them, the three scratch
    buffers whatever the run left. -/
theorem body_run (c : Dev nD) (E : Set ℕ) (i : grid0.Coords) (arg2 : Memref sig .tc .vmem S1x2x8192x256 .bf16) (harg2 : arg2.IsWhole) (arg3 : Memref sig .tc .vmem S1x1x8x1024x256 .bf16) (harg3 : arg3.IsWhole) (arg4 : Memref sig .tc .vmem S1x1x16x2x80x512 .bf16) (harg4 : arg4.IsWhole) (arg5 : Memref sig .tc .vmem S1x1x1x256x256 .bf16) (harg5 : arg5.IsWhole) (arg6 : Memref sig .tc .vmem S1x1x1x2x80x256 .bf16) (harg6 : arg6.IsWhole) (arg7 : Memref sig .tc .vmem S1x8192x128 .bf16) (harg7 : arg7.IsWhole) (arg8 : Memref sig .tc .vmem S2x80x512 .f32) (harg8 : arg8.IsWhole) (arg9 : Memref sig .tc .vmem S1x1024 .f32) (harg9 : arg9.IsWhole) (arg10 : Memref sig .tc .vmem S2x1024x1024 .f32) (harg10 : arg10.IsWhole)
    (x2 : Vec F S1x2x8192x256 .bf16) (x3 : Vec F S1x1x8x1024x256 .bf16) (x4 : Vec F S1x1x16x2x80x512 .bf16)
    (x5 : Vec F S1x1x1x256x256 .bf16) (x6 : Vec F S1x1x1x2x80x256 .bf16) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (outWin x2 x3 x4 x5 x6) ∗ (∃ d, owns (c : Thread nD τ) arg8 fullShare d) ∗ (∃ d, owns (c : Thread nD τ) arg9 fullShare d) ∗ (∃ d, owns (c : Thread nD τ) arg10 fullShare d)) -∗ K ⟨⟩))
      ⊢ wp frame (wpE (defs₀ (F := F)) Variants.none c none) E (cc0_dense_attn i arg2 harg2 arg3 harg3 arg4 harg4 arg5 harg5 arg6 harg6 arg7 harg7 arg8 harg8 arg9 harg9 arg10 harg10) K := by
  simp only [cc0_dense_attn_eq_skeleton]; unfold cc0_dense_attn_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
  subst hf2 hf3 hf4 hf5 hf6
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    funext y
    refine loop_out Variants.none c none i arg2 harg2 arg3 harg3 arg4 harg4 arg5 harg5 arg6 harg6 arg7 harg7 arg8 harg8 arg9 harg9 arg10 harg10 f2 f3 f4 f5 f6 f7 f8 f9 _ ?_ 8 (by omega) y (y 1).isLt
    funext x
    exact View.read_writes_cons_emb arg10.view f10 slot0 _ _ x
  isplitl [H8]
  · iexists _; iexists _; isplitr; swap; · iexact H8
    ipureintro; rfl
  isplitl [H9]
  · iexists _; iexists _; isplitr; swap; · iexact H9
    ipureintro; rfl
  iexists _; iexists _; isplitr; swap; · iexact H10
  ipureintro; rfl

/-- A whole buffer held at something, as a memref and as its location. -/
theorem whole_owns (c : Dev nD) (b : Ref sig .tc) :
    (iprop(∃ f : Buf (Elt F) ((c : Thread nD τ).loc b), ((c : Thread nD τ).loc b) ↦{fullShare} f) : sProp 𝕄)
      ⊢ iprop(∃ d, owns (c : Thread nD τ) (Memref.whole b) fullShare d) := by
  iintro ⟨%f, H⟩
  iexists f
  rw [owns_whole]
  iexact H

theorem owns_whole' (c : Dev nD) (b : Ref sig .tc) :
    (iprop(∃ d, owns (c : Thread nD τ) (Memref.whole b) fullShare d) : sProp 𝕄)
      ⊢ iprop(∃ f : Buf (Elt F) ((c : Thread nD τ).loc b), ((c : Thread nD τ).loc b) ↦{fullShare} f) := by
  simp only [owns_whole]
  exact .rfl

variable (m : (ℓ : Loc nD τ sig) → Buf (Elt F) ℓ) (ρ : Dev nD → PrngReg)

/-- The proof data: the arrays as the region finds them; each input's buffer at its block, the output's at `outWin`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outWin (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]

theorem after_5 (c : Dev nD) (t : Fin cfg0.N) : (dats m 0 c).after 5 t
    = outWin (iblk m c 0 t) (iblk m c 1 t) (iblk m c 2 t) (iblk m c 3 t) (iblk m c 4 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem point_run (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5,
    show (dats m 0 c).Φ t.castSucc = Pipeline.ΦA spec0 c from rfl]
  unfold Pipeline.ΦA
  rw [scopedRest0_eq]
  iintro ⟨⟨⟨Hs0, Hs1, Hs2⟩, Hg⟩, Ho, ⟨%d0, H0⟩, ⟨%d1, H1⟩, ⟨%d2, H2⟩, ⟨%d3, H3⟩, ⟨%d4, H4⟩, ⟨%d5, H5⟩⟩
  iapply (body_run c Set.univ _ _ _ _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [Hs0]; · iapply (whole_owns c cc0_scratch0); iexact Hs0
  isplitl [Hs1]; · iapply (whole_owns c cc0_scratch1); iexact Hs1
  isplitl [Hs2]; · iapply (whole_owns c cc0_scratch2); iexact Hs2
  iintro ⟨H0, H1, H2, H3, H4, H5, Hs0, Hs1, Hs2⟩
  isplitl [Hs0 Hs1 Hs2 Hg]
  · isplitl [Hs0 Hs1 Hs2]
    · isplitl [Hs0]; · iapply (owns_whole' c cc0_scratch0); iexact Hs0
      isplitl [Hs1]; · iapply (owns_whole' c cc0_scratch1); iexact Hs1
      iapply (owns_whole' c cc0_scratch2); iexact Hs2
    iexact Hg
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, defs₀_row]
  exact triple_restated (point_run m c t) rfl .rfl fun _ => .rfl

set_option backward.isDefEq.respectTransparency.types false in
/-- The launch, every semaphore counter at zero at the end. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

theorem counters : θ_run defs (onTc (τ := τ) (main (F := F))) (s₀ m ρ) (fun r => r.2.sem = fun _ => 0) :=
  (θ_run defs _ _).mono (fun _ h => h.2) (run_quiescent m ρ)

end Cert.LatentIdeal.Run
-- ==== Proof.LatentSame.lean ====
/-
  The printed program of the latent attention and its reading over the extended reals have the same text, so one run serves both: their
  procedures are equal, and the frame of the one is the frame of the other at bit patterns.
-/
module

public import proofs.«01_k».proof.Proof.LatentRun
public import proofs.«01_k».proof.Defs
public import proofs.«01_k».proof.Proof.Gen.Latent

@[expose] public section

set_option maxRecDepth 100000
set_option maxHeartbeats 4000000

noncomputable section

namespace Cert.LatentSame

open Idealize.ShloMosaic Idealize.ShloMosaic.TcCoe Idealize.SL.Sem

variable {F : FTy → Type} [FloatOps F]

theorem body_eq : Cert.Latent.cc0_dense_attn (F := F) = Cert.LatentIdeal.cc0_dense_attn := by
  with_unfolding_all rfl

/-- The one labelled procedure is the kernel's body at a grid point in both programs. -/
theorem defs₀_eq : Cert.Latent.defs₀ (F := F) = Cert.LatentIdeal.defs₀ := by
  unfold Cert.Latent.defs₀ Cert.LatentIdeal.defs₀
  rw [body_eq]
  funext p
  cases p with
  | tc =>
    funext n x
    match n, x with
    | 0, (t, s) => with_unfolding_all rfl
    | ⟨_ + 1, h⟩, _ => exact absurd h (by omega)
  | scScalar _ => with_unfolding_all rfl
  | scVector _ _ => with_unfolding_all rfl

theorem defs_eq : Cert.Latent.defs (F := F) = Cert.LatentIdeal.defs := by
  unfold Cert.Latent.defs
  rw [defs₀_eq]
  with_unfolding_all rfl

/-- The run keeps the arguments and leaves every counter zero. -/
theorem frame_ideal : Cert.quiescent_LatentIdeal := fun m ρ _ =>
  θ_run_and (Cert.LatentIdeal.Gen.frame_of m ρ (Cert.LatentIdeal.Run.dats m) (Cert.LatentIdeal.Run.A_eq m)
    (Cert.LatentIdeal.Run.run_main (F := Ideal) m ρ)) (Cert.LatentIdeal.Run.counters m ρ)

/-- The same run at bit patterns, for the program as printed. -/
theorem frame_kernel : Cert.quiescent_Latent := fun m ρ _ => by
  rw [defs_eq]
  with_unfolding_all exact θ_run_and (Cert.LatentIdeal.Gen.frame_of m ρ (Cert.LatentIdeal.Run.dats m)
    (Cert.LatentIdeal.Run.A_eq m) (Cert.LatentIdeal.Run.run_main (F := Bits) m ρ)) (Cert.LatentIdeal.Run.counters m ρ)

end Cert.LatentSame

end
-- ==== Proof.LatentOutValue.lean ====
/-
  The output window of the latent attention at the exact instance, the keys on 256 lanes: at a query and a lane of either
  head, the weighted sum of that head's value rows over all 8448 keys, over the weighted sum of its row of ones.
-/
module

public import proofs.«01_k».proof.Proof.StepValue
public import proofs.«01_k».proof.Proof.LatentLoop
public import Idealize.ShloMosaic.Lib.Pipeline.ValueKit

@[expose] public section

set_option maxRecDepth 16384

noncomputable section

namespace Cert.LatentIdeal.Trip

open Cert.LatentIdeal Cert.LatentIdeal.Gen Cert.Flash Cert.Online
open Idealize.ShloMosaic

theorem scores_wide_apply (k : FVec Ideal ⟨2, ![1024, 256]⟩ .bf16) (q : FVec Ideal ⟨2, ![1024, 256]⟩ .bf16) (j c : Fin 1024) :
    scores 1024 256 k q (ix2 j c) = ∑ l : Fin 256, k (ix2 j l) * q (ix2 c l) := by
  pointwise [scores]

theorem scores_wide_ctx_apply (k : FVec Ideal ⟨2, ![256, 256]⟩ .bf16) (q : FVec Ideal ⟨2, ![1024, 256]⟩ .bf16) (j : Fin 256)
    (c : Fin 1024) : scores 256 256 k q (ix2 j c) = ∑ l : Fin 256, k (ix2 j l) * q (ix2 c l) := by
  pointwise [scores]

theorem kAt_apply (x3 : Vec Ideal S1x1x8x1024x256 .bf16) (j : Fin 8) (r : Fin 1024) (l : Fin 256) :
    kAt x3 j (ix2 r l) = x3 (ix5 0 0 j r l) := by
  have h : ∀ (w : Vec Ideal S1x1x1x1024x256 .bf16), shapeCast S1024x256 w shapeCasts_S1x1x1x1024x256_S1024x256 (ix2 r l) = w (ix5 0 0 0 r l) :=
    fun w => by pointwise
  refine (h _).trans (View.ld_unit_apply_of x3 _ _ _ _ _ fun a => ?_)
  match a with
  | 0 | 1 | 2 => rfl
  | 3 | 4 => exact (Nat.zero_add _).symm

theorem kcAt_apply (x5 : Vec Ideal S1x1x1x256x256 .bf16) (r : Fin 256) (l : Fin 256) :
    kcAt x5 (ix2 r l) = x5 (ix5 0 0 0 r l) := by
  have h : ∀ (w : Vec Ideal S1x1x1x256x256 .bf16), shapeCast S256x256 w shapeCasts_S1x1x1x256x256_S256x256 (ix2 r l) = w (ix5 0 0 0 r l) :=
    fun w => by pointwise
  refine (h _).trans (View.ld_unit_apply_of x5 _ _ _ _ _ fun a => ?_)
  match a with
  | 0 | 1 | 2 => rfl
  | 3 | 4 => exact (Nat.zero_add _).symm

theorem vAt_apply (x4 : Vec Ideal S1x1x16x2x80x512 .bf16) (u : Fin 16) (h : Fin 2) (i : Fin 80) (l : Fin 512) :
    vAt x4 u (ix3 h i l) = x4 (ix6 0 0 u h i l) := by
  have e : ∀ (w : Vec Ideal S1x1x1x2x80x512 .bf16), shapeCast S2x80x512 w shapeCasts_S1x1x1x2x80x512_S2x80x512 (ix3 h i l) = w (ix6 0 0 0 h i l) :=
    fun w => by pointwise
  refine (e _).trans (View.ld_unit_apply_of x4 _ _ _ _ _ fun a => ?_)
  match a with
  | 0 | 1 | 2 => rfl
  | 3 | 4 | 5 => exact (Nat.zero_add _).symm

theorem vcAt_apply (x6 : Vec Ideal S1x1x1x2x80x256 .bf16) (h : Fin 2) (i : Fin 80) (l : Fin 256) :
    vcAt x6 (ix3 h i l) = x6 (ix6 0 0 0 h i l) := by
  have e : ∀ (w : Vec Ideal S1x1x1x2x80x256 .bf16), shapeCast S2x80x256 w shapeCasts_S1x1x1x2x80x256_S2x80x256 (ix3 h i l) = w (ix6 0 0 0 h i l) :=
    fun w => by pointwise
  refine (e _).trans (View.ld_unit_apply_of x6 _ _ _ _ _ fun a => ?_)
  match a with
  | 0 | 1 | 2 => rfl
  | 3 | 4 | 5 => exact (Nat.zero_add _).symm

/-- The head of a column of the scores. -/
abbrev headOf (c : Fin 1024) : Fin 2 := ⟨c.val / 512, by omega⟩
/-- The query of a column of the scores of query block `n`. -/
abbrev rowOf (n : Fin 16) (c : Fin 1024) : Fin 8192 := ⟨512 * n.val + c.val % 512, by omega⟩

theorem qBlk_apply (x2 : Vec Ideal S1x2x8192x256 .bf16) (n : Fin 16) (c : Fin 1024) (l : Fin 256) :
    qBlk x2 n (ix2 c l) = x2 (ix4 0 (headOf c) (rowOf n c) l) := by
  have e : ∀ (w : Vec Ideal S1x2x512x256 .bf16), shapeCast S1024x256 (shapeCast S2x512x256 w
      shapeCasts_S1x2x512x256_S2x512x256) shapeCasts_S2x512x256_S1024x256 (ix2 c l)
        = w (ix4 0 (headOf c) ⟨c.val % 512, Nat.mod_lt _ (by decide)⟩ l) :=
    fun w => by pointwise
  have f := View.ld_unit_apply_of x2 ![0, 0, 512 * n.val, 0] ![1, 2, 512, 256] (by intro a; fin_cases a <;> simp <;> omega)
    (ix4 0 (headOf c) ⟨c.val % 512, Nat.mod_lt _ (by decide)⟩ l) (ix4 0 (headOf c) (rowOf n c) l) fun a => by
      match a with
      | 0 | 2 => rfl
      | 1 | 3 => exact (Nat.zero_add _).symm
  unfold qBlk qAt
  rw [e]
  exact f

/-- The score of key `k` for query `t` of head `h`. -/
def score (Q : Fin 2 → Fin 8192 → Fin 256 → ℝ) (Kf : ℕ → Fin 256 → ℝ) (h : Fin 2) (t : Fin 8192) (k : ℕ) : ℝ :=
  ∑ l : Fin 256, Kf k l * Q h t l

section
variable (x2 : Vec Ideal S1x2x8192x256 .bf16) (x3 : Vec Ideal S1x1x8x1024x256 .bf16) (x4 : Vec Ideal S1x1x16x2x80x512 .bf16)
  (x5 : Vec Ideal S1x1x1x256x256 .bf16) (x6 : Vec Ideal S1x1x1x2x80x256 .bf16)
  (Q : Fin 2 → Fin 8192 → Fin 256 → ℝ) (Kf : ℕ → Fin 256 → ℝ) (V : Fin 2 → Fin 80 → ℕ → EReal)
  (h2 : ∀ h t l, x2 (ix4 0 h t l) = (Q h t l : EReal))
  (h3 : ∀ (j : Fin 8) (r : Fin 1024) l, x3 (ix5 0 0 j r l) = (Kf (1024 * j + r) l : EReal))
  (h4 : ∀ (u : Fin 16) h i (l : Fin 512), x4 (ix6 0 0 u h i l) = V h i (512 * u + l))
  (h5 : ∀ (r : Fin 256) l, x5 (ix5 0 0 0 r l) = (Kf (8192 + r) l : EReal))
  (h6 : ∀ h i (l : Fin 256), x6 (ix6 0 0 0 h i l) = V h i (8192 + l))
include h2 h3 h4 h5 h6

/-- What the kernel's state holds at the end of query block `n`. -/
theorem holds_end (n : Fin 16) :
    ∃ μ, Holds (fun c => score Q Kf (headOf c) (rowOf n c)) V 8448
      (endOf x3 x4 x5 x6 (back fits1024 (s0Blk x2 x3 n)) (qBlk x2 n)) μ := by
  have hsc : ∀ (c : Fin 1024) (k : ℕ) (f : Fin 256 → EReal), (∀ l, f l = (Kf k l : EReal)) →
      ∑ l : Fin 256, f l * qBlk x2 n (ix2 c l) = (score Q Kf (headOf c) (rowOf n c) k : EReal) := fun c k f hf => by
    unfold score
    rw [coe_sum]
    exact Finset.sum_congr rfl fun l _ => by rw [hf, qBlk_apply, h2, EReal.coe_mul]
  obtain ⟨μ, hμ⟩ := holds_stateAt (fun c => score Q Kf (headOf c) (rowOf n c)) V (back fits1024 (s0Blk x2 x3 n))
    (fun j => back fits1024 (scores 1024 256 (kAt x3 j) (qBlk x2 n))) (vAt x4)
    (fun j c => by
      rw [back_apply, s0Blk, scores_wide_apply]
      exact hsc c j _ fun l => by rw [kAt_apply, h3]; congr 2; simp)
    (fun m j c => by
      rw [back_apply, scores_wide_apply]
      exact hsc c _ _ fun l => by rw [kAt_apply, h3])
    (fun u h i l => by rw [vAt_apply, h4]) 7 (by omega)
  refine holds_ctx _ V 8192 _ μ hμ _ _ (fun j c => ?_) fun h i l => by rw [vcAt_apply, h6]
  rw [back_ctx_apply, scores_wide_ctx_apply]
  exact hsc c _ _ fun l => by rw [kcAt_apply, h5]

/-- The output window at query `t` and lane `d` of head `h`. -/
theorem outWin_apply (h : Fin 2) (t : Fin 8192) (d : Fin 64) :
    ∃ μ, outWin x2 x3 x4 x5 x6 (ix3 0 t ⟨64 * h.val + d.val, by omega⟩)
      = Ideal.div (mass (score Q Kf h t) (V h ⟨d.val, by omega⟩) μ 8448) (mass (score Q Kf h t) (V h 64) μ 8448) := by
  obtain ⟨μ, hμ⟩ := holds_end x2 x3 x4 x5 x6 Q Kf V h2 h3 h4 h5 h6 ⟨t.val / 512, by omega⟩
  generalize hE : endOf x3 x4 x5 x6 (back fits1024 (s0Blk x2 x3 ⟨t.val / 512, by omega⟩)) (qBlk x2 ⟨t.val / 512, by omega⟩) = E at hμ
  have hout : outWin x2 x3 x4 x5 x6 (ix3 0 t ⟨64 * h.val + d.val, by omega⟩)
      = result E (ix3 0 ⟨t.val % 512, Nat.mod_lt _ (by decide)⟩ ⟨64 * h.val + d.val, by omega⟩) := by
    rw [← hE]
    refine congrArg (result _) (funext fun a => ?_)
    match a with
    | 0 | 1 | 2 => rfl
  have hr : ∀ c : Fin 1024, c.val % 512 = t.val % 512 → rowOf ⟨t.val / 512, by omega⟩ c = t := fun c hc =>
    Fin.ext (by simp only [hc]; omega)
  revert hout
  match h with
  | 0 =>
    intro hout
    refine ⟨μ (left ⟨t.val % 512, Nat.mod_lt _ (by decide)⟩), hout.trans ?_⟩
    rw [show (⟨64 * (0 : Fin 2).val + d.val, by omega⟩ : Fin 128) = ⟨d.val, by omega⟩ from Fin.ext (by simp)]
    rw [result_left, quot_apply, hμ.a0, hμ.a0, hr _ (by simp)]
    rw [show headOf (left ⟨t.val % 512, Nat.mod_lt _ (by decide)⟩) = 0 from Fin.ext (by simp only [Fin.val_zero]; omega)]
  | 1 =>
    intro hout
    refine ⟨μ (right ⟨t.val % 512, Nat.mod_lt _ (by decide)⟩), hout.trans ?_⟩
    rw [show (⟨64 * (1 : Fin 2).val + d.val, by omega⟩ : Fin 128) = ⟨64 + d.val, by omega⟩ from Fin.ext (by simp)]
    rw [result_right, quot_apply, hμ.a1, hμ.a1, hr _ (by simp only; omega)]
    rw [show headOf (right ⟨t.val % 512, Nat.mod_lt _ (by decide)⟩) = 1 from Fin.ext (by simp only [Fin.val_one]; omega)]

end

end Cert.LatentIdeal.Trip

end
-- ==== Proof.LatentPack.lean ====
/-
  The arrays the latent attention is called on, element by element. A key has 256 lanes: one block of 64 for each head of
  the pair, then two blocks for the rotary part both heads share, each block padded by zeros. The queries are scaled, and
  zero on the other head's block.
-/
module

public import proofs.«01_k».proof.Proof.Pack
public import proofs.«01_k».proof.Proof.LatentRun

@[expose] public section

set_option maxRecDepth 16384
set_option maxHeartbeats 2000000

noncomputable section

namespace Cert.LatentIdeal.Pack

open Cert.LatentIdeal Cert.LatentIdeal.Gen Cert.LatentIdeal.Run
open Idealize.ShloMosaic Idealize.ShloMosaic.TcCoe Idealize.SL.Sem

/-- The rotary dimension at a lane. -/
abbrev rotOf (l : Fin 256) : Fin 32 := ⟨16 * (l.val % 16 / 8) + 8 * (l.val % 128 / 64) + l.val % 8, by omega⟩
/-- The head of a pair's slot. -/
abbrev headAt (p s : Fin 2) : Fin 4 := ⟨2 * p.val + s.val, by omega⟩
/-- The slot whose lane it is. -/
abbrev slotOf (l : Fin 256) : Fin 2 := ⟨l.val % 128 / 64, by omega⟩

/-- The queries, scaled. -/
def qScaled (q : FVec Ideal S4x8192x4x96 .f32) : FVec Ideal S4x8192x4x96 .f32 :=
  mulf q (broadcastInDim S4x8192x4x96 ![] bcast_S_S4x8192x4x96 (Host.divf (constant (F := Ideal) S_ .f32 0x3DD105EC#32) (Host.log (constant S_ .f32 0x40000000#32))))
/-- The queries' own dimensions, on the block of their head's slot. -/
def qOwn (w : FVec Ideal S4x8192x4x96 .f32) : FVec Ideal S4x8192x4x128 .f32 :=
  shapeCast _ (select (cmpi .eq (iotaInDim S4x8192x2x2x2x64 32 3) (iotaInDim S4x8192x2x2x2x64 32 4))
    (broadcastInDim S4x8192x2x2x2x64 ![0, 1, 2, 3, 4, 5] bcast_S4x8192x2x2x1x64_S4x8192x2x2x2x64_0_1_2_3_4_5
      (shapeCast S4x8192x2x2x1x64 (extractStridedSlice S4x8192x4x64 ![0, 0, 0, 0] w slices_S4x8192x4x96_S4x8192x4x64_0_0_0_0) shapeCasts_S4x8192x4x64_S4x8192x2x2x1x64))
    (broadcastInDim S4x8192x2x2x2x64 ![] bcast_S_S4x8192x2x2x2x64 (constant (F := Ideal) S_ .f32 0x00000000#32))) shapeCasts_S4x8192x2x2x2x64_S4x8192x4x128
/-- The queries' rotary dimensions, on the last two blocks. -/
def qRot (w : FVec Ideal S4x8192x4x96 .f32) : FVec Ideal S4x8192x4x128 .f32 :=
  shapeCast _ (concatenate S4x8192x4x2x64 4 [⟨S4x8192x4x2x16, shapeCast S4x8192x4x2x16 (transpose S4x8192x4x2x2x8 [0, 1, 2, 4, 3, 5]
      (shapeCast S4x8192x4x2x2x8 (extractStridedSlice S4x8192x4x32 ![0, 0, 0, 64] w slices_S4x8192x4x96_S4x8192x4x32_0_0_0_64) shapeCasts_S4x8192x4x32_S4x8192x4x2x2x8)
      transposes_S4x8192x4x2x2x8_S4x8192x4x2x2x8_0_1_2_4_3_5) shapeCasts_S4x8192x4x2x2x8_S4x8192x4x2x16⟩,
    ⟨S4x8192x4x2x48, broadcastInDim S4x8192x4x2x48 ![] bcast_S_S4x8192x4x2x48 (constant (F := Ideal) S_ .f32 0x00000000#32)⟩]
    concatenates_S4x8192x4x2x16_S4x8192x4x2x48_S4x8192x4x2x64_d4) shapeCasts_S4x8192x4x2x64_S4x8192x4x128
/-- The queries on their lanes. -/
def qArr (w : FVec Ideal S4x8192x4x96 .f32) : FVec Ideal S4x4x8192x256 .bf16 :=
  truncf .bf16 (transpose S4x4x8192x256 [0, 2, 1, 3] (concatenate S4x8192x4x256 3 [⟨S4x8192x4x128, qOwn w⟩, ⟨S4x8192x4x128, qRot w⟩]
    concatenates_S4x8192x4x128_S4x8192x4x128_S4x8192x4x256_d3) transposes_S4x8192x4x256_S4x4x8192x256_0_2_1_3) bitsLt_bf16_f32
/-- The sequence's rotary keys, on the last two blocks of every pair. -/
def kRot (r : FVec Ideal S4x8192x32 .f32) : FVec Ideal S4x8192x2x128 .f32 :=
  broadcastInDim S4x8192x2x128 ![0, 1, 2, 3] bcast_S4x8192x1x128_S4x8192x2x128_0_1_2_3 (broadcastInDim S4x8192x1x128 ![0, 1, 3] bcast_S4x8192x128_S4x8192x1x128_0_1_3
    (shapeCast S4x8192x128 (concatenate S4x8192x2x64 3 [⟨S4x8192x2x16, shapeCast S4x8192x2x16 (transpose S4x8192x2x2x8 [0, 1, 3, 2, 4]
      (shapeCast S4x8192x2x2x8 r shapeCasts_S4x8192x32_S4x8192x2x2x8) transposes_S4x8192x2x2x8_S4x8192x2x2x8_0_1_3_2_4) shapeCasts_S4x8192x2x2x8_S4x8192x2x16⟩,
      ⟨S4x8192x2x48, broadcastInDim S4x8192x2x48 ![] bcast_S_S4x8192x2x48 (constant (F := Ideal) S_ .f32 0x00000000#32)⟩]
      concatenates_S4x8192x2x16_S4x8192x2x48_S4x8192x2x64_d3) shapeCasts_S4x8192x2x64_S4x8192x128))
/-- The sequence's keys on their lanes. -/
def kArr (a : FVec Ideal S4x8192x4x64 .f32) (r : FVec Ideal S4x8192x32 .f32) : FVec Ideal S4x2x8x1024x256 .bf16 :=
  shapeCast _ (truncf (F := Ideal) .bf16 (transpose S4x2x8192x256 [0, 2, 1, 3] (concatenate S4x8192x2x256 3
    [⟨S4x8192x2x128, shapeCast S4x8192x2x128 a shapeCasts_S4x8192x4x64_S4x8192x2x128⟩, ⟨S4x8192x2x128, kRot r⟩]
    concatenates_S4x8192x2x128_S4x8192x2x128_S4x8192x2x256_d3) transposes_S4x8192x2x256_S4x2x8192x256_0_2_1_3) bitsLt_bf16_f32 : FVec Ideal S4x2x8192x256 .bf16)
    shapeCasts_S4x2x8192x256_S4x2x8x1024x256
/-- The context's rotary keys likewise. -/
def kcRot (r : FVec Ideal S4x256x32 .f32) : FVec Ideal S4x256x2x128 .f32 :=
  broadcastInDim S4x256x2x128 ![0, 1, 2, 3] bcast_S4x256x1x128_S4x256x2x128_0_1_2_3 (broadcastInDim S4x256x1x128 ![0, 1, 3] bcast_S4x256x128_S4x256x1x128_0_1_3
    (shapeCast S4x256x128 (concatenate S4x256x2x64 3 [⟨S4x256x2x16, shapeCast S4x256x2x16 (transpose S4x256x2x2x8 [0, 1, 3, 2, 4]
      (shapeCast S4x256x2x2x8 r shapeCasts_S4x256x32_S4x256x2x2x8) transposes_S4x256x2x2x8_S4x256x2x2x8_0_1_3_2_4) shapeCasts_S4x256x2x2x8_S4x256x2x16⟩,
      ⟨S4x256x2x48, broadcastInDim S4x256x2x48 ![] bcast_S_S4x256x2x48 (constant (F := Ideal) S_ .f32 0x00000000#32)⟩]
      concatenates_S4x256x2x16_S4x256x2x48_S4x256x2x64_d3) shapeCasts_S4x256x2x64_S4x256x128))
/-- The context's keys on their lanes. -/
def kcArr (a : FVec Ideal S4x256x4x64 .f32) (r : FVec Ideal S4x256x32 .f32) : FVec Ideal S4x2x1x256x256 .bf16 :=
  broadcastInDim S4x2x1x256x256 ![0, 1, 3, 4] bcast_S4x2x256x256_S4x2x1x256x256_0_1_3_4 ((truncf (F := Ideal) .bf16 (transpose S4x2x256x256 [0, 2, 1, 3] (concatenate S4x256x2x256 3
    [⟨S4x256x2x128, shapeCast S4x256x2x128 a shapeCasts_S4x256x4x64_S4x256x2x128⟩, ⟨S4x256x2x128, kcRot r⟩]
    concatenates_S4x256x2x128_S4x256x2x128_S4x256x2x256_d3) transposes_S4x256x2x256_S4x2x256x256_0_2_1_3) bitsLt_bf16_f32 : FVec Ideal S4x2x256x256 .bf16))
/-- The sequence's values turned, sixteen rows of ones below each head's. -/
def vArr (v : FVec Ideal S4x8192x4x64 .f32) : FVec Ideal S4x2x16x2x80x512 .bf16 :=
  truncf .bf16 (concatenate S4x2x16x2x80x512 4 [⟨S4x2x16x2x64x512, transpose S4x2x16x2x64x512 [0, 3, 1, 4, 5, 2]
      (shapeCast S4x16x512x2x2x64 v shapeCasts_S4x8192x4x64_S4x16x512x2x2x64) transposes_S4x16x512x2x2x64_S4x2x16x2x64x512_0_3_1_4_5_2⟩,
    ⟨S4x2x16x2x16x512, broadcastInDim S4x2x16x2x16x512 ![] bcast_S_S4x2x16x2x16x512 (constant (F := Ideal) S_ .f32 0x3F800000#32)⟩]
    concatenates_S4x2x16x2x64x512_S4x2x16x2x16x512_S4x2x16x2x80x512_d4) bitsLt_bf16_f32
/-- The context's values turned, sixteen rows of ones below each head's. -/
def vcArr (v : FVec Ideal S4x256x4x64 .f32) : FVec Ideal S4x2x1x2x80x256 .bf16 :=
  truncf .bf16 (concatenate S4x2x1x2x80x256 4 [⟨S4x2x1x2x64x256, transpose S4x2x1x2x64x256 [0, 3, 1, 4, 5, 2]
      (shapeCast S4x1x256x2x2x64 v shapeCasts_S4x256x4x64_S4x1x256x2x2x64) transposes_S4x1x256x2x2x64_S4x2x1x2x64x256_0_3_1_4_5_2⟩,
    ⟨S4x2x1x2x16x256, broadcastInDim S4x2x1x2x16x256 ![] bcast_S_S4x2x1x2x16x256 (constant (F := Ideal) S_ .f32 0x3F800000#32)⟩]
    concatenates_S4x2x1x2x64x256_S4x2x1x2x16x256_S4x2x1x2x80x256_d4) bitsLt_bf16_f32

/-- The scale the reference multiplies its scores by. -/
def rate : ℝ := (Ideal.ofBits FTy.f32 0x3DD105EC#32).toReal
theorem rate_eq : Ideal.ofBits FTy.f32 0x3DD105EC#32 = (rate : EReal) := by
  have h : ∃ r : ℝ, Ideal.ofBits FTy.f32 0x3DD105EC#32 = (r : EReal) := by
    simp [Ideal.ofBits, Ideal.ieee, -EReal.coe_mul]
  obtain ⟨r, hr⟩ := h
  rw [rate, hr, EReal.toReal_coe]

/-- The factor of the queries. -/
abbrev qScale : ℝ := rate / Real.log 2

theorem qScale_eq : Ideal.div (Ideal.ofBits FTy.f32 0x3DD105EC#32) (Ideal.log (Ideal.ofBits FTy.f32 0x40000000#32)) = (qScale : EReal) := by
  have b : Ideal.ofBits FTy.f32 0x40000000#32 = ((2 : ℝ) : EReal) := by
    simp [Ideal.ofBits, Ideal.ieee, -EReal.coe_mul]; norm_num
  have hl : 0 < Real.log 2 := Real.log_pos one_lt_two
  rw [rate_eq, b, Ideal.log_coe, if_neg (by norm_num), Ideal.div, if_neg (by exact_mod_cast hl.ne'), ← EReal.coe_inv, ← EReal.coe_mul]
  rfl

theorem qScaled_apply (q) (b : Fin 4) (t : Fin 8192) (h : Fin 4) (d : Fin 96) :
    qScaled q (ix4 b t h d) = q (ix4 b t h d) * (qScale : EReal) := by
  rw [← qScale_eq]
  pointwise [qScaled]

theorem qOwn_apply (w) (b : Fin 4) (t : Fin 8192) (s : Fin 4) (l : Fin 128) : qOwn w (ix4 b t s l) =
    if s.val % 2 = l.val / 64 then w (ix4 b t s ⟨l.val % 64, by omega⟩) else 0 := by
  pointwise [qOwn]
  rw [Cert.KernelIdeal.Pack.select_eq _ _ (by omega) (by omega)]

theorem qRot_apply (w) (b : Fin 4) (t : Fin 8192) (s : Fin 4) (l : Fin 128) : qRot w (ix4 b t s l) =
    if l.val % 64 < 16 then w (ix4 b t s ⟨64 + (16 * (l.val % 16 / 8) + 8 * (l.val / 64) + l.val % 8), by omega⟩) else 0 := by
  pointwise [qRot]
  by_cases h : l.val % 64 < 16
  · exact (dif_pos h).trans ((congrArg (fun d => w (ix4 b t s d)) (Fin.ext (by first | omega | (simp only; omega)))).trans (if_pos h).symm)
  · exact (dif_neg h).trans (if_neg h).symm

theorem q_apply (w) (b : Fin 4) (s : Fin 4) (t : Fin 8192) (l : Fin 256) : qArr w (ix4 b s t l) =
    if h : l.val < 128 then qOwn w (ix4 b t s ⟨l.val, h⟩) else qRot w (ix4 b t s ⟨l.val - 128, by omega⟩) := by
  pointwise [qArr]

theorem kRot_apply (r) (b : Fin 4) (t : Fin 8192) (p : Fin 2) (l : Fin 128) : kRot r (ix4 b t p l) =
    if l.val % 64 < 16 then r (ix3 b t ⟨16 * (l.val % 16 / 8) + 8 * (l.val / 64) + l.val % 8, by omega⟩) else 0 := by
  pointwise [kRot]
  by_cases h : l.val % 64 < 16
  · exact (dif_pos h).trans ((congrArg (fun d => r (ix3 b t d)) (Fin.ext (by first | omega | (simp only; omega)))).trans (if_pos h).symm)
  · exact (dif_neg h).trans (if_neg h).symm

theorem k_apply (a r) (b : Fin 4) (p : Fin 2) (j : Fin 8) (i : Fin 1024) (l : Fin 256) : kArr a r (ix5 b p j i l) =
    if h : l.val < 128 then a (ix4 b ⟨1024 * j.val + i.val, by omega⟩ ⟨2 * p.val + l.val / 64, by omega⟩ ⟨l.val % 64, by omega⟩)
      else kRot r (ix4 b ⟨1024 * j.val + i.val, by omega⟩ p ⟨l.val - 128, by omega⟩) := by
  pointwise [kArr]
  refine dite_congr rfl (fun h => ?_) fun h => ?_
  · exact congrArg₂ (fun x y => a (ix4 b x y ⟨l.val % 64, by omega⟩)) (Fin.ext (by first | omega | (simp only; omega)))
      (Fin.ext (by first | omega | (simp only; omega)))
  · exact congrArg (fun x => kRot r (ix4 b x p ⟨l.val - 128, by omega⟩)) (Fin.ext (by first | omega | (simp only; omega)))

theorem kcRot_apply (r) (b : Fin 4) (t : Fin 256) (p : Fin 2) (l : Fin 128) : kcRot r (ix4 b t p l) =
    if l.val % 64 < 16 then r (ix3 b t ⟨16 * (l.val % 16 / 8) + 8 * (l.val / 64) + l.val % 8, by omega⟩) else 0 := by
  pointwise [kcRot]
  by_cases h : l.val % 64 < 16
  · exact (dif_pos h).trans ((congrArg (fun d => r (ix3 b t d)) (Fin.ext (by first | omega | (simp only; omega)))).trans (if_pos h).symm)
  · exact (dif_neg h).trans (if_neg h).symm

theorem kc_apply (a r) (b : Fin 4) (p : Fin 2) (i : Fin 256) (l : Fin 256) : kcArr a r (ix5 b p 0 i l) =
    if h : l.val < 128 then a (ix4 b i ⟨2 * p.val + l.val / 64, by omega⟩ ⟨l.val % 64, by omega⟩)
      else kcRot r (ix4 b i p ⟨l.val - 128, by omega⟩) := by
  pointwise [kcArr]
  refine dite_congr rfl (fun h => ?_) fun h => rfl
  exact congrArg (fun y => a (ix4 b i y ⟨l.val % 64, by omega⟩)) (Fin.ext (by first | omega | (simp only; omega)))

theorem v_apply (v) (b : Fin 4) (p : Fin 2) (u : Fin 16) (s : Fin 2) (i : Fin 80) (l : Fin 512) :
    vArr v (ix6 b p u s i l) = if hi : i.val < 64 then v (ix4 b ⟨512 * u.val + l.val, by omega⟩ (headAt p s) ⟨i.val, hi⟩) else 1 := by
  pointwise [vArr]
  refine dite_congr rfl (fun h => ?_) fun h => rfl
  exact congrArg₂ (fun x y => v (ix4 b x y ⟨i.val, h⟩)) (Fin.ext (by first | omega | (simp only; omega)))
    (Fin.ext (by first | omega | (simp only; omega)))

theorem vc_apply (v) (b : Fin 4) (p : Fin 2) (s : Fin 2) (i : Fin 80) (l : Fin 256) :
    vcArr v (ix6 b p 0 s i l) = if hi : i.val < 64 then v (ix4 b l (headAt p s) ⟨i.val, hi⟩) else 1 := by
  pointwise [vcArr]
  refine dite_congr rfl (fun h => ?_) fun h => rfl
  exact congrArg (fun y => v (ix4 b l y ⟨i.val, h⟩)) (Fin.ext (by first | omega | (simp only; omega)))

end Cert.LatentIdeal.Pack
-- ==== Proof.LatentRef.lean ====
/-
  The reference's latent attention, element by element: a head's keys beside the rotary keys every head shares, the
  scores, the weights, and the weighted sum of the values.
-/
module

public import proofs.«01_k».proof.Proof.Ref
public import proofs.«01_k».proof.Proof.Gen.LatentReferenceIdeal.Run

@[expose] public section

set_option maxRecDepth 16384
set_option maxHeartbeats 2000000

noncomputable section

namespace Cert.LatentReferenceIdeal.Spec

open Cert.LatentReferenceIdeal Cert.LatentReferenceIdeal.Gen Cert.Online
open Idealize.ShloMosaic Idealize.ShloMosaic.TcCoe Idealize.SL.Sem

/-- The sequence's keys: each head's own dimensions, and the rotary ones that all heads share. -/
def seqKeys (a : FVec Ideal S4x8192x4x64 .f32) (r : FVec Ideal S4x8192x32 .f32) : FVec Ideal S4x8192x4x96 .f32 :=
  concatenate S4x8192x4x96 3 [⟨S4x8192x4x64, a⟩, ⟨S4x8192x4x32, broadcastInDim S4x8192x4x32 ![0, 1, 2, 3] bcast_S4x8192x1x32_S4x8192x4x32_0_1_2_3
    (broadcastInDim S4x8192x1x32 ![0, 1, 3] bcast_S4x8192x32_S4x8192x1x32_0_1_3 r)⟩] concatenates_S4x8192x4x64_S4x8192x4x32_S4x8192x4x96_d3
/-- The context's keys likewise. -/
def ctxKeys (a : FVec Ideal S4x256x4x64 .f32) (r : FVec Ideal S4x256x32 .f32) : FVec Ideal S4x256x4x96 .f32 :=
  concatenate S4x256x4x96 3 [⟨S4x256x4x64, a⟩, ⟨S4x256x4x32, broadcastInDim S4x256x4x32 ![0, 1, 2, 3] bcast_S4x256x1x32_S4x256x4x32_0_1_2_3
    (broadcastInDim S4x256x1x32 ![0, 1, 3] bcast_S4x256x32_S4x256x1x32_0_1_3 r)⟩] concatenates_S4x256x4x64_S4x256x4x32_S4x256x4x96_d3
/-- The sequence's keys and the context's below them. -/
def joinK (a : FVec Ideal S4x8192x4x96 .f32) (b : FVec Ideal S4x256x4x96 .f32) : FVec Ideal S4x8448x4x96 .f32 :=
  concatenate S4x8448x4x96 1 [⟨S4x8192x4x96, a⟩, ⟨S4x256x4x96, b⟩] concatenates_S4x8192x4x96_S4x256x4x96_S4x8448x4x96_d1
/-- The sequence's values and the context's below them. -/
def joinV (a : FVec Ideal S4x8192x4x64 .f32) (b : FVec Ideal S4x256x4x64 .f32) : FVec Ideal S4x8448x4x64 .f32 :=
  concatenate S4x8448x4x64 1 [⟨S4x8192x4x64, a⟩, ⟨S4x256x4x64, b⟩] concatenates_S4x8192x4x64_S4x256x4x64_S4x8448x4x64_d1
/-- The scaled scores. -/
def xs (k : FVec Ideal S4x8448x4x96 .f32) (q : FVec Ideal S4x8192x4x96 .f32) : FVec Ideal S4x4x1x8192x8448 .f32 :=
  mulf (transpose S4x4x1x8192x8448 [0, 1, 4, 3, 2] (Host.dotGeneral dot_S4x8448x4x96_S4x8192x4x1x96_S4x4x8448x8192x1_3_4_1_13_02_02 none k
    (broadcastInDim S4x8192x4x1x96 ![0, 1, 2, 4] bcast_S4x8192x4x96_S4x8192x4x1x96_0_1_2_4 q))
    transposes_S4x4x8448x8192x1_S4x4x1x8192x8448_0_1_4_3_2) (broadcastInDim S4x4x1x8192x8448 ![] bcast_S_S4x4x1x8192x8448 (constant S_ .f32 0x3DD105EC#32))
/-- The largest score of each query. -/
def top (x : FVec Ideal S4x4x1x8192x8448 .f32) : FVec Ideal S4x4x1x8192 .f32 :=
  maximumf (broadcastInDim S4x4x1x8192 ![] bcast_S_S4x4x1x8192 (constant S_ .f32 0xFF800000#32))
    (Host.reduce FloatOps.maximumf x (constant (F := Ideal) S_ .f32 0xFF800000#32) reducesTo_S4x4x1x8192x8448_S4x4x1x8192_d4 h_S_)
/-- A number for each query, at every key. -/
def wide (y : FVec Ideal S4x4x1x8192 .f32) : FVec Ideal S4x4x1x8192x8448 .f32 :=
  broadcastInDim S4x4x1x8192x8448 ![0, 1, 2, 3, 4] bcast_S4x4x1x8192x1_S4x4x1x8192x8448_0_1_2_3_4
    (broadcastInDim S4x4x1x8192x1 ![0, 1, 2, 3] bcast_S4x4x1x8192_S4x4x1x8192x1_0_1_2_3 y)
/-- The exponentials of the scores below the largest. -/
def ws (x : FVec Ideal S4x4x1x8192x8448 .f32) : FVec Ideal S4x4x1x8192x8448 .f32 := Host.exp (subf x (wide (top x)))
/-- Their sum over the keys. -/
def total (w : FVec Ideal S4x4x1x8192x8448 .f32) : FVec Ideal S4x4x1x8192 .f32 :=
  Host.reduceAdd w (constant S_ .f32 0x00000000#32) reducesTo_S4x4x1x8192x8448_S4x4x1x8192_d4 h_S_
/-- The weights. -/
def ps (w : FVec Ideal S4x4x1x8192x8448 .f32) : FVec Ideal S4x4x1x8192x8448 .f32 := Host.divf w (wide (total w))
/-- The weighted sum of the values. -/
def out (v : FVec Ideal S4x8448x4x64 .f32) (p : FVec Ideal S4x4x1x8192x8448 .f32) : FVec Ideal S4x8192x256 .bf16 :=
  truncf .bf16 (shapeCast _ (transpose S4x8192x4x1x64 [0, 4, 1, 3, 2]
    (Host.dotGeneral dot_S4x8448x4x64_S4x4x1x8192x8448_S4x4x64x1x8192_1_4_3_23_02_01 none v p)
    transposes_S4x4x64x1x8192_S4x8192x4x1x64_0_4_1_3_2) shapeCasts_S4x8192x4x1x64_S4x8192x256) bitsLt_bf16_f32

theorem seqKeys_apply (a r) (n : Fin 4) (k : Fin 8192) (h : Fin 4) (d : Fin 96) : seqKeys a r (ix4 n k h d) =
    if hd : d.val < 64 then a (ix4 n k h ⟨d.val, hd⟩) else r (ix3 n k ⟨d.val - 64, by omega⟩) := by
  pointwise [seqKeys]

theorem ctxKeys_apply (a r) (n : Fin 4) (k : Fin 256) (h : Fin 4) (d : Fin 96) : ctxKeys a r (ix4 n k h d) =
    if hd : d.val < 64 then a (ix4 n k h ⟨d.val, hd⟩) else r (ix3 n k ⟨d.val - 64, by omega⟩) := by
  pointwise [ctxKeys]

theorem joinK_apply (a b) (n : Fin 4) (k : Fin 8448) (h : Fin 4) (d : Fin 96) : joinK a b (ix4 n k h d) =
    if hk : k.val < 8192 then a (ix4 n ⟨k.val, hk⟩ h d) else b (ix4 n ⟨k.val - 8192, by omega⟩ h d) := by
  pointwise [joinK]

theorem joinV_apply (a b) (n : Fin 4) (k : Fin 8448) (h : Fin 4) (d : Fin 64) : joinV a b (ix4 n k h d) =
    if hk : k.val < 8192 then a (ix4 n ⟨k.val, hk⟩ h d) else b (ix4 n ⟨k.val - 8192, by omega⟩ h d) := by
  pointwise [joinV]

theorem xs_apply (k q) (n : Fin 4) (h : Fin 4) (t : Fin 8192) (j : Fin 8448) : xs k q (ix5 n h 0 t j) =
    (∑ d : Fin 96, k (ix4 n j h d) * q (ix4 n t h d)) * Ideal.ofBits .f32 0x3DD105EC#32 := by
  pointwise [xs]

theorem ws_apply (x) (n : Fin 4) (h : Fin 4) (t : Fin 8192) (j : Fin 8448) : ws x (ix5 n h 0 t j) =
    Ideal.exp (x (ix5 n h 0 t j) - top x (ix4 n h 0 t)) := by
  pointwise [ws, wide]

theorem ps_apply (w) (n : Fin 4) (h : Fin 4) (t : Fin 8192) (j : Fin 8448) : ps w (ix5 n h 0 t j) =
    Ideal.div (w (ix5 n h 0 t j)) (∑ i : Fin 8448, w (ix5 n h 0 t i)) := by
  pointwise [ps, wide, total]

theorem out_apply (v p) (n : Fin 4) (h : Fin 4) (t : Fin 8192) (d : Fin 64) :
    out v p (ix3 n t ⟨64 * h.val + d.val, by omega⟩) = ∑ j : Fin 8448, v (ix4 n j h d) * p (ix5 n h 0 t j) := by
  have e : ∀ e : Fin 256, out v p (ix3 n t e) = ∑ j : Fin 8448, v (ix4 n j ⟨e.val / 64, by omega⟩ ⟨e.val % 64, by omega⟩)
      * p (ix5 n ⟨e.val / 64, by omega⟩ 0 t j) := fun e => by
    pointwise [out]
  rw [e]
  refine Finset.sum_congr rfl fun j _ => ?_
  simp only
  rw [show (⟨(64 * h.val + d.val) / 64, by omega⟩ : Fin 4) = h from Fin.ext (by simp only; omega),
    show (⟨(64 * h.val + d.val) % 64, by omega⟩ : Fin 64) = d from Fin.ext (by simp only; omega)]

theorem top_real (x : FVec Ideal S4x4x1x8192x8448 .f32) (hx : ∀ i, ∃ r : ℝ, x i = (r : EReal)) (n : Fin 4) (h : Fin 4)
    (t : Fin 8192) : ∃ M : ℝ, top x (ix4 n h 0 t) = (M : EReal) :=
  Cert.ReferenceIdeal.Spec.largest_real _ _ _ x _ Cert.Flash.negInf hx (ix4 n h 0 t) Cert.Flash.negInf (ix5 n h 0 t 0) (funext fun a => by
      match a with
      | 0 | 1 | 2 | 3 => rfl)

end Cert.LatentReferenceIdeal.Spec
-- ==== Proof.LatentValue.lean ====
/-
  One window of the latent attention's result is the reference's: the padded lanes add nothing to a score, so the scores
  agree up to the logarithm of two, and the quotient of the two running sums is the weighted sum of the values.
-/
module

public import proofs.«01_k».proof.Proof.LatentOutValue
public import proofs.«01_k».proof.Proof.LatentPack
public import proofs.«01_k».proof.Proof.LatentRef
public import proofs.«01_k».proof.Proof.Value

@[expose] public section

set_option maxRecDepth 16384
set_option maxHeartbeats 1000000

noncomputable section

namespace Cert.LatentValue

open Cert.Online Cert.Flash
open Cert.Value (row row_lt)
open Cert.LatentIdeal.Pack Cert.LatentIdeal.Trip
open Idealize.ShloMosaic Idealize.ShloMosaic.TcCoe Idealize.SL.Sem
open Cert.LatentIdeal (S4x8192x4x96 S4x8192x4x64 S4x8192x32 S4x256x4x64 S4x256x32 S1x2x8192x256 S1x1x8x1024x256 S1x1x16x2x80x512 S1x1x1x256x256 S1x1x1x2x80x256)
open Cert.LatentReferenceIdeal.Spec

/-- Whether a lane holds a dimension of the key of slot `s`. -/
abbrev Live (s : Fin 2) (l : Fin 256) : Prop := (l.val < 128 ∧ s.val = l.val / 64) ∨ (128 ≤ l.val ∧ (l.val - 128) % 64 < 16)
/-- Whether a lane holds a dimension of a key of either slot. -/
abbrev Used (l : Fin 256) : Prop := l.val < 128 ∨ (l.val - 128) % 64 < 16
/-- The key dimension at a lane. -/
abbrev dimOf (l : Fin 256) : Fin 96 :=
  if h : l.val < 128 then ⟨l.val % 64, by omega⟩ else ⟨64 + (16 * ((l.val - 128) % 16 / 8) + 8 * ((l.val - 128) / 64) + (l.val - 128) % 8), by omega⟩
/-- The lane of a key dimension of slot `s`. -/
abbrev laneOf (s : Fin 2) (d : Fin 96) : Fin 256 :=
  if h : d.val < 64 then ⟨64 * s.val + d.val, by omega⟩ else ⟨128 + (64 * ((d.val - 64) % 16 / 8) + 8 * ((d.val - 64) / 16) + (d.val - 64) % 8), by omega⟩

theorem lane_live : ∀ (s : Fin 2) (d : Fin 96), Live s (laneOf s d) := by decide +kernel
theorem dim_lane : ∀ (s : Fin 2) (d : Fin 96), dimOf (laneOf s d) = d := by decide +kernel
theorem lane_dim : ∀ (s : Fin 2) (l : Fin 256), Live s l → laneOf s (dimOf l) = l := by decide +kernel

/-- A sum over the lanes a head's key fills is a sum over the key's dimensions. -/
theorem sum_lanes (f : Fin 96 → ℝ) (s : Fin 2) : ∑ l : Fin 256, (if Live s l then f (dimOf l) else 0) = ∑ d : Fin 96, f d := by
  rw [← Finset.sum_filter]
  refine Finset.sum_nbij' dimOf (laneOf s) (fun _ _ => Finset.mem_univ _)
    (fun d _ => Finset.mem_filter.2 ⟨Finset.mem_univ _, lane_live s d⟩) (fun l hl => lane_dim s l (Finset.mem_filter.1 hl).2)
    (fun d _ => dim_lane s d) fun _ _ => rfl

variable (q : FVec Ideal S4x8192x4x96 .f32) (kn : FVec Ideal S4x8192x4x64 .f32) (kr : FVec Ideal S4x8192x32 .f32) (v : FVec Ideal S4x8192x4x64 .f32)
  (cn : FVec Ideal S4x256x4x64 .f32) (cr : FVec Ideal S4x256x32 .f32) (vc : FVec Ideal S4x256x4x64 .f32)

/-- The queries on their lanes, by the head's own dimensions. -/
theorem q_lane (b : Fin 4) (p h : Fin 2) (t : Fin 8192) (l : Fin 256) : qArr (qScaled q) (ix4 b (headAt p h) t l) =
    if Live h l then q (ix4 b t (headAt p h) (dimOf l)) * (qScale : EReal) else 0 := by
  rw [q_apply]
  by_cases hl : l.val < 128
  · rw [dif_pos hl, qOwn_apply]
    by_cases hs : h.val = l.val / 64
    · rw [if_pos (by simp only; omega), if_pos (Or.inl ⟨hl, hs⟩), qScaled_apply, dimOf, dif_pos hl]
    · rw [if_neg (by simp only; omega), if_neg (by omega)]
  · rw [dif_neg hl, qRot_apply]
    by_cases hr : (l.val - 128) % 64 < 16
    · rw [if_pos hr, if_pos (Or.inr ⟨by omega, hr⟩), qScaled_apply, dimOf, dif_neg hl]
    · rw [if_neg hr, if_neg (by omega)]

/-- The keys on their lanes, by the joined key's dimensions. -/
theorem k_lane (b : Fin 4) (p : Fin 2) (j : Fin 8) (i : Fin 1024) (l : Fin 256) : kArr kn kr (ix5 b p j i l) =
    if Used l then seqKeys kn kr (ix4 b ⟨1024 * j.val + i.val, by omega⟩ (headAt p (slotOf l)) (dimOf l)) else 0 := by
  rw [k_apply]
  by_cases hl : l.val < 128
  · rw [dif_pos hl, if_pos (Or.inl hl), seqKeys_apply, dimOf, dif_pos hl, dif_pos (by simp only; omega)]
    exact congrArg (fun y => kn (ix4 b ⟨1024 * j.val + i.val, by omega⟩ y ⟨l.val % 64, by omega⟩)) (Fin.ext (by simp only; omega))
  · rw [dif_neg hl, kRot_apply]
    by_cases hr : (l.val - 128) % 64 < 16
    · rw [if_pos hr, if_pos (Or.inr hr), seqKeys_apply, dimOf, dif_neg hl, dif_neg (by simp only; omega)]
      exact congrArg (fun y => kr (ix3 b ⟨1024 * j.val + i.val, by omega⟩ y)) (Fin.ext (by simp only; omega))
    · rw [if_neg hr, if_neg (by omega)]

/-- The context's keys likewise. -/
theorem kc_lane (b : Fin 4) (p : Fin 2) (i : Fin 256) (l : Fin 256) : kcArr cn cr (ix5 b p 0 i l) =
    if Used l then ctxKeys cn cr (ix4 b i (headAt p (slotOf l)) (dimOf l)) else 0 := by
  rw [kc_apply]
  by_cases hl : l.val < 128
  · rw [dif_pos hl, if_pos (Or.inl hl), ctxKeys_apply, dimOf, dif_pos hl, dif_pos (by simp only; omega)]
    exact congrArg (fun y => cn (ix4 b i y ⟨l.val % 64, by omega⟩)) (Fin.ext (by simp only; omega))
  · rw [dif_neg hl, kcRot_apply]
    by_cases hr : (l.val - 128) % 64 < 16
    · rw [if_pos hr, if_pos (Or.inr hr), ctxKeys_apply, dimOf, dif_neg hl, dif_neg (by simp only; omega)]
      exact congrArg (fun y => cr (ix3 b i y)) (Fin.ext (by simp only; omega))
    · rw [if_neg hr, if_neg (by omega)]

theorem joinK_left (a : FVec Ideal S4x8192x4x96 .f32) (b : FVec Ideal Cert.LatentReferenceIdeal.S4x256x4x96 .f32) (n : Fin 4) (j : ℕ) (hj : j < 8192)
    (h : Fin 4) (d : Fin 96) : joinK a b (ix4 n ⟨j, by omega⟩ h d) = a (ix4 n ⟨j, hj⟩ h d) := by
  rw [joinK_apply, dif_pos hj]

theorem joinK_right (a : FVec Ideal S4x8192x4x96 .f32) (b : FVec Ideal Cert.LatentReferenceIdeal.S4x256x4x96 .f32) (n : Fin 4) (l : Fin 256)
    (h : Fin 4) (d : Fin 96) : joinK a b (ix4 n ⟨8192 + l.val, by omega⟩ h d) = b (ix4 n l h d) := by
  rw [joinK_apply, dif_neg (by simp)]
  exact congrArg (fun r => b (ix4 n r h d)) (Fin.ext (by simp))

theorem joinV_left (n : Fin 4) (j : ℕ) (hj : j < 8192) (h : Fin 4) (d : Fin 64) :
    joinV v vc (ix4 n ⟨j, by omega⟩ h d) = v (ix4 n ⟨j, hj⟩ h d) := by
  rw [joinV_apply, dif_pos hj]

theorem joinV_right (n : Fin 4) (l : Fin 256) (h : Fin 4) (d : Fin 64) :
    joinV v vc (ix4 n ⟨8192 + l.val, by omega⟩ h d) = vc (ix4 n l h d) := by
  rw [joinV_apply, dif_neg (by simp)]
  exact congrArg (fun r => vc (ix4 n r h d)) (Fin.ext (by simp))

/-- The reference's result over real scores. -/
theorem out_eq (kk : FVec Ideal Cert.LatentReferenceIdeal.S4x8448x4x96 .f32) (vv : FVec Ideal Cert.LatentReferenceIdeal.S4x8448x4x64 .f32)
    (qr : Fin 4 → Fin 8192 → Fin 4 → Fin 96 → ℝ) (kx : Fin 4 → Fin 8448 → Fin 4 → Fin 96 → ℝ)
    (hq : ∀ n t h d, q (ix4 n t h d) = (qr n t h d : EReal)) (hk : ∀ n j h d, kk (ix4 n j h d) = (kx n j h d : EReal))
    (n : Fin 4) (h : Fin 4) (t : Fin 8192) (d : Fin 64) :
    ∃ M : ℝ, out vv (ps (ws (xs kk q))) (ix3 n t ⟨64 * h.val + d.val, by omega⟩)
      = ∑ j : Fin 8448, Ideal.div ((Real.exp ((∑ d, kx n j h d * qr n t h d) * rate - M) : ℝ) : EReal)
        (∑ i : Fin 8448, ((Real.exp ((∑ d, kx n i h d * qr n t h d) * rate - M) : ℝ) : EReal)) * vv (ix4 n j h d) := by
  have hx : ∀ n h t j, xs kk q (ix5 n h 0 t j) = (((∑ d, kx n j h d * qr n t h d) * rate : ℝ) : EReal) := fun n h t j => by
    rw [xs_apply, rate_eq, EReal.coe_mul, coe_sum]
    congr 1
    exact Finset.sum_congr rfl fun d _ => by rw [hk, hq, EReal.coe_mul]
  obtain ⟨M, hM⟩ := top_real (xs kk q) (fun i => ⟨_, (congrArg (xs kk q) (funext fun a => by
    match a with
    | 0 | 1 | 3 | 4 => rfl
    | 2 => exact Fin.ext (Nat.lt_one_iff.1 (i 2).isLt))).trans (hx (i 0) (i 1) (i 3) (i 4))⟩) n h t
  have hw : ∀ j, ws (xs kk q) (ix5 n h 0 t j) = ((Real.exp ((∑ d, kx n j h d * qr n t h d) * rate - M) : ℝ) : EReal) := fun j => by
    rw [ws_apply, hM, hx, exp_sub]
  refine ⟨M, ?_⟩
  rw [out_apply]
  refine Finset.sum_congr rfl fun j _ => ?_
  rw [ps_apply, mul_comm, hw]
  rw [Finset.sum_congr rfl fun i _ => hw i]

/-- The rotary keys are the same at every head. -/
theorem key_rot (n : Fin 4) (j : Fin 8448) (h h' : Fin 4) (d : Fin 96) (hd : 64 ≤ d.val) :
    joinK (seqKeys kn kr) (ctxKeys cn cr) (ix4 n j h d) = joinK (seqKeys kn kr) (ctxKeys cn cr) (ix4 n j h' d) := by
  rw [joinK_apply, joinK_apply]
  refine dite_congr rfl (fun hj => ?_) fun hj => ?_
  · rw [seqKeys_apply, seqKeys_apply, dif_neg (by omega), dif_neg (by omega)]
  · rw [ctxKeys_apply, ctxKeys_apply, dif_neg (by omega), dif_neg (by omega)]

theorem attend (hq : ∀ i, ∃ r : ℝ, q i = (r : EReal)) (hkn : ∀ i, ∃ r : ℝ, kn i = (r : EReal)) (hkr : ∀ i, ∃ r : ℝ, kr i = (r : EReal))
    (hcn : ∀ i, ∃ r : ℝ, cn i = (r : EReal)) (hcr : ∀ i, ∃ r : ℝ, cr i = (r : EReal))
    (x2 : Vec Ideal S1x2x8192x256 .bf16) (x3 : Vec Ideal S1x1x8x1024x256 .bf16) (x4 : Vec Ideal S1x1x16x2x80x512 .bf16)
    (x5 : Vec Ideal S1x1x1x256x256 .bf16) (x6 : Vec Ideal S1x1x1x2x80x256 .bf16) (n : Fin 4) (p : Fin 2)
    (h2 : ∀ (h : Fin 2) t l, x2 (ix4 0 h t l) = qArr (qScaled q) (ix4 n (headAt p h) t l))
    (h3 : ∀ j r l, x3 (ix5 0 0 j r l) = kArr kn kr (ix5 n p j r l))
    (h4 : ∀ u h i l, x4 (ix6 0 0 u h i l) = vArr v (ix6 n p u h i l))
    (h5 : ∀ r l, x5 (ix5 0 0 0 r l) = kcArr cn cr (ix5 n p 0 r l))
    (h6 : ∀ h i l, x6 (ix6 0 0 0 h i l) = vcArr vc (ix6 n p 0 h i l))
    (h : Fin 2) (t : Fin 8192) (d : Fin 64) :
    outWin x2 x3 x4 x5 x6 (ix3 0 t ⟨64 * h.val + d.val, by omega⟩)
      = out (joinV v vc) (ps (ws (xs (joinK (seqKeys kn kr) (ctxKeys cn cr)) q))) (ix3 n t ⟨64 * (headAt p h).val + d.val, by omega⟩) := by
  choose qr hqr using hq
  choose k1 hk1 using hkn
  choose k2 hk2 using hkr
  choose k3 hk3 using hcn
  choose k4 hk4 using hcr
  generalize hK : joinK (seqKeys kn kr) (ctxKeys cn cr) = K
  have hkk : ∀ n j h d, K (ix4 n j h d) = ((K (ix4 n j h d)).toReal : EReal) := fun n j h d => by
    have : ∃ r : ℝ, K (ix4 n j h d) = (r : EReal) := by
      rw [← hK, joinK_apply]
      split
      · rw [seqKeys_apply]
        split
        · exact ⟨_, hk1 _⟩
        · exact ⟨_, hk2 _⟩
      · rw [ctxKeys_apply]
        split
        · exact ⟨_, hk3 _⟩
        · exact ⟨_, hk4 _⟩
    obtain ⟨r, hr⟩ := this
    rw [hr, EReal.toReal_coe]
  have hrot : ∀ j h h' d, 64 ≤ d.val → (K (ix4 n j h d)).toReal = (K (ix4 n j h' d)).toReal := fun j h h' d hd => by
    rw [← hK, key_rot kn kr cn cr n j h h' d hd]
  obtain ⟨M, hM⟩ := out_eq q K (joinV v vc) (fun n t h d => qr (ix4 n t h d)) (fun n j h d => (K (ix4 n j h d)).toReal)
    (fun n t h d => hqr _) hkk n (headAt p h) t d
  -- keys, queries and values as the kernel's sums read them
  let kf : Fin 2 → Fin 96 → ℕ → ℝ := fun h d => row (fun j => (K (ix4 n j (headAt p h) d)).toReal) 0
  let Kf : ℕ → Fin 256 → ℝ := fun j l => if Used l then kf (slotOf l) (dimOf l) j else 0
  let Q : Fin 2 → Fin 8192 → Fin 256 → ℝ := fun h t l => if Live h l then qr (ix4 n t (headAt p h) (dimOf l)) * qScale else 0
  let V : Fin 2 → Fin 80 → ℕ → EReal := fun h i => row (fun j => if hi : i.val < 64 then joinV v vc (ix4 n j (headAt p h) ⟨i.val, hi⟩) else 1) 1
  obtain ⟨μ, hμ⟩ := outWin_apply x2 x3 x4 x5 x6 Q Kf V
    (fun h t l => by
      rw [h2, q_lane]
      simp only [Q]
      by_cases hh : Live h l
      · rw [if_pos hh, if_pos hh, hqr, EReal.coe_mul]
      · rw [if_neg hh, if_neg hh]
        rfl)
    (fun j r l => by
      rw [h3, k_lane]
      simp only [Kf, kf]
      by_cases hu : Used l
      · rw [if_pos hu, if_pos hu, row_lt _ _ _ (by omega), ← hkk, ← hK, joinK_left _ _ _ _ (by omega)]
      · rw [if_neg hu, if_neg hu]
        rfl)
    (fun u h i l => by
      rw [h4, v_apply]
      simp only [V]
      rw [row_lt _ _ _ (by omega)]
      split
      · rw [joinV_left _ _ _ _ (by omega)]
      · rfl)
    (fun r l => by
      rw [h5, kc_lane]
      simp only [Kf, kf]
      by_cases hu : Used l
      · rw [if_pos hu, if_pos hu, row_lt _ _ _ (by omega), ← hkk, ← hK, joinK_right]
      · rw [if_neg hu, if_neg hu]
        rfl)
    (fun h i l => by
      rw [h6, vc_apply]
      simp only [V]
      rw [row_lt _ _ _ (by omega)]
      split
      · rw [joinV_right]
      · rfl) h t d
  have hone : V h 64 = fun _ => 1 := funext fun j => by
    simp only [V, row]
    split <;> rfl
  have hkf : ∀ (s : Fin 2) (l : Fin 256) j, Live s l → kf (slotOf l) (dimOf l) j = kf s (dimOf l) j := fun s l j hl => by
    rcases hl with ⟨hl, hs⟩ | ⟨hl, hr⟩
    · rw [show slotOf l = s from Fin.ext (by simp only; omega)]
    · simp only [kf, row]
      refine dite_congr rfl (fun hj => hrot _ _ _ _ ?_) fun _ => rfl
      rw [dimOf, dif_neg (by omega)]
      simp only
      omega
  have hscore : ∀ j, (∑ d, kf h d j * qr (ix4 n t (headAt p h) d)) * rate = score Q Kf h t j * Real.log 2 := fun j => by
    have e : score Q Kf h t j = ∑ d, kf h d j * (qr (ix4 n t (headAt p h) d) * qScale) := by
      rw [← sum_lanes (fun d => kf h d j * (qr (ix4 n t (headAt p h) d) * qScale)) h]
      refine Finset.sum_congr rfl fun l _ => ?_
      simp only [Q, Kf]
      by_cases hl : Live h l
      · rw [if_pos hl, if_pos hl, if_pos (by omega), hkf h l j hl]
      · rw [if_neg hl, if_neg hl, mul_zero]
    have hl : Real.log 2 ≠ 0 := (Real.log_pos one_lt_two).ne'
    rw [e, Finset.sum_mul, Finset.sum_mul]
    refine Finset.sum_congr rfl fun d _ => ?_
    rw [qScale]
    field_simp
  rw [hμ, hone, mass_div _ _ hscore _ μ M 8448 (by norm_num), hM, Finset.sum_range]
  refine Finset.sum_congr rfl fun j _ => ?_
  have hrow : ∀ i : Fin 8448, ∀ d, kf h d i.val = (K (ix4 n i (headAt p h) d)).toReal := fun i d => row_lt _ _ _ i.isLt
  rw [Finset.sum_range]
  simp only [hrow]
  congr 1
  simp only [V]
  rw [row_lt _ _ _ j.isLt, dif_pos d.isLt]

end Cert.LatentValue
-- ==== Proof.LatentEntry.lean ====
/-
  What the latent attention is called on: each operand's buffer holds the arguments laid out as in LatentPack.
-/
module

public import proofs.«01_k».proof.Proof.LatentPack

@[expose] public section

set_option maxRecDepth 16384
set_option maxHeartbeats 4000000

noncomputable section

namespace Cert.LatentIdeal.Pack

open Cert.LatentIdeal Cert.LatentIdeal.Gen Cert.LatentIdeal.Run
open Idealize.ShloMosaic Idealize.ShloMosaic.TcCoe Idealize.SL.Sem

variable (m : (ℓ : Loc nD τ sig) → Buf (Elt Ideal) ℓ) (c : Dev nD)

theorem V_q : V m c main_v21 = qArr (qScaled (m ((c : Thread nD τ).loc main_arg0))) := by
  unfold V
  simp only [List.flatten_cons, List.flatten_nil, List.append_nil, List.cons_append, List.nil_append]
  after_results
  all_goals simp -implicitDefEqProofs only [StableHlo.TRef.toBuf, StableHlo.TRef.ofBuf, cast_cast, cast_eq, id_eq]
  all_goals unfold qArr qOwn qRot qScaled
  all_goals rfl
theorem V_k : V m c main_v56 = kArr (m ((c : Thread nD τ).loc main_arg1)) (m ((c : Thread nD τ).loc main_arg2)) := by
  unfold V
  simp only [List.flatten_cons, List.flatten_nil, List.append_nil, List.cons_append, List.nil_append]
  after_results
  all_goals unfold kArr kRot
  all_goals rfl
theorem V_v : V m c main_v38 = vArr (m ((c : Thread nD τ).loc main_arg3)) := by
  unfold V
  simp only [List.flatten_cons, List.flatten_nil, List.append_nil, List.cons_append, List.nil_append]
  after_results
  all_goals unfold vArr
  all_goals rfl
theorem V_kc : V m c main_v57 = kcArr (m ((c : Thread nD τ).loc main_arg4)) (m ((c : Thread nD τ).loc main_arg5)) := by
  unfold V
  simp only [List.flatten_cons, List.flatten_nil, List.append_nil, List.cons_append, List.nil_append]
  after_results
  all_goals unfold kcArr kcRot
  all_goals rfl
theorem V_vc : V m c main_v55 = vcArr (m ((c : Thread nD τ).loc main_arg6)) := by
  unfold V
  simp only [List.flatten_cons, List.flatten_nil, List.append_nil, List.cons_append, List.nil_append]
  after_results
  all_goals unfold vcArr
  all_goals rfl

end Cert.LatentIdeal.Pack
-- ==== Proof.LatentFinite.lean ====
/-
  What the precondition of the latent attention says: every query and every part of a key is a real number.
-/
module

public import proofs.«01_k».proof.Proof.Finite

@[expose] public section

set_option maxRecDepth 16384

noncomputable section

namespace Cert.LatentFinite

open Cert.Finite
open Idealize.ShloMosaic Idealize.ShloMosaic.TcCoe Idealize.SL.Sem

theorem facts : Cert.Pre_latent_finite.Facts := ⟨by decide, by decide, by decide, by decide, by decide⟩

attribute [local instance] facts in
theorem real_of_pre (m : (ℓ : Loc Cert.LatentIdeal.nD Cert.LatentIdeal.τ Cert.LatentIdeal.sig) → Buf (Elt Ideal) ℓ)
    (h : Cert.Pre_LatentIdeal_latent_finite m) (c : Dev Cert.LatentIdeal.nD) :
    (∀ i, ∃ r : ℝ, (m ((c.tc : Thread Cert.LatentIdeal.nD Cert.LatentIdeal.τ).loc Cert.LatentIdeal.main_arg0) :
      Vec Ideal Cert.LatentIdeal.S4x8192x4x96 .f32) i = (r : EReal))
    ∧ (∀ i, ∃ r : ℝ, (m ((c.tc : Thread Cert.LatentIdeal.nD Cert.LatentIdeal.τ).loc Cert.LatentIdeal.main_arg1) :
      Vec Ideal Cert.LatentIdeal.S4x8192x4x64 .f32) i = (r : EReal))
    ∧ (∀ i, ∃ r : ℝ, (m ((c.tc : Thread Cert.LatentIdeal.nD Cert.LatentIdeal.τ).loc Cert.LatentIdeal.main_arg2) :
      Vec Ideal Cert.LatentIdeal.S4x8192x32 .f32) i = (r : EReal))
    ∧ (∀ i, ∃ r : ℝ, (m ((c.tc : Thread Cert.LatentIdeal.nD Cert.LatentIdeal.τ).loc Cert.LatentIdeal.main_arg4) :
      Vec Ideal Cert.LatentIdeal.S4x256x4x64 .f32) i = (r : EReal))
    ∧ (∀ i, ∃ r : ℝ, (m ((c.tc : Thread Cert.LatentIdeal.nD Cert.LatentIdeal.τ).loc Cert.LatentIdeal.main_arg5) :
      Vec Ideal Cert.LatentIdeal.S4x256x32 .f32) i = (r : EReal)) :=
  ⟨real_of_ones _ _ (fun _ => topBits) (h c).1, real_of_ones _ _ (fun _ => topBits) (h c).2.1,
    real_of_ones _ _ (fun _ => topBits) (h c).2.2.1, real_of_ones _ _ (fun _ => topBits) (h c).2.2.2.1,
    real_of_ones _ _ (fun _ => topBits) (h c).2.2.2.2⟩

end Cert.LatentFinite
-- ==== Proof.LatentAlgebraic.lean ====
/-
  The latent attention's result array is the reference's: each grid point writes one sequence's window of one pair of
  heads, from that pair's keys and values, and the windows cover the array.
-/
module

public import proofs.«01_k».proof.Proof.LatentValue
public import proofs.«01_k».proof.Proof.LatentEntry
public import proofs.«01_k».proof.Proof.LatentFinite

@[expose] public section

set_option maxRecDepth 16384
set_option maxHeartbeats 1000000

noncomputable section

namespace Cert.LatentAlgebraic

open Cert.LatentIdeal Cert.LatentIdeal.Gen Cert.LatentIdeal.Run Cert.LatentIdeal.Pack Cert.LatentIdeal.Trip
open Idealize.ShloMosaic Idealize.ShloMosaic.TcCoe Idealize.SL.Sem
open Idealize.ShloMosaic.Pipeline (Dat)

/-- Where each window stands at a grid point. -/
theorem idx : ∀ t : Fin cfg0.N, win0_0.index t = ![(grid0.coords t 0).val, (grid0.coords t 1).val, 0, 0]
    ∧ win0_1.index t = ![(grid0.coords t 0).val, (grid0.coords t 1).val, 0, 0, 0]
    ∧ win0_2.index t = ![(grid0.coords t 0).val, (grid0.coords t 1).val, 0, 0, 0, 0]
    ∧ win0_3.index t = ![(grid0.coords t 0).val, (grid0.coords t 1).val, 0, 0, 0]
    ∧ win0_4.index t = ![(grid0.coords t 0).val, (grid0.coords t 1).val, 0, 0, 0, 0]
    ∧ win0_5.index t = ![(grid0.coords t 0).val, 0, (grid0.coords t 1).val] := by decide +kernel

attribute [local instance] Cert.LatentFinite.facts

variable (m : (ℓ : Loc nD τ sig) → Buf (Elt Ideal) ℓ) (c : Dev nD)

/-- The sequence of a grid point. -/
abbrev seqOf (t : Fin cfg0.N) : Fin 4 := ⟨(grid0.coords t 0).val, (grid0.coords t 0).isLt⟩
/-- The pair of heads of a grid point. -/
abbrev pairOf (t : Fin cfg0.N) : Fin 2 := ⟨(grid0.coords t 1).val, (grid0.coords t 1).isLt⟩

theorem read0 (X : Buf (Elt Ideal) ((c : Thread nD τ).loc main_v21)) (t : Fin cfg0.N) (h : Fin 2) (r : Fin 8192) (l : Fin 256) :
    (((cfg0.win 0).blk t).view.read (Elt Ideal) X : Vec Ideal S1x2x8192x256 .bf16) (ix4 0 h r l)
    = (X : Vec Ideal S4x4x8192x256 .bf16) (ix4 (seqOf t) (headAt (pairOf t) h) r l) := by
  blk_ext [idx t]
theorem read1 (X : Buf (Elt Ideal) ((c : Thread nD τ).loc main_v56)) (t : Fin cfg0.N) (j : Fin 8) (r : Fin 1024) (l : Fin 256) :
    (((cfg0.win 1).blk t).view.read (Elt Ideal) X : Vec Ideal S1x1x8x1024x256 .bf16) (ix5 0 0 j r l)
    = (X : Vec Ideal S4x2x8x1024x256 .bf16) (ix5 (seqOf t) (pairOf t) j r l) := by
  blk_ext [idx t]
theorem read2 (X : Buf (Elt Ideal) ((c : Thread nD τ).loc main_v38)) (t : Fin cfg0.N) (u : Fin 16) (h : Fin 2) (i : Fin 80) (l : Fin 512) :
    (((cfg0.win 2).blk t).view.read (Elt Ideal) X : Vec Ideal S1x1x16x2x80x512 .bf16) (ix6 0 0 u h i l)
    = (X : Vec Ideal S4x2x16x2x80x512 .bf16) (ix6 (seqOf t) (pairOf t) u h i l) := by
  blk_ext [idx t]
theorem read3 (X : Buf (Elt Ideal) ((c : Thread nD τ).loc main_v57)) (t : Fin cfg0.N) (r : Fin 256) (l : Fin 256) :
    (((cfg0.win 3).blk t).view.read (Elt Ideal) X : Vec Ideal S1x1x1x256x256 .bf16) (ix5 0 0 0 r l)
    = (X : Vec Ideal S4x2x1x256x256 .bf16) (ix5 (seqOf t) (pairOf t) 0 r l) := by
  blk_ext [idx t]
theorem read4 (X : Buf (Elt Ideal) ((c : Thread nD τ).loc main_v55)) (t : Fin cfg0.N) (h : Fin 2) (i : Fin 80) (l : Fin 256) :
    (((cfg0.win 4).blk t).view.read (Elt Ideal) X : Vec Ideal S1x1x1x2x80x256 .bf16) (ix6 0 0 0 h i l)
    = (X : Vec Ideal S4x2x1x2x80x256 .bf16) (ix6 (seqOf t) (pairOf t) 0 h i l) := by
  blk_ext [idx t]

/-- The reference's result of the launch's arguments. -/
def want : Vec Ideal S4x8192x256 .bf16 :=
  LatentReferenceIdeal.Spec.out (LatentReferenceIdeal.Spec.joinV (m ((c : Thread nD τ).loc main_arg3)) (m ((c : Thread nD τ).loc main_arg6)))
    (LatentReferenceIdeal.Spec.ps (LatentReferenceIdeal.Spec.ws (LatentReferenceIdeal.Spec.xs
      (LatentReferenceIdeal.Spec.joinK (LatentReferenceIdeal.Spec.seqKeys (m ((c : Thread nD τ).loc main_arg1)) (m ((c : Thread nD τ).loc main_arg2)))
        (LatentReferenceIdeal.Spec.ctxKeys (m ((c : Thread nD τ).loc main_arg4)) (m ((c : Thread nD τ).loc main_arg5)))) (m ((c : Thread nD τ).loc main_arg0)))))

/-- An entry of an output window lands at its sequence's rows and its head's columns. -/
theorem place (t : Fin cfg0.N) (h : Fin 2) (r : Fin 8192) (d : Fin 64) :
    (((cfg0.win 5).blk t).view.emb (ix3 0 r ⟨64 * h.val + d.val, by omega⟩) : S4x8192x256.Idx)
      = ix3 (seqOf t) r ⟨64 * (headAt (pairOf t) h).val + d.val, by omega⟩ := by
  blk_ext [idx t]

/-- An entry of an output window is a head's row and lane. -/
theorem split (y : S1x8192x128.Idx) : ∃ (h : Fin 2) (r : Fin 8192) (d : Fin 64), y = ix3 0 r ⟨64 * h.val + d.val, by omega⟩ := by
  have y2 : (y 2).val < 128 := (y 2).isLt
  refine ⟨⟨(y 2).val / 64, by omega⟩, y 1, ⟨(y 2).val % 64, by omega⟩, ?_⟩
  blk_ext

theorem window (hp : Cert.Pre_LatentIdeal_latent_finite m) (t : Fin cfg0.N) (h : Fin 2) (r : Fin 8192) (d : Fin 64) :
    outWin (F := Ideal) (iblk m c 0 t) (iblk m c 1 t) (iblk m c 2 t) (iblk m c 3 t) (iblk m c 4 t) (ix3 0 r ⟨64 * h.val + d.val, by omega⟩)
      = want m c (ix3 (seqOf t) r ⟨64 * (headAt (pairOf t) h).val + d.val, by omega⟩) := by
  obtain ⟨hq, hkn, hkr, hcn, hcr⟩ := Cert.LatentFinite.real_of_pre m hp c
  refine Cert.LatentValue.attend _ _ _ _ _ _ _ hq hkn hkr hcn hcr _ _ _ _ _ (seqOf t) (pairOf t) ?_ ?_ ?_ ?_ ?_ h r d
  · intro h r l
    exact (read0 c _ t h r l).trans (congrFun (V_q m c) _)
  · intro j r l
    exact (read1 c _ t j r l).trans (congrFun (V_k m c) _)
  · intro u h i l
    exact (read2 c _ t u h i l).trans (congrFun (V_v m c) _)
  · intro r l
    exact (read3 c _ t r l).trans (congrFun (V_kc m c) _)
  · intro h i l
    exact (read4 c _ t h i l).trans (congrFun (V_vc m c) _)

/-- The result array of the run. -/
theorem arr_eq (hp : Cert.Pre_LatentIdeal_latent_finite m) : (dats m 0 c).arrAt 5 cfg0.N = want m c := by
  refine (dats m 0 c).arrAt_eq_of_covers 5 _ (by decide +kernel) fun t hf y => ?_
  blk_simp
  rw [after_5]
  obtain ⟨h, r, d, rfl⟩ := split y
  exact (window m c hp t h r d).trans (congrArg (want m c) (place t h r d)).symm

/-- The run leaves the reference's result, and its arguments as they were. -/
theorem run_ideal (hp : Cert.Pre_LatentIdeal_latent_finite m) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v58) = want m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run (defs (F := Ideal)) _ _).mono (fun _ h c => ⟨(Pipeline.FramePost.out_eq h.2 c 5).trans (arr_eq m c hp), h.1 c⟩)
    (θ_run_and (frame_of m ρ (dats m) (A_eq m) (run_main (F := Ideal) m ρ)) (run_main (F := Ideal) m ρ))

/-- The two programs, from the same arguments, all queries and keys real, leave the same result. -/
theorem algebraic : Cert.algebraic_LatentIdeal_LatentReferenceIdeal_pre_latent_finite := fun m g m' g' hp ha =>
  ⟨want m, run_ideal m hp g, (θ_run Cert.LatentReferenceIdeal.defs _ _).mono (fun _ h c => ⟨(h c).1.trans (by
    obtain ⟨e0, e1, e2, e3, e4, e5, e6⟩ := ha c
    unfold LatentReferenceIdeal.Value.res_main_v27
    rw [e0, e1, e2, e3, e4, e5, e6]
    rfl), (h c).2⟩) (Cert.LatentReferenceIdeal.Value.run m' g')⟩

end Cert.LatentAlgebraic
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Experts
public import proofs.«01_k».proof.Proof.Gen.Experts.Frame
public import proofs.«01_k».proof.Proof.Gen.ExpertsIdeal
public import proofs.«01_k».proof.Proof.Gen.ExpertsIdeal.Frame
public import proofs.«01_k».proof.Proof.Gen.ExpertsReferenceIdeal
public import proofs.«01_k».proof.Proof.Gen.ExpertsReferenceIdeal.Run
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeIdeal.Value
public import proofs.«01_k».proof.Proof.Gen.MergeReferenceIdeal
public import proofs.«01_k».proof.Proof.Gen.MergeReferenceIdeal.Run
public import proofs.«01_k».proof.Proof.Gen.Latent
public import proofs.«01_k».proof.Proof.Gen.Latent.Skeleton
public import proofs.«01_k».proof.Proof.Gen.Latent.Loops
public import proofs.«01_k».proof.Proof.Gen.Latent.Launch
public import proofs.«01_k».proof.Proof.Gen.Latent.Points
public import proofs.«01_k».proof.Proof.Gen.Latent.Frame
public import proofs.«01_k».proof.Proof.Gen.LatentIdeal
public import proofs.«01_k».proof.Proof.Gen.LatentIdeal.Skeleton
public import proofs.«01_k».proof.Proof.Gen.LatentIdeal.Loops
public import proofs.«01_k».proof.Proof.Gen.LatentIdeal.Launch
public import proofs.«01_k».proof.Proof.Gen.LatentIdeal.Points
public import proofs.«01_k».proof.Proof.Gen.LatentIdeal.Frame
public import proofs.«01_k».proof.Proof.Gen.LatentReferenceIdeal
public import proofs.«01_k».proof.Proof.Gen.LatentReferenceIdeal.Run
public import proofs.«01_k».proof.Proof.Same
public import proofs.«01_k».proof.Proof.Algebraic
public import proofs.«01_k».proof.Proof.ExpertsClaim
public import proofs.«01_k».proof.Proof.MergeClaim
public import proofs.«01_k».proof.Proof.LatentSame
public import proofs.«01_k».proof.Proof.LatentAlgebraic
public import Idealize.ShloMosaic.Adequacy
public import Idealize.ShloMosaic.Init

@[expose] public section

noncomputable section

namespace Cert.Proof

open Idealize.ShloMosaic Idealize.SL.Sem Cert.Kernel

/-- The reference is host code alone: its run keeps the arguments and uses no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run m ρ)

theorem frame_experts_reference : Cert.quiescent_ExpertsReferenceIdeal := fun m ρ _ =>
  (θ_run Cert.ExpertsReferenceIdeal.defs _ _).mono
    (fun r h => ⟨fun c => (h c).2, Idealize.ShloMosaic.sem_eq_zero_of_no_sems (by decide) r.2⟩)
    (Cert.ExpertsReferenceIdeal.Value.run m ρ)

theorem frame_merge_reference : Cert.quiescent_MergeReferenceIdeal := fun m ρ _ =>
  (θ_run Cert.MergeReferenceIdeal.defs _ _).mono
    (fun r h => ⟨fun c => (h c).2.2, Idealize.ShloMosaic.sem_eq_zero_of_no_sems (by decide) r.2⟩)
    (Cert.MergeReferenceIdeal.Value.run m ρ)

theorem frame_latent_reference : Cert.quiescent_LatentReferenceIdeal := fun m ρ _ =>
  (θ_run Cert.LatentReferenceIdeal.defs _ _).mono
    (fun r h => ⟨fun c => (h c).2, Idealize.ShloMosaic.sem_eq_zero_of_no_sems (by decide) r.2⟩)
    (Cert.LatentReferenceIdeal.Value.run m ρ)

theorem claim : Cert.Claim := ⟨Cert.Kernel.Gen.facts, Cert.KernelIdeal.Gen.facts, Cert.ReferenceIdeal.Gen.facts, Cert.Experts.Gen.facts,
  Cert.ExpertsIdeal.Gen.facts, Cert.ExpertsReferenceIdeal.Gen.facts, Cert.Merge.Gen.facts, Cert.MergeIdeal.Gen.facts,
  Cert.MergeReferenceIdeal.Gen.facts, Cert.Latent.Gen.facts, Cert.LatentIdeal.Gen.facts, Cert.LatentReferenceIdeal.Gen.facts,
  Cert.Finite.facts, Cert.LatentFinite.facts, by
  exact ⟨Cert.Same.frame_kernel, Cert.Same.frame_ideal, fun m ρ _ => Cert.Same.frame_ideal m ρ trivial, frame_reference,
    fun m ρ _ => frame_reference m ρ trivial, fun m ρ _ => Cert.Experts.Gen.frame m ρ, fun m ρ _ => Cert.ExpertsIdeal.Gen.frame m ρ,
    frame_experts_reference, fun m ρ _ => Cert.Merge.Gen.frame m ρ, fun m ρ _ => Cert.MergeIdeal.Gen.frame m ρ, frame_merge_reference,
    Cert.LatentSame.frame_kernel, Cert.LatentSame.frame_ideal, fun m ρ _ => Cert.LatentSame.frame_ideal m ρ trivial, frame_latent_reference,
    fun m ρ _ => frame_latent_reference m ρ trivial,
    trivial, Cert.Algebraic.algebraic, trivial, Cert.ExpertsIdeal.Value.algebraic, trivial, Cert.MergeIdeal.Value.algebraic,
    trivial, Cert.LatentAlgebraic.algebraic⟩⟩

end Cert.Proof

end
